-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_logits [hPre_finite_logits : Cert.Pre_finite_logits.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_logits.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13)) (m ((c.tc : Thread Cert.Kernel6Ideal.nD Cert.Kernel6Ideal.τ).loc Cert.Kernel6Ideal.main_arg14)) (m ((c.tc : Thread Cert.Kernel6Ideal.nD Cert.Kernel6Ideal.τ).loc Cert.Kernel6Ideal.main_arg15))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_logits [hPre_finite_logits : Cert.Pre_finite_logits.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_logits.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13)) (m ((c.tc : Thread Cert.Reference6Ideal.nD Cert.Reference6Ideal.τ).loc Cert.Reference6Ideal.main_arg14)) (m ((c.tc : Thread Cert.Reference6Ideal.nD Cert.Reference6Ideal.τ).loc Cert.Reference6Ideal.main_arg15))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15))
      ∧ r.2.sem = fun _ => 0)

def quiescent_Kernel6Ideal_pre_finite_logits [hKernel6Ideal : Cert.Kernel6Ideal.Facts] [hPre_finite_logits : Cert.Pre_finite_logits.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_logits m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15))
      ∧ r.2.sem = fun _ => 0)

def quiescent_Reference6Ideal_pre_finite_logits [hReference6Ideal : Cert.Reference6Ideal.Facts] [hPre_finite_logits : Cert.Pre_finite_logits.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_logits m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v67_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_v67_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_v235) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)) (v3 : (c : Dev Cert.Kernel3Ideal.nD) → Buf (Elt Ideal) ((c.tc : Thread Cert.Kernel3Ideal.nD Cert.Kernel3Ideal.τ).loc Cert.Kernel3Ideal.main_v11_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_v11_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_v33) = v2 c
          ∧ r.2.mem ((c.tc : Thread Cert.Reference3Ideal.nD Cert.Reference3Ideal.τ).loc Cert.Reference3Ideal.main_v36) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v22_0)) (v1 : (c : Dev Cert.Kernel4Ideal.nD) → Buf (Elt Ideal) ((c.tc : Thread Cert.Kernel4Ideal.nD Cert.Kernel4Ideal.τ).loc Cert.Kernel4Ideal.main_v22_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22_0) = v0 c
          ∧ r.2.mem ((c.tc : Thread Cert.Kernel4Ideal.nD Cert.Kernel4Ideal.τ).loc Cert.Kernel4Ideal.main_v22_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v54) = v0 c
          ∧ r.2.mem ((c.tc : Thread Cert.Reference4Ideal.nD Cert.Reference4Ideal.τ).loc Cert.Reference4Ideal.main_v56) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite_logits [hKernel6Ideal : Cert.Kernel6Ideal.Facts] [hReference6Ideal : Cert.Reference6Ideal.Facts] [hPre_finite_logits : Cert.Pre_finite_logits.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_logits m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)) →
    ∃ (v0 : (c : Dev Cert.Kernel6Ideal.nD) → Buf (Elt Ideal) ((c.tc : Thread Cert.Kernel6Ideal.nD Cert.Kernel6Ideal.τ).loc Cert.Kernel6Ideal.main_v21)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v21) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v66) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v13_0)) (v1 : (c : Dev Cert.Kernel7Ideal.nD) → Buf (Elt Ideal) ((c.tc : Thread Cert.Kernel7Ideal.nD Cert.Kernel7Ideal.τ).loc Cert.Kernel7Ideal.main_v13_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v13_0) = v0 c
          ∧ r.2.mem ((c.tc : Thread Cert.Kernel7Ideal.nD Cert.Kernel7Ideal.τ).loc Cert.Kernel7Ideal.main_v13_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v271) = v0 c
          ∧ r.2.mem ((c.tc : Thread Cert.Reference7Ideal.nD Cert.Reference7Ideal.τ).loc Cert.Reference7Ideal.main_v274) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_logits : Cert.Pre_finite_logits.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_logits (hKernel6Ideal := hKernel6Ideal) (hPre_finite_logits := hPre_finite_logits)
    ∧ quiescent_Reference6Ideal (hReference6Ideal := hReference6Ideal)
    ∧ quiescent_Reference6Ideal_pre_finite_logits (hReference6Ideal := hReference6Ideal) (hPre_finite_logits := hPre_finite_logits)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_logits (hKernel6Ideal := hKernel6Ideal) (hReference6Ideal := hReference6Ideal) (hPre_finite_logits := hPre_finite_logits)
    ∧ preserves_Kernel7_Kernel7Ideal
    ∧ algebraic_Kernel7Ideal_Reference7Ideal (hKernel7Ideal := hKernel7Ideal) (hReference7Ideal := hReference7Ideal)
-- ==== Pre_finite_logits.lean ====
abbrev S8x2048x1024 : Shape := ⟨3, ![8, 2048, 1024]⟩
abbrev S8x2048x256 : Shape := ⟨3, ![8, 2048, 256]⟩
abbrev S8x1x1024 : Shape := ⟨3, ![8, 1, 1024]⟩
abbrev S1024 : Shape := ⟨1, ![1024]⟩
abbrev S1024x1024 : Shape := ⟨2, ![1024, 1024]⟩
abbrev S1024x8 : Shape := ⟨2, ![1024, 8]⟩
abbrev S8x1024x2816 : Shape := ⟨3, ![8, 1024, 2816]⟩
abbrev S8x2816x1024 : Shape := ⟨3, ![8, 2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x8 : Shape := ⟨3, ![8, 2048, 8]⟩

class Facts : Prop where
  concatenates_S8x2048x256_S8x2048x256_S8x2048x256_S8x2048x256_S8x2048x1024_d2 : Shape.Concatenates [S8x2048x256, S8x2048x256, S8x2048x256, S8x2048x256] S8x2048x1024 2
  bcast_S8x1x1024_S8x2048x1024_0_1_2 : S8x1x1024.BroadcastsInDim S8x2048x1024 (![0, 1, 2] : Fin 3 → Fin S8x2048x1024.rank)
  reducesTo_S8x2048x1024_S8x2048_d2 : S8x2048x1024.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x1x1024 : S_.BroadcastsInDim S8x1x1024 (![] : Fin 0 → Fin S8x1x1024.rank)
  bcast_S_S8x2048x8 : S_.BroadcastsInDim S8x2048x8 (![] : Fin 0 → Fin S8x2048x8.rank)
  dot_S8x2048x1024_S1024x1024_S8x2048x1024_2_0_01_1_n_n_wf : DotDims.WF S8x2048x1024 S1024x1024 S8x2048x1024 [2] [0] [0, 1] [1] [] []
  dot_S8x2048x1024_S1024x8_S8x2048x8_2_0_01_1_n_n_wf : DotDims.WF S8x2048x1024 S1024x8 S8x2048x8 [2] [0] [0, 1] [1] [] []

variable [Facts]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S1024x8_S8x2048x8_2_0_01_1_n_n : DotDims S8x2048x1024 S1024x8 S8x2048x8 where
  lhsContracting := [2]
  rhsContracting := [0]
  lhsNonContracting := [0, 1]
  rhsNonContracting := [1]
  lhsBatch := []
  rhsBatch := []
  wf := dot_S8x2048x1024_S1024x8_S8x2048x8_2_0_01_1_n_n_wf
def fn_part1 {F : FTy → Type} [FloatOps F] (main_arg6 : FVec F S8x1x1024 .f32) (main_arg11 : FVec F S1024x8 .f32) (main_v17 : FVec F S8x2048x1024 .f32) (main_v19 : FVec F S8x1x1024 .f32) : IVec S8x2048x8 1 :=
  let main_v20 : FVec F S8x2048x1024 .f32 := broadcastInDim S8x2048x1024 ![0, 1, 2] bcast_S8x1x1024_S8x2048x1024_0_1_2 main_v19
  let main_v21 : FVec F S8x2048x1024 .f32 := mulf main_v17 main_v20
  let main_v22 : FVec F S8x2048x1024 .f32 := broadcastInDim S8x2048x1024 ![0, 1, 2] bcast_S8x1x1024_S8x2048x1024_0_1_2 main_arg6
  let main_v23 : FVec F S8x2048x1024 .f32 := addf main_v21 main_v22
  let main_v24 : FVec F S8x2048x8 .f32 := (fun l r => Host.dotGeneral dot_S8x2048x1024_S1024x8_S8x2048x8_2_0_01_1_n_n none l r) main_v23 main_arg11
  let main_v25 : FVec F S8x2048x8 .f32 := Host.absf main_v24
  let main_cst_3 : FVec F S_ .f32 := constant S_ .f32 0x7F800000#32
  let main_v26 : FVec F S8x2048x8 .f32 := broadcastInDim S8x2048x8 ![] bcast_S_S8x2048x8 main_cst_3
  let main_v27 : IVec S8x2048x8 1 := cmpf .olt main_v25 main_v26
  main_v27

def fn {F : FTy → Type} [FloatOps F] (main_arg0 : FVec F S8x2048x1024 .f32) (main_arg1 : FVec F S8x2048x256 .f32) (main_arg2 : FVec F S8x2048x256 .f32) (main_arg3 : FVec F S8x2048x256 .f32) (main_arg4 : FVec F S8x2048x256 .f32) (main_arg5 : FVec F S8x1x1024 .f32) (main_arg6 : FVec F S8x1x1024 .f32) (main_arg7 : FVec F S8x1x1024 .f32) (main_arg8 : FVec F S8x1x1024 .f32) (main_arg9 : FVec F S1024 .f32) (main_arg10 : FVec F S1024x1024 .f32) (main_arg11 : FVec F S1024x8 .f32) (main_arg12 : FVec F S8x1024x2816 .f32) (main_arg13 : FVec F S8x1024x2816 .f32) (main_arg14 : FVec F S8x2816x1024 .f32) (main_arg15 : FVec F S1024 .f32) : IVec S8x2048x8 1 :=
  let main_v0 : FVec F S8x2048x1024 .f32 := concatenate S8x2048x1024 2 [⟨S8x2048x256, main_arg1⟩, ⟨S8x2048x256, main_arg2⟩, ⟨S8x2048x256, main_arg3⟩, ⟨S8x2048x256, main_arg4⟩] concatenates_S8x2048x256_S8x2048x256_S8x2048x256_S8x2048x256_S8x2048x1024_d2
  let main_v1 : FVec F S8x2048x1024 .f32 := (fun l r => Host.dotGeneral dot_S8x2048x1024_S1024x1024_S8x2048x1024_2_0_01_1_n_n none l r) main_v0 main_arg10
  let main_v2 : FVec F S8x2048x1024 .f32 := broadcastInDim S8x2048x1024 ![0, 1, 2] bcast_S8x1x1024_S8x2048x1024_0_1_2 main_arg5
  let main_v3 : FVec F S8x2048x1024 .f32 := mulf main_v2 main_v1
  let main_v4 : FVec F S8x2048x1024 .f32 := addf main_arg0 main_v3
  let main_v5 : FVec F S8x2048x1024 .f32 := mulf main_v4 main_v4
  let main_cst : FVec F S_ .f32 := constant S_ .f32 0x00000000#32
  let main_v6 : FVec F S8x2048 .f32 := (fun x v => Host.reduceAdd x v reducesTo_S8x2048x1024_S8x2048_d2 h_S_) main_v5 main_cst
  let main_v7 : FVec F S8x2048x1 .f32 := broadcastInDim S8x2048x1 ![0, 1] bcast_S8x2048_S8x2048x1_0_1 main_v6
  let main_cst_0 : FVec F S_ .f32 := constant S_ .f32 0x44800000#32
  let main_v8 : FVec F S8x2048x1 .f32 := broadcastInDim S8x2048x1 ![] bcast_S_S8x2048x1 main_cst_0
  let main_v9 : FVec F S8x2048x1 .f32 := Host.divf main_v7 main_v8
  let main_cst_1 : FVec F S_ .f32 := constant S_ .f32 0x358637BD#32
  let main_v10 : FVec F S8x2048x1 .f32 := broadcastInDim S8x2048x1 ![] bcast_S_S8x2048x1 main_cst_1
  let main_v11 : FVec F S8x2048x1 .f32 := addf main_v9 main_v10
  let main_v12 : FVec F S8x2048x1 .f32 := Host.rsqrt main_v11
  let main_v13 : FVec F S8x2048x1024 .f32 := broadcastInDim S8x2048x1024 ![0, 1, 2] bcast_S8x2048x1_S8x2048x1024_0_1_2 main_v12
  let main_v14 : FVec F S8x2048x1024 .f32 := mulf main_v4 main_v13
  let main_v15 : FVec F S1x1x1024 .f32 := broadcastInDim S1x1x1024 ![2] bcast_S1024_S1x1x1024_2 main_arg9
  let main_v16 : FVec F S8x2048x1024 .f32 := broadcastInDim S8x2048x1024 ![0, 1, 2] bcast_S1x1x1024_S8x2048x1024_0_1_2 main_v15
  let main_v17 : FVec F S8x2048x1024 .f32 := mulf main_v14 main_v16
  let main_cst_2 : FVec F S_ .f32 := constant S_ .f32 0x3F800000#32
  let main_v18 : FVec F S8x1x1024 .f32 := broadcastInDim S8x1x1024 ![] bcast_S_S8x1x1024 main_cst_2
  let main_v19 : FVec F S8x1x1024 .f32 := addf main_v18 main_arg7
  fn_part1 (F := F) main_arg6 main_arg11 main_v17 main_v19
-- ==== Kernel.lean ====
abbrev S128x8x256 : Shape := ⟨3, ![128, 8, 256]⟩
abbrev S128x16x64 : Shape := ⟨3, ![128, 16, 64]⟩
abbrev S16x64 : Shape := ⟨2, ![16, 64]⟩
abbrev S16x64x16 : Shape := ⟨3, ![16, 64, 16]⟩
abbrev S16x16x64 : Shape := ⟨3, ![16, 16, 64]⟩
abbrev S256 : Shape := ⟨1, ![256]⟩
abbrev S256x256 : Shape := ⟨2, ![256, 256]⟩
abbrev S8x128x256 : Shape := ⟨3, ![8, 128, 256]⟩
abbrev S1024x256 : Shape := ⟨2, ![1024, 256]⟩
abbrev S128x1024 : Shape := ⟨2, ![128, 1024]⟩
abbrev S128x2048 : Shape := ⟨2, ![128, 2048]⟩
abbrev S16x16 : Shape := ⟨2, ![16, 16]⟩
abbrev S_ : Shape := ⟨0, ![]⟩
abbrev S16x16x1x64 : Shape := ⟨4, ![16, 16, 1, 64]⟩
abbrev S16x1x16x1 : Shape := ⟨4, ![16, 1, 16, 1]⟩
abbrev S16x16x16x64 : Shape := ⟨4, ![16, 16, 16, 64]⟩
abbrev S256x1024 : Shape := ⟨2, ![256, 1024]⟩
abbrev S256x2048 : Shape := ⟨2, ![256, 2048]⟩
abbrev S16x64x1x16 : Shape := ⟨4, ![16, 64, 1, 16]⟩
abbrev S16x64x16x16 : Shape := ⟨4, ![16, 64, 16, 16]⟩
abbrev S1x1024 : Shape := ⟨2, ![1, 1024]⟩
abbrev S1x256 : Shape := ⟨2, ![1, 256]⟩
abbrev S1024x2048 : Shape := ⟨2, ![1024, 2048]⟩
abbrev S2x1024x128 : Shape := ⟨3, ![2, 1024, 128]⟩
abbrev S1024x128 : Shape := ⟨2, ![1024, 128]⟩
abbrev S1x1024x128 : Shape := ⟨3, ![1, 1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 86
  | .vmem => 16
  | .smem => 0
  | _ => 0

abbrev bufTy : (tb : Table) → Fin (tcTables nBuf tb) → BufTy
  | .hbm, ⟨0, _⟩ => ⟨S128x8x256, .f32⟩
  | .hbm, ⟨1, _⟩ => ⟨S128x16x64, .f32⟩
  | .hbm, ⟨2, _⟩ => ⟨S128x16x64, .f32⟩
  | .hbm, ⟨3, _⟩ => ⟨S16x64, .f32⟩
  | .hbm, ⟨4, _⟩ => ⟨S16x64, .f32⟩
  | .hbm, ⟨5, _⟩ => ⟨S16x64x16, .f32⟩
  | .hbm, ⟨6, _⟩ => ⟨S16x64x16, .f32⟩
  | .hbm, ⟨7, _⟩ => ⟨S16x16x64, .f32⟩
  | .hbm, ⟨8, _⟩ => ⟨S16x16x64, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S8x128x256, .f32⟩
  | .hbm, ⟨14, _⟩ => ⟨S1024x256, .f32⟩
  | .hbm, ⟨15, _⟩ => ⟨S128x1024, .f32⟩
  | .hbm, ⟨16, _⟩ => ⟨S128x1024, .f32⟩
  | .hbm, ⟨17, _⟩ => ⟨S128x2048, .f32⟩
  | .hbm, ⟨18, _⟩ => ⟨S16x16, .i32⟩
  | .hbm, ⟨19, _⟩ => ⟨S16x16, .i32⟩
  | .hbm, ⟨20, _⟩ => ⟨S_, .i32⟩
  | .hbm, ⟨21, _⟩ => ⟨S16x16, .i32⟩
  | .hbm, ⟨22, _⟩ => ⟨S16x16, .i32⟩
  | .hbm, ⟨23, _⟩ => ⟨S16x16, .i1⟩
  | .hbm, ⟨24, _⟩ => ⟨S16x16, .f32⟩
  | .hbm, ⟨25, _⟩ => ⟨S16x16x64, .f32⟩
  | .hbm, ⟨26, _⟩ => ⟨S16x16x1x64, .f32⟩
  | .hbm, ⟨27, _⟩ => ⟨S16x1x16x1, .f32⟩
  | .hbm, ⟨28, _⟩ => ⟨S16x16x16x64, .f32⟩
  | .hbm, ⟨29, _⟩ => ⟨S16x16x16x64, .f32⟩
  | .hbm, ⟨30, _⟩ => ⟨S16x16x16x64, .f32⟩
  | .hbm, ⟨31, _⟩ => ⟨S256x1024, .f32⟩
  | .hbm, ⟨32, _⟩ => ⟨S16x16, .i32⟩
  | .hbm, ⟨33, _⟩ => ⟨S16x16, .i32⟩
  | .hbm, ⟨34, _⟩ => ⟨S_, .i32⟩
  | .hbm, ⟨35, _⟩ => ⟨S16x16, .i32⟩
  | .hbm, ⟨36, _⟩ => ⟨S16x16, .i32⟩
  | .hbm, ⟨37, _⟩ => ⟨S16x16, .i1⟩
  | .hbm, ⟨38, _⟩ => ⟨S16x16, .f32⟩
  | .hbm, ⟨39, _⟩ => ⟨S16x16x64, .f32⟩
  | .hbm, ⟨40, _⟩ => ⟨S16x16x1x64, .f32⟩
  | .hbm, ⟨41, _⟩ => ⟨S16x1x16x1, .f32⟩
  | .hbm, ⟨42, _⟩ => ⟨S16x16x16x64, .f32⟩
  | .hbm, ⟨43, _⟩ => ⟨S16x16x16x64, .f32⟩
  | .hbm, ⟨44, _⟩ => ⟨S16x16x16x64, .f32⟩
  | .hbm, ⟨45, _⟩ => ⟨S256x1024, .f32⟩
  | .hbm, ⟨46, _⟩ => ⟨S256x2048, .f32⟩
  | .hbm, ⟨47, _⟩ => ⟨S256x2048, .bf16⟩
  | .hbm, ⟨48, _⟩ => ⟨S16x16, .i32⟩
  | .hbm, ⟨49, _⟩ => ⟨S16x16, .i32⟩
  | .hbm, ⟨50, _⟩ => ⟨S_, .i32⟩
  | .hbm, ⟨51, _⟩ => ⟨S16x16, .i32⟩
  | .hbm, ⟨52, _⟩ => ⟨S16x16, .i32⟩
  | .hbm, ⟨53, _⟩ => ⟨S16x16, .i1⟩
  | .hbm, ⟨54, _⟩ => ⟨S16x16, .f32⟩
  | .hbm, ⟨55, _⟩ => ⟨S16x64x16, .f32⟩
  | .hbm, ⟨56, _⟩ => ⟨S16x64x1x16, .f32⟩
  | .hbm, ⟨57, _⟩ => ⟨S16x1x16x1, .f32⟩
  | .hbm, ⟨58, _⟩ => ⟨S16x64x16x16, .f32⟩
  | .hbm, ⟨59, _⟩ => ⟨S16x64x16x16, .f32⟩
  | .hbm, ⟨60, _⟩ => ⟨S16x64x16x16, .f32⟩
  | .hbm, ⟨61, _⟩ => ⟨S1024x256, .f32⟩
  | .hbm, ⟨62, _⟩ => ⟨S1024x256, .bf16⟩
  | .hbm, ⟨63, _⟩ => ⟨S16x16, .i32⟩
  | .hbm, ⟨64, _⟩ => ⟨S16x16, .i32⟩
  | .hbm, ⟨65, _⟩ => ⟨S_, .i32⟩
  | .hbm, ⟨66, _⟩ => ⟨S16x16, .i32⟩
  | .hbm, ⟨67, _⟩ => ⟨S16x16, .i32⟩
  | .hbm, ⟨68, _⟩ => ⟨S16x16, .i1⟩
  | .hbm, ⟨69, _⟩ => ⟨S16x16, .f32⟩
  | .hbm, ⟨70, _⟩ => ⟨S16x64x16, .f32⟩
  | .hbm, ⟨71, _⟩ => ⟨S16x64x1x16, .f32⟩
  | .hbm, ⟨72, _⟩ => ⟨S16x1x16x1, .f32⟩
  | .hbm, ⟨73, _⟩ => ⟨S16x64x16x16, .f32⟩
  | .hbm, ⟨74, _⟩ => ⟨S16x64x16x16, .f32⟩
  | .hbm, ⟨75, _⟩ => ⟨S16x64x16x16, .f32⟩
  | .hbm, ⟨76, _⟩ => ⟨S1024x256, .f32⟩
  | .hbm, ⟨77, _⟩ => ⟨S1024x256, .bf16⟩
  | .hbm, ⟨78, _⟩ => ⟨S1x1024, .f32⟩
  | .hbm, ⟨79, _⟩ => ⟨S1x1024, .f32⟩
  | .hbm, ⟨80, _⟩ => ⟨S1x256, .f32⟩
  | .hbm, ⟨81, _⟩ => ⟨S256x256, .bf16⟩
  | .hbm, ⟨82, _⟩ => ⟨S1x256, .f32⟩
  | .hbm, ⟨83, _⟩ => ⟨S1x256, .f32⟩
  | .hbm, ⟨84, _⟩ => ⟨S1024x256, .bf16⟩
  | .hbm, ⟨85, _⟩ => ⟨S128x2048, .f32⟩
  | .local _ .vmem, ⟨0, _⟩ => ⟨S1024x256, .f32⟩
  | .local _ .vmem, ⟨1, _⟩ => ⟨S128x2048, .f32⟩
  | .local _ .vmem, ⟨2, _⟩ => ⟨S256x2048, .bf16⟩
  | .local _ .vmem, ⟨3, _⟩ => ⟨S1024x256, .bf16⟩
  | .local _ .vmem, ⟨4, _⟩ => ⟨S1024x256, .bf16⟩
  | .local _ .vmem, ⟨5, _⟩ => ⟨S1x1024, .f32⟩
  | .local _ .vmem, ⟨6, _⟩ => ⟨S1x1024, .f32⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S1x256, .f32⟩
  | .local _ .vmem, ⟨11, _⟩ => ⟨S1024x256, .bf16⟩
  | .local _ .vmem, ⟨12, _⟩ => ⟨S128x2048, .f32⟩
  | .local _ .vmem, ⟨13, _⟩ => ⟨S1024x2048, .f32⟩
  | .local _ .vmem, ⟨14, _⟩ => ⟨S128x2048, .f32⟩
  | .local _ .vmem, ⟨15, _⟩ => ⟨S2x1024x128, .f32⟩
  | _, _ => ⟨S128x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_1 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_2 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67_0 : Ref sig .tc := ⟨.hbm, 84, rfl⟩
abbrev main_v67_1 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def k0_mult1 : BitVec 32 :=
  let c0_i32_25 : BitVec 32 := 0#32
  let c128_i32 : BitVec 32 := 128#32
  let v35 : BitVec 32 := Scalar.muli c0_i32_25 c128_i32
  v35
def k0_off1 (c0_i32_25 : BitVec 32) : Fin 2 → Nat :=
  let c128_i32 : BitVec 32 := 128#32
  let v35 : BitVec 32 := Scalar.muli c0_i32_25 c128_i32
  let v36 : BitVec 32 := v35
  let v37 : Index := Scalar.indexCast v36
  let c0_26 : Index := 0#32
  ![v37.toNat, 0]
def k0_off2 (c0_i32_25 : BitVec 32) : Fin 2 → Nat :=
  let c128_i32 : BitVec 32 := 128#32
  let v35 : BitVec 32 := Scalar.muli c0_i32_25 c128_i32
  let v36 : BitVec 32 := v35
  let v39 : Index := Scalar.indexCast v36
  let c1024_27 : Index := 1024#32
  ![v39.toNat, 1024]
def k0_mult2 : BitVec 32 :=
  let c1_i32 : BitVec 32 := 1#32
  let c128_i32_30 : BitVec 32 := 128#32
  let v57 : BitVec 32 := Scalar.muli c1_i32 c128_i32_30
  v57
def k0_mult3 : BitVec 32 :=
  let c2_i32 : BitVec 32 := 2#32
  let c128_i32_35 : BitVec 32 := 128#32
  let v79 : BitVec 32 := Scalar.muli c2_i32 c128_i32_35
  v79
def k0_mult4 : BitVec 32 :=
  let c3_i32 : BitVec 32 := 3#32
  let c128_i32_40 : BitVec 32 := 128#32
  let v101 : BitVec 32 := Scalar.muli c3_i32 c128_i32_40
  v101
def k0_mult5 : BitVec 32 :=
  let c4_i32 : BitVec 32 := 4#32
  let c128_i32_45 : BitVec 32 := 128#32
  let v123 : BitVec 32 := Scalar.muli c4_i32 c128_i32_45
  v123
def k0_mult6 : BitVec 32 :=
  let c5_i32 : BitVec 32 := 5#32
  let c128_i32_50 : BitVec 32 := 128#32
  let v145 : BitVec 32 := Scalar.muli c5_i32 c128_i32_50
  v145
def k0_mult7 : BitVec 32 :=
  let c6_i32 : BitVec 32 := 6#32
  let c128_i32_55 : BitVec 32 := 128#32
  let v167 : BitVec 32 := Scalar.muli c6_i32 c128_i32_55
  v167
def k0_mult8 : BitVec 32 :=
  let c7_i32 : BitVec 32 := 7#32
  let c128_i32_60 : BitVec 32 := 128#32
  let v189 : BitVec 32 := Scalar.muli c7_i32 c128_i32_60
  v189
def k0_cond2 (i : grid0.Coords) : BitVec 1 :=
  let arg0 : BitVec 32 := BitVec.ofNat 32 (i 0).val
  let c0_i32_109 : BitVec 32 := 0#32
  let v285 : BitVec 1 := Scalar.cmpi .eq arg0 c0_i32_109
  let v286 : BitVec 32 := Scalar.extui v285
  let c0_i32_110 : BitVec 32 := 0#32
  let v287 : BitVec 1 := Scalar.cmpi .ne v286 c0_i32_110
  v287

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S128x8x256 : Shape := ⟨3, ![128, 8, 256]⟩
abbrev S128x16x64 : Shape := ⟨3, ![128, 16, 64]⟩
abbrev S16x64 : Shape := ⟨2, ![16, 64]⟩
abbrev S16x64x16 : Shape := ⟨3, ![16, 64, 16]⟩
abbrev S16x16x64 : Shape := ⟨3, ![16, 16, 64]⟩
abbrev S256 : Shape := ⟨1, ![256]⟩
abbrev S256x256 : Shape := ⟨2, ![256, 256]⟩
abbrev S128x8x16x16 : Shape := ⟨4, ![128, 8, 16, 16]⟩
abbrev S16x64x128x8 : Shape := ⟨4, ![16, 64, 128, 8]⟩
abbrev S128x8x16x64 : Shape := ⟨4, ![128, 8, 16, 64]⟩
abbrev S1x16x64 : Shape := ⟨3, ![1, 16, 64]⟩
abbrev S128x1x16x64 : Shape := ⟨4, ![128, 1, 16, 64]⟩
abbrev S16x16x128x8 : Shape := ⟨4, ![16, 16, 128, 8]⟩
abbrev S1x1x256 : Shape := ⟨3, ![1, 1, 256]⟩
abbrev S_ : Shape := ⟨0, ![]⟩
abbrev S128x8 : Shape := ⟨2, ![128, 8]⟩
abbrev S128x8x1 : Shape := ⟨3, ![128, 8, 1]⟩
abbrev S8x128x256 : Shape := ⟨3, ![8, 128, 256]⟩
abbrev S1024x256 : Shape := ⟨2, ![1024, 256]⟩
abbrev S128x1024 : Shape := ⟨2, ![128, 1024]⟩
abbrev S128x2048 : Shape := ⟨2, ![128, 2048]⟩

abbrev nBuf : Space → Nat
  | .hbm => 258
  | .vmem => 0
  | .smem => 0
  | _ => 0

abbrev hbmTy0_0 (i : Nat) : BufTy := match i % 128 with
  | 0 => ⟨S128x8x256, .f32⟩
  | 1 => ⟨S128x16x64, .f32⟩
  | 2 => ⟨S128x16x64, .f32⟩
  | 3 => ⟨S16x64, .f32⟩
  | 4 => ⟨S16x64, .f32⟩
  | 5 => ⟨S16x64x16, .f32⟩
  | 6 => ⟨S16x64x16, .f32⟩
  | 7 => ⟨S16x16x64, .f32⟩
  | 8 => ⟨S16x16x64, .f32⟩
  | 9 => ⟨S256, .f32⟩
  | 10 => ⟨S256x256, .f32⟩
  | 11 => ⟨S256, .f32⟩
  | 12 => ⟨S256, .f32⟩
  | 13 => ⟨S128x8x16x16, .f32⟩
  | 14 => ⟨S16x64x128x8, .f32⟩
  | 15 => ⟨S128x8x16x64, .f32⟩
  | 16 => ⟨S16x64x128x8, .f32⟩
  | 17 => ⟨S128x8x16x64, .f32⟩
  | 18 => ⟨S1x16x64, .f32⟩
  | 19 => ⟨S128x16x64, .f32⟩
  | 20 => ⟨S128x16x64, .f32⟩
  | 21 => ⟨S1x16x64, .f32⟩
  | 22 => ⟨S128x16x64, .f32⟩
  | 23 => ⟨S128x16x64, .f32⟩
  | 24 => ⟨S128x16x64, .f32⟩
  | 25 => ⟨S128x1x16x64, .f32⟩
  | 26 => ⟨S128x16x64, .f32⟩
  | 27 => ⟨S128x16x64, .f32⟩
  | 28 => ⟨S1x16x64, .f32⟩
  | 29 => ⟨S128x16x64, .f32⟩
  | 30 => ⟨S128x16x64, .f32⟩
  | 31 => ⟨S1x16x64, .f32⟩
  | 32 => ⟨S128x16x64, .f32⟩
  | 33 => ⟨S128x16x64, .f32⟩
  | 34 => ⟨S128x16x64, .f32⟩
  | 35 => ⟨S128x1x16x64, .f32⟩
  | 36 => ⟨S128x16x64, .f32⟩
  | 37 => ⟨S128x16x64, .f32⟩
  | 38 => ⟨S1x16x64, .f32⟩
  | 39 => ⟨S128x16x64, .f32⟩
  | 40 => ⟨S128x16x64, .f32⟩
  | 41 => ⟨S1x16x64, .f32⟩
  | 42 => ⟨S128x16x64, .f32⟩
  | 43 => ⟨S128x16x64, .f32⟩
  | 44 => ⟨S128x16x64, .f32⟩
  | 45 => ⟨S128x1x16x64, .f32⟩
  | 46 => ⟨S128x16x64, .f32⟩
  | 47 => ⟨S128x16x64, .f32⟩
  | 48 => ⟨S1x16x64, .f32⟩
  | 49 => ⟨S128x16x64, .f32⟩
  | 50 => ⟨S128x16x64, .f32⟩
  | 51 => ⟨S1x16x64, .f32⟩
  | 52 => ⟨S128x16x64, .f32⟩
  | 53 => ⟨S128x16x64, .f32⟩
  | 54 => ⟨S128x16x64, .f32⟩
  | 55 => ⟨S128x1x16x64, .f32⟩
  | 56 => ⟨S128x16x64, .f32⟩
  | 57 => ⟨S128x16x64, .f32⟩
  | 58 => ⟨S1x16x64, .f32⟩
  | 59 => ⟨S128x16x64, .f32⟩
  | 60 => ⟨S128x16x64, .f32⟩
  | 61 => ⟨S1x16x64, .f32⟩
  | 62 => ⟨S128x16x64, .f32⟩
  | 63 => ⟨S128x16x64, .f32⟩
  | 64 => ⟨S128x16x64, .f32⟩
  | 65 => ⟨S128x1x16x64, .f32⟩
  | 66 => ⟨S128x16x64, .f32⟩
  | 67 => ⟨S128x16x64, .f32⟩
  | 68 => ⟨S1x16x64, .f32⟩
  | 69 => ⟨S128x16x64, .f32⟩
  | 70 => ⟨S128x16x64, .f32⟩
  | 71 => ⟨S1x16x64, .f32⟩
  | 72 => ⟨S128x16x64, .f32⟩
  | 73 => ⟨S128x16x64, .f32⟩
  | 74 => ⟨S128x16x64, .f32⟩
  | 75 => ⟨S128x1x16x64, .f32⟩
  | 76 => ⟨S128x16x64, .f32⟩
  | 77 => ⟨S128x16x64, .f32⟩
  | 78 => ⟨S1x16x64, .f32⟩
  | 79 => ⟨S128x16x64, .f32⟩
  | 80 => ⟨S128x16x64, .f32⟩
  | 81 => ⟨S1x16x64, .f32⟩
  | 82 => ⟨S128x16x64, .f32⟩
  | 83 => ⟨S128x16x64, .f32⟩
  | 84 => ⟨S128x16x64, .f32⟩
  | 85 => ⟨S128x1x16x64, .f32⟩
  | 86 => ⟨S128x16x64, .f32⟩
  | 87 => ⟨S128x16x64, .f32⟩
  | 88 => ⟨S1x16x64, .f32⟩
  | 89 => ⟨S128x16x64, .f32⟩
  | 90 => ⟨S128x16x64, .f32⟩
  | 91 => ⟨S1x16x64, .f32⟩
  | 92 => ⟨S128x16x64, .f32⟩
  | 93 => ⟨S128x16x64, .f32⟩
  | 94 => ⟨S128x16x64, .f32⟩
  | 95 => ⟨S128x1x16x64, .f32⟩
  | 96 => ⟨S128x16x64, .f32⟩
  | 97 => ⟨S128x16x64, .f32⟩
  | 98 => ⟨S1x16x64, .f32⟩
  | 99 => ⟨S128x16x64, .f32⟩
  | 100 => ⟨S128x16x64, .f32⟩
  | 101 => ⟨S1x16x64, .f32⟩
  | 102 => ⟨S128x16x64, .f32⟩
  | 103 => ⟨S128x16x64, .f32⟩
  | 104 => ⟨S128x16x64, .f32⟩
  | 105 => ⟨S128x1x16x64, .f32⟩
  | 106 => ⟨S128x16x64, .f32⟩
  | 107 => ⟨S128x16x64, .f32⟩
  | 108 => ⟨S1x16x64, .f32⟩
  | 109 => ⟨S128x16x64, .f32⟩
  | 110 => ⟨S128x16x64, .f32⟩
  | 111 => ⟨S1x16x64, .f32⟩
  | 112 => ⟨S128x16x64, .f32⟩
  | 113 => ⟨S128x16x64, .f32⟩
  | 114 => ⟨S128x16x64, .f32⟩
  | 115 => ⟨S128x1x16x64, .f32⟩
  | 116 => ⟨S128x16x64, .f32⟩
  | 117 => ⟨S128x16x64, .f32⟩
  | 118 => ⟨S1x16x64, .f32⟩
  | 119 => ⟨S128x16x64, .f32⟩
  | 120 => ⟨S128x16x64, .f32⟩
  | 121 => ⟨S1x16x64, .f32⟩
  | 122 => ⟨S128x16x64, .f32⟩
  | 123 => ⟨S128x16x64, .f32⟩
  | 124 => ⟨S128x16x64, .f32⟩
  | 125 => ⟨S128x1x16x64, .f32⟩
  | 126 => ⟨S128x16x64, .f32⟩
  | 127 => ⟨S128x16x64, .f32⟩
  | _ => ⟨S128x8x256, .f32⟩

abbrev hbmTy0_1 (i : Nat) : BufTy := match i % 128 with
  | 0 => ⟨S1x16x64, .f32⟩
  | 1 => ⟨S128x16x64, .f32⟩
  | 2 => ⟨S128x16x64, .f32⟩
  | 3 => ⟨S1x16x64, .f32⟩
  | 4 => ⟨S128x16x64, .f32⟩
  | 5 => ⟨S128x16x64, .f32⟩
  | 6 => ⟨S128x16x64, .f32⟩
  | 7 => ⟨S128x1x16x64, .f32⟩
  | 8 => ⟨S128x16x64, .f32⟩
  | 9 => ⟨S128x16x64, .f32⟩
  | 10 => ⟨S1x16x64, .f32⟩
  | 11 => ⟨S128x16x64, .f32⟩
  | 12 => ⟨S128x16x64, .f32⟩
  | 13 => ⟨S1x16x64, .f32⟩
  | 14 => ⟨S128x16x64, .f32⟩
  | 15 => ⟨S128x16x64, .f32⟩
  | 16 => ⟨S128x16x64, .f32⟩
  | 17 => ⟨S128x1x16x64, .f32⟩
  | 18 => ⟨S128x16x64, .f32⟩
  | 19 => ⟨S128x16x64, .f32⟩
  | 20 => ⟨S1x16x64, .f32⟩
  | 21 => ⟨S128x16x64, .f32⟩
  | 22 => ⟨S128x16x64, .f32⟩
  | 23 => ⟨S1x16x64, .f32⟩
  | 24 => ⟨S128x16x64, .f32⟩
  | 25 => ⟨S128x16x64, .f32⟩
  | 26 => ⟨S128x16x64, .f32⟩
  | 27 => ⟨S128x1x16x64, .f32⟩
  | 28 => ⟨S128x16x64, .f32⟩
  | 29 => ⟨S128x16x64, .f32⟩
  | 30 => ⟨S1x16x64, .f32⟩
  | 31 => ⟨S128x16x64, .f32⟩
  | 32 => ⟨S128x16x64, .f32⟩
  | 33 => ⟨S1x16x64, .f32⟩
  | 34 => ⟨S128x16x64, .f32⟩
  | 35 => ⟨S128x16x64, .f32⟩
  | 36 => ⟨S128x16x64, .f32⟩
  | 37 => ⟨S128x1x16x64, .f32⟩
  | 38 => ⟨S128x16x64, .f32⟩
  | 39 => ⟨S128x16x64, .f32⟩
  | 40 => ⟨S1x16x64, .f32⟩
  | 41 => ⟨S128x16x64, .f32⟩
  | 42 => ⟨S128x16x64, .f32⟩
  | 43 => ⟨S1x16x64, .f32⟩
  | 44 => ⟨S128x16x64, .f32⟩
  | 45 => ⟨S128x16x64, .f32⟩
  | 46 => ⟨S128x16x64, .f32⟩
  | 47 => ⟨S128x1x16x64, .f32⟩
  | 48 => ⟨S128x16x64, .f32⟩
  | 49 => ⟨S128x16x64, .f32⟩
  | 50 => ⟨S128x1x16x64, .f32⟩
  | 51 => ⟨S128x1x16x64, .f32⟩
  | 52 => ⟨S128x1x16x64, .f32⟩
  | 53 => ⟨S128x1x16x64, .f32⟩
  | 54 => ⟨S128x1x16x64, .f32⟩
  | 55 => ⟨S128x1x16x64, .f32⟩
  | 56 => ⟨S128x1x16x64, .f32⟩
  | 57 => ⟨S128x1x16x64, .f32⟩
  | 58 => ⟨S128x8x16x64, .f32⟩
  | 59 => ⟨S128x1x16x64, .f32⟩
  | 60 => ⟨S128x1x16x64, .f32⟩
  | 61 => ⟨S128x1x16x64, .f32⟩
  | 62 => ⟨S128x1x16x64, .f32⟩
  | 63 => ⟨S128x1x16x64, .f32⟩
  | 64 => ⟨S128x1x16x64, .f32⟩
  | 65 => ⟨S128x1x16x64, .f32⟩
  | 66 => ⟨S128x1x16x64, .f32⟩
  | 67 => ⟨S128x8x16x64, .f32⟩
  | 68 => ⟨S16x16x128x8, .f32⟩
  | 69 => ⟨S128x8x16x16, .f32⟩
  | 70 => ⟨S16x16x128x8, .f32⟩
  | 71 => ⟨S128x8x16x16, .f32⟩
  | 72 => ⟨S128x8x16x16, .f32⟩
  | 73 => ⟨S128x8x256, .f32⟩
  | 74 => ⟨S1x1x256, .f32⟩
  | 75 => ⟨S128x8x256, .f32⟩
  | 76 => ⟨S128x8x256, .f32⟩
  | 77 => ⟨S128x8x256, .f32⟩
  | 78 => ⟨S128x8x256, .f32⟩
  | 79 => ⟨S128x8x256, .f32⟩
  | 80 => ⟨S_, .f32⟩
  | 81 => ⟨S128x8x256, .f32⟩
  | 82 => ⟨S128x8x256, .f32⟩
  | 83 => ⟨S128x8x256, .f32⟩
  | 84 => ⟨S_, .f32⟩
  | 85 => ⟨S128x8x256, .f32⟩
  | 86 => ⟨S128x8x256, .f32⟩
  | 87 => ⟨S128x8x256, .f32⟩
  | 88 => ⟨S_, .f32⟩
  | 89 => ⟨S128x8x256, .f32⟩
  | 90 => ⟨S128x8x256, .f32⟩
  | 91 => ⟨S_, .f32⟩
  | 92 => ⟨S128x8x256, .f32⟩
  | 93 => ⟨S128x8x256, .f32⟩
  | 94 => ⟨S128x8x256, .f32⟩
  | 95 => ⟨S128x8x256, .f32⟩
  | 96 => ⟨S1x1x256, .f32⟩
  | 97 => ⟨S128x8x256, .f32⟩
  | 98 => ⟨S128x8x256, .f32⟩
  | 99 => ⟨S128x8x256, .f32⟩
  | 100 => ⟨S128x8x256, .f32⟩
  | 101 => ⟨S_, .f32⟩
  | 102 => ⟨S128x8x256, .f32⟩
  | 103 => ⟨S128x8x256, .f32⟩
  | 104 => ⟨S_, .f32⟩
  | 105 => ⟨S128x8x256, .f32⟩
  | 106 => ⟨S128x8x256, .f32⟩
  | 107 => ⟨S128x8x256, .f32⟩
  | 108 => ⟨S128x8x256, .f32⟩
  | 109 => ⟨S_, .f32⟩
  | 110 => ⟨S128x8, .f32⟩
  | 111 => ⟨S128x8x1, .f32⟩
  | 112 => ⟨S_, .f32⟩
  | 113 => ⟨S128x8x1, .f32⟩
  | 114 => ⟨S128x8x1, .f32⟩
  | 115 => ⟨S_, .f32⟩
  | 116 => ⟨S128x8x1, .f32⟩
  | 117 => ⟨S128x8x1, .f32⟩
  | 118 => ⟨S128x8x1, .f32⟩
  | 119 => ⟨S128x8x256, .f32⟩
  | 120 => ⟨S128x8x256, .f32⟩
  | 121 => ⟨S1x1x256, .f32⟩
  | 122 => ⟨S128x8x256, .f32⟩
  | 123 => ⟨S128x8x256, .f32⟩
  | 124 => ⟨S8x128x256, .f32⟩
  | 125 => ⟨S1024x256, .f32⟩
  | 126 => ⟨S1024x256, .bf16⟩
  | 127 => ⟨S128x1024, .f32⟩
  | _ => ⟨S128x8x256, .f32⟩

abbrev hbmTy0_2 (i : Nat) : BufTy := match i % 128 with
  | 0 => ⟨S128x1024, .f32⟩
  | 1 => ⟨S128x2048, .f32⟩
  | _ => ⟨S128x8x256, .f32⟩

abbrev hbmTy (i : Nat) : BufTy := match i / 128 with
  | 0 => hbmTy0_0 i
  | 1 => hbmTy0_1 i
  | 2 => hbmTy0_2 i
  | _ => ⟨S128x8x256, .f32⟩

abbrev bufTy : (tb : Table) → Fin (tcTables nBuf tb) → BufTy
  | .hbm, ⟨i, _⟩ => hbmTy i
  | _, _ => ⟨S128x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_cst : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_cst_0 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_cst_1 : Ref sig .tc := ⟨.hbm, 216, rfl⟩
abbrev main_v201 : Ref sig .tc := ⟨.hbm, 217, rfl⟩
abbrev main_v202 : Ref sig .tc := ⟨.hbm, 218, rfl⟩
abbrev main_cst_2 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_cst_3 : Ref sig .tc := ⟨.hbm, 229, rfl⟩
abbrev main_v212 : Ref sig .tc := ⟨.hbm, 230, rfl⟩
abbrev main_v213 : Ref sig .tc := ⟨.hbm, 231, rfl⟩
abbrev main_cst_4 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_cst_5 : Ref sig .tc := ⟨.hbm, 237, rfl⟩
abbrev main_v218 : Ref sig .tc := ⟨.hbm, 238, rfl⟩
abbrev main_v219 : Ref sig .tc := ⟨.hbm, 239, rfl⟩
abbrev main_cst_6 : Ref sig .tc := ⟨.hbm, 240, rfl⟩
abbrev main_v220 : Ref sig .tc := ⟨.hbm, 241, rfl⟩
abbrev main_v221 : Ref sig .tc := ⟨.hbm, 242, rfl⟩
abbrev main_cst_7 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2048x256 : Shape := ⟨3, ![8, 2048, 256]⟩
abbrev S8x1x1024 : Shape := ⟨3, ![8, 1, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S2048x8x256 : Shape := ⟨3, ![2048, 8, 256]⟩
abbrev S2048x2048 : Shape := ⟨2, ![2048, 2048]⟩
abbrev S1x1024 : Shape := ⟨2, ![1, 1024]⟩
abbrev S1x512x1024 : Shape := ⟨3, ![1, 512, 1024]⟩
abbrev S512x256 : Shape := ⟨2, ![512, 256]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 34
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .f32⟩
  | .hbm, ⟨2, _⟩ => ⟨S8x2048x256, .f32⟩
  | .hbm, ⟨3, _⟩ => ⟨S8x2048x256, .f32⟩
  | .hbm, ⟨4, _⟩ => ⟨S8x2048x256, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S1024, .f32⟩
  | .hbm, ⟨10, _⟩ => ⟨S1024x1024, .f32⟩
  | .hbm, ⟨11, _⟩ => ⟨S1024x2816, .f32⟩
  | .hbm, ⟨12, _⟩ => ⟨S1024x2816, .f32⟩
  | .hbm, ⟨13, _⟩ => ⟨S2816x1024, .f32⟩
  | .hbm, ⟨14, _⟩ => ⟨S1024, .f32⟩
  | .hbm, ⟨15, _⟩ => ⟨S2048x8x256, .f32⟩
  | .hbm, ⟨16, _⟩ => ⟨S2048x2048, .f32⟩
  | .hbm, ⟨17, _⟩ => ⟨S2048x2048, .bf16⟩
  | .hbm, ⟨18, _⟩ => ⟨S2048x8x256, .f32⟩
  | .hbm, ⟨19, _⟩ => ⟨S2048x2048, .f32⟩
  | .hbm, ⟨20, _⟩ => ⟨S2048x2048, .bf16⟩
  | .hbm, ⟨21, _⟩ => ⟨S2048x8x256, .f32⟩
  | .hbm, ⟨22, _⟩ => ⟨S2048x2048, .f32⟩
  | .hbm, ⟨23, _⟩ => ⟨S2048x2048, .bf16⟩
  | .hbm, ⟨24, _⟩ => ⟨S2048x8x256, .f32⟩
  | .hbm, ⟨25, _⟩ => ⟨S2048x2048, .f32⟩
  | .hbm, ⟨26, _⟩ => ⟨S2048x2048, .bf16⟩
  | .hbm, ⟨27, _⟩ => ⟨S1x1024, .f32⟩
  | .hbm, ⟨28, _⟩ => ⟨S1024x1024, .bf16⟩
  | .hbm, ⟨29, _⟩ => ⟨S1024x2816, .bf16⟩
  | .hbm, ⟨30, _⟩ => ⟨S1024x2816, .bf16⟩
  | .hbm, ⟨31, _⟩ => ⟨S2816x1024, .bf16⟩
  | .hbm, ⟨32, _⟩ => ⟨S1x1024, .f32⟩
  | .hbm, ⟨33, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S1024x1024, .bf16⟩
  | .local _ .vmem, ⟨20, _⟩ => ⟨S1024x2816, .bf16⟩
  | .local _ .vmem, ⟨21, _⟩ => ⟨S1024x2816, .bf16⟩
  | .local _ .vmem, ⟨22, _⟩ => ⟨S2816x1024, .bf16⟩
  | .local _ .vmem, ⟨23, _⟩ => ⟨S1x1024, .f32⟩
  | .local _ .vmem, ⟨24, _⟩ => ⟨S1x512x1024, .f32⟩
  | .local _ .vmem, ⟨25, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S8x2048x1024 : Shape := ⟨3, ![8, 2048, 1024]⟩
abbrev S8x2048x256 : Shape := ⟨3, ![8, 2048, 256]⟩
abbrev S8x1x1024 : Shape := ⟨3, ![8, 1, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩

abbrev nBuf : Space → Nat
  | .hbm => 59
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .f32⟩
  | .hbm, ⟨2, _⟩ => ⟨S8x2048x256, .f32⟩
  | .hbm, ⟨3, _⟩ => ⟨S8x2048x256, .f32⟩
  | .hbm, ⟨4, _⟩ => ⟨S8x2048x256, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S1024, .f32⟩
  | .hbm, ⟨10, _⟩ => ⟨S1024x1024, .f32⟩
  | .hbm, ⟨11, _⟩ => ⟨S1024x2816, .f32⟩
  | .hbm, ⟨12, _⟩ => ⟨S1024x2816, .f32⟩
  | .hbm, ⟨13, _⟩ => ⟨S2816x1024, .f32⟩
  | .hbm, ⟨14, _⟩ => ⟨S1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1, .f32⟩
  | .hbm, ⟨31, _⟩ => ⟨S8x2048x1024, .f32⟩
  | .hbm, ⟨32, _⟩ => ⟨S8x2048x1024, .f32⟩
  | .hbm, ⟨33, _⟩ => ⟨S1x1x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x2816, .f32⟩
  | .hbm, ⟨44, _⟩ => ⟨S8x2048x2816, .f32⟩
  | .hbm, ⟨45, _⟩ => ⟨S8x2048x2816, .f32⟩
  | .hbm, ⟨46, _⟩ => ⟨S_, .f32⟩
  | .hbm, ⟨47, _⟩ => ⟨S8x2048x2816, .f32⟩
  | .hbm, ⟨48, _⟩ => ⟨S8x2048x2816, .f32⟩
  | .hbm, ⟨49, _⟩ => ⟨S_, .f32⟩
  | .hbm, ⟨50, _⟩ => ⟨S8x2048x2816, .f32⟩
  | .hbm, ⟨51, _⟩ => ⟨S8x2048x2816, .f32⟩
  | .hbm, ⟨52, _⟩ => ⟨S8x2048x2816, .f32⟩
  | .hbm, ⟨53, _⟩ => ⟨S8x2048x2816, .f32⟩
  | .hbm, ⟨54, _⟩ => ⟨S8x2048x2816, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x1x1024 : Shape := ⟨3, ![8, 1, 1024]⟩
abbrev S1024 : Shape := ⟨1, ![1024]⟩
abbrev S1024x2064 : Shape := ⟨2, ![1024, 2064]⟩
abbrev S2064 : Shape := ⟨1, ![2064]⟩
abbrev S1024x1040 : Shape := ⟨2, ![1024, 1040]⟩
abbrev S_ : Shape := ⟨0, ![]⟩
abbrev S1024x112 : Shape := ⟨2, ![1024, 112]⟩
abbrev S1024x1024 : Shape := ⟨2, ![1024, 1024]⟩
abbrev S1024x2176 : Shape := ⟨2, ![1024, 2176]⟩
abbrev S1040 : Shape := ⟨1, ![1040]⟩
abbrev S112 : Shape := ⟨1, ![112]⟩
abbrev S2176 : Shape := ⟨1, ![2176]⟩
abbrev S1x2176 : Shape := ⟨2, ![1, 2176]⟩
abbrev S1x1024 : Shape := ⟨2, ![1, 1024]⟩
abbrev S2048x2048 : Shape := ⟨2, ![2048, 2048]⟩
abbrev S2048x7168 : Shape := ⟨2, ![2048, 7168]⟩
abbrev S2048x4096 : Shape := ⟨2, ![2048, 4096]⟩
abbrev S1x512x1024 : Shape := ⟨3, ![1, 512, 1024]⟩
abbrev S1x1x1024 : Shape := ⟨3, ![1, 1, 1024]⟩
abbrev S512x256 : Shape := ⟨2, ![512, 256]⟩
abbrev S512x896 : Shape := ⟨2, ![512, 896]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S512x2176 : Shape := ⟨2, ![512, 2176]⟩

abbrev nBuf : Space → Nat
  | .hbm => 23
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x2064, .f32⟩
  | .hbm, ⟨5, _⟩ => ⟨S2064, .f32⟩
  | .hbm, ⟨6, _⟩ => ⟨S1024x1040, .f32⟩
  | .hbm, ⟨7, _⟩ => ⟨S_, .f32⟩
  | .hbm, ⟨8, _⟩ => ⟨S1024x112, .f32⟩
  | .hbm, ⟨9, _⟩ => ⟨S1024x1024, .f32⟩
  | .hbm, ⟨10, _⟩ => ⟨S1024x2176, .f32⟩
  | .hbm, ⟨11, _⟩ => ⟨S1040, .f32⟩
  | .hbm, ⟨12, _⟩ => ⟨S_, .f32⟩
  | .hbm, ⟨13, _⟩ => ⟨S112, .f32⟩
  | .hbm, ⟨14, _⟩ => ⟨S1024, .f32⟩
  | .hbm, ⟨15, _⟩ => ⟨S2176, .f32⟩
  | .hbm, ⟨16, _⟩ => ⟨S1024x2176, .bf16⟩
  | .hbm, ⟨17, _⟩ => ⟨S1x2176, .f32⟩
  | .hbm, ⟨18, _⟩ => ⟨S1x1024, .f32⟩
  | .hbm, ⟨19, _⟩ => ⟨S2048x2048, .f32⟩
  | .hbm, ⟨20, _⟩ => ⟨S2048x7168, .f32⟩
  | .hbm, ⟨21, _⟩ => ⟨S2048x4096, .f32⟩
  | .hbm, ⟨22, _⟩ => ⟨S2048x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2176, .bf16⟩
  | .local _ .vmem, ⟨8, _⟩ => ⟨S1x2176, .f32⟩
  | .local _ .vmem, ⟨9, _⟩ => ⟨S512x256, .f32⟩
  | .local _ .vmem, ⟨10, _⟩ => ⟨S512x256, .f32⟩
  | .local _ .vmem, ⟨11, _⟩ => ⟨S512x896, .f32⟩
  | .local _ .vmem, ⟨12, _⟩ => ⟨S512x896, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2176 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S8x2048x1024 : Shape := ⟨3, ![8, 2048, 1024]⟩
abbrev S8x1x1024 : Shape := ⟨3, ![8, 1, 1024]⟩
abbrev S1024 : Shape := ⟨1, ![1024]⟩
abbrev S1024x2064 : Shape := ⟨2, ![1024, 2064]⟩
abbrev S2064 : Shape := ⟨1, ![2064]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2064 : Shape := ⟨3, ![8, 2048, 2064]⟩
abbrev S1x1x2064 : Shape := ⟨3, ![1, 1, 2064]⟩
abbrev S8x2048x784 : Shape := ⟨3, ![8, 2048, 784]⟩
abbrev S8x2048x112 : Shape := ⟨3, ![8, 2048, 112]⟩
abbrev S8x2048x896 : Shape := ⟨3, ![8, 2048, 896]⟩
abbrev S8x2048x256 : Shape := ⟨3, ![8, 2048, 256]⟩
abbrev S2048x8x256 : Shape := ⟨3, ![2048, 8, 256]⟩
abbrev S2048x2048 : Shape := ⟨2, ![2048, 2048]⟩
abbrev S2048x8x896 : Shape := ⟨3, ![2048, 8, 896]⟩
abbrev S2048x7168 : Shape := ⟨2, ![2048, 7168]⟩
abbrev S8x2048x512 : Shape := ⟨3, ![8, 2048, 512]⟩
abbrev S2048x8x512 : Shape := ⟨3, ![2048, 8, 512]⟩
abbrev S2048x4096 : Shape := ⟨2, ![2048, 4096]⟩

abbrev nBuf : Space → Nat
  | .hbm => 48
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x2064, .f32⟩
  | .hbm, ⟨5, _⟩ => ⟨S2064, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x2064, .f32⟩
  | .hbm, ⟨30, _⟩ => ⟨S1x1x2064, .f32⟩
  | .hbm, ⟨31, _⟩ => ⟨S8x2048x2064, .f32⟩
  | .hbm, ⟨32, _⟩ => ⟨S8x2048x2064, .f32⟩
  | .hbm, ⟨33, _⟩ => ⟨S8x2048x784, .f32⟩
  | .hbm, ⟨34, _⟩ => ⟨S_, .f32⟩
  | .hbm, ⟨35, _⟩ => ⟨S8x2048x112, .f32⟩
  | .hbm, ⟨36, _⟩ => ⟨S8x2048x896, .f32⟩
  | .hbm, ⟨37, _⟩ => ⟨S8x2048x256, .f32⟩
  | .hbm, ⟨38, _⟩ => ⟨S2048x8x256, .f32⟩
  | .hbm, ⟨39, _⟩ => ⟨S2048x2048, .f32⟩
  | .hbm, ⟨40, _⟩ => ⟨S2048x8x896, .f32⟩
  | .hbm, ⟨41, _⟩ => ⟨S2048x7168, .f32⟩
  | .hbm, ⟨42, _⟩ => ⟨S8x2048x512, .f32⟩
  | .hbm, ⟨43, _⟩ => ⟨S2048x8x512, .f32⟩
  | .hbm, ⟨44, _⟩ => ⟨S2048x4096, .f32⟩
  | .hbm, ⟨45, _⟩ => ⟨S8x2048x512, .f32⟩
  | .hbm, ⟨46, _⟩ => ⟨S2048x8x512, .f32⟩
  | .hbm, ⟨47, _⟩ => ⟨S2048x4096, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel4.lean ====
abbrev S128x8x256 : Shape := ⟨3, ![128, 8, 256]⟩
abbrev S256 : Shape := ⟨1, ![256]⟩
abbrev S4x128x128 : Shape := ⟨3, ![4, 128, 128]⟩
abbrev S4x128 : Shape := ⟨2, ![4, 128]⟩
abbrev S8x128x256 : Shape := ⟨3, ![8, 128, 256]⟩
abbrev S1024x256 : Shape := ⟨2, ![1024, 256]⟩
abbrev S1024x512 : Shape := ⟨2, ![1024, 512]⟩
abbrev S_ : Shape := ⟨0, ![]⟩
abbrev S8x8 : Shape := ⟨2, ![8, 8]⟩
abbrev S4x8x8 : Shape := ⟨3, ![4, 8, 8]⟩
abbrev S1x8x8 : Shape := ⟨3, ![1, 8, 8]⟩
abbrev S8x8x4 : Shape := ⟨3, ![8, 8, 4]⟩
abbrev S64x4 : Shape := ⟨2, ![64, 4]⟩
abbrev S64x4x64 : Shape := ⟨3, ![64, 4, 64]⟩
abbrev S64x256 : Shape := ⟨2, ![64, 256]⟩
abbrev S4x8 : Shape := ⟨2, ![4, 8]⟩
abbrev S8x4 : Shape := ⟨2, ![8, 4]⟩
abbrev S8x4x64 : Shape := ⟨3, ![8, 4, 64]⟩
abbrev S8x256 : Shape := ⟨2, ![8, 256]⟩
abbrev S1x256 : Shape := ⟨2, ![1, 256]⟩
abbrev S1024 : Shape := ⟨1, ![1024]⟩
abbrev S1024x1 : Shape := ⟨2, ![1024, 1]⟩
abbrev S128x256 : Shape := ⟨2, ![128, 256]⟩
abbrev S128 : Shape := ⟨1, ![128]⟩
abbrev S128x1 : Shape := ⟨2, ![128, 1]⟩

abbrev nBuf : Space → Nat
  | .hbm => 40
  | .vmem => 8
  | .smem => 0
  | _ => 0

abbrev bufTy : (tb : Table) → Fin (tcTables nBuf tb) → BufTy
  | .hbm, ⟨0, _⟩ => ⟨S128x8x256, .f32⟩
  | .hbm, ⟨1, _⟩ => ⟨S128x8x256, .f32⟩
  | .hbm, ⟨2, _⟩ => ⟨S256, .f32⟩
  | .hbm, ⟨3, _⟩ => ⟨S256, .f32⟩
  | .hbm, ⟨4, _⟩ => ⟨S4x128x128, .f32⟩
  | .hbm, ⟨5, _⟩ => ⟨S4x128, .f32⟩
  | .hbm, ⟨6, _⟩ => ⟨S256, .f32⟩
  | .hbm, ⟨7, _⟩ => ⟨S8x128x256, .f32⟩
  | .hbm, ⟨8, _⟩ => ⟨S1024x256, .f32⟩
  | .hbm, ⟨9, _⟩ => ⟨S8x128x256, .f32⟩
  | .hbm, ⟨10, _⟩ => ⟨S1024x256, .f32⟩
  | .hbm, ⟨11, _⟩ => ⟨S1024x512, .f32⟩
  | .hbm, ⟨12, _⟩ => ⟨S_, .f32⟩
  | .hbm, ⟨13, _⟩ => ⟨S8x8, .f32⟩
  | .hbm, ⟨14, _⟩ => ⟨S8x8, .i32⟩
  | .hbm, ⟨15, _⟩ => ⟨S_, .i32⟩
  | .hbm, ⟨16, _⟩ => ⟨S8x8, .i32⟩
  | .hbm, ⟨17, _⟩ => ⟨S8x8, .i32⟩
  | .hbm, ⟨18, _⟩ => ⟨S8x8, .i32⟩
  | .hbm, ⟨19, _⟩ => ⟨S8x8, .i1⟩
  | .hbm, ⟨20, _⟩ => ⟨S_, .f32⟩
  | .hbm, ⟨21, _⟩ => ⟨S8x8, .f32⟩
  | .hbm, ⟨22, _⟩ => ⟨S8x8, .f32⟩
  | .hbm, ⟨23, _⟩ => ⟨S4x8x8, .f32⟩
  | .hbm, ⟨24, _⟩ => ⟨S1x8x8, .f32⟩
  | .hbm, ⟨25, _⟩ => ⟨S4x8x8, .f32⟩
  | .hbm, ⟨26, _⟩ => ⟨S4x8x8, .f32⟩
  | .hbm, ⟨27, _⟩ => ⟨S8x8x4, .f32⟩
  | .hbm, ⟨28, _⟩ => ⟨S64x4, .f32⟩
  | .hbm, ⟨29, _⟩ => ⟨S64x4x64, .f32⟩
  | .hbm, ⟨30, _⟩ => ⟨S64x256, .f32⟩
  | .hbm, ⟨31, _⟩ => ⟨S4x8, .f32⟩
  | .hbm, ⟨32, _⟩ => ⟨S8x4, .f32⟩
  | .hbm, ⟨33, _⟩ => ⟨S8x4x64, .f32⟩
  | .hbm, ⟨34, _⟩ => ⟨S8x256, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S1024x256, .bf16⟩
  | .hbm, ⟨39, _⟩ => ⟨S1024x256, .f32⟩
  | .local _ .vmem, ⟨0, _⟩ => ⟨S1024x512, .f32⟩
  | .local _ .vmem, ⟨1, _⟩ => ⟨S1x256, .f32⟩
  | .local _ .vmem, ⟨2, _⟩ => ⟨S1x256, .f32⟩
  | .local _ .vmem, ⟨3, _⟩ => ⟨S64x256, .f32⟩
  | .local _ .vmem, ⟨4, _⟩ => ⟨S8x256, .f32⟩
  | .local _ .vmem, ⟨5, _⟩ => ⟨S1x256, .f32⟩
  | .local _ .vmem, ⟨6, _⟩ => ⟨S1024x256, .bf16⟩
  | .local _ .vmem, ⟨7, _⟩ => ⟨S1024x256, .f32⟩
  | _, _ => ⟨S128x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_cst : Ref sig .tc := ⟨.hbm, 20, rfl⟩
abbrev main_call0_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22_0 : Ref sig .tc := ⟨.hbm, 38, rfl⟩
abbrev main_v22_1 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference4Ideal.lean ====
abbrev S128x8x256 : Shape := ⟨3, ![128, 8, 256]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S128x8 : Shape := ⟨2, ![128, 8]⟩
abbrev S128x8x1 : Shape := ⟨3, ![128, 8, 1]⟩
abbrev S1x1x256 : Shape := ⟨3, ![1, 1, 256]⟩
abbrev S128x128x256 : Shape := ⟨3, ![128, 128, 256]⟩
abbrev S128x128x4x64 : Shape := ⟨4, ![128, 128, 4, 64]⟩
abbrev S128x128 : Shape := ⟨2, ![128, 128]⟩
abbrev S1x128x128 : Shape := ⟨3, ![1, 128, 128]⟩
abbrev S4x128x64x128 : Shape := ⟨4, ![4, 128, 64, 128]⟩
abbrev S128x4 : Shape := ⟨2, ![128, 4]⟩
abbrev S1x128x4x1 : Shape := ⟨4, ![1, 128, 4, 1]⟩
abbrev S8x128x256 : Shape := ⟨3, ![8, 128, 256]⟩
abbrev S1024x256 : Shape := ⟨2, ![1024, 256]⟩

abbrev nBuf : Space → Nat
  | .hbm => 87
  | .vmem => 0
  | .smem => 0
  | _ => 0

abbrev bufTy : (tb : Table) → Fin (tcTables nBuf tb) → BufTy
  | .hbm, ⟨0, _⟩ => ⟨S128x8x256, .f32⟩
  | .hbm, ⟨1, _⟩ => ⟨S128x8x256, .f32⟩
  | .hbm, ⟨2, _⟩ => ⟨S256, .f32⟩
  | .hbm, ⟨3, _⟩ => ⟨S256, .f32⟩
  | .hbm, ⟨4, _⟩ => ⟨S4x128x128, .f32⟩
  | .hbm, ⟨5, _⟩ => ⟨S4x128, .f32⟩
  | .hbm, ⟨6, _⟩ => ⟨S256, .f32⟩
  | .hbm, ⟨7, _⟩ => ⟨S_, .f32⟩
  | .hbm, ⟨8, _⟩ => ⟨S128x8, .f32⟩
  | .hbm, ⟨9, _⟩ => ⟨S128x8x1, .f32⟩
  | .hbm, ⟨10, _⟩ => ⟨S_, .f32⟩
  | .hbm, ⟨11, _⟩ => ⟨S128x8x1, .f32⟩
  | .hbm, ⟨12, _⟩ => ⟨S128x8x1, .f32⟩
  | .hbm, ⟨13, _⟩ => ⟨S128x8x256, .f32⟩
  | .hbm, ⟨14, _⟩ => ⟨S128x8x256, .f32⟩
  | .hbm, ⟨15, _⟩ => ⟨S128x8x256, .f32⟩
  | .hbm, ⟨16, _⟩ => ⟨S_, .f32⟩
  | .hbm, ⟨17, _⟩ => ⟨S128x8, .f32⟩
  | .hbm, ⟨18, _⟩ => ⟨S128x8x1, .f32⟩
  | .hbm, ⟨19, _⟩ => ⟨S_, .f32⟩
  | .hbm, ⟨20, _⟩ => ⟨S128x8x1, .f32⟩
  | .hbm, ⟨21, _⟩ => ⟨S128x8x1, .f32⟩
  | .hbm, ⟨22, _⟩ => ⟨S128x8x256, .f32⟩
  | .hbm, ⟨23, _⟩ => ⟨S128x8x256, .f32⟩
  | .hbm, ⟨24, _⟩ => ⟨S_, .f32⟩
  | .hbm, ⟨25, _⟩ => ⟨S128x8x1, .f32⟩
  | .hbm, ⟨26, _⟩ => ⟨S128x8x1, .f32⟩
  | .hbm, ⟨27, _⟩ => ⟨S128x8x1, .f32⟩
  | .hbm, ⟨28, _⟩ => ⟨S128x8x256, .f32⟩
  | .hbm, ⟨29, _⟩ => ⟨S128x8x256, .f32⟩
  | .hbm, ⟨30, _⟩ => ⟨S1x1x256, .f32⟩
  | .hbm, ⟨31, _⟩ => ⟨S128x8x256, .f32⟩
  | .hbm, ⟨32, _⟩ => ⟨S128x8x256, .f32⟩
  | .hbm, ⟨33, _⟩ => ⟨S1x1x256, .f32⟩
  | .hbm, ⟨34, _⟩ => ⟨S128x8x256, .f32⟩
  | .hbm, ⟨35, _⟩ => ⟨S128x8x256, .f32⟩
  | .hbm, ⟨36, _⟩ => ⟨S_, .i32⟩
  | .hbm, ⟨37, _⟩ => ⟨S_, .f32⟩
  | .hbm, ⟨38, _⟩ => ⟨S128x128x256, .f32⟩
  | .hbm, ⟨39, _⟩ => ⟨S128x128x4x64, .f32⟩
  | .hbm, ⟨40, _⟩ => ⟨S_, .i1⟩
  | .hbm, ⟨41, _⟩ => ⟨S128x128, .i1⟩
  | .hbm, ⟨42, _⟩ => ⟨S128x128, .i32⟩
  | .hbm, ⟨43, _⟩ => ⟨S_, .i32⟩
  | .hbm, ⟨44, _⟩ => ⟨S128x128, .i32⟩
  | .hbm, ⟨45, _⟩ => ⟨S128x128, .i32⟩
  | .hbm, ⟨46, _⟩ => ⟨S128x128, .i32⟩
  | .hbm, ⟨47, _⟩ => ⟨S128x128, .i1⟩
  | .hbm, ⟨48, _⟩ => ⟨S_, .i1⟩
  | .hbm, ⟨49, _⟩ => ⟨S128x128, .i1⟩
  | .hbm, ⟨50, _⟩ => ⟨S128x128, .i1⟩
  | .hbm, ⟨51, _⟩ => ⟨S1x128x128, .i1⟩
  | .hbm, ⟨52, _⟩ => ⟨S_, .f32⟩
  | .hbm, ⟨53, _⟩ => ⟨S_, .f32⟩
  | .hbm, ⟨54, _⟩ => ⟨S4x128x128, .i1⟩
  | .hbm, ⟨55, _⟩ => ⟨S4x128x128, .f32⟩
  | .hbm, ⟨56, _⟩ => ⟨S4x128x128, .f32⟩
  | .hbm, ⟨57, _⟩ => ⟨S4x128x64x128, .f32⟩
  | .hbm, ⟨58, _⟩ => ⟨S128x128x4x64, .f32⟩
  | .hbm, ⟨59, _⟩ => ⟨S128x4, .f32⟩
  | .hbm, ⟨60, _⟩ => ⟨S1x128x4x1, .f32⟩
  | .hbm, ⟨61, _⟩ => ⟨S128x128x4x64, .f32⟩
  | .hbm, ⟨62, _⟩ => ⟨S128x128x4x64, .f32⟩
  | .hbm, ⟨63, _⟩ => ⟨S128x128x256, .f32⟩
  | .hbm, ⟨64, _⟩ => ⟨S128x8x256, .f32⟩
  | .hbm, ⟨65, _⟩ => ⟨S128x8x256, .f32⟩
  | .hbm, ⟨66, _⟩ => ⟨S128x8x256, .f32⟩
  | .hbm, ⟨67, _⟩ => ⟨S_, .f32⟩
  | .hbm, ⟨68, _⟩ => ⟨S128x8, .f32⟩
  | .hbm, ⟨69, _⟩ => ⟨S128x8x1, .f32⟩
  | .hbm, ⟨70, _⟩ => ⟨S_, .f32⟩
  | .hbm, ⟨71, _⟩ => ⟨S128x8x1, .f32⟩
  | .hbm, ⟨72, _⟩ => ⟨S128x8x1, .f32⟩
  | .hbm, ⟨73, _⟩ => ⟨S_, .f32⟩
  | .hbm, ⟨74, _⟩ => ⟨S128x8x1, .f32⟩
  | .hbm, ⟨75, _⟩ => ⟨S128x8x1, .f32⟩
  | .hbm, ⟨76, _⟩ => ⟨S128x8x1, .f32⟩
  | .hbm, ⟨77, _⟩ => ⟨S128x8x256, .f32⟩
  | .hbm, ⟨78, _⟩ => ⟨S128x8x256, .f32⟩
  | .hbm, ⟨79, _⟩ => ⟨S1x1x256, .f32⟩
  | .hbm, ⟨80, _⟩ => ⟨S128x8x256, .f32⟩
  | .hbm, ⟨81, _⟩ => ⟨S128x8x256, .f32⟩
  | .hbm, ⟨82, _⟩ => ⟨S8x128x256, .f32⟩
  | .hbm, ⟨83, _⟩ => ⟨S1024x256, .f32⟩
  | .hbm, ⟨84, _⟩ => ⟨S1024x256, .bf16⟩
  | .hbm, ⟨85, _⟩ => ⟨S8x128x256, .f32⟩
  | .hbm, ⟨86, _⟩ => ⟨S1024x256, .f32⟩
  | _, _ => ⟨S128x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_0 : Ref sig .tc := ⟨.hbm, 48, rfl⟩
abbrev main_call1_v5 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩

abbrev nD : Nat := 1
abbrev τ : Topo := Topo.v7x

variable {F : FTy → Type} [FloatOps F]
-- ==== Kernel5.lean ====
abbrev S8x2048x1024 : Shape := ⟨3, ![8, 2048, 1024]⟩
abbrev S2x17408x1024 : Shape := ⟨3, ![2, 17408, 1024]⟩
abbrev S17408x128 : Shape := ⟨2, ![17408, 128]⟩
abbrev S8x1x1024 : Shape := ⟨3, ![8, 1, 1024]⟩
abbrev S1024 : Shape := ⟨1, ![1024]⟩
abbrev S2x139264x128 : Shape := ⟨3, ![2, 139264, 128]⟩
abbrev S1x1024 : Shape := ⟨2, ![1, 1024]⟩
abbrev S1x1024x1024 : Shape := ⟨3, ![1, 1024, 1024]⟩
abbrev S1x8192x128 : Shape := ⟨3, ![1, 8192, 128]⟩
abbrev S1024x128 : Shape := ⟨2, ![1024, 128]⟩
abbrev S1x1x1024 : Shape := ⟨3, ![1, 1, 1024]⟩
abbrev S1024x1 : Shape := ⟨2, ![1024, 1]⟩
abbrev S1x1024x128 : Shape := ⟨3, ![1, 1024, 128]⟩
abbrev S1024x1024 : Shape := ⟨2, ![1024, 1024]⟩

abbrev nBuf : Space → Nat
  | .hbm => 8
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S2x17408x1024, .f32⟩
  | .hbm, ⟨2, _⟩ => ⟨S17408x128, .f32⟩
  | .hbm, ⟨3, _⟩ => ⟨S8x1x1024, .f32⟩
  | .hbm, ⟨4, _⟩ => ⟨S1024, .f32⟩
  | .hbm, ⟨5, _⟩ => ⟨S2x139264x128, .f32⟩
  | .hbm, ⟨6, _⟩ => ⟨S1x1024, .f32⟩
  | .hbm, ⟨7, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8192x128, .f32⟩
  | .local _ .vmem, ⟨3, _⟩ => ⟨S1x8192x128, .f32⟩
  | .local _ .vmem, ⟨4, _⟩ => ⟨S1x8192x128, .f32⟩
  | .local _ .vmem, ⟨5, _⟩ => ⟨S1x8192x128, .f32⟩
  | .local _ .vmem, ⟨6, _⟩ => ⟨S1024x128, .f32⟩
  | .local _ .vmem, ⟨7, _⟩ => ⟨S1024x128, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024x1024, .f32⟩
  | .local _ .vmem, ⟨12, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  let c0_i32_1 : BitVec 32 := 0#32
  ![c1_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8x2048x1024 : Shape := ⟨3, ![8, 2048, 1024]⟩
abbrev S2x17408x1024 : Shape := ⟨3, ![2, 17408, 1024]⟩
abbrev S17408x128 : Shape := ⟨2, ![17408, 128]⟩
abbrev S8x1x1024 : Shape := ⟨3, ![8, 1, 1024]⟩
abbrev S1024 : Shape := ⟨1, ![1024]⟩
abbrev S2x16384x1024 : Shape := ⟨3, ![2, 16384, 1024]⟩
abbrev S2x8x2048x1024 : Shape := ⟨4, ![2, 8, 2048, 1024]⟩
abbrev S16384x2 : Shape := ⟨2, ![16384, 2]⟩
abbrev S8x2048x2 : Shape := ⟨3, ![8, 2048, 2]⟩
abbrev S8x2048x1 : Shape := ⟨3, ![8, 2048, 1]⟩
abbrev S1x8x2048x1024 : Shape := ⟨4, ![1, 8, 2048, 1024]⟩
abbrev S_ : Shape := ⟨0, ![]⟩
abbrev S8x2048 : Shape := ⟨2, ![8, 2048]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x17408x1024, .f32⟩
  | .hbm, ⟨2, _⟩ => ⟨S17408x128, .f32⟩
  | .hbm, ⟨3, _⟩ => ⟨S8x1x1024, .f32⟩
  | .hbm, ⟨4, _⟩ => ⟨S1024, .f32⟩
  | .hbm, ⟨5, _⟩ => ⟨S2x16384x1024, .f32⟩
  | .hbm, ⟨6, _⟩ => ⟨S2x8x2048x1024, .f32⟩
  | .hbm, ⟨7, _⟩ => ⟨S16384x2, .f32⟩
  | .hbm, ⟨8, _⟩ => ⟨S8x2048x2, .f32⟩
  | .hbm, ⟨9, _⟩ => ⟨S8x2048x1, .f32⟩
  | .hbm, ⟨10, _⟩ => ⟨S1x8x2048x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S8x2048x1, .f32⟩
  | .hbm, ⟨15, _⟩ => ⟨S1x8x2048x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x2048, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S8x2048x1, .f32⟩
  | .hbm, ⟨34, _⟩ => ⟨S8x2048x1024, .f32⟩
  | .hbm, ⟨35, _⟩ => ⟨S8x2048x1024, .f32⟩
  | .hbm, ⟨36, _⟩ => ⟨S1x1x1024, .f32⟩
  | .hbm, ⟨37, _⟩ => ⟨S8x2048x1024, .f32⟩
  | .hbm, ⟨38, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Kernel6.lean ====
abbrev S8x2048x1024 : Shape := ⟨3, ![8, 2048, 1024]⟩
abbrev S8x2048x256 : Shape := ⟨3, ![8, 2048, 256]⟩
abbrev S8x1x1024 : Shape := ⟨3, ![8, 1, 1024]⟩
abbrev S1024 : Shape := ⟨1, ![1024]⟩
abbrev S1024x1024 : Shape := ⟨2, ![1024, 1024]⟩
abbrev S1024x8 : Shape := ⟨2, ![1024, 8]⟩
abbrev S8x1024x2816 : Shape := ⟨3, ![8, 1024, 2816]⟩
abbrev S8x2816x1024 : Shape := ⟨3, ![8, 2816, 1024]⟩
abbrev S_ : Shape := ⟨0, ![]⟩
abbrev S1024x128 : Shape := ⟨2, ![1024, 128]⟩
abbrev S1 : Shape := ⟨1, ![1]⟩
abbrev S2048x8x256 : Shape := ⟨3, ![2048, 8, 256]⟩
abbrev S2048x2048 : Shape := ⟨2, ![2048, 2048]⟩
abbrev S1x1024 : Shape := ⟨2, ![1, 1024]⟩
abbrev S1x512x1024 : Shape := ⟨3, ![1, 512, 1024]⟩
abbrev S512x256 : Shape := ⟨2, ![512, 256]⟩
abbrev S1x1x1024 : Shape := ⟨3, ![1, 1, 1024]⟩
abbrev S1x1024x1408 : Shape := ⟨3, ![1, 1024, 1408]⟩
abbrev S1x1408x1024 : Shape := ⟨3, ![1, 1408, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 40
  | .vmem => 33
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .f32⟩
  | .hbm, ⟨2, _⟩ => ⟨S8x2048x256, .f32⟩
  | .hbm, ⟨3, _⟩ => ⟨S8x2048x256, .f32⟩
  | .hbm, ⟨4, _⟩ => ⟨S8x2048x256, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S1024, .f32⟩
  | .hbm, ⟨10, _⟩ => ⟨S1024x1024, .f32⟩
  | .hbm, ⟨11, _⟩ => ⟨S1024x8, .f32⟩
  | .hbm, ⟨12, _⟩ => ⟨S8x1024x2816, .f32⟩
  | .hbm, ⟨13, _⟩ => ⟨S8x1024x2816, .f32⟩
  | .hbm, ⟨14, _⟩ => ⟨S8x2816x1024, .f32⟩
  | .hbm, ⟨15, _⟩ => ⟨S1024, .f32⟩
  | .hbm, ⟨16, _⟩ => ⟨S_, .f32⟩
  | .hbm, ⟨17, _⟩ => ⟨S1024x128, .f32⟩
  | .hbm, ⟨18, _⟩ => ⟨S_, .i32⟩
  | .hbm, ⟨19, _⟩ => ⟨S1, .i32⟩
  | .hbm, ⟨20, _⟩ => ⟨S1024x128, .f32⟩
  | .hbm, ⟨21, _⟩ => ⟨S2048x8x256, .f32⟩
  | .hbm, ⟨22, _⟩ => ⟨S2048x2048, .f32⟩
  | .hbm, ⟨23, _⟩ => ⟨S2048x2048, .bf16⟩
  | .hbm, ⟨24, _⟩ => ⟨S2048x8x256, .f32⟩
  | .hbm, ⟨25, _⟩ => ⟨S2048x2048, .f32⟩
  | .hbm, ⟨26, _⟩ => ⟨S2048x2048, .bf16⟩
  | .hbm, ⟨27, _⟩ => ⟨S2048x8x256, .f32⟩
  | .hbm, ⟨28, _⟩ => ⟨S2048x2048, .f32⟩
  | .hbm, ⟨29, _⟩ => ⟨S2048x2048, .bf16⟩
  | .hbm, ⟨30, _⟩ => ⟨S2048x8x256, .f32⟩
  | .hbm, ⟨31, _⟩ => ⟨S2048x2048, .f32⟩
  | .hbm, ⟨32, _⟩ => ⟨S2048x2048, .bf16⟩
  | .hbm, ⟨33, _⟩ => ⟨S1x1024, .f32⟩
  | .hbm, ⟨34, _⟩ => ⟨S1024x1024, .bf16⟩
  | .hbm, ⟨35, _⟩ => ⟨S8x1024x2816, .bf16⟩
  | .hbm, ⟨36, _⟩ => ⟨S8x1024x2816, .bf16⟩
  | .hbm, ⟨37, _⟩ => ⟨S8x2816x1024, .bf16⟩
  | .hbm, ⟨38, _⟩ => ⟨S1x1024, .f32⟩
  | .hbm, ⟨39, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S1024x1024, .bf16⟩
  | .local _ .vmem, ⟨20, _⟩ => ⟨S1024x128, .f32⟩
  | .local _ .vmem, ⟨21, _⟩ => ⟨S1x1024x1408, .bf16⟩
  | .local _ .vmem, ⟨22, _⟩ => ⟨S1x1024x1408, .bf16⟩
  | .local _ .vmem, ⟨23, _⟩ => ⟨S1x1024x1408, .bf16⟩
  | .local _ .vmem, ⟨24, _⟩ => ⟨S1x1024x1408, .bf16⟩
  | .local _ .vmem, ⟨25, _⟩ => ⟨S1x1408x1024, .bf16⟩
  | .local _ .vmem, ⟨26, _⟩ => ⟨S1x1408x1024, .bf16⟩
  | .local _ .vmem, ⟨27, _⟩ => ⟨S1x1024, .f32⟩
  | .local _ .vmem, ⟨28, _⟩ => ⟨S1x512x1024, .f32⟩
  | .local _ .vmem, ⟨29, _⟩ => ⟨S1x512x1024, .f32⟩
  | .local _ .vmem, ⟨30, _⟩ => ⟨S512x1024, .bf16⟩
  | .local _ .vmem, ⟨31, _⟩ => ⟨S512x1024, .f32⟩
  | .local _ .vmem, ⟨32, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨4, ![8, 4, 8, 2], ![false, false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let arg3 : BitVec 32 := BitVec.ofNat 32 (i 3).val
  let c0_i32_0 : BitVec 32 := 0#32
  let v1 : BitVec 1 := Scalar.cmpi .eq arg3 c0_i32_0
  let v2 : BitVec 1 := Scalar.andi v0 v1
  let v6 : BitVec 32 := Scalar.extui v2
  let c0_i32_1 : BitVec 32 := 0#32
  let v7 : BitVec 1 := Scalar.cmpi .ne v6 c0_i32_1
  v7

def k0_cond2 (i : grid0.Coords) : BitVec 1 :=
  let arg2 : BitVec 32 := BitVec.ofNat 32 (i 2).val
  let c7_i32 : BitVec 32 := 7#32
  let v3 : BitVec 1 := Scalar.cmpi .eq arg2 c7_i32
  let arg3 : BitVec 32 := BitVec.ofNat 32 (i 3).val
  let c1_i32 : BitVec 32 := 1#32
  let v4 : BitVec 1 := Scalar.cmpi .eq arg3 c1_i32
  let v5 : BitVec 1 := Scalar.andi v3 v4
  let v37 : BitVec 32 := Scalar.extui v5
  let c0_i32_22 : BitVec 32 := 0#32
  let v38 : BitVec 1 := Scalar.cmpi .ne v37 c0_i32_22
  v38

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg3.toNat, c0_i32.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false, false]

abbrev stage0_11 : Fin 1 → Memref sig .tc .vmem S1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false, false]

abbrev stage0_12 : Fin 2 → Memref sig .tc .vmem S1x1024x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, false, true, true]

abbrev stage0_13 : Fin 2 → Memref sig .tc .vmem S1x1024x1408 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, false, true, true]

abbrev stage0_14 : Fin 2 → Memref sig .tc .vmem S1x1408x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, false, true, true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false, false]
-- ==== Reference6Ideal.lean ====
abbrev S8x2048x1024 : Shape := ⟨3, ![8, 2048, 1024]⟩
abbrev S8x2048x256 : Shape := ⟨3, ![8, 2048, 256]⟩
abbrev S8x1x1024 : Shape := ⟨3, ![8, 1, 1024]⟩
abbrev S1024 : Shape := ⟨1, ![1024]⟩
abbrev S1024x1024 : Shape := ⟨2, ![1024, 1024]⟩
abbrev S1024x8 : Shape := ⟨2, ![1024, 8]⟩
abbrev S8x1024x2816 : Shape := ⟨3, ![8, 1024, 2816]⟩
abbrev S8x2816x1024 : Shape := ⟨3, ![8, 2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x8 : Shape := ⟨3, ![8, 2048, 8]⟩
abbrev S8x2048x2 : Shape := ⟨3, ![8, 2048, 2]⟩
abbrev S8x2048x2x1 : Shape := ⟨4, ![8, 2048, 2, 1]⟩
abbrev S1x1x1x8 : Shape := ⟨4, ![1, 1, 1, 8]⟩
abbrev S8x2048x2x8 : Shape := ⟨4, ![8, 2048, 2, 8]⟩
abbrev S8x2048x8x2816 : Shape := ⟨4, ![8, 2048, 8, 2816]⟩
abbrev S8x2048x8x1 : Shape := ⟨4, ![8, 2048, 8, 1]⟩
abbrev S8x1024x8x2048 : Shape := ⟨4, ![8, 1024, 8, 2048]⟩
abbrev S8x2048x8x1024 : Shape := ⟨4, ![8, 2048, 8, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .f32⟩
  | .hbm, ⟨2, _⟩ => ⟨S8x2048x256, .f32⟩
  | .hbm, ⟨3, _⟩ => ⟨S8x2048x256, .f32⟩
  | .hbm, ⟨4, _⟩ => ⟨S8x2048x256, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S1024, .f32⟩
  | .hbm, ⟨10, _⟩ => ⟨S1024x1024, .f32⟩
  | .hbm, ⟨11, _⟩ => ⟨S1024x8, .f32⟩
  | .hbm, ⟨12, _⟩ => ⟨S8x1024x2816, .f32⟩
  | .hbm, ⟨13, _⟩ => ⟨S8x1024x2816, .f32⟩
  | .hbm, ⟨14, _⟩ => ⟨S8x2816x1024, .f32⟩
  | .hbm, ⟨15, _⟩ => ⟨S1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x2048x1, .f32⟩
  | .hbm, ⟨32, _⟩ => ⟨S8x2048x1024, .f32⟩
  | .hbm, ⟨33, _⟩ => ⟨S8x2048x1024, .f32⟩
  | .hbm, ⟨34, _⟩ => ⟨S1x1x1024, .f32⟩
  | .hbm, ⟨35, _⟩ => ⟨S8x2048x1024, .f32⟩
  | .hbm, ⟨36, _⟩ => ⟨S8x2048x1024, .f32⟩
  | .hbm, ⟨37, _⟩ => ⟨S_, .f32⟩
  | .hbm, ⟨38, _⟩ => ⟨S8x1x1024, .f32⟩
  | .hbm, ⟨39, _⟩ => ⟨S8x1x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x8, .f32⟩
  | .hbm, ⟨45, _⟩ => ⟨S8x2048x2, .f32⟩
  | .hbm, ⟨46, _⟩ => ⟨S8x2048x2, .i32⟩
  | .hbm, ⟨47, _⟩ => ⟨S_, .f32⟩
  | .hbm, ⟨48, _⟩ => ⟨S8x2048, .f32⟩
  | .hbm, ⟨49, _⟩ => ⟨S_, .f32⟩
  | .hbm, ⟨50, _⟩ => ⟨S8x2048, .f32⟩
  | .hbm, ⟨51, _⟩ => ⟨S8x2048, .f32⟩
  | .hbm, ⟨52, _⟩ => ⟨S8x2048x1, .f32⟩
  | .hbm, ⟨53, _⟩ => ⟨S8x2048x2, .f32⟩
  | .hbm, ⟨54, _⟩ => ⟨S8x2048x2, .f32⟩
  | .hbm, ⟨55, _⟩ => ⟨S8x2048x2, .f32⟩
  | .hbm, ⟨56, _⟩ => ⟨S_, .f32⟩
  | .hbm, ⟨57, _⟩ => ⟨S8x2048, .f32⟩
  | .hbm, ⟨58, _⟩ => ⟨S8x2048x1, .f32⟩
  | .hbm, ⟨59, _⟩ => ⟨S8x2048x2, .f32⟩
  | .hbm, ⟨60, _⟩ => ⟨S8x2048x2, .f32⟩
  | .hbm, ⟨61, _⟩ => ⟨S8x2048x2x1, .i32⟩
  | .hbm, ⟨62, _⟩ => ⟨S1x1x1x8, .i32⟩
  | .hbm, ⟨63, _⟩ => ⟨S8x2048x2x8, .i32⟩
  | .hbm, ⟨64, _⟩ => ⟨S8x2048x2x8, .i32⟩
  | .hbm, ⟨65, _⟩ => ⟨S8x2048x2x8, .i1⟩
  | .hbm, ⟨66, _⟩ => ⟨S8x2048x2x8, .f32⟩
  | .hbm, ⟨67, _⟩ => ⟨S8x2048x2x1, .f32⟩
  | .hbm, ⟨68, _⟩ => ⟨S8x2048x2x8, .f32⟩
  | .hbm, ⟨69, _⟩ => ⟨S8x2048x2x8, .f32⟩
  | .hbm, ⟨70, _⟩ => ⟨S_, .f32⟩
  | .hbm, ⟨71, _⟩ => ⟨S8x2048x8, .f32⟩
  | .hbm, ⟨72, _⟩ => ⟨S8x2048x8x2816, .f32⟩
  | .hbm, ⟨73, _⟩ => ⟨S8x2048x8x2816, .f32⟩
  | .hbm, ⟨74, _⟩ => ⟨S8x2048x8x2816, .f32⟩
  | .hbm, ⟨75, _⟩ => ⟨S_, .f32⟩
  | .hbm, ⟨76, _⟩ => ⟨S8x2048x8x2816, .f32⟩
  | .hbm, ⟨77, _⟩ => ⟨S8x2048x8x2816, .f32⟩
  | .hbm, ⟨78, _⟩ => ⟨S_, .f32⟩
  | .hbm, ⟨79, _⟩ => ⟨S8x2048x8x2816, .f32⟩
  | .hbm, ⟨80, _⟩ => ⟨S8x2048x8x2816, .f32⟩
  | .hbm, ⟨81, _⟩ => ⟨S8x2048x8x2816, .f32⟩
  | .hbm, ⟨82, _⟩ => ⟨S8x2048x8x2816, .f32⟩
  | .hbm, ⟨83, _⟩ => ⟨S8x2048x8x2816, .f32⟩
  | .hbm, ⟨84, _⟩ => ⟨S8x2048x8x1, .f32⟩
  | .hbm, ⟨85, _⟩ => ⟨S8x1024x8x2048, .f32⟩
  | .hbm, ⟨86, _⟩ => ⟨S8x2048x8x1024, .f32⟩
  | .hbm, ⟨87, _⟩ => ⟨S8x2048x8x1024, .f32⟩
  | .hbm, ⟨88, _⟩ => ⟨S8x2048x8x1024, .f32⟩
  | .hbm, ⟨89, _⟩ => ⟨S_, .f32⟩
  | .hbm, ⟨90, _⟩ => ⟨S8x2048x1024, .f32⟩
  | .hbm, ⟨91, _⟩ => ⟨S8x2048x1024, .f32⟩
  | .hbm, ⟨92, _⟩ => ⟨S8x2048x1024, .f32⟩
  | .hbm, ⟨93, _⟩ => ⟨S8x2048x1024, .f32⟩
  | .hbm, ⟨94, _⟩ => ⟨S8x2048x1024, .f32⟩
  | .hbm, ⟨95, _⟩ => ⟨S_, .f32⟩
  | .hbm, ⟨96, _⟩ => ⟨S8x2048, .f32⟩
  | .hbm, ⟨97, _⟩ => ⟨S8x2048x1, .f32⟩
  | .hbm, ⟨98, _⟩ => ⟨S_, .f32⟩
  | .hbm, ⟨99, _⟩ => ⟨S8x2048x1, .f32⟩
  | .hbm, ⟨100, _⟩ => ⟨S8x2048x1, .f32⟩
  | .hbm, ⟨101, _⟩ => ⟨S_, .f32⟩
  | .hbm, ⟨102, _⟩ => ⟨S8x2048x1, .f32⟩
  | .hbm, ⟨103, _⟩ => ⟨S8x2048x1, .f32⟩
  | .hbm, ⟨104, _⟩ => ⟨S8x2048x1, .f32⟩
  | .hbm, ⟨105, _⟩ => ⟨S8x2048x1024, .f32⟩
  | .hbm, ⟨106, _⟩ => ⟨S8x2048x1024, .f32⟩
  | .hbm, ⟨107, _⟩ => ⟨S1x1x1024, .f32⟩
  | .hbm, ⟨108, _⟩ => ⟨S8x2048x1024, .f32⟩
  | .hbm, ⟨109, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_values : Ref sig .tc := ⟨.hbm, 45, rfl⟩
abbrev main_indices : Ref sig .tc := ⟨.hbm, 46, rfl⟩
abbrev main_cst_3 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_6 : Ref sig .tc := ⟨.hbm, 70, rfl⟩
abbrev main_v40 : Ref sig .tc := ⟨.hbm, 71, rfl⟩
abbrev main_v41 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_7 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_8 : Ref sig .tc := ⟨.hbm, 95, rfl⟩
abbrev main_v55 : Ref sig .tc := ⟨.hbm, 96, rfl⟩
abbrev main_v56 : Ref sig .tc := ⟨.hbm, 97, rfl⟩
abbrev main_cst_9 : Ref sig .tc := ⟨.hbm, 98, rfl⟩
abbrev main_v57 : Ref sig .tc := ⟨.hbm, 99, rfl⟩
abbrev main_v58 : Ref sig .tc := ⟨.hbm, 100, rfl⟩
abbrev main_cst_10 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩

abbrev nD : Nat := 1
abbrev τ : Topo := Topo.v7x

variable {F : FTy → Type} [FloatOps F]
-- ==== Kernel7.lean ====
abbrev S128x8x256 : Shape := ⟨3, ![128, 8, 256]⟩
abbrev S128x30x256 : Shape := ⟨3, ![128, 30, 256]⟩
abbrev S31x256 : Shape := ⟨2, ![31, 256]⟩
abbrev S256 : Shape := ⟨1, ![256]⟩
abbrev S256x256 : Shape := ⟨2, ![256, 256]⟩
abbrev S8x128x256 : Shape := ⟨3, ![8, 128, 256]⟩
abbrev S1024x256 : Shape := ⟨2, ![1024, 256]⟩
abbrev S1024x512 : Shape := ⟨2, ![1024, 512]⟩
abbrev S30x128x256 : Shape := ⟨3, ![30, 128, 256]⟩
abbrev S3840x256 : Shape := ⟨2, ![3840, 256]⟩
abbrev S1x256 : Shape := ⟨2, ![1, 256]⟩
abbrev S2x4864x128 : Shape := ⟨3, ![2, 4864, 128]⟩
abbrev S2x1024x128 : Shape := ⟨3, ![2, 1024, 128]⟩
abbrev S3840x128 : Shape := ⟨2, ![3840, 128]⟩
abbrev S1x3840x128 : Shape := ⟨3, ![1, 3840, 128]⟩
abbrev S1024x128 : Shape := ⟨2, ![1024, 128]⟩
abbrev S1x1024x128 : Shape := ⟨3, ![1, 1024, 128]⟩
abbrev S64x128 : Shape := ⟨2, ![64, 128]⟩
abbrev S1x128 : Shape := ⟨2, ![1, 128]⟩
abbrev S1x64x128 : Shape := ⟨3, ![1, 64, 128]⟩
abbrev S1024 : Shape := ⟨1, ![1024]⟩
abbrev S1024x1 : Shape := ⟨2, ![1024, 1]⟩

abbrev nBuf : Space → Nat
  | .hbm => 25
  | .vmem => 13
  | .smem => 0
  | _ => 0

abbrev bufTy : (tb : Table) → Fin (tcTables nBuf tb) → BufTy
  | .hbm, ⟨0, _⟩ => ⟨S128x8x256, .f32⟩
  | .hbm, ⟨1, _⟩ => ⟨S128x8x256, .f32⟩
  | .hbm, ⟨2, _⟩ => ⟨S128x30x256, .f32⟩
  | .hbm, ⟨3, _⟩ => ⟨S31x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S8x128x256, .f32⟩
  | .hbm, ⟨11, _⟩ => ⟨S1024x256, .f32⟩
  | .hbm, ⟨12, _⟩ => ⟨S8x128x256, .f32⟩
  | .hbm, ⟨13, _⟩ => ⟨S1024x256, .f32⟩
  | .hbm, ⟨14, _⟩ => ⟨S1024x512, .f32⟩
  | .hbm, ⟨15, _⟩ => ⟨S30x128x256, .f32⟩
  | .hbm, ⟨16, _⟩ => ⟨S3840x256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S256x256, .bf16⟩
  | .hbm, ⟨21, _⟩ => ⟨S1x256, .f32⟩
  | .hbm, ⟨22, _⟩ => ⟨S1x256, .f32⟩
  | .hbm, ⟨23, _⟩ => ⟨S1024x256, .bf16⟩
  | .hbm, ⟨24, _⟩ => ⟨S3840x256, .f32⟩
  | .local _ .vmem, ⟨0, _⟩ => ⟨S1024x512, .f32⟩
  | .local _ .vmem, ⟨1, _⟩ => ⟨S3840x256, .f32⟩
  | .local _ .vmem, ⟨2, _⟩ => ⟨S31x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S1x256, .f32⟩
  | .local _ .vmem, ⟨9, _⟩ => ⟨S1024x256, .bf16⟩
  | .local _ .vmem, ⟨10, _⟩ => ⟨S3840x256, .f32⟩
  | .local _ .vmem, ⟨11, _⟩ => ⟨S2x4864x128, .f32⟩
  | .local _ .vmem, ⟨12, _⟩ => ⟨S2x1024x128, .f32⟩
  | _, _ => ⟨S128x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_11 : BitVec 32 := 0#32
  let c16_i32 : BitVec 32 := 16#32
  let v21 : BitVec 32 := Scalar.addi c0_i32_11 c16_i32
  let c1_i32 : BitVec 32 := 1#32
  ⟨c0_i32_11, v21, c1_i32⟩
def k0_mult1 (k0_t1 : Fin k0_t1_loop.trips) : BitVec 32 :=
  let c0_i32_11 : BitVec 32 := 0#32
  let c1_i32 : BitVec 32 := 1#32
  let arg14 : BitVec 32 := Scf.iv c0_i32_11 c1_i32 k0_t1
  let c64_i32 : BitVec 32 := 64#32
  let v97 : BitVec 32 := Scalar.muli arg14 c64_i32
  v97
def k0_off1 (k0_t1 : Fin k0_t1_loop.trips) (c0_i32_56 : BitVec 32) : Fin 3 → Nat :=
  let c0_57 : Index := 0#32
  let c0_i32_11 : BitVec 32 := 0#32
  let c1_i32 : BitVec 32 := 1#32
  let arg14 : BitVec 32 := Scf.iv c0_i32_11 c1_i32 k0_t1
  let c64_i32 : BitVec 32 := 64#32
  let v97 : BitVec 32 := Scalar.muli arg14 c64_i32
  let v98 : BitVec 32 := v97
  let v101 : BitVec 32 := Scalar.addi v98 c0_i32_56
  let v102 : Index := Scalar.indexCast v101
  let c0_58 : Index := 0#32
  ![0, v102.toNat, 0]
def k0_off2 (k0_t1 : Fin k0_t1_loop.trips) : Fin 3 → Nat :=
  let c0_119 : Index := 0#32
  let c0_i32_11 : BitVec 32 := 0#32
  let c1_i32 : BitVec 32 := 1#32
  let arg14 : BitVec 32 := Scf.iv c0_i32_11 c1_i32 k0_t1
  let c64_i32 : BitVec 32 := 64#32
  let v97 : BitVec 32 := Scalar.muli arg14 c64_i32
  let v98 : BitVec 32 := v97
  let v348 : Index := Scalar.indexCast v98
  let c0_120 : Index := 0#32
  ![0, v348.toNat, 0]
def k0_off3 (k0_t1 : Fin k0_t1_loop.trips) (c0_i32_122 : BitVec 32) : Fin 3 → Nat :=
  let c1_123 : Index := 1#32
  let c0_i32_11 : BitVec 32 := 0#32
  let c1_i32 : BitVec 32 := 1#32
  let arg14 : BitVec 32 := Scf.iv c0_i32_11 c1_i32 k0_t1
  let c64_i32 : BitVec 32 := 64#32
  let v97 : BitVec 32 := Scalar.muli arg14 c64_i32
  let v98 : BitVec 32 := v97
  let v354 : BitVec 32 := Scalar.addi v98 c0_i32_122
  let v355 : Index := Scalar.indexCast v354
  let c0_124 : Index := 0#32
  ![1, v355.toNat, 0]
def k0_off4 (k0_t1 : Fin k0_t1_loop.trips) : Fin 3 → Nat :=
  let c1_215 : Index := 1#32
  let c0_i32_11 : BitVec 32 := 0#32
  let c1_i32 : BitVec 32 := 1#32
  let arg14 : BitVec 32 := Scf.iv c0_i32_11 c1_i32 k0_t1
  let c64_i32 : BitVec 32 := 64#32
  let v97 : BitVec 32 := Scalar.muli arg14 c64_i32
  let v98 : BitVec 32 := v97
  let v601 : Index := Scalar.indexCast v98
  let c0_216 : Index := 0#32
  ![1, v601.toNat, 0]
def k0_cond3 (i : grid0.Coords) : BitVec 1 :=
  let arg0 : BitVec 32 := BitVec.ofNat 32 (i 0).val
  let c0_i32_53 : BitVec 32 := 0#32
  let v94 : BitVec 1 := Scalar.cmpi .eq arg0 c0_i32_53
  let v95 : BitVec 32 := Scalar.extui v94
  let c0_i32_54 : BitVec 32 := 0#32
  let v96 : BitVec 1 := Scalar.cmpi .ne v95 c0_i32_54
  v96

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3840x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S3840x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference7Ideal.lean ====
abbrev S128x8x256 : Shape := ⟨3, ![128, 8, 256]⟩
abbrev S128x30x256 : Shape := ⟨3, ![128, 30, 256]⟩
abbrev S31x256 : Shape := ⟨2, ![31, 256]⟩
abbrev S256 : Shape := ⟨1, ![256]⟩
abbrev S256x256 : Shape := ⟨2, ![256, 256]⟩
abbrev S_ : Shape := ⟨0, ![]⟩
abbrev S128x38x256 : Shape := ⟨3, ![128, 38, 256]⟩
abbrev S1x256 : Shape := ⟨2, ![1, 256]⟩
abbrev S1x1x256 : Shape := ⟨3, ![1, 1, 256]⟩
abbrev S128x8 : Shape := ⟨2, ![128, 8]⟩
abbrev S128x8x1 : Shape := ⟨3, ![128, 8, 1]⟩
abbrev S8x128x256 : Shape := ⟨3, ![8, 128, 256]⟩
abbrev S1024x256 : Shape := ⟨2, ![1024, 256]⟩
abbrev S30x128x256 : Shape := ⟨3, ![30, 128, 256]⟩
abbrev S3840x256 : Shape := ⟨2, ![3840, 256]⟩

abbrev nBuf : Space → Nat
  | .hbm => 303
  | .vmem => 0
  | .smem => 0
  | _ => 0

abbrev hbmTy0_0 (i : Nat) : BufTy := match i % 128 with
  | 0 => ⟨S128x8x256, .f32⟩
  | 1 => ⟨S128x8x256, .f32⟩
  | 2 => ⟨S128x30x256, .f32⟩
  | 3 => ⟨S31x256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S128x8x256, .f32⟩
  | 11 => ⟨S128x8x256, .f32⟩
  | 12 => ⟨S_, .f32⟩
  | 13 => ⟨S128x8x256, .f32⟩
  | 14 => ⟨S128x8x256, .f32⟩
  | 15 => ⟨S_, .f32⟩
  | 16 => ⟨S128x8x256, .f32⟩
  | 17 => ⟨S128x8x256, .f32⟩
  | 18 => ⟨S128x8x256, .f32⟩
  | 19 => ⟨S128x38x256, .f32⟩
  | 20 => ⟨S1x256, .f32⟩
  | 21 => ⟨S256, .f32⟩
  | 22 => ⟨S128x8x256, .f32⟩
  | 23 => ⟨S1x1x256, .f32⟩
  | 24 => ⟨S128x8x256, .f32⟩
  | 25 => ⟨S128x8x256, .f32⟩
  | 26 => ⟨S1x256, .f32⟩
  | 27 => ⟨S256, .f32⟩
  | 28 => ⟨S128x8x256, .f32⟩
  | 29 => ⟨S1x1x256, .f32⟩
  | 30 => ⟨S128x8x256, .f32⟩
  | 31 => ⟨S128x8x256, .f32⟩
  | 32 => ⟨S128x8x256, .f32⟩
  | 33 => ⟨S1x256, .f32⟩
  | 34 => ⟨S256, .f32⟩
  | 35 => ⟨S128x8x256, .f32⟩
  | 36 => ⟨S1x1x256, .f32⟩
  | 37 => ⟨S128x8x256, .f32⟩
  | 38 => ⟨S128x8x256, .f32⟩
  | 39 => ⟨S128x8x256, .f32⟩
  | 40 => ⟨S1x256, .f32⟩
  | 41 => ⟨S256, .f32⟩
  | 42 => ⟨S128x8x256, .f32⟩
  | 43 => ⟨S1x1x256, .f32⟩
  | 44 => ⟨S128x8x256, .f32⟩
  | 45 => ⟨S128x8x256, .f32⟩
  | 46 => ⟨S128x8x256, .f32⟩
  | 47 => ⟨S1x256, .f32⟩
  | 48 => ⟨S256, .f32⟩
  | 49 => ⟨S128x8x256, .f32⟩
  | 50 => ⟨S1x1x256, .f32⟩
  | 51 => ⟨S128x8x256, .f32⟩
  | 52 => ⟨S128x8x256, .f32⟩
  | 53 => ⟨S128x8x256, .f32⟩
  | 54 => ⟨S1x256, .f32⟩
  | 55 => ⟨S256, .f32⟩
  | 56 => ⟨S128x8x256, .f32⟩
  | 57 => ⟨S1x1x256, .f32⟩
  | 58 => ⟨S128x8x256, .f32⟩
  | 59 => ⟨S128x8x256, .f32⟩
  | 60 => ⟨S128x8x256, .f32⟩
  | 61 => ⟨S1x256, .f32⟩
  | 62 => ⟨S256, .f32⟩
  | 63 => ⟨S128x8x256, .f32⟩
  | 64 => ⟨S1x1x256, .f32⟩
  | 65 => ⟨S128x8x256, .f32⟩
  | 66 => ⟨S128x8x256, .f32⟩
  | 67 => ⟨S128x8x256, .f32⟩
  | 68 => ⟨S1x256, .f32⟩
  | 69 => ⟨S256, .f32⟩
  | 70 => ⟨S128x8x256, .f32⟩
  | 71 => ⟨S1x1x256, .f32⟩
  | 72 => ⟨S128x8x256, .f32⟩
  | 73 => ⟨S128x8x256, .f32⟩
  | 74 => ⟨S128x8x256, .f32⟩
  | 75 => ⟨S1x256, .f32⟩
  | 76 => ⟨S256, .f32⟩
  | 77 => ⟨S128x8x256, .f32⟩
  | 78 => ⟨S1x1x256, .f32⟩
  | 79 => ⟨S128x8x256, .f32⟩
  | 80 => ⟨S128x8x256, .f32⟩
  | 81 => ⟨S128x8x256, .f32⟩
  | 82 => ⟨S1x256, .f32⟩
  | 83 => ⟨S256, .f32⟩
  | 84 => ⟨S128x8x256, .f32⟩
  | 85 => ⟨S1x1x256, .f32⟩
  | 86 => ⟨S128x8x256, .f32⟩
  | 87 => ⟨S128x8x256, .f32⟩
  | 88 => ⟨S128x8x256, .f32⟩
  | 89 => ⟨S1x256, .f32⟩
  | 90 => ⟨S256, .f32⟩
  | 91 => ⟨S128x8x256, .f32⟩
  | 92 => ⟨S1x1x256, .f32⟩
  | 93 => ⟨S128x8x256, .f32⟩
  | 94 => ⟨S128x8x256, .f32⟩
  | 95 => ⟨S128x8x256, .f32⟩
  | 96 => ⟨S1x256, .f32⟩
  | 97 => ⟨S256, .f32⟩
  | 98 => ⟨S128x8x256, .f32⟩
  | 99 => ⟨S1x1x256, .f32⟩
  | 100 => ⟨S128x8x256, .f32⟩
  | 101 => ⟨S128x8x256, .f32⟩
  | 102 => ⟨S128x8x256, .f32⟩
  | 103 => ⟨S1x256, .f32⟩
  | 104 => ⟨S256, .f32⟩
  | 105 => ⟨S128x8x256, .f32⟩
  | 106 => ⟨S1x1x256, .f32⟩
  | 107 => ⟨S128x8x256, .f32⟩
  | 108 => ⟨S128x8x256, .f32⟩
  | 109 => ⟨S128x8x256, .f32⟩
  | 110 => ⟨S1x256, .f32⟩
  | 111 => ⟨S256, .f32⟩
  | 112 => ⟨S128x8x256, .f32⟩
  | 113 => ⟨S1x1x256, .f32⟩
  | 114 => ⟨S128x8x256, .f32⟩
  | 115 => ⟨S128x8x256, .f32⟩
  | 116 => ⟨S128x8x256, .f32⟩
  | 117 => ⟨S1x256, .f32⟩
  | 118 => ⟨S256, .f32⟩
  | 119 => ⟨S128x8x256, .f32⟩
  | 120 => ⟨S1x1x256, .f32⟩
  | 121 => ⟨S128x8x256, .f32⟩
  | 122 => ⟨S128x8x256, .f32⟩
  | 123 => ⟨S128x8x256, .f32⟩
  | 124 => ⟨S1x256, .f32⟩
  | 125 => ⟨S256, .f32⟩
  | 126 => ⟨S128x8x256, .f32⟩
  | 127 => ⟨S1x1x256, .f32⟩
  | _ => ⟨S128x8x256, .f32⟩

abbrev hbmTy0_1 (i : Nat) : BufTy := match i % 128 with
  | 0 => ⟨S128x8x256, .f32⟩
  | 1 => ⟨S128x8x256, .f32⟩
  | 2 => ⟨S128x8x256, .f32⟩
  | 3 => ⟨S1x256, .f32⟩
  | 4 => ⟨S256, .f32⟩
  | 5 => ⟨S128x8x256, .f32⟩
  | 6 => ⟨S1x1x256, .f32⟩
  | 7 => ⟨S128x8x256, .f32⟩
  | 8 => ⟨S128x8x256, .f32⟩
  | 9 => ⟨S128x8x256, .f32⟩
  | 10 => ⟨S1x256, .f32⟩
  | 11 => ⟨S256, .f32⟩
  | 12 => ⟨S128x8x256, .f32⟩
  | 13 => ⟨S1x1x256, .f32⟩
  | 14 => ⟨S128x8x256, .f32⟩
  | 15 => ⟨S128x8x256, .f32⟩
  | 16 => ⟨S128x8x256, .f32⟩
  | 17 => ⟨S1x256, .f32⟩
  | 18 => ⟨S256, .f32⟩
  | 19 => ⟨S128x8x256, .f32⟩
  | 20 => ⟨S1x1x256, .f32⟩
  | 21 => ⟨S128x8x256, .f32⟩
  | 22 => ⟨S128x8x256, .f32⟩
  | 23 => ⟨S128x8x256, .f32⟩
  | 24 => ⟨S1x256, .f32⟩
  | 25 => ⟨S256, .f32⟩
  | 26 => ⟨S128x8x256, .f32⟩
  | 27 => ⟨S1x1x256, .f32⟩
  | 28 => ⟨S128x8x256, .f32⟩
  | 29 => ⟨S128x8x256, .f32⟩
  | 30 => ⟨S128x8x256, .f32⟩
  | 31 => ⟨S1x256, .f32⟩
  | 32 => ⟨S256, .f32⟩
  | 33 => ⟨S128x8x256, .f32⟩
  | 34 => ⟨S1x1x256, .f32⟩
  | 35 => ⟨S128x8x256, .f32⟩
  | 36 => ⟨S128x8x256, .f32⟩
  | 37 => ⟨S128x8x256, .f32⟩
  | 38 => ⟨S1x256, .f32⟩
  | 39 => ⟨S256, .f32⟩
  | 40 => ⟨S128x8x256, .f32⟩
  | 41 => ⟨S1x1x256, .f32⟩
  | 42 => ⟨S128x8x256, .f32⟩
  | 43 => ⟨S128x8x256, .f32⟩
  | 44 => ⟨S128x8x256, .f32⟩
  | 45 => ⟨S1x256, .f32⟩
  | 46 => ⟨S256, .f32⟩
  | 47 => ⟨S128x8x256, .f32⟩
  | 48 => ⟨S1x1x256, .f32⟩
  | 49 => ⟨S128x8x256, .f32⟩
  | 50 => ⟨S128x8x256, .f32⟩
  | 51 => ⟨S128x8x256, .f32⟩
  | 52 => ⟨S1x256, .f32⟩
  | 53 => ⟨S256, .f32⟩
  | 54 => ⟨S128x8x256, .f32⟩
  | 55 => ⟨S1x1x256, .f32⟩
  | 56 => ⟨S128x8x256, .f32⟩
  | 57 => ⟨S128x8x256, .f32⟩
  | 58 => ⟨S128x8x256, .f32⟩
  | 59 => ⟨S1x256, .f32⟩
  | 60 => ⟨S256, .f32⟩
  | 61 => ⟨S128x8x256, .f32⟩
  | 62 => ⟨S1x1x256, .f32⟩
  | 63 => ⟨S128x8x256, .f32⟩
  | 64 => ⟨S128x8x256, .f32⟩
  | 65 => ⟨S128x8x256, .f32⟩
  | 66 => ⟨S1x256, .f32⟩
  | 67 => ⟨S256, .f32⟩
  | 68 => ⟨S128x8x256, .f32⟩
  | 69 => ⟨S1x1x256, .f32⟩
  | 70 => ⟨S128x8x256, .f32⟩
  | 71 => ⟨S128x8x256, .f32⟩
  | 72 => ⟨S128x8x256, .f32⟩
  | 73 => ⟨S1x256, .f32⟩
  | 74 => ⟨S256, .f32⟩
  | 75 => ⟨S128x8x256, .f32⟩
  | 76 => ⟨S1x1x256, .f32⟩
  | 77 => ⟨S128x8x256, .f32⟩
  | 78 => ⟨S128x8x256, .f32⟩
  | 79 => ⟨S128x8x256, .f32⟩
  | 80 => ⟨S1x256, .f32⟩
  | 81 => ⟨S256, .f32⟩
  | 82 => ⟨S128x8x256, .f32⟩
  | 83 => ⟨S1x1x256, .f32⟩
  | 84 => ⟨S128x8x256, .f32⟩
  | 85 => ⟨S128x8x256, .f32⟩
  | 86 => ⟨S128x8x256, .f32⟩
  | 87 => ⟨S1x256, .f32⟩
  | 88 => ⟨S256, .f32⟩
  | 89 => ⟨S128x8x256, .f32⟩
  | 90 => ⟨S1x1x256, .f32⟩
  | 91 => ⟨S128x8x256, .f32⟩
  | 92 => ⟨S128x8x256, .f32⟩
  | 93 => ⟨S128x8x256, .f32⟩
  | 94 => ⟨S1x256, .f32⟩
  | 95 => ⟨S256, .f32⟩
  | 96 => ⟨S128x8x256, .f32⟩
  | 97 => ⟨S1x1x256, .f32⟩
  | 98 => ⟨S128x8x256, .f32⟩
  | 99 => ⟨S128x8x256, .f32⟩
  | 100 => ⟨S128x8x256, .f32⟩
  | 101 => ⟨S1x256, .f32⟩
  | 102 => ⟨S256, .f32⟩
  | 103 => ⟨S128x8x256, .f32⟩
  | 104 => ⟨S1x1x256, .f32⟩
  | 105 => ⟨S128x8x256, .f32⟩
  | 106 => ⟨S128x8x256, .f32⟩
  | 107 => ⟨S128x8x256, .f32⟩
  | 108 => ⟨S1x1x256, .f32⟩
  | 109 => ⟨S128x8x256, .f32⟩
  | 110 => ⟨S128x8x256, .f32⟩
  | 111 => ⟨S_, .f32⟩
  | 112 => ⟨S128x8, .f32⟩
  | 113 => ⟨S128x8x1, .f32⟩
  | 114 => ⟨S_, .f32⟩
  | 115 => ⟨S128x8x1, .f32⟩
  | 116 => ⟨S128x8x1, .f32⟩
  | 117 => ⟨S128x8x256, .f32⟩
  | 118 => ⟨S128x8x256, .f32⟩
  | 119 => ⟨S128x8x256, .f32⟩
  | 120 => ⟨S_, .f32⟩
  | 121 => ⟨S128x8, .f32⟩
  | 122 => ⟨S128x8x1, .f32⟩
  | 123 => ⟨S_, .f32⟩
  | 124 => ⟨S128x8x1, .f32⟩
  | 125 => ⟨S128x8x1, .f32⟩
  | 126 => ⟨S128x8x256, .f32⟩
  | 127 => ⟨S128x8x256, .f32⟩
  | _ => ⟨S128x8x256, .f32⟩

abbrev hbmTy0_2 (i : Nat) : BufTy := match i % 128 with
  | 0 => ⟨S_, .f32⟩
  | 1 => ⟨S128x8x1, .f32⟩
  | 2 => ⟨S128x8x1, .f32⟩
  | 3 => ⟨S128x8x1, .f32⟩
  | 4 => ⟨S128x8x256, .f32⟩
  | 5 => ⟨S128x8x256, .f32⟩
  | 6 => ⟨S1x1x256, .f32⟩
  | 7 => ⟨S128x8x256, .f32⟩
  | 8 => ⟨S128x8x256, .f32⟩
  | 9 => ⟨S1x1x256, .f32⟩
  | 10 => ⟨S128x8x256, .f32⟩
  | 11 => ⟨S128x8x256, .f32⟩
  | 12 => ⟨S128x8x256, .f32⟩
  | 13 => ⟨S128x8x256, .f32⟩
  | 14 => ⟨S_, .f32⟩
  | 15 => ⟨S128x8x256, .f32⟩
  | 16 => ⟨S128x8x256, .f32⟩
  | 17 => ⟨S_, .f32⟩
  | 18 => ⟨S128x8x256, .f32⟩
  | 19 => ⟨S128x8x256, .f32⟩
  | 20 => ⟨S128x8x256, .f32⟩
  | 21 => ⟨S128x8x256, .f32⟩
  | 22 => ⟨S1x1x256, .f32⟩
  | 23 => ⟨S128x8x256, .f32⟩
  | 24 => ⟨S128x8x256, .f32⟩
  | 25 => ⟨S128x8x256, .f32⟩
  | 26 => ⟨S_, .f32⟩
  | 27 => ⟨S128x8, .f32⟩
  | 28 => ⟨S128x8x1, .f32⟩
  | 29 => ⟨S_, .f32⟩
  | 30 => ⟨S128x8x1, .f32⟩
  | 31 => ⟨S128x8x1, .f32⟩
  | 32 => ⟨S_, .f32⟩
  | 33 => ⟨S128x8x1, .f32⟩
  | 34 => ⟨S128x8x1, .f32⟩
  | 35 => ⟨S128x8x1, .f32⟩
  | 36 => ⟨S128x8x256, .f32⟩
  | 37 => ⟨S128x8x256, .f32⟩
  | 38 => ⟨S1x1x256, .f32⟩
  | 39 => ⟨S128x8x256, .f32⟩
  | 40 => ⟨S128x8x256, .f32⟩
  | 41 => ⟨S8x128x256, .f32⟩
  | 42 => ⟨S1024x256, .f32⟩
  | 43 => ⟨S1024x256, .bf16⟩
  | 44 => ⟨S128x30x256, .f32⟩
  | 45 => ⟨S30x128x256, .f32⟩
  | 46 => ⟨S3840x256, .f32⟩
  | _ => ⟨S128x8x256, .f32⟩

abbrev hbmTy (i : Nat) : BufTy := match i / 128 with
  | 0 => hbmTy0_0 i
  | 1 => hbmTy0_1 i
  | 2 => hbmTy0_2 i
  | _ => ⟨S128x8x256, .f32⟩

abbrev bufTy : (tb : Table) → Fin (tcTables nBuf tb) → BufTy
  | .hbm, ⟨i, _⟩ => hbmTy i
  | _, _ => ⟨S128x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_cst_1 : Ref sig .tc := ⟨.hbm, 239, rfl⟩
abbrev main_v227 : Ref sig .tc := ⟨.hbm, 240, rfl⟩
abbrev main_v228 : Ref sig .tc := ⟨.hbm, 241, rfl⟩
abbrev main_cst_2 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_cst_3 : Ref sig .tc := ⟨.hbm, 248, rfl⟩
abbrev main_v234 : Ref sig .tc := ⟨.hbm, 249, rfl⟩
abbrev main_v235 : Ref sig .tc := ⟨.hbm, 250, rfl⟩
abbrev main_cst_4 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_cst_5 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_call0_v0 : Ref sig .tc := ⟨.hbm, 268, rfl⟩
abbrev main_call0_v1 : Ref sig .tc := ⟨.hbm, 269, rfl⟩
abbrev main_call0_cst : Ref sig .tc := ⟨.hbm, 270, rfl⟩
abbrev main_call0_v2 : Ref sig .tc := ⟨.hbm, 271, rfl⟩
abbrev main_call0_v3 : Ref sig .tc := ⟨.hbm, 272, rfl⟩
abbrev main_call0_cst_0 : Ref sig .tc := ⟨.hbm, 273, rfl⟩
abbrev main_call0_v4 : Ref sig .tc := ⟨.hbm, 274, rfl⟩
abbrev main_call0_v5 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩
abbrev main_v256 : Ref sig .tc := ⟨.hbm, 281, rfl⟩
abbrev main_cst_6 : Ref sig .tc := ⟨.hbm, 282, rfl⟩
abbrev main_v257 : Ref sig .tc := ⟨.hbm, 283, rfl⟩
abbrev main_v258 : Ref sig .tc := ⟨.hbm, 284, rfl⟩
abbrev main_cst_7 : Ref sig .tc := ⟨.hbm, 285, rfl⟩
abbrev main_v259 : Ref sig .tc := ⟨.hbm, 286, rfl⟩
abbrev main_v260 : Ref sig .tc := ⟨.hbm, 287, rfl⟩
abbrev main_cst_8 : Ref sig .tc := ⟨.hbm, 288, rfl⟩
abbrev main_v261 : Ref sig .tc := ⟨.hbm, 289, rfl⟩
abbrev main_v262 : Ref sig .tc := ⟨.hbm, 290, rfl⟩
abbrev main_v263 : Ref sig .tc := ⟨.hbm, 291, rfl⟩
abbrev main_v264 : Ref sig .tc := ⟨.hbm, 292, rfl⟩
abbrev main_v265 : Ref sig .tc := ⟨.hbm, 293, rfl⟩
abbrev main_v266 : Ref sig .tc := ⟨.hbm, 294, rfl⟩
abbrev main_v267 : Ref sig .tc := ⟨.hbm, 295, rfl⟩
abbrev main_v268 : Ref sig .tc := ⟨.hbm, 296, rfl⟩
abbrev main_v269 : Ref sig .tc := ⟨.hbm, 297, rfl⟩
abbrev main_v270 : Ref sig .tc := ⟨.hbm, 298, rfl⟩
abbrev main_v271 : Ref sig .tc := ⟨.hbm, 299, rfl⟩
abbrev main_v272 : Ref sig .tc := ⟨.hbm, 300, rfl⟩
abbrev main_v273 : Ref sig .tc := ⟨.hbm, 301, rfl⟩
abbrev main_v274 : Ref sig .tc := ⟨.hbm, 302, rfl⟩

abbrev nD : Nat := 1
abbrev τ : Topo := Topo.v7x

variable {F : FTy → Type} [FloatOps F]
-- ==== Proof.S5Block.lean ====
module
public import proofs.«01_k».proof.Proof.Gen.KernelIdeal.Value
public import Idealize.ShloMosaic.Lib.Pipeline.ValueKit
public import Idealize.ShloMosaic.Lib.Pipeline.ReadBack
public import Idealize.ShloMosaic.Lib.Pointwise
@[expose] public section
set_option maxRecDepth 16384
noncomputable section
namespace Cert.Proof.S5
open Idealize.ShloMosaic Idealize.SL.Sem Idealize.ShloMosaic.TcCoe Cert.KernelIdeal Cert.KernelIdeal.Gen
variable {F : FTy → Type} [FloatOps F]

/-- Rows `128 t … 128 t + 127`, columns `q … q + 1023` of a 1024 × 2048 array. -/
def rowsOf (q : ℕ) (hq : q ≤ 1024) (X : Vec F S1024x2048 .f32) (t : ℕ) : FVec F S128x1024 .f32 := fun j =>
  X (ix2 (n0 := 1024) (n1 := 2048) ⟨(128 * t + (j 0).val) % 1024, Nat.mod_lt _ (by decide)⟩ ⟨q + (j 1).val, by
    have : (j 1).val < 1024 := (j 1).isLt
    omega⟩)

/-- The state before step `t` (real part, imaginary part): `h ↦ a h + x` by parts, from `h0`. -/
def st (ar ai hr hi : FVec F S128x1024 .f32) (X : Vec F S1024x2048 .f32) :
    ℕ → FVec F S128x1024 .f32 × FVec F S128x1024 .f32
  | 0 => (hr, hi)
  | t + 1 => (addf (subf (mulf ar (st ar ai hr hi X t).1) (mulf ai (st ar ai hr hi X t).2)) (rowsOf 0 (by decide) X t),
      addf (addf (mulf ar (st ar ai hr hi X t).2) (mulf ai (st ar ai hr hi X t).1)) (rowsOf 1024 (by decide) X t))

/-- A load of 128 whole rows from the left half, by its row number. -/
theorem ld_rows0 (X : Vec F S1024x2048 .f32) (n : ℕ) (hn : n % 128 = 0)
    (h : ∀ a, (![n, 0] : Fin 2 → ℕ) a + (![128, 1024] : Fin 2 → ℕ) a ≤ S1024x2048.size a) :
    View.ld X (Rect.unit (s := S1024x2048) ![n, 0] ![128, 1024] h) = rowsOf 0 (by decide) X (n / 128) := by
  have h0 : n + 128 ≤ 1024 := h 0
  funext j
  have hj : (j 0).val < 128 := (j 0).isLt
  unfold View.ld rowsOf
  refine congrArg X (funext fun a => Fin.ext ?_)
  match a with
  | ⟨0, _⟩ => show n + 1 * (j 0).val = (128 * (n / 128) + (j 0).val) % 1024; omega
  | ⟨1, _⟩ => show 0 + 1 * (j 1).val = 0 + (j 1).val; omega

/-- A load of 128 whole rows from the right half, by its row number. -/
theorem ld_rows1 (X : Vec F S1024x2048 .f32) (n : ℕ) (hn : n % 128 = 0)
    (h : ∀ a, (![n, 1024] : Fin 2 → ℕ) a + (![128, 1024] : Fin 2 → ℕ) a ≤ S1024x2048.size a) :
    View.ld X (Rect.unit (s := S1024x2048) ![n, 1024] ![128, 1024] h) = rowsOf 1024 (by decide) X (n / 128) := by
  have h0 : n + 128 ≤ 1024 := h 0
  funext j
  have hj : (j 0).val < 128 := (j 0).isLt
  unfold View.ld rowsOf
  refine congrArg X (funext fun a => Fin.ext ?_)
  match a with
  | ⟨0, _⟩ => show n + 1 * (j 0).val = (128 * (n / 128) + (j 0).val) % 1024; omega
  | ⟨1, _⟩ => show 1024 + 1 * (j 1).val = 1024 + (j 1).val; omega

/-- The two lane tiles that the body copies out of its input and joins again are the input. -/
theorem join_tiles (x : Vec F S1024x256 .f32) :
    k0_pay5 (k0_pay3 (View.ld x (Rect.unit (s := S1024x256) ![0, 0] S1024x128.size inb_S1024x256_S1024x128_0_0)))
      (k0_pay4 (View.ld x (Rect.unit (s := S1024x256) ![0, 128] S1024x128.size inb_S1024x256_S1024x128_0_128))) = x := by
  unfold k0_pay5 k0_pay3 k0_pay4
  dsimp only
  funext j
  idx_vars j
  pointwise
  split
  · rfl
  · rename_i h
    refine congrArg x (congrArg (ix2 j0) (Fin.ext ?_))
    show 128 + (j1.val - 128) = j1.val
    omega

/-- The step inputs: the block-diagonal product. -/
def mm (x0 : Vec F S1024x256 .f32) (x2 : Vec F S256x2048 .bf16) : Vec F S1024x2048 .f32 :=
  matmul dot_S1024x256_S256x2048_S1024x2048_1_0_0_1_n_n none (truncf .bf16 x0 bitsLt_bf16_f32 : FVec F S1024x256 .bf16) x2
    (constant S1024x2048 .f32 0x00000000#32)

/-- The state after `t` steps, of the body's inputs. -/
def stB (x0 : Vec F S1024x256 .f32) (x1 : Vec F S128x2048 .f32) (x2 : Vec F S256x2048 .bf16) (x5 x6 : Vec F S1x1024 .f32)
    (t : ℕ) : FVec F S128x1024 .f32 × FVec F S128x1024 .f32 :=
  st (k0_pay7 x5) (k0_pay8 x6)
    (View.ld x1 (Rect.unit (s := S128x2048) ![0, 0] ![128, 1024] inb_S128x2048_S128x1024_0_0))
    (View.ld x1 (Rect.unit (s := S128x2048) ![0, 1024] ![128, 1024] inb_S128x2048_S128x1024_0_1024)) (mm x0 x2) t

/-- The first stored value is the product with the input matrix. -/
theorem pay6_eq (x0 : Vec F S1024x256 .f32) (x2 : Vec F S256x2048 .bf16) :
    k0_pay6 (k0_pay3 (View.ld x0 (Rect.unit (s := S1024x256) ![0, 0] S1024x128.size inb_S1024x256_S1024x128_0_0)))
      (k0_pay4 (View.ld x0 (Rect.unit (s := S1024x256) ![0, 128] S1024x128.size inb_S1024x256_S1024x128_0_128))) x2
      = mm x0 x2 := by
  unfold k0_pay6
  rw [join_tiles]
  simp only [shapeCast_self]
  rfl

section
variable (x0 : Vec F S1024x256 .f32) (x1 : Vec F S128x2048 .f32) (x2 : Vec F S256x2048 .bf16) (x5 x6 : Vec F S1x1024 .f32)
/-- The state before the first step, real side. -/
theorem fold0r : View.ld x1 (Rect.unit (s := S128x2048) ![0, 0] ![128, 1024] inb_S128x2048_S128x1024_0_0)
    = (stB x0 x1 x2 x5 x6 0).1 := rfl
/-- The state before the first step, imaginary side. -/
theorem fold0i : View.ld x1 (Rect.unit (s := S128x2048) ![0, 1024] ![128, 1024] inb_S128x2048_S128x1024_0_1024)
    = (stB x0 x1 x2 x5 x6 0).2 := rfl
/-- One step of the recurrence, real side. -/
theorem foldr (t : ℕ) : addf (subf (mulf (k0_pay7 x5) (stB x0 x1 x2 x5 x6 t).1) (mulf (k0_pay8 x6) (stB x0 x1 x2 x5 x6 t).2))
    (rowsOf 0 (by decide) (mm x0 x2) t) = (stB x0 x1 x2 x5 x6 (t + 1)).1 := rfl
/-- One step of the recurrence, imaginary side. -/
theorem foldi (t : ℕ) : addf (addf (mulf (k0_pay7 x5) (stB x0 x1 x2 x5 x6 t).2) (mulf (k0_pay8 x6) (stB x0 x1 x2 x5 x6 t).1))
    (rowsOf 1024 (by decide) (mm x0 x2) t) = (stB x0 x1 x2 x5 x6 (t + 1)).2 := rfl
end

/-- The states of the eight steps below one another: row `128 t + s` holds the state of sequence `s` after step `t`. -/
def trail (a : ℕ → FVec F S128x1024 .f32) : FVec F S1024x1024 .f32 := fun j =>
  a ((j 0).val / 128 + 1) (ix2 (n0 := 128) (n1 := 1024) ⟨(j 0).val % 128, Nat.mod_lt _ (by decide)⟩ (j 1))

/-- Real parts left, imaginary parts right. -/
def hist (a b : ℕ → FVec F S128x1024 .f32) : S1024x2048.Idx → F .f32 := fun y =>
  if h : (y 1).val < 1024 then trail a (ix2 (n0 := 1024) (n1 := 1024) (y 0) ⟨(y 1).val, h⟩)
  else trail b (ix2 (n0 := 1024) (n1 := 1024) (y 0) ⟨(y 1).val - 1024, by
    have : (y 1).val < 2048 := (y 1).isLt
    omega⟩)

/-- The history buffer on its left half. -/
theorem hist_l (a b : ℕ → FVec F S128x1024 .f32) (j : S1024x1024.Idx) (y : S1024x2048.Idx) (h0 : (y 0).val = (j 0).val)
    (h1 : (y 1).val = (j 1).val) : hist a b y = trail a j := by
  have hj1 : (j 1).val < 1024 := (j 1).isLt
  unfold hist
  rw [dif_pos (by omega)]
  refine congrArg (trail a) (funext fun d => Fin.ext ?_)
  match d with
  | ⟨0, _⟩ => exact h0
  | ⟨1, _⟩ => exact h1

/-- The history buffer on its right half. -/
theorem hist_r (a b : ℕ → FVec F S128x1024 .f32) (j : S1024x1024.Idx) (y : S1024x2048.Idx) (h0 : (y 0).val = (j 0).val)
    (h1 : (y 1).val = 1024 + (j 1).val) : hist a b y = trail b j := by
  unfold hist
  rw [dif_neg (by omega)]
  refine congrArg (trail b) (funext fun d => Fin.ext ?_)
  match d with
  | ⟨0, _⟩ => exact h0
  | ⟨1, _⟩ => show (y 1).val - 1024 = (j 1).val; omega

/-- The trail of states at a row of its step. -/
theorem trail_at (a : ℕ → FVec F S128x1024 .f32) (k : ℕ) (hk : k < 8) (x : S128x1024.Idx) (i : Fin 1024)
    (hi : i.val = 128 * k + (x 0).val) : trail a (ix2 (n0 := 1024) (n1 := 1024) i (x 1)) = a (k + 1) x := by
  have hx : (x 0).val < 128 := (x 0).isLt
  unfold trail
  have e : ((ix2 (n0 := 1024) (n1 := 1024) i (x 1) 0).val) = 128 * k + (x 0).val := hi
  have ed : (128 * k + (x 0).val) / 128 = k := by omega
  simp only [e, ed]
  refine congrArg (a (k + 1)) (funext fun d => Fin.ext ?_)
  match d with
  | ⟨0, _⟩ => show (128 * k + (x 0).val) % 128 = (x 0).val; omega
  | ⟨1, _⟩ => rfl

/-- A store into the left half agrees with the trail. -/
theorem piece0 (a b : ℕ → FVec F S128x1024 .f32) (n k : ℕ) (hn : n = 128 * k) (h) (x : S128x1024.Idx) :
    a (k + 1) x = hist a b ((Rect.unit (s := S1024x2048) ![n, 0] ![128, 1024] h).emb x) := by
  have h0 : n + 128 ≤ 1024 := h 0
  have hx : (x 0).val < 128 := (x 0).isLt
  refine Eq.symm ((hist_l a b (ix2 (n0 := 1024) (n1 := 1024) ⟨n + (x 0).val, by omega⟩ (x 1)) _ ?_ ?_).trans
    (trail_at a k (by omega) x _ (by show n + _ = _; omega)))
  · show n + 1 * (x 0).val = n + (x 0).val; omega
  · show 0 + 1 * (x 1).val = (x 1).val; omega

/-- A store into the right half agrees with the trail. -/
theorem piece1 (a b : ℕ → FVec F S128x1024 .f32) (n k : ℕ) (hn : n = 128 * k) (h) (x : S128x1024.Idx) :
    b (k + 1) x = hist a b ((Rect.unit (s := S1024x2048) ![n, 1024] ![128, 1024] h).emb x) := by
  have h0 : n + 128 ≤ 1024 := h 0
  have hx : (x 0).val < 128 := (x 0).isLt
  refine Eq.symm ((hist_r a b (ix2 (n0 := 1024) (n1 := 1024) ⟨n + (x 0).val, by omega⟩ (x 1)) _ ?_ ?_).trans
    (trail_at b k (by omega) x _ (by show n + _ = _; omega)))
  · show n + 1 * (x 0).val = n + (x 0).val; omega
  · show 1024 + 1 * (x 1).val = 1024 + (x 1).val; omega

/-- The left half of the states' scratch, read after the eight steps. -/
theorem read_left (v : View sig .tc .vmem S1024x2048 .f32) (a b : ℕ → FVec F S128x1024 .f32) (X : Vec F S1024x2048 .f32)
    (h70 h61 h60 h51 h50 h41 h40 h31 h30 h21 h20 h11 h10 h01 h00 h hb) :
    v.readCov [⟨Rect.unit (s := S1024x2048) ![896, 0] ![128, 1024] h70, a 8⟩,
      ⟨Rect.unit (s := S1024x2048) ![768, 1024] ![128, 1024] h61, b 7⟩,
      ⟨Rect.unit (s := S1024x2048) ![768, 0] ![128, 1024] h60, a 7⟩,
      ⟨Rect.unit (s := S1024x2048) ![640, 1024] ![128, 1024] h51, b 6⟩,
      ⟨Rect.unit (s := S1024x2048) ![640, 0] ![128, 1024] h50, a 6⟩,
      ⟨Rect.unit (s := S1024x2048) ![512, 1024] ![128, 1024] h41, b 5⟩,
      ⟨Rect.unit (s := S1024x2048) ![512, 0] ![128, 1024] h40, a 5⟩,
      ⟨Rect.unit (s := S1024x2048) ![384, 1024] ![128, 1024] h31, b 4⟩,
      ⟨Rect.unit (s := S1024x2048) ![384, 0] ![128, 1024] h30, a 4⟩,
      ⟨Rect.unit (s := S1024x2048) ![256, 1024] ![128, 1024] h21, b 3⟩,
      ⟨Rect.unit (s := S1024x2048) ![256, 0] ![128, 1024] h20, a 3⟩,
      ⟨Rect.unit (s := S1024x2048) ![128, 1024] ![128, 1024] h11, b 2⟩,
      ⟨Rect.unit (s := S1024x2048) ![128, 0] ![128, 1024] h10, a 2⟩,
      ⟨Rect.unit (s := S1024x2048) ![0, 1024] ![128, 1024] h01, b 1⟩,
      ⟨Rect.unit (s := S1024x2048) ![0, 0] ![128, 1024] h00, a 1⟩,
      ⟨Rect.unit (s := S1024x2048) ![0, 0] ![1024, 2048] hb, X⟩]
      (Rect.unit (s := S1024x2048) ![0, 0] ![1024, 1024] h).toLoadRect = trail a := by
  rw [View.readCov_eq_canon']
  funext j
  have hj0 : (j 0).val < 1024 := (j 0).isLt
  have hj1 : (j 1).val < 1024 := (j 1).isLt
  have hp : View.PiecesOf (Val := Elt F) (s := S1024x2048) (e := .f32) (hist a b) [⟨Rect.unit (s := S1024x2048) ![896, 0] ![128, 1024] h70, a 8⟩,
      ⟨Rect.unit (s := S1024x2048) ![768, 1024] ![128, 1024] h61, b 7⟩,
      ⟨Rect.unit (s := S1024x2048) ![768, 0] ![128, 1024] h60, a 7⟩,
      ⟨Rect.unit (s := S1024x2048) ![640, 1024] ![128, 1024] h51, b 6⟩,
      ⟨Rect.unit (s := S1024x2048) ![640, 0] ![128, 1024] h50, a 6⟩,
      ⟨Rect.unit (s := S1024x2048) ![512, 1024] ![128, 1024] h41, b 5⟩,
      ⟨Rect.unit (s := S1024x2048) ![512, 0] ![128, 1024] h40, a 5⟩,
      ⟨Rect.unit (s := S1024x2048) ![384, 1024] ![128, 1024] h31, b 4⟩,
      ⟨Rect.unit (s := S1024x2048) ![384, 0] ![128, 1024] h30, a 4⟩,
      ⟨Rect.unit (s := S1024x2048) ![256, 1024] ![128, 1024] h21, b 3⟩,
      ⟨Rect.unit (s := S1024x2048) ![256, 0] ![128, 1024] h20, a 3⟩,
      ⟨Rect.unit (s := S1024x2048) ![128, 1024] ![128, 1024] h11, b 2⟩,
      ⟨Rect.unit (s := S1024x2048) ![128, 0] ![128, 1024] h10, a 2⟩,
      ⟨Rect.unit (s := S1024x2048) ![0, 1024] ![128, 1024] h01, b 1⟩,
      ⟨Rect.unit (s := S1024x2048) ![0, 0] ![128, 1024] h00, a 1⟩] :=
    ⟨fun x => piece0 a b 896 7 rfl h70 x,
      fun x => piece1 a b 768 6 rfl h61 x,
      fun x => piece0 a b 768 6 rfl h60 x,
      fun x => piece1 a b 640 5 rfl h51 x,
      fun x => piece0 a b 640 5 rfl h50 x,
      fun x => piece1 a b 512 4 rfl h41 x,
      fun x => piece0 a b 512 4 rfl h40 x,
      fun x => piece1 a b 384 3 rfl h31 x,
      fun x => piece0 a b 384 3 rfl h30 x,
      fun x => piece1 a b 256 2 rfl h21 x,
      fun x => piece0 a b 256 2 rfl h20 x,
      fun x => piece1 a b 128 1 rfl h11 x,
      fun x => piece0 a b 128 1 rfl h10 x,
      fun x => piece1 a b 0 0 rfl h01 x,
      fun x => piece0 a b 0 0 rfl h00 x, trivial⟩
  refine (View.canon_append_of_piecesOf (hist a b) [⟨Rect.unit (s := S1024x2048) ![0, 0] ![1024, 2048] hb, X⟩]
    _ hp _ ?_).trans ?_
  · have cov : ∀ n h', n ≤ (j 0).val → (j 0).val < n + 128 →
        ((Rect.unit (s := S1024x2048) ![0, 0] ![1024, 1024] h).toLoadRect.idx j) ∈ (Rect.unit (s := S1024x2048) ![n, 0] ![128, 1024] h').set := by
      intro n h' hl hu
      rw [Rect.mem_set_unit, Fin.forall_fin_two]
      refine ⟨⟨?_, ?_⟩, ?_, ?_⟩
      · show n ≤ 0 + 1 * (j 0).val; omega
      · show 0 + 1 * (j 0).val < n + 128; omega
      · show 0 ≤ 0 + 1 * (j 1).val; omega
      · show 0 + 1 * (j 1).val < 0 + 1024; omega
    rcases (by omega : (0 ≤ (j 0).val ∧ (j 0).val < 0 + 128) ∨ (128 ≤ (j 0).val ∧ (j 0).val < 128 + 128) ∨ (256 ≤ (j 0).val ∧ (j 0).val < 256 + 128) ∨ (384 ≤ (j 0).val ∧ (j 0).val < 384 + 128) ∨ (512 ≤ (j 0).val ∧ (j 0).val < 512 + 128) ∨ (640 ≤ (j 0).val ∧ (j 0).val < 640 + 128) ∨ (768 ≤ (j 0).val ∧ (j 0).val < 768 + 128) ∨ (896 ≤ (j 0).val ∧ (j 0).val < 896 + 128)) with hk | hk | hk | hk | hk | hk | hk | hk
    · exact ⟨_, .tail _ (.tail _ (.tail _ (.tail _ (.tail _ (.tail _ (.tail _ (.tail _ (.tail _ (.tail _ (.tail _ (.tail _ (.tail _ (.tail _ (.head _)))))))))))))), cov 0 h00 hk.1 hk.2⟩
    · exact ⟨_, .tail _ (.tail _ (.tail _ (.tail _ (.tail _ (.tail _ (.tail _ (.tail _ (.tail _ (.tail _ (.tail _ (.tail _ (.head _)))))))))))), cov 128 h10 hk.1 hk.2⟩
    · exact ⟨_, .tail _ (.tail _ (.tail _ (.tail _ (.tail _ (.tail _ (.tail _ (.tail _ (.tail _ (.tail _ (.head _)))))))))), cov 256 h20 hk.1 hk.2⟩
    · exact ⟨_, .tail _ (.tail _ (.tail _ (.tail _ (.tail _ (.tail _ (.tail _ (.tail _ (.head _)))))))), cov 384 h30 hk.1 hk.2⟩
    · exact ⟨_, .tail _ (.tail _ (.tail _ (.tail _ (.tail _ (.tail _ (.head _)))))), cov 512 h40 hk.1 hk.2⟩
    · exact ⟨_, .tail _ (.tail _ (.tail _ (.tail _ (.head _)))), cov 640 h50 hk.1 hk.2⟩
    · exact ⟨_, .tail _ (.tail _ (.head _)), cov 768 h60 hk.1 hk.2⟩
    · exact ⟨_, .head _, cov 896 h70 hk.1 hk.2⟩
  · exact hist_l a b j _ (by show 0 + 1 * (j 0).val = _; omega) (by show 0 + 1 * (j 1).val = _; omega)

/-- The right half of the states' scratch, read after the eight steps. -/
theorem read_right (v : View sig .tc .vmem S1024x2048 .f32) (a b : ℕ → FVec F S128x1024 .f32) (X : Vec F S1024x2048 .f32)
    (h71 h70 h61 h60 h51 h50 h41 h40 h31 h30 h21 h20 h11 h10 h01 h00 h hb) :
    v.readCov [⟨Rect.unit (s := S1024x2048) ![896, 1024] ![128, 1024] h71, b 8⟩,
      ⟨Rect.unit (s := S1024x2048) ![896, 0] ![128, 1024] h70, a 8⟩,
      ⟨Rect.unit (s := S1024x2048) ![768, 1024] ![128, 1024] h61, b 7⟩,
      ⟨Rect.unit (s := S1024x2048) ![768, 0] ![128, 1024] h60, a 7⟩,
      ⟨Rect.unit (s := S1024x2048) ![640, 1024] ![128, 1024] h51, b 6⟩,
      ⟨Rect.unit (s := S1024x2048) ![640, 0] ![128, 1024] h50, a 6⟩,
      ⟨Rect.unit (s := S1024x2048) ![512, 1024] ![128, 1024] h41, b 5⟩,
      ⟨Rect.unit (s := S1024x2048) ![512, 0] ![128, 1024] h40, a 5⟩,
      ⟨Rect.unit (s := S1024x2048) ![384, 1024] ![128, 1024] h31, b 4⟩,
      ⟨Rect.unit (s := S1024x2048) ![384, 0] ![128, 1024] h30, a 4⟩,
      ⟨Rect.unit (s := S1024x2048) ![256, 1024] ![128, 1024] h21, b 3⟩,
      ⟨Rect.unit (s := S1024x2048) ![256, 0] ![128, 1024] h20, a 3⟩,
      ⟨Rect.unit (s := S1024x2048) ![128, 1024] ![128, 1024] h11, b 2⟩,
      ⟨Rect.unit (s := S1024x2048) ![128, 0] ![128, 1024] h10, a 2⟩,
      ⟨Rect.unit (s := S1024x2048) ![0, 1024] ![128, 1024] h01, b 1⟩,
      ⟨Rect.unit (s := S1024x2048) ![0, 0] ![128, 1024] h00, a 1⟩,
      ⟨Rect.unit (s := S1024x2048) ![0, 0] ![1024, 2048] hb, X⟩]
      (Rect.unit (s := S1024x2048) ![0, 1024] ![1024, 1024] h).toLoadRect = trail b := by
  rw [View.readCov_eq_canon']
  funext j
  have hj0 : (j 0).val < 1024 := (j 0).isLt
  have hj1 : (j 1).val < 1024 := (j 1).isLt
  have hp : View.PiecesOf (Val := Elt F) (s := S1024x2048) (e := .f32) (hist a b) [⟨Rect.unit (s := S1024x2048) ![896, 1024] ![128, 1024] h71, b 8⟩,
      ⟨Rect.unit (s := S1024x2048) ![896, 0] ![128, 1024] h70, a 8⟩,
      ⟨Rect.unit (s := S1024x2048) ![768, 1024] ![128, 1024] h61, b 7⟩,
      ⟨Rect.unit (s := S1024x2048) ![768, 0] ![128, 1024] h60, a 7⟩,
      ⟨Rect.unit (s := S1024x2048) ![640, 1024] ![128, 1024] h51, b 6⟩,
      ⟨Rect.unit (s := S1024x2048) ![640, 0] ![128, 1024] h50, a 6⟩,
      ⟨Rect.unit (s := S1024x2048) ![512, 1024] ![128, 1024] h41, b 5⟩,
      ⟨Rect.unit (s := S1024x2048) ![512, 0] ![128, 1024] h40, a 5⟩,
      ⟨Rect.unit (s := S1024x2048) ![384, 1024] ![128, 1024] h31, b 4⟩,
      ⟨Rect.unit (s := S1024x2048) ![384, 0] ![128, 1024] h30, a 4⟩,
      ⟨Rect.unit (s := S1024x2048) ![256, 1024] ![128, 1024] h21, b 3⟩,
      ⟨Rect.unit (s := S1024x2048) ![256, 0] ![128, 1024] h20, a 3⟩,
      ⟨Rect.unit (s := S1024x2048) ![128, 1024] ![128, 1024] h11, b 2⟩,
      ⟨Rect.unit (s := S1024x2048) ![128, 0] ![128, 1024] h10, a 2⟩,
      ⟨Rect.unit (s := S1024x2048) ![0, 1024] ![128, 1024] h01, b 1⟩,
      ⟨Rect.unit (s := S1024x2048) ![0, 0] ![128, 1024] h00, a 1⟩] :=
    ⟨fun x => piece1 a b 896 7 rfl h71 x,
      fun x => piece0 a b 896 7 rfl h70 x,
      fun x => piece1 a b 768 6 rfl h61 x,
      fun x => piece0 a b 768 6 rfl h60 x,
      fun x => piece1 a b 640 5 rfl h51 x,
      fun x => piece0 a b 640 5 rfl h50 x,
      fun x => piece1 a b 512 4 rfl h41 x,
      fun x => piece0 a b 512 4 rfl h40 x,
      fun x => piece1 a b 384 3 rfl h31 x,
      fun x => piece0 a b 384 3 rfl h30 x,
      fun x => piece1 a b 256 2 rfl h21 x,
      fun x => piece0 a b 256 2 rfl h20 x,
      fun x => piece1 a b 128 1 rfl h11 x,
      fun x => piece0 a b 128 1 rfl h10 x,
      fun x => piece1 a b 0 0 rfl h01 x,
      fun x => piece0 a b 0 0 rfl h00 x, trivial⟩
  refine (View.canon_append_of_piecesOf (hist a b) [⟨Rect.unit (s := S1024x2048) ![0, 0] ![1024, 2048] hb, X⟩]
    _ hp _ ?_).trans ?_
  · have cov : ∀ n h', n ≤ (j 0).val → (j 0).val < n + 128 →
        ((Rect.unit (s := S1024x2048) ![0, 1024] ![1024, 1024] h).toLoadRect.idx j) ∈ (Rect.unit (s := S1024x2048) ![n, 1024] ![128, 1024] h').set := by
      intro n h' hl hu
      rw [Rect.mem_set_unit, Fin.forall_fin_two]
      refine ⟨⟨?_, ?_⟩, ?_, ?_⟩
      · show n ≤ 0 + 1 * (j 0).val; omega
      · show 0 + 1 * (j 0).val < n + 128; omega
      · show 1024 ≤ 1024 + 1 * (j 1).val; omega
      · show 1024 + 1 * (j 1).val < 1024 + 1024; omega
    rcases (by omega : (0 ≤ (j 0).val ∧ (j 0).val < 0 + 128) ∨ (128 ≤ (j 0).val ∧ (j 0).val < 128 + 128) ∨ (256 ≤ (j 0).val ∧ (j 0).val < 256 + 128) ∨ (384 ≤ (j 0).val ∧ (j 0).val < 384 + 128) ∨ (512 ≤ (j 0).val ∧ (j 0).val < 512 + 128) ∨ (640 ≤ (j 0).val ∧ (j 0).val < 640 + 128) ∨ (768 ≤ (j 0).val ∧ (j 0).val < 768 + 128) ∨ (896 ≤ (j 0).val ∧ (j 0).val < 896 + 128)) with hk | hk | hk | hk | hk | hk | hk | hk
    · exact ⟨_, .tail _ (.tail _ (.tail _ (.tail _ (.tail _ (.tail _ (.tail _ (.tail _ (.tail _ (.tail _ (.tail _ (.tail _ (.tail _ (.tail _ (.head _)))))))))))))), cov 0 h01 hk.1 hk.2⟩
    · exact ⟨_, .tail _ (.tail _ (.tail _ (.tail _ (.tail _ (.tail _ (.tail _ (.tail _ (.tail _ (.tail _ (.tail _ (.tail _ (.head _)))))))))))), cov 128 h11 hk.1 hk.2⟩
    · exact ⟨_, .tail _ (.tail _ (.tail _ (.tail _ (.tail _ (.tail _ (.tail _ (.tail _ (.tail _ (.tail _ (.head _)))))))))), cov 256 h21 hk.1 hk.2⟩
    · exact ⟨_, .tail _ (.tail _ (.tail _ (.tail _ (.tail _ (.tail _ (.tail _ (.tail _ (.head _)))))))), cov 384 h31 hk.1 hk.2⟩
    · exact ⟨_, .tail _ (.tail _ (.tail _ (.tail _ (.tail _ (.tail _ (.head _)))))), cov 512 h41 hk.1 hk.2⟩
    · exact ⟨_, .tail _ (.tail _ (.tail _ (.tail _ (.head _)))), cov 640 h51 hk.1 hk.2⟩
    · exact ⟨_, .tail _ (.tail _ (.head _)), cov 768 h61 hk.1 hk.2⟩
    · exact ⟨_, .head _, cov 896 h71 hk.1 hk.2⟩
  · exact hist_r a b j _ (by show 0 + 1 * (j 0).val = _; omega) (by show 1024 + 1 * (j 1).val = _; omega)

/-- The last state, real and imaginary parts side by side. -/
def sides (a b : FVec F S128x1024 .f32) : FVec F S128x2048 .f32 := fun y =>
  if h : (y 1).val < 1024 then a (ix2 (n0 := 128) (n1 := 1024) (y 0) ⟨(y 1).val, h⟩)
  else b (ix2 (n0 := 128) (n1 := 1024) (y 0) ⟨(y 1).val - 1024, by
    have : (y 1).val < 2048 := (y 1).isLt
    omega⟩)

/-- The two halves of the last state read back. -/
theorem read_last (v : View sig .tc .vmem S128x2048 .f32) (a b : FVec F S128x1024 .f32) (X : Vec F S128x2048 .f32) (h0 h1 h hb) :
    v.readCov [⟨Rect.unit (s := S128x2048) ![0, 1024] ![128, 1024] h1, b⟩, ⟨Rect.unit (s := S128x2048) ![0, 0] ![128, 1024] h0, a⟩,
      ⟨Rect.unit (s := S128x2048) ![0, 0] ![128, 2048] hb, X⟩]
      (Rect.unit (s := S128x2048) ![0, 0] ![128, 2048] h).toLoadRect = sides a b := by
  rw [View.readCov_eq_canon']
  funext j
  have hj0 : (j 0).val < 128 := (j 0).isLt
  have hj1 : (j 1).val < 2048 := (j 1).isLt
  refine (View.canon_append_of_piecesOf (sides a b) [⟨Rect.unit (s := S128x2048) ![0, 0] ![128, 2048] hb, X⟩]
    [⟨Rect.unit (s := S128x2048) ![0, 1024] ![128, 1024] h1, b⟩, ⟨Rect.unit (s := S128x2048) ![0, 0] ![128, 1024] h0, a⟩]
    ⟨fun x => ?_, fun x => ?_, trivial⟩ _ ?_).trans ?_
  · unfold sides
    rw [dif_neg (by show ¬ (1024 + 1 * (x 1).val < 1024); omega)]
    refine congrArg b (funext fun d => Fin.ext ?_)
    match d with
    | ⟨0, _⟩ => show (x 0).val = 0 + 1 * (x 0).val; omega
    | ⟨1, _⟩ => show (x 1).val = 1024 + 1 * (x 1).val - 1024; omega
  · have hx : (x 1).val < 1024 := (x 1).isLt
    unfold sides
    rw [dif_pos (by show 0 + 1 * (x 1).val < 1024; omega)]
    refine congrArg a (funext fun d => Fin.ext ?_)
    match d with
    | ⟨0, _⟩ => show (x 0).val = 0 + 1 * (x 0).val; omega
    | ⟨1, _⟩ => show (x 1).val = 0 + 1 * (x 1).val; omega
  · simp only [List.mem_cons, exists_eq_or_imp, Rect.mem_set_unit, Fin.forall_fin_two]
    have e0 : ((((Rect.unit (s := S128x2048) ![0, 0] ![128, 2048] h).toLoadRect.idx j) 0).val : ℕ) = 0 + 1 * (j 0).val := rfl
    have e1 : ((((Rect.unit (s := S128x2048) ![0, 0] ![128, 2048] h).toLoadRect.idx j) 1).val : ℕ) = 0 + 1 * (j 1).val := rfl
    simp only [e0, e1, Matrix.cons_val_zero, Matrix.cons_val_one]
    omega
  · refine congrArg (sides a b) (funext fun d => Fin.ext ?_)
    match d with
    | ⟨0, _⟩ => show 0 + 1 * (j 0).val = (j 0).val; omega
    | ⟨1, _⟩ => show 0 + 1 * (j 1).val = (j 1).val; omega

/-- The two lane tiles that the body writes to its scratch, read back and joined, rounded: the value they were cut from. -/
theorem out_tiles (v232 v234 v238 : FVec F S1024x256 .f32) (v247 : Vec F S256x256 .bf16) (v250 v266 : Vec F S1x256 .f32) :
    k0_pay1 (k0_pay47 v232 v234 v238 v247 v250 v266) (k0_pay48 v232 v234 v238 v247 v250 v266)
      = truncf .bf16 (k0_pay46 v232 v234 v238 v247 v250 v266) bitsLt_bf16_f32 := by
  unfold k0_pay1 k0_pay47 k0_pay48
  dsimp only
  generalize k0_pay46 v232 v234 v238 v247 v250 v266 = Y
  refine congrArg (fun z => truncf .bf16 z bitsLt_bf16_f32) ?_
  funext j
  idx_vars j
  pointwise
  split
  · rfl
  · rename_i h
    refine congrArg Y (congrArg (ix2 j0) (Fin.ext ?_))
    show 128 + (j1.val - 128) = j1.val
    omega

/-- The body's first result before rounding: the gated, normalised output of the states. -/
def yF (x0 : Vec F S1024x256 .f32) (x1 : Vec F S128x2048 .f32) (x2 : Vec F S256x2048 .bf16) (x3 x4 : Vec F S1024x256 .bf16)
    (x5 x6 : Vec F S1x1024 .f32) (x7 : Vec F S1x256 .f32) (x8 : Vec F S256x256 .bf16) (x9 x10 : Vec F S1x256 .f32) : FVec F S1024x256 .f32 :=
  k0_pay46
    (k0_pay43 x0 (trail fun t => (stB x0 x1 x2 x5 x6 t).1) x3 (trail fun t => (stB x0 x1 x2 x5 x6 t).2) x4 x7)
    (k0_pay44 x0 (trail fun t => (stB x0 x1 x2 x5 x6 t).1) x3 (trail fun t => (stB x0 x1 x2 x5 x6 t).2) x4 x7)
    (k0_pay45 x0 (trail fun t => (stB x0 x1 x2 x5 x6 t).1) x3 (trail fun t => (stB x0 x1 x2 x5 x6 t).2) x4 x7) x8 x9 x10

set_option backward.isDefEq.respectTransparency false in
/-- What the body leaves in the second result's block: the state after the eighth step. -/
theorem out12_eq (c : Dev nD) (i : grid0.Coords) (arg1 : Memref sig .tc .vmem S1024x256 .f32) (harg1 : arg1.IsWhole) (arg2 : Memref sig .tc .vmem S128x2048 .f32) (harg2 : arg2.IsWhole) (arg3 : Memref sig .tc .vmem S256x2048 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S128x2048 .f32) (harg13 : arg13.IsWhole) (arg14 : Memref sig .tc .vmem S1024x2048 .f32) (harg14 : arg14.IsWhole) (arg15 : Memref sig .tc .vmem S128x2048 .f32) (harg15 : arg15.IsWhole) (arg16 : Memref sig .tc .vmem S2x1024x128 .f32) (harg16 : arg16.IsWhole) (hc0 : cond0_0 i) (hc1 : cond0_1 i)
    (x0 : Vec F S1024x256 .f32) (x1 : Vec F S128x2048 .f32) (x2 : Vec F S256x2048 .bf16) (x3 : Vec F S1024x256 .bf16) (x4 : Vec F S1024x256 .bf16) (x5 : Vec F S1x1024 .f32) (x6 : Vec F S1x1024 .f32) (x7 : Vec F S1x256 .f32) (x8 : Vec F S256x256 .bf16) (x9 : Vec F S1x256 .f32) (x10 : Vec F S1x256 .f32) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 = sides (stB x0 x1 x2 x5 x6 8).1 (stB x0 x1 x2 x5 x6 8).2 := by
  frame_open
  simp (disch := decide) only [↓ View.readCov_skip, ↓ View.readCov_cons_toLoadRect, ↓ View.readCov_fill]
  frame_out
  simp (disch := decide) only [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, pay6_eq, k0_pay2, shapeCast_self, ld_rows0, ld_rows1, Nat.reduceDiv, fold0r x0 x1 x2 x5 x6, fold0i x0 x1 x2 x5 x6,
    foldr, foldi, Nat.reduceAdd, read_last]

set_option backward.isDefEq.respectTransparency false in
/-- What the body leaves in the first result's block. -/
theorem out11_eq (c : Dev nD) (i : grid0.Coords) (arg1 : Memref sig .tc .vmem S1024x256 .f32) (harg1 : arg1.IsWhole) (arg2 : Memref sig .tc .vmem S128x2048 .f32) (harg2 : arg2.IsWhole) (arg3 : Memref sig .tc .vmem S256x2048 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S128x2048 .f32) (harg13 : arg13.IsWhole) (arg14 : Memref sig .tc .vmem S1024x2048 .f32) (harg14 : arg14.IsWhole) (arg15 : Memref sig .tc .vmem S128x2048 .f32) (harg15 : arg15.IsWhole) (arg16 : Memref sig .tc .vmem S2x1024x128 .f32) (harg16 : arg16.IsWhole) (hc0 : cond0_0 i) (hc1 : cond0_1 i)
    (x0 : Vec F S1024x256 .f32) (x1 : Vec F S128x2048 .f32) (x2 : Vec F S256x2048 .bf16) (x3 : Vec F S1024x256 .bf16) (x4 : Vec F S1024x256 .bf16) (x5 : Vec F S1x1024 .f32) (x6 : Vec F S1x1024 .f32) (x7 : Vec F S1x256 .f32) (x8 : Vec F S256x256 .bf16) (x9 : Vec F S1x256 .f32) (x10 : Vec F S1x256 .f32) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 = truncf .bf16 (yF x0 x1 x2 x3 x4 x5 x6 x7 x8 x9 x10) bitsLt_bf16_f32 := by
  frame_open
  simp (disch := decide) only [↓ View.readCov_skip, ↓ View.readCov_cons_toLoadRect, ↓ View.readCov_fill]
  frame_out
  simp (disch := decide) only [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, pay6_eq, k0_pay2, shapeCast_self, ld_rows0, ld_rows1, Nat.reduceDiv, fold0r x0 x1 x2 x5 x6, fold0i x0 x1 x2 x5 x6,
    foldr, foldi, Nat.reduceAdd, join_tiles]
  simp only [out_tiles]
  rw [read_left arg14.view (fun t => (stB x0 x1 x2 x5 x6 t).1) (fun t => (stB x0 x1 x2 x5 x6 t).2),
    read_right arg14.view (fun t => (stB x0 x1 x2 x5 x6 t).1) (fun t => (stB x0 x1 x2 x5 x6 t).2)]
  rfl
end Cert.Proof.S5
-- ==== Proof.S5Host.lean ====
module
public import proofs.«01_k».proof.Proof.S5Block
public import Idealize.ShloMosaic.Lib.StableHlo.RunRead
@[expose] public section
set_option maxRecDepth 16384
noncomputable section
namespace Cert.Proof.S5
open Idealize.ShloMosaic Idealize.SL.Sem Idealize.ShloMosaic.TcCoe Cert.KernelIdeal Cert.KernelIdeal.Gen
variable (m : (ℓ : Loc nD τ sig) → Buf (Elt Ideal) ℓ) (c : Dev nD)

/-! The arguments read by coordinates. -/

/-- Argument 0 by coordinates. -/
def u : Fin 128 → Fin 8 → Fin 256 → EReal := fun x y z => (m ((c : Thread nD τ).loc main_arg0) : Vec Ideal S128x8x256 .f32) (ix3 (n0 := 128) (n1 := 8) (n2 := 256) x y z)
/-- Argument 1 by coordinates. -/
def h0r : Fin 128 → Fin 16 → Fin 64 → EReal := fun x y z => (m ((c : Thread nD τ).loc main_arg1) : Vec Ideal S128x16x64 .f32) (ix3 (n0 := 128) (n1 := 16) (n2 := 64) x y z)
/-- Argument 2 by coordinates. -/
def h0i : Fin 128 → Fin 16 → Fin 64 → EReal := fun x y z => (m ((c : Thread nD τ).loc main_arg2) : Vec Ideal S128x16x64 .f32) (ix3 (n0 := 128) (n1 := 16) (n2 := 64) x y z)
/-- Argument 3 by coordinates. -/
def ar : Fin 16 → Fin 64 → EReal := fun x y => (m ((c : Thread nD τ).loc main_arg3) : Vec Ideal S16x64 .f32) (ix2 (n0 := 16) (n1 := 64) x y)
/-- Argument 4 by coordinates. -/
def ai : Fin 16 → Fin 64 → EReal := fun x y => (m ((c : Thread nD τ).loc main_arg4) : Vec Ideal S16x64 .f32) (ix2 (n0 := 16) (n1 := 64) x y)
/-- Argument 5 by coordinates. -/
def br : Fin 16 → Fin 64 → Fin 16 → EReal := fun x y z => (m ((c : Thread nD τ).loc main_arg5) : Vec Ideal S16x64x16 .f32) (ix3 (n0 := 16) (n1 := 64) (n2 := 16) x y z)
/-- Argument 6 by coordinates. -/
def bi : Fin 16 → Fin 64 → Fin 16 → EReal := fun x y z => (m ((c : Thread nD τ).loc main_arg6) : Vec Ideal S16x64x16 .f32) (ix3 (n0 := 16) (n1 := 64) (n2 := 16) x y z)
/-- Argument 7 by coordinates. -/
def cr : Fin 16 → Fin 16 → Fin 64 → EReal := fun x y z => (m ((c : Thread nD τ).loc main_arg7) : Vec Ideal S16x16x64 .f32) (ix3 (n0 := 16) (n1 := 16) (n2 := 64) x y z)
/-- Argument 8 by coordinates. -/
def ci : Fin 16 → Fin 16 → Fin 64 → EReal := fun x y z => (m ((c : Thread nD τ).loc main_arg8) : Vec Ideal S16x16x64 .f32) (ix3 (n0 := 16) (n1 := 16) (n2 := 64) x y z)
/-- Argument 9 by coordinates. -/
def d : Fin 256 → EReal := fun x => (m ((c : Thread nD τ).loc main_arg9) : Vec Ideal S256 .f32) (ix1 (n0 := 256) x)
/-- Argument 10 by coordinates. -/
def w : Fin 256 → Fin 256 → EReal := fun x y => (m ((c : Thread nD τ).loc main_arg10) : Vec Ideal S256x256 .f32) (ix2 (n0 := 256) (n1 := 256) x y)
/-- Argument 11 by coordinates. -/
def bias : Fin 256 → EReal := fun x => (m ((c : Thread nD τ).loc main_arg11) : Vec Ideal S256 .f32) (ix1 (n0 := 256) x)
/-- Argument 12 by coordinates. -/
def gain : Fin 256 → EReal := fun x => (m ((c : Thread nD τ).loc main_arg12) : Vec Ideal S256 .f32) (ix1 (n0 := 256) x)

/-- The identity matrix, as the host code makes it, by coordinates. -/
theorem eye_at (a b : Fin 16) :
    (FloatOps.uitofp (F := Ideal) FTy.f32 (IntOp.cmpi CmpIPredicate.eq (IntOp.addi (BitVec.ofNat 32 a.val) 0#32) (BitVec.ofNat 32 b.val)) : EReal)
      = if a = b then 1 else 0 := by
  by_cases h : a = b
  · subst h
    have e : IntOp.cmpi CmpIPredicate.eq (IntOp.addi (BitVec.ofNat 32 a.val) 0#32) (BitVec.ofNat 32 a.val) = 1#1 := by
      simp [IntOp.cmpi, IntOp.addi]
    rw [e, if_pos rfl]
    show (((1#1 : BitVec 1).toNat : ℝ) : EReal) = 1
    simp
  · have : ¬ (BitVec.ofNat 32 a.val = BitVec.ofNat 32 b.val) := fun e => h (by
      have := congrArg BitVec.toNat e
      simp only [BitVec.toNat_ofNat] at this
      omega)
    have e : IntOp.cmpi CmpIPredicate.eq (IntOp.addi (BitVec.ofNat 32 a.val) 0#32) (BitVec.ofNat 32 b.val) = 0#1 := by
      simp only [IntOp.cmpi, IntOp.addi, BitVec.add_zero]
      rw [show (BitVec.ofNat 32 a.val == BitVec.ofNat 32 b.val) = false from beq_eq_false_iff_ne.2 this]
      rfl
    rw [e, if_neg h]
    show (((0#1 : BitVec 1).toNat : ℝ) : EReal) = 0
    simp

/-- Row `128 t + b` is step `t` of sequence `b`. -/
theorem v1_at (r : Fin 1024) (q : Fin 256) :
    (V m c main_v1 : Vec Ideal S1024x256 .f32) (ix2 (n0 := 1024) (n1 := 256) r q) = u m c ⟨r.val % 128, by omega⟩ ⟨r.val / 128, by omega⟩ q := by
  unfold_abbrev_sides
  after_reads_simp
  pointwise
  rfl

/-- The starting states, real part then imaginary part. -/
theorem v4_at (r : Fin 128) (q : Fin 2048) :
    (V m c main_v4 : Vec Ideal S128x2048 .f32) (ix2 (n0 := 128) (n1 := 2048) r q) = if h : q.val < 1024 then h0r m c r ⟨q.val / 64, by omega⟩ ⟨q.val % 64, by omega⟩
      else h0i m c r ⟨(q.val - 1024) / 64, by omega⟩ ⟨(q.val - 1024) % 64, by omega⟩ := by
  unfold_abbrev_sides
  after_reads_simp
  pointwise
  rfl

/-- The two block-diagonal input matrices side by side. -/
theorem v32_at (r : Fin 256) (q : Fin 2048) :
    (V m c main_v32 : Vec Ideal S256x2048 .bf16) (ix2 (n0 := 256) (n1 := 2048) r q)
      = if h : q.val < 1024 then br m c ⟨r.val / 16, by omega⟩ ⟨q.val % 64, by omega⟩ ⟨r.val % 16, by omega⟩
          * (if (⟨r.val / 16, by omega⟩ : Fin 16) = ⟨q.val / 64, by omega⟩ then 1 else 0)
        else bi m c ⟨r.val / 16, by omega⟩ ⟨(q.val - 1024) % 64, by omega⟩ ⟨r.val % 16, by omega⟩
          * (if (⟨r.val / 16, by omega⟩ : Fin 16) = ⟨(q.val - 1024) / 64, by omega⟩ then 1 else 0) := by
  unfold_abbrev_sides
  after_reads_simp
  pointwise
  split
  · after_reads_simp
    pointwise
    refine congrArg₂ (· * ·) rfl (eye_at ⟨r.val / 16, by omega⟩ ⟨q.val / 64, by omega⟩)
  · after_reads_simp
    pointwise
    refine congrArg₂ (· * ·) rfl (eye_at ⟨r.val / 16, by omega⟩ ⟨(q.val - 1024) / 64, by omega⟩)

/-- The block-diagonal output matrix, real part. -/
theorem v46_at (r : Fin 1024) (q : Fin 256) :
    (V m c main_v46 : Vec Ideal S1024x256 .bf16) (ix2 (n0 := 1024) (n1 := 256) r q) = cr m c ⟨r.val / 64, by omega⟩ ⟨q.val % 16, by omega⟩ ⟨r.val % 64, by omega⟩
      * (if (⟨r.val / 64, by omega⟩ : Fin 16) = ⟨q.val / 16, by omega⟩ then 1 else 0) := by
  unfold_abbrev_sides
  after_reads_simp
  pointwise
  refine congrArg₂ (· * ·) rfl (eye_at ⟨r.val / 64, by omega⟩ ⟨q.val / 16, by omega⟩)

/-- The block-diagonal output matrix, imaginary part. -/
theorem v60_at (r : Fin 1024) (q : Fin 256) :
    (V m c main_v60 : Vec Ideal S1024x256 .bf16) (ix2 (n0 := 1024) (n1 := 256) r q) = ci m c ⟨r.val / 64, by omega⟩ ⟨q.val % 16, by omega⟩ ⟨r.val % 64, by omega⟩
      * (if (⟨r.val / 64, by omega⟩ : Fin 16) = ⟨q.val / 16, by omega⟩ then 1 else 0) := by
  unfold_abbrev_sides
  after_reads_simp
  pointwise
  refine congrArg₂ (· * ·) rfl (eye_at ⟨r.val / 64, by omega⟩ ⟨q.val / 16, by omega⟩)

/-- A step multiplier as one row. -/
theorem v61_at (r : Fin 1) (q : Fin 1024) :
    (V m c main_v61 : Vec Ideal S1x1024 .f32) (ix2 (n0 := 1) (n1 := 1024) r q) = ar m c ⟨q.val / 64, by omega⟩ ⟨q.val % 64, by omega⟩ := by
  unfold_abbrev_sides
  after_reads_simp
  pointwise
  rfl

/-- A step multiplier as one row. -/
theorem v62_at (r : Fin 1) (q : Fin 1024) :
    (V m c main_v62 : Vec Ideal S1x1024 .f32) (ix2 (n0 := 1) (n1 := 1024) r q) = ai m c ⟨q.val / 64, by omega⟩ ⟨q.val % 64, by omega⟩ := by
  unfold_abbrev_sides
  after_reads_simp
  pointwise
  rfl

/-- A vector as one row. -/
theorem v63_at (r : Fin 1) (q : Fin 256) :
    (V m c main_v63 : Vec Ideal S1x256 .f32) (ix2 (n0 := 1) (n1 := 256) r q) = d m c q := by
  unfold_abbrev_sides
  after_reads_simp
  pointwise
  rfl

/-- A vector as one row. -/
theorem v65_at (r : Fin 1) (q : Fin 256) :
    (V m c main_v65 : Vec Ideal S1x256 .f32) (ix2 (n0 := 1) (n1 := 256) r q) = bias m c q := by
  unfold_abbrev_sides
  after_reads_simp
  pointwise
  rfl

/-- A vector as one row. -/
theorem v66_at (r : Fin 1) (q : Fin 256) :
    (V m c main_v66 : Vec Ideal S1x256 .f32) (ix2 (n0 := 1) (n1 := 256) r q) = gain m c q := by
  unfold_abbrev_sides
  after_reads_simp
  pointwise
  rfl

/-- The gate's matrix. -/
theorem v64_at (r : Fin 256) (q : Fin 256) :
    (V m c main_v64 : Vec Ideal S256x256 .bf16) (ix2 (n0 := 256) (n1 := 256) r q) = w m c r q := by
  unfold_abbrev_sides
  after_reads_simp
  pointwise
  rfl
-- ==== Proof.S5Spec.lean ====
module
public import Idealize.ShloMosaic.Lib.Pointwise
@[expose] public section
noncomputable section
namespace Cert.Proof.S5Spec
open Idealize.ShloMosaic

/-- One batch row's input to the recurrence at a step: the group's block of `B̄` times the group's 16 inputs. -/
def xin (u : Fin 128 → Fin 8 → Fin 256 → EReal) (bb : Fin 16 → Fin 64 → Fin 16 → EReal)
    (b : Fin 128) (t : Fin 8) (g : Fin 16) (p : Fin 64) : EReal :=
  ∑ n : Fin 16, bb g p n * u b t ⟨g.val * 16 + n.val, by omega⟩

/-- The state before step `t` (real part, imaginary part): the plain recurrence `h ↦ a h + x`. -/
def hN (u : Fin 128 → Fin 8 → Fin 256 → EReal) (h0r h0i : Fin 128 → Fin 16 → Fin 64 → EReal)
    (ar ai : Fin 16 → Fin 64 → EReal) (br bi : Fin 16 → Fin 64 → Fin 16 → EReal) :
    ℕ → Fin 128 → Fin 16 → Fin 64 → EReal × EReal
  | 0, b, g, p => (h0r b g p, h0i b g p)
  | t + 1, b, g, p =>
    (ar g p * (hN u h0r h0i ar ai br bi t b g p).1 - ai g p * (hN u h0r h0i ar ai br bi t b g p).2
        + xin u br b ⟨t % 8, Nat.mod_lt _ (by decide)⟩ g p,
      ar g p * (hN u h0r h0i ar ai br bi t b g p).2 + ai g p * (hN u h0r h0i ar ai br bi t b g p).1
        + xin u bi b ⟨t % 8, Nat.mod_lt _ (by decide)⟩ g p)

/-- The group of channel `q`. -/
def gr (q : Fin 256) : Fin 16 := ⟨q.val / 16, by omega⟩
/-- The channel within its group. -/
def ch (q : Fin 256) : Fin 16 := ⟨q.val % 16, by omega⟩

/-- The read-out `Re (C h) + d u` of the states after each step. -/
def yN (u : Fin 128 → Fin 8 → Fin 256 → EReal) (hr hi : ℕ → Fin 128 → Fin 16 → Fin 64 → EReal)
    (cr ci : Fin 16 → Fin 16 → Fin 64 → EReal) (d : Fin 256 → EReal) (b : Fin 128) (t : Fin 8) (q : Fin 256) : EReal :=
  (∑ p : Fin 64, cr (gr q) (ch q) p * hr (t.val + 1) b (gr q) p)
    - (∑ p : Fin 64, ci (gr q) (ch q) p * hi (t.val + 1) b (gr q) p) + d q * u b t q

/-- GELU, the tanh form, with the constants as the program writes them. -/
def gelu (y : EReal) : EReal :=
  y * (Ideal.ofBits FTy.f32 0x3F000000#32 * (1 + Ideal.tanh (Ideal.ofBits FTy.f32 0x3F4C422A#32 *
    (y + Ideal.ofBits FTy.f32 0x3D372713#32 * (y * y * y)))))

/-- The gated linear unit on the channels of one row. -/
def glu (w : Fin 256 → Fin 256 → EReal) (bias : Fin 256 → EReal) (y : Fin 256 → EReal) (q : Fin 256) : EReal :=
  y q * Ideal.div 1 (1 + Ideal.exp (-(∑ k : Fin 256, y k * w k q + bias q)))

/-- The row divided by its root mean square, times the gain. -/
def rms (gain : Fin 256 → EReal) (y : Fin 256 → EReal) (q : Fin 256) : EReal :=
  y q * Ideal.rsqrt (Ideal.div (∑ k : Fin 256, y k * y k) (Ideal.ofBits FTy.f32 0x43800000#32)
    + Ideal.ofBits FTy.f32 0x358637BD#32) * gain q
-- ==== Proof.S5Eq.lean ====
module
public import proofs.«01_k».proof.Proof.S5Block
public import proofs.«01_k».proof.Proof.S5Spec
@[expose] public section
set_option maxRecDepth 16384
noncomputable section
namespace Cert.Proof.S5
open Idealize.ShloMosaic Idealize.SL.Sem Idealize.ShloMosaic.TcCoe Cert.KernelIdeal Cert.KernelIdeal.Gen
open Cert.Proof.S5Spec

/-- A sum over `G · N` positions against a block of a block-diagonal matrix is the sum over the block: every other
    product has the factor 0, and in the extended reals 0 times anything is 0. -/
theorem collapse {G N K : ℕ} (hK : G * N = K) (hN : 0 < N) (f : Fin K → EReal) (w : Fin G → Fin N → EReal) (g : Fin G) :
    ∑ k : Fin K, f k * (w ⟨k.val / N, Nat.div_lt_of_lt_mul (by have := k.isLt; rw [Nat.mul_comm N G, hK]; exact this)⟩ ⟨k.val % N, Nat.mod_lt _ hN⟩
        * (if (⟨k.val / N, Nat.div_lt_of_lt_mul (by have := k.isLt; rw [Nat.mul_comm N G, hK]; exact this)⟩ : Fin G) = g then 1 else 0))
      = ∑ n : Fin N, w g n * f ⟨g.val * N + n.val, by
          have := g.isLt
          have := n.isLt
          calc g.val * N + n.val < g.val * N + N := by omega
            _ = (g.val + 1) * N := by rw [Nat.add_mul, Nat.one_mul]
            _ ≤ G * N := Nat.mul_le_mul_right _ g.isLt
            _ = K := hK⟩ := by
  subst hK
  rw [← finProdFinEquiv.sum_comp, Fintype.sum_prod_type]
  have key : ∀ (a : Fin G) (n : Fin N), (finProdFinEquiv (a, n)).val / N = a.val ∧ (finProdFinEquiv (a, n)).val % N = n.val := by
    intro a n
    have e : (finProdFinEquiv (a, n)).val = n.val + N * a.val := rfl
    rw [e]
    exact ⟨by rw [Nat.add_mul_div_left _ _ hN, Nat.div_eq_of_lt n.isLt, Nat.zero_add], by
      rw [Nat.add_mul_mod_self_left, Nat.mod_eq_of_lt n.isLt]⟩
  rw [Finset.sum_eq_single g]
  · refine Finset.sum_congr rfl fun n _ => ?_
    have k1 : (⟨(finProdFinEquiv (g, n)).val / N, Nat.div_lt_of_lt_mul (by rw [Nat.mul_comm N G]; exact (finProdFinEquiv (g, n)).isLt)⟩ : Fin G) = g := Fin.ext (key g n).1
    have k2 : (⟨(finProdFinEquiv (g, n)).val % N, Nat.mod_lt _ hN⟩ : Fin N) = n := Fin.ext (key g n).2
    rw [k1, k2, if_pos rfl, mul_one, mul_comm]
    congr 2
    exact Fin.ext (by show n.val + N * g.val = g.val * N + n.val; rw [Nat.mul_comm]; omega)
  · intro a _ ha
    refine Finset.sum_eq_zero fun n _ => ?_
    have k1 : (⟨(finProdFinEquiv (a, n)).val / N, Nat.div_lt_of_lt_mul (by rw [Nat.mul_comm N G]; exact (finProdFinEquiv (a, n)).isLt)⟩ : Fin G) = a := Fin.ext (key a n).1
    rw [k1, if_neg ha, mul_zero, mul_zero]
  · intro h
    exact absurd (Finset.mem_univ g) h

section
variable (u : Fin 128 → Fin 8 → Fin 256 → EReal) (h0r h0i : Fin 128 → Fin 16 → Fin 64 → EReal)
    (ar ai : Fin 16 → Fin 64 → EReal) (br bi : Fin 16 → Fin 64 → Fin 16 → EReal)
    (cr ci : Fin 16 → Fin 16 → Fin 64 → EReal) (d : Fin 256 → EReal)
    (w : Fin 256 → Fin 256 → EReal) (bias gain : Fin 256 → EReal)
    (x0 : Vec Ideal S1024x256 .f32) (x1 : Vec Ideal S128x2048 .f32) (x2 : Vec Ideal S256x2048 .bf16)
    (x3 x4 : Vec Ideal S1024x256 .bf16)
    (x5 x6 : Vec Ideal S1x1024 .f32) (x7 : Vec Ideal S1x256 .f32) (x8 : Vec Ideal S256x256 .bf16) (x9 x10 : Vec Ideal S1x256 .f32)

/-- The blocks hold the arguments, laid out as the host code lays them out. -/
structure Layout : Prop where
  e0 : ∀ (r : Fin 1024) (q : Fin 256), x0 (ix2 (n0 := 1024) (n1 := 256) r q) = u ⟨r.val % 128, by omega⟩ ⟨r.val / 128, by omega⟩ q
  e1l : ∀ (b : Fin 128) (l : Fin 1024), x1 (ix2 (n0 := 128) (n1 := 2048) b ⟨l.val, by omega⟩) = h0r b ⟨l.val / 64, by omega⟩ ⟨l.val % 64, by omega⟩
  e1r : ∀ (b : Fin 128) (l : Fin 1024), x1 (ix2 (n0 := 128) (n1 := 2048) b ⟨1024 + l.val, by omega⟩) = h0i b ⟨l.val / 64, by omega⟩ ⟨l.val % 64, by omega⟩
  e2l : ∀ (r : Fin 256) (l : Fin 1024), x2 (ix2 (n0 := 256) (n1 := 2048) r ⟨l.val, by omega⟩)
    = br ⟨r.val / 16, by omega⟩ ⟨l.val % 64, by omega⟩ ⟨r.val % 16, by omega⟩ * (if (⟨r.val / 16, by omega⟩ : Fin 16) = ⟨l.val / 64, by omega⟩ then 1 else 0)
  e2r : ∀ (r : Fin 256) (l : Fin 1024), x2 (ix2 (n0 := 256) (n1 := 2048) r ⟨1024 + l.val, by omega⟩)
    = bi ⟨r.val / 16, by omega⟩ ⟨l.val % 64, by omega⟩ ⟨r.val % 16, by omega⟩ * (if (⟨r.val / 16, by omega⟩ : Fin 16) = ⟨l.val / 64, by omega⟩ then 1 else 0)
  e3 : ∀ (r : Fin 1024) (q : Fin 256), x3 (ix2 (n0 := 1024) (n1 := 256) r q)
    = cr ⟨r.val / 64, by omega⟩ ⟨q.val % 16, by omega⟩ ⟨r.val % 64, by omega⟩ * (if (⟨r.val / 64, by omega⟩ : Fin 16) = ⟨q.val / 16, by omega⟩ then 1 else 0)
  e4 : ∀ (r : Fin 1024) (q : Fin 256), x4 (ix2 (n0 := 1024) (n1 := 256) r q)
    = ci ⟨r.val / 64, by omega⟩ ⟨q.val % 16, by omega⟩ ⟨r.val % 64, by omega⟩ * (if (⟨r.val / 64, by omega⟩ : Fin 16) = ⟨q.val / 16, by omega⟩ then 1 else 0)
  e5 : ∀ (z : Fin 1) (l : Fin 1024), x5 (ix2 (n0 := 1) (n1 := 1024) z l) = ar ⟨l.val / 64, by omega⟩ ⟨l.val % 64, by omega⟩
  e6 : ∀ (z : Fin 1) (l : Fin 1024), x6 (ix2 (n0 := 1) (n1 := 1024) z l) = ai ⟨l.val / 64, by omega⟩ ⟨l.val % 64, by omega⟩
  e7 : ∀ (z : Fin 1) (q : Fin 256), x7 (ix2 (n0 := 1) (n1 := 256) z q) = d q
  e8 : ∀ (k q : Fin 256), x8 (ix2 (n0 := 256) (n1 := 256) k q) = w k q
  e9 : ∀ (z : Fin 1) (q : Fin 256), x9 (ix2 (n0 := 1) (n1 := 256) z q) = bias q
  e10 : ∀ (z : Fin 1) (q : Fin 256), x10 (ix2 (n0 := 1) (n1 := 256) z q) = gain q

variable {u h0r h0i ar ai br bi cr ci d w bias gain x0 x1 x2 x3 x4 x5 x6 x7 x8 x9 x10}
  (L : Layout u h0r h0i ar ai br bi cr ci d w bias gain x0 x1 x2 x3 x4 x5 x6 x7 x8 x9 x10)

include L

/-- The projected input, real part, at step `t` of sequence `b`, on lane `l`. -/
theorem mm_l (t : Fin 8) (b : Fin 128) (l : Fin 1024) :
    mm x0 x2 (ix2 (n0 := 1024) (n1 := 2048) ⟨128 * t.val + b.val, by omega⟩ ⟨l.val, by omega⟩)
      = xin u br b t ⟨l.val / 64, by omega⟩ ⟨l.val % 64, by omega⟩ := by
  unfold mm
  pointwise
  simp only [L.e0, L.e2l]
  have h1 : (⟨(128 * t.val + b.val) % 128, by omega⟩ : Fin 128) = b := Fin.ext (by simp only; omega)
  have h2 : (⟨(128 * t.val + b.val) / 128, by omega⟩ : Fin 8) = t := Fin.ext (by simp only; omega)
  rw [h1, h2]
  exact collapse (G := 16) (N := 16) rfl (by decide) (fun k => u b t k)
    (fun g n => br g ⟨l.val % 64, by omega⟩ n) ⟨l.val / 64, by omega⟩ |>.trans rfl

/-- The projected input, imaginary part, at step `t` of sequence `b`, on lane `l`. -/
theorem mm_r (t : Fin 8) (b : Fin 128) (l : Fin 1024) :
    mm x0 x2 (ix2 (n0 := 1024) (n1 := 2048) ⟨128 * t.val + b.val, by omega⟩ ⟨1024 + l.val, by omega⟩)
      = xin u bi b t ⟨l.val / 64, by omega⟩ ⟨l.val % 64, by omega⟩ := by
  unfold mm
  pointwise
  simp only [L.e0, L.e2r]
  have h1 : (⟨(128 * t.val + b.val) % 128, by omega⟩ : Fin 128) = b := Fin.ext (by simp only; omega)
  have h2 : (⟨(128 * t.val + b.val) / 128, by omega⟩ : Fin 8) = t := Fin.ext (by simp only; omega)
  rw [h1, h2]
  exact collapse (G := 16) (N := 16) rfl (by decide) (fun k => u b t k)
    (fun g n => bi g ⟨l.val % 64, by omega⟩ n) ⟨l.val / 64, by omega⟩ |>.trans rfl

/-- The block's state is the plain recurrence: lane `l` holds component `l % 64` of group `l / 64`. -/
theorem st_at (b : Fin 128) (l : Fin 1024) (t : ℕ) (ht : t ≤ 8) :
    (stB x0 x1 x2 x5 x6 t).1 (ix2 (n0 := 128) (n1 := 1024) b l)
        = (hN u h0r h0i ar ai br bi t b ⟨l.val / 64, by omega⟩ ⟨l.val % 64, by omega⟩).1
      ∧ (stB x0 x1 x2 x5 x6 t).2 (ix2 (n0 := 128) (n1 := 1024) b l)
        = (hN u h0r h0i ar ai br bi t b ⟨l.val / 64, by omega⟩ ⟨l.val % 64, by omega⟩).2 := by
  induction t with
  | zero =>
    refine ⟨?_, ?_⟩
    · unfold stB st
      pointwise
      exact L.e1l b l
    · unfold stB st
      pointwise
      exact L.e1r b l
  | succ t ih =>
    obtain ⟨ih1, ih2⟩ := ih (by omega)
    have hr : (⟨(128 * t + b.val) % 1024, by omega⟩ : Fin 1024) = ⟨128 * (⟨t % 8, by omega⟩ : Fin 8).val + b.val, by omega⟩ :=
      Fin.ext (by simp only; omega)
    have e1 := mm_l L ⟨t % 8, by omega⟩ b l
    have e2 := mm_r L ⟨t % 8, by omega⟩ b l
    refine ⟨?_, ?_⟩
    · have h : (stB x0 x1 x2 x5 x6 (t + 1)).1 (ix2 (n0 := 128) (n1 := 1024) b l)
          = x5 (ix2 (n0 := 1) (n1 := 1024) 0 l) * (stB x0 x1 x2 x5 x6 t).1 (ix2 (n0 := 128) (n1 := 1024) b l)
            - x6 (ix2 (n0 := 1) (n1 := 1024) 0 l) * (stB x0 x1 x2 x5 x6 t).2 (ix2 (n0 := 128) (n1 := 1024) b l)
            + mm x0 x2 (ix2 (n0 := 1024) (n1 := 2048) ⟨(128 * t + b.val) % 1024, by omega⟩ ⟨0 + l.val, by omega⟩) := by
        simp only [stB]
        rw [st]
        pointwise [rowsOf, k0_pay7, k0_pay8]
      rw [h, ih1, ih2, L.e5, L.e6, hr]
      rw [show (⟨0 + l.val, by omega⟩ : Fin 2048) = ⟨l.val, by omega⟩ from Fin.ext (Nat.zero_add _), e1]
      rfl
    · have h : (stB x0 x1 x2 x5 x6 (t + 1)).2 (ix2 (n0 := 128) (n1 := 1024) b l)
          = x5 (ix2 (n0 := 1) (n1 := 1024) 0 l) * (stB x0 x1 x2 x5 x6 t).2 (ix2 (n0 := 128) (n1 := 1024) b l)
            + x6 (ix2 (n0 := 1) (n1 := 1024) 0 l) * (stB x0 x1 x2 x5 x6 t).1 (ix2 (n0 := 128) (n1 := 1024) b l)
            + mm x0 x2 (ix2 (n0 := 1024) (n1 := 2048) ⟨(128 * t + b.val) % 1024, by omega⟩ ⟨1024 + l.val, by omega⟩) := by
        simp only [stB]
        rw [st]
        pointwise [rowsOf, k0_pay7, k0_pay8]
      rw [h, ih1, ih2, L.e5, L.e6, hr, e2]
      rfl

/-- The second result's block. -/
theorem sides_at (b : Fin 128) (l : Fin 2048) :
    sides (stB x0 x1 x2 x5 x6 8).1 (stB x0 x1 x2 x5 x6 8).2 (ix2 (n0 := 128) (n1 := 2048) b l)
      = if h : l.val < 1024 then (hN u h0r h0i ar ai br bi 8 b ⟨l.val / 64, by omega⟩ ⟨l.val % 64, by omega⟩).1
        else (hN u h0r h0i ar ai br bi 8 b ⟨(l.val - 1024) / 64, by omega⟩ ⟨(l.val - 1024) % 64, by omega⟩).2 := by
  unfold sides
  by_cases h : l.val < 1024
  · rw [dif_pos h]
    exact (dif_pos h).trans (st_at L b ⟨l.val, h⟩ 8 le_rfl).1
  · rw [dif_neg h]
    exact (dif_neg h).trans (st_at L b ⟨l.val - 1024, by omega⟩ 8 le_rfl).2

/-- The read-out at row `128 t + b`. -/
theorem pay43_at (r : Fin 1024) (q : Fin 256) :
    k0_pay43 x0 (trail fun t => (stB x0 x1 x2 x5 x6 t).1) x3 (trail fun t => (stB x0 x1 x2 x5 x6 t).2) x4 x7 (ix2 (n0 := 1024) (n1 := 256) r q)
      = yN u (fun t b g p => (hN u h0r h0i ar ai br bi t b g p).1) (fun t b g p => (hN u h0r h0i ar ai br bi t b g p).2) cr ci d
          ⟨r.val % 128, by omega⟩ ⟨r.val / 128, by omega⟩ q := by
  have h : ∀ a b : FVec Ideal S1024x1024 .f32, k0_pay43 x0 a x3 b x4 x7 (ix2 (n0 := 1024) (n1 := 256) r q)
      = ∑ x : Fin 1024, a (ix2 (n0 := 1024) (n1 := 1024) r x) * x3 (ix2 (n0 := 1024) (n1 := 256) x q)
        - ∑ x : Fin 1024, b (ix2 (n0 := 1024) (n1 := 1024) r x) * x4 (ix2 (n0 := 1024) (n1 := 256) x q)
        + x7 (ix2 (n0 := 1) (n1 := 256) 0 q) * x0 (ix2 (n0 := 1024) (n1 := 256) r q) := by
    intro a b
    unfold k0_pay43
    pointwise
  rw [h]
  have t1 : ∀ x : Fin 1024, trail (fun t => (stB x0 x1 x2 x5 x6 t).1) (ix2 (n0 := 1024) (n1 := 1024) r x)
      = (hN u h0r h0i ar ai br bi (r.val / 128 + 1) ⟨r.val % 128, by omega⟩ ⟨x.val / 64, by omega⟩ ⟨x.val % 64, by omega⟩).1 :=
    fun x => (st_at L ⟨r.val % 128, by omega⟩ x (r.val / 128 + 1) (by omega)).1
  have t2 : ∀ x : Fin 1024, trail (fun t => (stB x0 x1 x2 x5 x6 t).2) (ix2 (n0 := 1024) (n1 := 1024) r x)
      = (hN u h0r h0i ar ai br bi (r.val / 128 + 1) ⟨r.val % 128, by omega⟩ ⟨x.val / 64, by omega⟩ ⟨x.val % 64, by omega⟩).2 :=
    fun x => (st_at L ⟨r.val % 128, by omega⟩ x (r.val / 128 + 1) (by omega)).2
  simp only [t1, t2, L.e0, L.e3, L.e4, L.e7]
  unfold yN
  refine congrArg₂ (· + ·) (congrArg₂ (· - ·) ?_ ?_) rfl
  · refine (collapse (G := 16) (N := 64) (K := 1024) rfl (by decide) (fun x => (hN u h0r h0i ar ai br bi (r.val / 128 + 1) ⟨r.val % 128, by omega⟩ ⟨x.val / 64, by omega⟩ ⟨x.val % 64, by omega⟩).1)
      (fun g p => cr g ⟨q.val % 16, by omega⟩ p) ⟨q.val / 16, by omega⟩).trans ?_
    refine Finset.sum_congr rfl fun p _ => congrArg₂ (· * ·) rfl ?_
    have g1 : (⟨(q.val / 16 * 64 + p.val) / 64, by omega⟩ : Fin 16) = gr q := Fin.ext (by show _ = q.val / 16; simp only; omega)
    have g2 : (⟨(q.val / 16 * 64 + p.val) % 64, by omega⟩ : Fin 64) = p := Fin.ext (by simp only; omega)
    simp only [g1, g2]
  · refine (collapse (G := 16) (N := 64) (K := 1024) rfl (by decide) (fun x => (hN u h0r h0i ar ai br bi (r.val / 128 + 1) ⟨r.val % 128, by omega⟩ ⟨x.val / 64, by omega⟩ ⟨x.val % 64, by omega⟩).2)
      (fun g p => ci g ⟨q.val % 16, by omega⟩ p) ⟨q.val / 16, by omega⟩).trans ?_
    refine Finset.sum_congr rfl fun p _ => congrArg₂ (· * ·) rfl ?_
    have g1 : (⟨(q.val / 16 * 64 + p.val) / 64, by omega⟩ : Fin 16) = gr q := Fin.ext (by show _ = q.val / 16; simp only; omega)
    have g2 : (⟨(q.val / 16 * 64 + p.val) % 64, by omega⟩ : Fin 64) = p := Fin.ext (by simp only; omega)
    simp only [g1, g2]

/-- The first result's block at row `128 t + b`. -/
theorem yF_at (r : Fin 1024) (q : Fin 256) :
    yF x0 x1 x2 x3 x4 x5 x6 x7 x8 x9 x10 (ix2 (n0 := 1024) (n1 := 256) r q)
      = rms gain (glu w bias fun q => gelu (yN u (fun t b g p => (hN u h0r h0i ar ai br bi t b g p).1)
          (fun t b g p => (hN u h0r h0i ar ai br bi t b g p).2) cr ci d ⟨r.val % 128, by omega⟩ ⟨r.val / 128, by omega⟩ q)) q := by
  have h : ∀ (a b e : FVec Ideal S1024x256 .f32) (f : Fin 256 → EReal),
      (∀ q : Fin 256, b (ix2 (n0 := 1024) (n1 := 256) r q) * (1 + Ideal.tanh (Ideal.ofBits FTy.f32 1061962282#32
        * (a (ix2 (n0 := 1024) (n1 := 256) r q) + e (ix2 (n0 := 1024) (n1 := 256) r q)))) = f q) →
      k0_pay46 a b e x8 x9 x10 (ix2 (n0 := 1024) (n1 := 256) r q) = rms gain (glu w bias f) q := by
    intro a b e f hf
    unfold k0_pay46
    pointwise
    simp only [hf, L.e8, L.e9, L.e10]
    rfl
  refine h _ _ _ _ fun q => ?_
  unfold k0_pay44 k0_pay45
  pointwise
  rw [pay43_at L r q]
  unfold gelu
  rw [mul_comm (Ideal.ofBits FTy.f32 1056964608#32), mul_assoc]
end
-- ==== Proof.S5Array.lean ====
module
public import proofs.«01_k».proof.Proof.S5Host
public import proofs.«01_k».proof.Proof.S5Eq
@[expose] public section
set_option maxRecDepth 16384
noncomputable section
namespace Cert.Proof.S5
open Idealize.ShloMosaic Idealize.SL.Sem Idealize.ShloMosaic.TcCoe Cert.KernelIdeal Cert.KernelIdeal.Gen
open Cert.Proof.S5Spec
variable (m : (ℓ : Loc nD τ sig) → Buf (Elt Ideal) ℓ) (c : Dev nD)

/-! The grid has one point, and every window's block is its whole array. -/

/-- Window 0's block has index 0 on both axes (so for each window). -/
theorem i0 : ∀ t : Fin cfg0.N, win0_0.index t = ![0, 0] := (by decide +kernel : ∀ t : Fin grid0.N, _)
/-- Window 0's block is its array. -/
theorem blk0 (t : Fin cfg0.N) (r : Fin 1024) (q : Fin 256) :
    (iblk m c 0 t : Vec Ideal S1024x256 .f32) (ix2 (n0 := 1024) (n1 := 256) r q) = (V m c main_v1 : Vec Ideal S1024x256 .f32) (ix2 (n0 := 1024) (n1 := 256) r q) := by
  blk_simp [iblk]
  refine congrArg (V m c main_v1) (funext fun a => Fin.ext ?_)
  blk_simp [i0]
  fin_cases a <;> simp <;> rfl

/-- Window 1 does not move, or moves as stated. -/
theorem i1 : ∀ t : Fin cfg0.N, win0_1.index t = ![0, 0] := (by decide +kernel : ∀ t : Fin grid0.N, _)
/-- Window 1's block is its array. -/
theorem blk1 (t : Fin cfg0.N) (r : Fin 128) (q : Fin 2048) :
    (iblk m c 1 t : Vec Ideal S128x2048 .f32) (ix2 (n0 := 128) (n1 := 2048) r q) = (V m c main_v4 : Vec Ideal S128x2048 .f32) (ix2 (n0 := 128) (n1 := 2048) r q) := by
  blk_simp [iblk]
  refine congrArg (V m c main_v4) (funext fun a => Fin.ext ?_)
  blk_simp [i1]
  fin_cases a <;> simp <;> rfl

/-- Window 2 does not move, or moves as stated. -/
theorem i2 : ∀ t : Fin cfg0.N, win0_2.index t = ![0, 0] := (by decide +kernel : ∀ t : Fin grid0.N, _)
/-- Window 2's block is its array. -/
theorem blk2 (t : Fin cfg0.N) (r : Fin 256) (q : Fin 2048) :
    (iblk m c 2 t : Vec Ideal S256x2048 .bf16) (ix2 (n0 := 256) (n1 := 2048) r q) = (V m c main_v32 : Vec Ideal S256x2048 .bf16) (ix2 (n0 := 256) (n1 := 2048) r q) := by
  blk_simp [iblk]
  refine congrArg (V m c main_v32) (funext fun a => Fin.ext ?_)
  blk_simp [i2]
  fin_cases a <;> simp <;> rfl

/-- Window 3 does not move, or moves as stated. -/
theorem i3 : ∀ t : Fin cfg0.N, win0_3.index t = ![0, 0] := (by decide +kernel : ∀ t : Fin grid0.N, _)
/-- Window 3's block is its array. -/
theorem blk3 (t : Fin cfg0.N) (r : Fin 1024) (q : Fin 256) :
    (iblk m c 3 t : Vec Ideal S1024x256 .bf16) (ix2 (n0 := 1024) (n1 := 256) r q) = (V m c main_v46 : Vec Ideal S1024x256 .bf16) (ix2 (n0 := 1024) (n1 := 256) r q) := by
  blk_simp [iblk]
  refine congrArg (V m c main_v46) (funext fun a => Fin.ext ?_)
  blk_simp [i3]
  fin_cases a <;> simp <;> rfl

/-- Window 4 does not move, or moves as stated. -/
theorem i4 : ∀ t : Fin cfg0.N, win0_4.index t = ![0, 0] := (by decide +kernel : ∀ t : Fin grid0.N, _)
/-- Window 4's block is its array. -/
theorem blk4 (t : Fin cfg0.N) (r : Fin 1024) (q : Fin 256) :
    (iblk m c 4 t : Vec Ideal S1024x256 .bf16) (ix2 (n0 := 1024) (n1 := 256) r q) = (V m c main_v60 : Vec Ideal S1024x256 .bf16) (ix2 (n0 := 1024) (n1 := 256) r q) := by
  blk_simp [iblk]
  refine congrArg (V m c main_v60) (funext fun a => Fin.ext ?_)
  blk_simp [i4]
  fin_cases a <;> simp <;> rfl

/-- Window 5 does not move, or moves as stated. -/
theorem i5 : ∀ t : Fin cfg0.N, win0_5.index t = ![0, 0] := (by decide +kernel : ∀ t : Fin grid0.N, _)
/-- Window 5's block is its array. -/
theorem blk5 (t : Fin cfg0.N) (r : Fin 1) (q : Fin 1024) :
    (iblk m c 5 t : Vec Ideal S1x1024 .f32) (ix2 (n0 := 1) (n1 := 1024) r q) = (V m c main_v61 : Vec Ideal S1x1024 .f32) (ix2 (n0 := 1) (n1 := 1024) r q) := by
  blk_simp [iblk]
  refine congrArg (V m c main_v61) (funext fun a => Fin.ext ?_)
  blk_simp [i5]
  fin_cases a <;> simp <;> rfl

/-- Window 6 does not move, or moves as stated. -/
theorem i6 : ∀ t : Fin cfg0.N, win0_6.index t = ![0, 0] := (by decide +kernel : ∀ t : Fin grid0.N, _)
/-- Window 6's block is its array. -/
theorem blk6 (t : Fin cfg0.N) (r : Fin 1) (q : Fin 1024) :
    (iblk m c 6 t : Vec Ideal S1x1024 .f32) (ix2 (n0 := 1) (n1 := 1024) r q) = (V m c main_v62 : Vec Ideal S1x1024 .f32) (ix2 (n0 := 1) (n1 := 1024) r q) := by
  blk_simp [iblk]
  refine congrArg (V m c main_v62) (funext fun a => Fin.ext ?_)
  blk_simp [i6]
  fin_cases a <;> simp <;> rfl

/-- Window 7 does not move, or moves as stated. -/
theorem i7 : ∀ t : Fin cfg0.N, win0_7.index t = ![0, 0] := (by decide +kernel : ∀ t : Fin grid0.N, _)
/-- Window 7's block is its array. -/
theorem blk7 (t : Fin cfg0.N) (r : Fin 1) (q : Fin 256) :
    (iblk m c 7 t : Vec Ideal S1x256 .f32) (ix2 (n0 := 1) (n1 := 256) r q) = (V m c main_v63 : Vec Ideal S1x256 .f32) (ix2 (n0 := 1) (n1 := 256) r q) := by
  blk_simp [iblk]
  refine congrArg (V m c main_v63) (funext fun a => Fin.ext ?_)
  blk_simp [i7]
  fin_cases a <;> simp <;> rfl

/-- Window 8 does not move, or moves as stated. -/
theorem i8 : ∀ t : Fin cfg0.N, win0_8.index t = ![0, 0] := (by decide +kernel : ∀ t : Fin grid0.N, _)
/-- Window 8's block is its array. -/
theorem blk8 (t : Fin cfg0.N) (r : Fin 256) (q : Fin 256) :
    (iblk m c 8 t : Vec Ideal S256x256 .bf16) (ix2 (n0 := 256) (n1 := 256) r q) = (V m c main_v64 : Vec Ideal S256x256 .bf16) (ix2 (n0 := 256) (n1 := 256) r q) := by
  blk_simp [iblk]
  refine congrArg (V m c main_v64) (funext fun a => Fin.ext ?_)
  blk_simp [i8]
  fin_cases a <;> simp <;> rfl

/-- Window 9 does not move, or moves as stated. -/
theorem i9 : ∀ t : Fin cfg0.N, win0_9.index t = ![0, 0] := (by decide +kernel : ∀ t : Fin grid0.N, _)
/-- Window 9's block is its array. -/
theorem blk9 (t : Fin cfg0.N) (r : Fin 1) (q : Fin 256) :
    (iblk m c 9 t : Vec Ideal S1x256 .f32) (ix2 (n0 := 1) (n1 := 256) r q) = (V m c main_v65 : Vec Ideal S1x256 .f32) (ix2 (n0 := 1) (n1 := 256) r q) := by
  blk_simp [iblk]
  refine congrArg (V m c main_v65) (funext fun a => Fin.ext ?_)
  blk_simp [i9]
  fin_cases a <;> simp <;> rfl

/-- Window 10 does not move, or moves as stated. -/
theorem i10 : ∀ t : Fin cfg0.N, win0_10.index t = ![0, 0] := (by decide +kernel : ∀ t : Fin grid0.N, _)
/-- Window 10's block is its array. -/
theorem blk10 (t : Fin cfg0.N) (r : Fin 1) (q : Fin 256) :
    (iblk m c 10 t : Vec Ideal S1x256 .f32) (ix2 (n0 := 1) (n1 := 256) r q) = (V m c main_v66 : Vec Ideal S1x256 .f32) (ix2 (n0 := 1) (n1 := 256) r q) := by
  blk_simp [iblk]
  refine congrArg (V m c main_v66) (funext fun a => Fin.ext ?_)
  blk_simp [i10]
  fin_cases a <;> simp <;> rfl

/-- What the windows hold is the arguments, laid out by the host code. -/
theorem layout (t : Fin cfg0.N) : Layout (u m c) (h0r m c) (h0i m c) (ar m c) (ai m c) (br m c) (bi m c) (cr m c) (ci m c)
    (d m c) (w m c) (bias m c) (gain m c) (iblk m c 0 t) (iblk m c 1 t) (iblk m c 2 t) (iblk m c 3 t) (iblk m c 4 t)
    (iblk m c 5 t) (iblk m c 6 t) (iblk m c 7 t) (iblk m c 8 t) (iblk m c 9 t) (iblk m c 10 t) where
  e0 r q := (blk0 m c t r q).trans (v1_at m c r q)
  e1l b l := ((blk1 m c t b _).trans (v4_at m c b _)).trans (dif_pos l.isLt)
  e1r b l := by
    refine ((blk1 m c t b _).trans (v4_at m c b _)).trans ((dif_neg (by simp)).trans ?_)
    simp only [Nat.add_sub_cancel_left]
  e2l r l := ((blk2 m c t r _).trans (v32_at m c r _)).trans (dif_pos l.isLt)
  e2r r l := by
    refine ((blk2 m c t r _).trans (v32_at m c r _)).trans ((dif_neg (by simp)).trans ?_)
    simp only [Nat.add_sub_cancel_left]
  e3 r q := (blk3 m c t r q).trans (v46_at m c r q)
  e4 r q := (blk4 m c t r q).trans (v60_at m c r q)
  e5 z l := (blk5 m c t z l).trans (v61_at m c z l)
  e6 z l := (blk6 m c t z l).trans (v62_at m c z l)
  e7 z q := (blk7 m c t z q).trans (v63_at m c z q)
  e8 k q := (blk8 m c t k q).trans (v64_at m c k q)
  e9 z q := (blk9 m c t z q).trans (v65_at m c z q)
  e10 z q := (blk10 m c t z q).trans (v66_at m c z q)

/-- The kernel's first result. -/
theorem arr11_at (r : Fin 1024) (q : Fin 256) :
    ((dats m 0 c).arrAt 11 cfg0.N : Vec Ideal S1024x256 .bf16) (ix2 (n0 := 1024) (n1 := 256) r q)
      = rms (gain m c) (glu (w m c) (bias m c) fun q => gelu (yN (u m c)
          (fun t b g p => (hN (u m c) (h0r m c) (h0i m c) (ar m c) (ai m c) (br m c) (bi m c) t b g p).1)
          (fun t b g p => (hN (u m c) (h0r m c) (h0i m c) (ar m c) (ai m c) (br m c) (bi m c) t b g p).2)
          (cr m c) (ci m c) (d m c) ⟨r.val % 128, by omega⟩ ⟨r.val / 128, by omega⟩ q)) q := by
  have h : (dats m 0 c).arrAt 11 cfg0.N = truncf .bf16 (yF (iblk m c 0 t0_0) (iblk m c 1 t0_0) (iblk m c 2 t0_0) (iblk m c 3 t0_0)
      (iblk m c 4 t0_0) (iblk m c 5 t0_0) (iblk m c 6 t0_0) (iblk m c 7 t0_0) (iblk m c 8 t0_0) (iblk m c 9 t0_0) (iblk m c 10 t0_0)) bitsLt_bf16_f32 := by
    refine (dats m 0 c).arrAt_eq_of_after_last 11 t0_0 (by decide +kernel) _ fun j => ?_
    blk_simp
    rw [after0_11, outsAt0]
    simp only [out11_eq]
  rw [h]
  exact yF_at (layout m c t0_0) r q

/-- The kernel's second result. -/
theorem arr12_at (b : Fin 128) (l : Fin 2048) :
    ((dats m 0 c).arrAt 12 cfg0.N : Vec Ideal S128x2048 .f32) (ix2 (n0 := 128) (n1 := 2048) b l)
      = if h : l.val < 1024 then (hN (u m c) (h0r m c) (h0i m c) (ar m c) (ai m c) (br m c) (bi m c) 8 b ⟨l.val / 64, by omega⟩ ⟨l.val % 64, by omega⟩).1
        else (hN (u m c) (h0r m c) (h0i m c) (ar m c) (ai m c) (br m c) (bi m c) 8 b ⟨(l.val - 1024) / 64, by omega⟩ ⟨(l.val - 1024) % 64, by omega⟩).2 := by
  have h : (dats m 0 c).arrAt 12 cfg0.N = sides (stB (iblk m c 0 t0_0) (iblk m c 1 t0_0) (iblk m c 2 t0_0) (iblk m c 5 t0_0) (iblk m c 6 t0_0) 8).1
      (stB (iblk m c 0 t0_0) (iblk m c 1 t0_0) (iblk m c 2 t0_0) (iblk m c 5 t0_0) (iblk m c 6 t0_0) 8).2 := by
    refine (dats m 0 c).arrAt_eq_of_after_last 12 t0_0 (by decide +kernel) _ fun j => ?_
    blk_simp
    rw [after0_12, outsAt0]
    simp only [out12_eq]
  rw [h]
  exact sides_at (layout m c t0_0) b l
-- ==== Proof.S5Ref.lean ====
module
public import proofs.«01_k».proof.Proof.Gen.ReferenceIdeal.Run
public import proofs.«01_k».proof.Proof.S5Spec
@[expose] public section
set_option maxRecDepth 16384
noncomputable section
namespace Cert.Proof.S5Ref
open Idealize.ShloMosaic Idealize.SL.Sem Idealize.ShloMosaic.TcCoe Cert.ReferenceIdeal Cert.ReferenceIdeal.Gen Cert.ReferenceIdeal.Value
open Cert.Proof.S5Spec

variable (V0 : Valuation τ sig (Elt Ideal))

/-! The arguments read by coordinates. -/

/-- Argument 0 by coordinates. -/
def u : Fin 128 → Fin 8 → Fin 256 → EReal := fun a b c => (V0 (Proc.tc.devRef main_arg0) : Vec Ideal S128x8x256 .f32) (ix3 (n0 := 128) (n1 := 8) (n2 := 256) a b c)
/-- Argument 1 by coordinates. -/
def h0r : Fin 128 → Fin 16 → Fin 64 → EReal := fun a b c => (V0 (Proc.tc.devRef main_arg1) : Vec Ideal S128x16x64 .f32) (ix3 (n0 := 128) (n1 := 16) (n2 := 64) a b c)
/-- Argument 2 by coordinates. -/
def h0i : Fin 128 → Fin 16 → Fin 64 → EReal := fun a b c => (V0 (Proc.tc.devRef main_arg2) : Vec Ideal S128x16x64 .f32) (ix3 (n0 := 128) (n1 := 16) (n2 := 64) a b c)
/-- Argument 3 by coordinates. -/
def ar : Fin 16 → Fin 64 → EReal := fun a b => (V0 (Proc.tc.devRef main_arg3) : Vec Ideal S16x64 .f32) (ix2 (n0 := 16) (n1 := 64) a b)
/-- Argument 4 by coordinates. -/
def ai : Fin 16 → Fin 64 → EReal := fun a b => (V0 (Proc.tc.devRef main_arg4) : Vec Ideal S16x64 .f32) (ix2 (n0 := 16) (n1 := 64) a b)
/-- Argument 5 by coordinates. -/
def br : Fin 16 → Fin 64 → Fin 16 → EReal := fun a b c => (V0 (Proc.tc.devRef main_arg5) : Vec Ideal S16x64x16 .f32) (ix3 (n0 := 16) (n1 := 64) (n2 := 16) a b c)
/-- Argument 6 by coordinates. -/
def bi : Fin 16 → Fin 64 → Fin 16 → EReal := fun a b c => (V0 (Proc.tc.devRef main_arg6) : Vec Ideal S16x64x16 .f32) (ix3 (n0 := 16) (n1 := 64) (n2 := 16) a b c)
/-- Argument 7 by coordinates. -/
def cr : Fin 16 → Fin 16 → Fin 64 → EReal := fun a b c => (V0 (Proc.tc.devRef main_arg7) : Vec Ideal S16x16x64 .f32) (ix3 (n0 := 16) (n1 := 16) (n2 := 64) a b c)
/-- Argument 8 by coordinates. -/
def ci : Fin 16 → Fin 16 → Fin 64 → EReal := fun a b c => (V0 (Proc.tc.devRef main_arg8) : Vec Ideal S16x16x64 .f32) (ix3 (n0 := 16) (n1 := 16) (n2 := 64) a b c)
/-- Argument 9 by coordinates. -/
def d : Fin 256 → EReal := fun a => (V0 (Proc.tc.devRef main_arg9) : Vec Ideal S256 .f32) (ix1 (n0 := 256) a)
/-- Argument 10 by coordinates. -/
def w : Fin 256 → Fin 256 → EReal := fun a b => (V0 (Proc.tc.devRef main_arg10) : Vec Ideal S256x256 .f32) (ix2 (n0 := 256) (n1 := 256) a b)
/-- Argument 11 by coordinates. -/
def bias : Fin 256 → EReal := fun a => (V0 (Proc.tc.devRef main_arg11) : Vec Ideal S256 .f32) (ix1 (n0 := 256) a)
/-- Argument 12 by coordinates. -/
def gain : Fin 256 → EReal := fun a => (V0 (Proc.tc.devRef main_arg12) : Vec Ideal S256 .f32) (ix1 (n0 := 256) a)

/-- The states of the recurrence on the arguments. -/
def hs (t : ℕ) (b : Fin 128) (g : Fin 16) (p : Fin 64) : EReal × EReal :=
  hN (u V0) (h0r V0) (h0i V0) (ar V0) (ai V0) (br V0) (bi V0) t b g p

/-- The projected inputs, real part. -/
theorem v2_at (b : Fin 128) (t : Fin 8) (g : Fin 16) (p : Fin 64) :
    (res_main_v2 V0 : Vec Ideal S128x8x16x64 .f32) (ix4 (n0 := 128) (n1 := 8) (n2 := 16) (n3 := 64) b t g p)
      = xin (u V0) (br V0) b t g p := by
  unfold res_main_v2 res_main_v0
  pointwise
  rfl

/-- The projected inputs, imaginary part. -/
theorem v4_at (b : Fin 128) (t : Fin 8) (g : Fin 16) (p : Fin 64) :
    (res_main_v4 V0 : Vec Ideal S128x8x16x64 .f32) (ix4 (n0 := 128) (n1 := 8) (n2 := 16) (n3 := 64) b t g p)
      = xin (u V0) (bi V0) b t g p := by
  unfold res_main_v4 res_main_v0
  pointwise
  rfl

/-- The real part of the state after step 0. -/
theorem v14_at (b : Fin 128) (g : Fin 16) (p : Fin 64) :
    (res_main_v14 V0 : Vec Ideal S128x16x64 .f32) (ix3 (n0 := 128) (n1 := 16) (n2 := 64) b g p)
      = (hs V0 1 b g p).1 := by
  unfold res_main_v14
  pointwise
  erw [v2_at]
  rfl

/-- The imaginary part of the state after step 0. -/
theorem v24_at (b : Fin 128) (g : Fin 16) (p : Fin 64) :
    (res_main_v24 V0 : Vec Ideal S128x16x64 .f32) (ix3 (n0 := 128) (n1 := 16) (n2 := 64) b g p)
      = (hs V0 1 b g p).2 := by
  unfold res_main_v24
  pointwise
  erw [v4_at]
  rfl

/-- The real part of the state after step 1. -/
theorem v34_at (b : Fin 128) (g : Fin 16) (p : Fin 64) :
    (res_main_v34 V0 : Vec Ideal S128x16x64 .f32) (ix3 (n0 := 128) (n1 := 16) (n2 := 64) b g p)
      = (hs V0 2 b g p).1 := by
  unfold res_main_v34
  pointwise
  erw [v14_at, v24_at, v2_at]
  rfl

/-- The imaginary part of the state after step 1. -/
theorem v44_at (b : Fin 128) (g : Fin 16) (p : Fin 64) :
    (res_main_v44 V0 : Vec Ideal S128x16x64 .f32) (ix3 (n0 := 128) (n1 := 16) (n2 := 64) b g p)
      = (hs V0 2 b g p).2 := by
  unfold res_main_v44
  pointwise
  erw [v14_at, v24_at, v4_at]
  rfl

/-- The real part of the state after step 2. -/
theorem v54_at (b : Fin 128) (g : Fin 16) (p : Fin 64) :
    (res_main_v54 V0 : Vec Ideal S128x16x64 .f32) (ix3 (n0 := 128) (n1 := 16) (n2 := 64) b g p)
      = (hs V0 3 b g p).1 := by
  unfold res_main_v54
  pointwise
  erw [v34_at, v44_at, v2_at]
  rfl

/-- The imaginary part of the state after step 2. -/
theorem v64_at (b : Fin 128) (g : Fin 16) (p : Fin 64) :
    (res_main_v64 V0 : Vec Ideal S128x16x64 .f32) (ix3 (n0 := 128) (n1 := 16) (n2 := 64) b g p)
      = (hs V0 3 b g p).2 := by
  unfold res_main_v64
  pointwise
  erw [v34_at, v44_at, v4_at]
  rfl

/-- The real part of the state after step 3. -/
theorem v74_at (b : Fin 128) (g : Fin 16) (p : Fin 64) :
    (res_main_v74 V0 : Vec Ideal S128x16x64 .f32) (ix3 (n0 := 128) (n1 := 16) (n2 := 64) b g p)
      = (hs V0 4 b g p).1 := by
  unfold res_main_v74
  pointwise
  erw [v54_at, v64_at, v2_at]
  rfl

/-- The imaginary part of the state after step 3. -/
theorem v84_at (b : Fin 128) (g : Fin 16) (p : Fin 64) :
    (res_main_v84 V0 : Vec Ideal S128x16x64 .f32) (ix3 (n0 := 128) (n1 := 16) (n2 := 64) b g p)
      = (hs V0 4 b g p).2 := by
  unfold res_main_v84
  pointwise
  erw [v54_at, v64_at, v4_at]
  rfl

/-- The real part of the state after step 4. -/
theorem v94_at (b : Fin 128) (g : Fin 16) (p : Fin 64) :
    (res_main_v94 V0 : Vec Ideal S128x16x64 .f32) (ix3 (n0 := 128) (n1 := 16) (n2 := 64) b g p)
      = (hs V0 5 b g p).1 := by
  unfold res_main_v94
  pointwise
  erw [v74_at, v84_at, v2_at]
  rfl

/-- The imaginary part of the state after step 4. -/
theorem v104_at (b : Fin 128) (g : Fin 16) (p : Fin 64) :
    (res_main_v104 V0 : Vec Ideal S128x16x64 .f32) (ix3 (n0 := 128) (n1 := 16) (n2 := 64) b g p)
      = (hs V0 5 b g p).2 := by
  unfold res_main_v104
  pointwise
  erw [v74_at, v84_at, v4_at]
  rfl

/-- The real part of the state after step 5. -/
theorem v114_at (b : Fin 128) (g : Fin 16) (p : Fin 64) :
    (res_main_v114 V0 : Vec Ideal S128x16x64 .f32) (ix3 (n0 := 128) (n1 := 16) (n2 := 64) b g p)
      = (hs V0 6 b g p).1 := by
  unfold res_main_v114
  pointwise
  erw [v94_at, v104_at, v2_at]
  rfl

/-- The imaginary part of the state after step 5. -/
theorem v124_at (b : Fin 128) (g : Fin 16) (p : Fin 64) :
    (res_main_v124 V0 : Vec Ideal S128x16x64 .f32) (ix3 (n0 := 128) (n1 := 16) (n2 := 64) b g p)
      = (hs V0 6 b g p).2 := by
  unfold res_main_v124
  pointwise
  erw [v94_at, v104_at, v4_at]
  rfl

/-- The real part of the state after step 6. -/
theorem v134_at (b : Fin 128) (g : Fin 16) (p : Fin 64) :
    (res_main_v134 V0 : Vec Ideal S128x16x64 .f32) (ix3 (n0 := 128) (n1 := 16) (n2 := 64) b g p)
      = (hs V0 7 b g p).1 := by
  unfold res_main_v134
  pointwise
  erw [v114_at, v124_at, v2_at]
  rfl

/-- The imaginary part of the state after step 6. -/
theorem v144_at (b : Fin 128) (g : Fin 16) (p : Fin 64) :
    (res_main_v144 V0 : Vec Ideal S128x16x64 .f32) (ix3 (n0 := 128) (n1 := 16) (n2 := 64) b g p)
      = (hs V0 7 b g p).2 := by
  unfold res_main_v144
  pointwise
  erw [v114_at, v124_at, v4_at]
  rfl

/-- The real part of the state after step 7. -/
theorem v154_at (b : Fin 128) (g : Fin 16) (p : Fin 64) :
    (res_main_v154 V0 : Vec Ideal S128x16x64 .f32) (ix3 (n0 := 128) (n1 := 16) (n2 := 64) b g p)
      = (hs V0 8 b g p).1 := by
  unfold res_main_v154
  pointwise
  erw [v134_at, v144_at, v2_at]
  rfl

/-- The imaginary part of the state after step 7. -/
theorem v164_at (b : Fin 128) (g : Fin 16) (p : Fin 64) :
    (res_main_v164 V0 : Vec Ideal S128x16x64 .f32) (ix3 (n0 := 128) (n1 := 16) (n2 := 64) b g p)
      = (hs V0 8 b g p).2 := by
  unfold res_main_v164
  pointwise
  erw [v134_at, v144_at, v4_at]
  rfl

/-- The read-out of the states. -/
theorem v192_at (b : Fin 128) (t : Fin 8) (q : Fin 256) :
    (res_main_v192 V0 : Vec Ideal S128x8x256 .f32) (ix3 (n0 := 128) (n1 := 8) (n2 := 256) b t q)
      = yN (u V0) (fun t b g p => (hs V0 t b g p).1) (fun t b g p => (hs V0 t b g p).2) (cr V0) (ci V0) (d V0) b t q := by
  unfold res_main_v192
  pointwise
  unfold yN
  congr 1
  fin_cases t <;> simp <;> congr 1 <;> refine Finset.sum_congr rfl fun p _ => ?_
  · exact congrArg (cr V0 (gr q) (ch q) p * ·) (v14_at V0 b (gr q) p)
  · exact congrArg (ci V0 (gr q) (ch q) p * ·) (v24_at V0 b (gr q) p)
  · exact congrArg (cr V0 (gr q) (ch q) p * ·) (v34_at V0 b (gr q) p)
  · exact congrArg (ci V0 (gr q) (ch q) p * ·) (v44_at V0 b (gr q) p)
  · exact congrArg (cr V0 (gr q) (ch q) p * ·) (v54_at V0 b (gr q) p)
  · exact congrArg (ci V0 (gr q) (ch q) p * ·) (v64_at V0 b (gr q) p)
  · exact congrArg (cr V0 (gr q) (ch q) p * ·) (v74_at V0 b (gr q) p)
  · exact congrArg (ci V0 (gr q) (ch q) p * ·) (v84_at V0 b (gr q) p)
  · exact congrArg (cr V0 (gr q) (ch q) p * ·) (v94_at V0 b (gr q) p)
  · exact congrArg (ci V0 (gr q) (ch q) p * ·) (v104_at V0 b (gr q) p)
  · exact congrArg (cr V0 (gr q) (ch q) p * ·) (v114_at V0 b (gr q) p)
  · exact congrArg (ci V0 (gr q) (ch q) p * ·) (v124_at V0 b (gr q) p)
  · exact congrArg (cr V0 (gr q) (ch q) p * ·) (v134_at V0 b (gr q) p)
  · exact congrArg (ci V0 (gr q) (ch q) p * ·) (v144_at V0 b (gr q) p)
  · exact congrArg (cr V0 (gr q) (ch q) p * ·) (v154_at V0 b (gr q) p)
  · exact congrArg (ci V0 (gr q) (ch q) p * ·) (v164_at V0 b (gr q) p)

/-- The reference's activated row. -/
def act (b : Fin 128) (t : Fin 8) (q : Fin 256) : EReal :=
  gelu (yN (u V0) (fun t b g p => (hs V0 t b g p).1) (fun t b g p => (hs V0 t b g p).2) (cr V0) (ci V0) (d V0) b t q)

/-- After GELU. -/
theorem v205_at (b : Fin 128) (t : Fin 8) (q : Fin 256) :
    (res_main_v205 V0 : Vec Ideal S128x8x256 .f32) (ix3 (n0 := 128) (n1 := 8) (n2 := 256) b t q) = act V0 b t q := by
  unfold res_main_v205
  pointwise
  erw [v192_at]
  rfl

/-- After the gate. -/
theorem v216_at (b : Fin 128) (t : Fin 8) (q : Fin 256) :
    (res_main_v216 V0 : Vec Ideal S128x8x256 .f32) (ix3 (n0 := 128) (n1 := 8) (n2 := 256) b t q)
      = glu (w V0) (bias V0) (act V0 b t) q := by
  unfold res_main_v216
  pointwise
  unfold glu
  simp only [← v205_at]
  rfl

/-- The reference's first result by natural row and channel. -/
def out (r : Fin 1024) (q : Fin 256) : EReal :=
  rms (gain V0) (glu (w V0) (bias V0) (act V0 ⟨r.val % 128, Nat.mod_lt _ (by decide)⟩ ⟨r.val / 128, by omega⟩)) q

/-- The first result. -/
theorem out_at (r : Fin 1024) (q : Fin 256) (X : Vec Ideal S1024x256 .bf16) (hX : X = truncf .bf16 (shapeCast _ (transpose S8x128x256 [1, 0, 2] (mulf (mulf (res_main_v216 V0) (broadcastInDim S128x8x256 ![0, 1, 2] bcast_S128x8x1_S128x8x256_0_1_2 (Host.rsqrt (addf (Host.divf (broadcastInDim S128x8x1 ![0, 1] bcast_S128x8_S128x8x1_0_1 (Host.reduceAdd (mulf (res_main_v216 V0) (res_main_v216 V0)) (constant S_ .f32 0x00000000#32) reducesTo_S128x8x256_S128x8_d2 h_S_)) (broadcastInDim S128x8x1 ![] bcast_S_S128x8x1 (constant S_ .f32 0x43800000#32))) (broadcastInDim S128x8x1 ![] bcast_S_S128x8x1 (constant S_ .f32 0x358637BD#32)))))) (broadcastInDim S128x8x256 ![0, 1, 2] bcast_S1x1x256_S128x8x256_0_1_2 (broadcastInDim S1x1x256 ![2] bcast_S256_S1x1x256_2 (V0 (Proc.devRef .tc main_arg12))))) transposes_S128x8x256_S8x128x256_1_0_2) shapeCasts_S8x128x256_S1024x256) bitsLt_bf16_f32) :
    X (ix2 (n0 := 1024) (n1 := 256) r q) = out V0 r q := by
  subst hX
  pointwise
  unfold out rms
  simp only [← v216_at]
  rfl

/-- The second result: the last states, real part then imaginary part. -/
theorem last_at (b : Fin 128) (l : Fin 2048) (X : Vec Ideal S128x2048 .f32) (hX : X = concatenate S128x2048 1 [⟨S128x1024, (shapeCast _ (res_main_v154 V0) shapeCasts_S128x16x64_S128x1024)⟩, ⟨S128x1024, (shapeCast _ (res_main_v164 V0) shapeCasts_S128x16x64_S128x1024)⟩] concatenates_S128x1024_S128x1024_S128x2048_d1) :
    X (ix2 (n0 := 128) (n1 := 2048) b l)
      = if h : l.val < 1024 then (hs V0 8 b ⟨l.val / 64, by omega⟩ ⟨l.val % 64, by omega⟩).1
        else (hs V0 8 b ⟨(l.val - 1024) / 64, by omega⟩ ⟨(l.val - 1024) % 64, by omega⟩).2 := by
  subst hX
  pointwise
  split
  · exact v154_at V0 b _ _
  · exact v164_at V0 b _ _
-- ==== Proof.S5Claim.lean ====
module
public import proofs.«01_k».proof.Defs
public import proofs.«01_k».proof.Proof.S5Array
public import proofs.«01_k».proof.Proof.S5Ref
@[expose] public section
set_option maxRecDepth 16384
noncomputable section
namespace Cert.Proof.S5Claim
open Idealize.ShloMosaic Idealize.SL.Sem Idealize.ShloMosaic.TcCoe Idealize.ShloMosaic.StableHlo
open Cert.Proof.S5Spec

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs are launched on the same arguments. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

variable {m m' c}

/-- Argument 0 is the same on both sides. -/
theorem u_eq (H : Agree m m' c) : S5Ref.u (launchContents m' c) = S5.u m c := by
  obtain ⟨h, _⟩ := H
  unfold S5Ref.u S5.u
  rw [← h]
/-- Argument 1 is the same on both sides. -/
theorem h0r_eq (H : Agree m m' c) : S5Ref.h0r (launchContents m' c) = S5.h0r m c := by
  obtain ⟨_, h, _⟩ := H
  unfold S5Ref.h0r S5.h0r
  rw [← h]
/-- Argument 2 is the same on both sides. -/
theorem h0i_eq (H : Agree m m' c) : S5Ref.h0i (launchContents m' c) = S5.h0i m c := by
  obtain ⟨_, _, h, _⟩ := H
  unfold S5Ref.h0i S5.h0i
  rw [← h]
/-- Argument 3 is the same on both sides. -/
theorem ar_eq (H : Agree m m' c) : S5Ref.ar (launchContents m' c) = S5.ar m c := by
  obtain ⟨_, _, _, h, _⟩ := H
  unfold S5Ref.ar S5.ar
  rw [← h]
/-- Argument 4 is the same on both sides. -/
theorem ai_eq (H : Agree m m' c) : S5Ref.ai (launchContents m' c) = S5.ai m c := by
  obtain ⟨_, _, _, _, h, _⟩ := H
  unfold S5Ref.ai S5.ai
  rw [← h]
/-- Argument 5 is the same on both sides. -/
theorem br_eq (H : Agree m m' c) : S5Ref.br (launchContents m' c) = S5.br m c := by
  obtain ⟨_, _, _, _, _, h, _⟩ := H
  unfold S5Ref.br S5.br
  rw [← h]
/-- Argument 6 is the same on both sides. -/
theorem bi_eq (H : Agree m m' c) : S5Ref.bi (launchContents m' c) = S5.bi m c := by
  obtain ⟨_, _, _, _, _, _, h, _⟩ := H
  unfold S5Ref.bi S5.bi
  rw [← h]
/-- Argument 7 is the same on both sides. -/
theorem cr_eq (H : Agree m m' c) : S5Ref.cr (launchContents m' c) = S5.cr m c := by
  obtain ⟨_, _, _, _, _, _, _, h, _⟩ := H
  unfold S5Ref.cr S5.cr
  rw [← h]
/-- Argument 8 is the same on both sides. -/
theorem ci_eq (H : Agree m m' c) : S5Ref.ci (launchContents m' c) = S5.ci m c := by
  obtain ⟨_, _, _, _, _, _, _, _, h, _⟩ := H
  unfold S5Ref.ci S5.ci
  rw [← h]
/-- Argument 9 is the same on both sides. -/
theorem d_eq (H : Agree m m' c) : S5Ref.d (launchContents m' c) = S5.d m c := by
  obtain ⟨_, _, _, _, _, _, _, _, _, h, _⟩ := H
  unfold S5Ref.d S5.d
  rw [← h]
/-- Argument 10 is the same on both sides. -/
theorem w_eq (H : Agree m m' c) : S5Ref.w (launchContents m' c) = S5.w m c := by
  obtain ⟨_, _, _, _, _, _, _, _, _, _, h, _⟩ := H
  unfold S5Ref.w S5.w
  rw [← h]
/-- Argument 11 is the same on both sides. -/
theorem bias_eq (H : Agree m m' c) : S5Ref.bias (launchContents m' c) = S5.bias m c := by
  obtain ⟨_, _, _, _, _, _, _, _, _, _, _, h, _⟩ := H
  unfold S5Ref.bias S5.bias
  rw [← h]
/-- Argument 12 is the same on both sides. -/
theorem gain_eq (H : Agree m m' c) : S5Ref.gain (launchContents m' c) = S5.gain m c := by
  obtain ⟨_, _, _, _, _, _, _, _, _, _, _, _, h⟩ := H
  unfold S5Ref.gain S5.gain
  rw [← h]

/-- The states are the same on both sides. -/
theorem hs_eq (H : Agree m m' c) : S5Ref.hs (launchContents m' c)
    = hN (S5.u m c) (S5.h0r m c) (S5.h0i m c) (S5.ar m c) (S5.ai m c) (S5.br m c) (S5.bi m c) := by
  funext t b g p
  unfold S5Ref.hs
  rw [u_eq H, h0r_eq H, h0i_eq H, ar_eq H, ai_eq H, br_eq H, bi_eq H]

/-- The first results agree. -/
theorem first (H : Agree m m' c) (X : Vec Ideal Cert.ReferenceIdeal.S1024x256 .bf16)
    (hX : ∀ r q, X (ix2 (n0 := 1024) (n1 := 256) r q) = S5Ref.out (launchContents m' c) r q) :
    X = (Cert.KernelIdeal.Gen.dats m 0 c).arrAt 11 Cert.KernelIdeal.cfg0.N := by
  funext j
  idx_vars j
  refine (hX _ _).trans (Eq.trans ?_ (S5.arr11_at m c _ _).symm)
  unfold S5Ref.out S5Ref.act
  rw [hs_eq H, u_eq H, cr_eq H, ci_eq H, d_eq H, w_eq H, bias_eq H, gain_eq H]

/-- The second results agree. -/
theorem second (H : Agree m m' c) (X : Vec Ideal Cert.ReferenceIdeal.S128x2048 .f32)
    (hX : ∀ b l, X (ix2 (n0 := 128) (n1 := 2048) b l)
      = if h : l.val < 1024 then (S5Ref.hs (launchContents m' c) 8 b ⟨l.val / 64, by omega⟩ ⟨l.val % 64, by omega⟩).1
        else (S5Ref.hs (launchContents m' c) 8 b ⟨(l.val - 1024) / 64, by omega⟩ ⟨(l.val - 1024) % 64, by omega⟩).2) :
    X = (Cert.KernelIdeal.Gen.dats m 0 c).arrAt 12 Cert.KernelIdeal.cfg0.N := by
  funext j
  idx_vars j
  refine (hX _ _).trans (Eq.trans ?_ (S5.arr12_at m c _ _).symm)
  rw [hs_eq H]

/-- The kernel's results are the reference's, over the extended reals. -/
theorem algebraic : Cert.algebraic_KernelIdeal_ReferenceIdeal := fun m g m' g' _ hag =>
  ⟨fun c => (Cert.KernelIdeal.Gen.dats m 0 c).arrAt 11 Cert.KernelIdeal.cfg0.N,
   fun c => (Cert.KernelIdeal.Gen.dats m 0 c).arrAt 12 Cert.KernelIdeal.cfg0.N,
   Cert.KernelIdeal.Value.run_blocks m g,
   (θ_run _ _ _).mono (fun _ h c => ⟨(h c).1.trans (first (hag c) _ fun r q => S5Ref.out_at (launchContents m' c) r q _ rfl),
     (h c).2.1.trans (second (hag c) _ fun b l => S5Ref.last_at (launchContents m' c) b l _ rfl), (h c).2.2⟩)
     (Cert.ReferenceIdeal.Value.run m' g')⟩
end Cert.Proof.S5Claim
-- ==== Proof.PostArgs.lean ====
module
public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Pointwise
@[expose] public section
set_option maxRecDepth 16384
noncomputable section
namespace Cert.Proof.Post
open Idealize.ShloMosaic Idealize.SL.Sem Idealize.ShloMosaic.TcCoe

/-- The end of the layer (output projection, residual, adaLN, SwiGLU, residual): its arguments, read by coordinates. -/
structure Args where
  x : Fin 8 → Fin 2048 → Fin 1024 → EReal
  o0 : Fin 8 → Fin 2048 → Fin 256 → EReal
  o1 : Fin 8 → Fin 2048 → Fin 256 → EReal
  o2 : Fin 8 → Fin 2048 → Fin 256 → EReal
  o3 : Fin 8 → Fin 2048 → Fin 256 → EReal
  g1 : Fin 8 → Fin 1 → Fin 1024 → EReal
  sh : Fin 8 → Fin 1 → Fin 1024 → EReal
  sc : Fin 8 → Fin 1 → Fin 1024 → EReal
  g2 : Fin 8 → Fin 1 → Fin 1024 → EReal
  ng : Fin 1024 → EReal
  wo : Fin 1024 → Fin 1024 → EReal
  wg : Fin 1024 → Fin 2816 → EReal
  wu : Fin 1024 → Fin 2816 → EReal
  wd : Fin 2816 → Fin 1024 → EReal
  fg : Fin 1024 → EReal

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)

/-- The arguments in the kernel's memory. -/
def kArgs : Args where
  x := fun a b d => (m ((c : Thread Cert.Kernel2Ideal.nD Cert.Kernel2Ideal.τ).loc Cert.Kernel2Ideal.main_arg0) : Vec Ideal Cert.Kernel2Ideal.S8x2048x1024 .f32) (ix3 (n0 := 8) (n1 := 2048) (n2 := 1024) a b d)
  o0 := fun a b d => (m ((c : Thread Cert.Kernel2Ideal.nD Cert.Kernel2Ideal.τ).loc Cert.Kernel2Ideal.main_arg1) : Vec Ideal Cert.Kernel2Ideal.S8x2048x256 .f32) (ix3 (n0 := 8) (n1 := 2048) (n2 := 256) a b d)
  o1 := fun a b d => (m ((c : Thread Cert.Kernel2Ideal.nD Cert.Kernel2Ideal.τ).loc Cert.Kernel2Ideal.main_arg2) : Vec Ideal Cert.Kernel2Ideal.S8x2048x256 .f32) (ix3 (n0 := 8) (n1 := 2048) (n2 := 256) a b d)
  o2 := fun a b d => (m ((c : Thread Cert.Kernel2Ideal.nD Cert.Kernel2Ideal.τ).loc Cert.Kernel2Ideal.main_arg3) : Vec Ideal Cert.Kernel2Ideal.S8x2048x256 .f32) (ix3 (n0 := 8) (n1 := 2048) (n2 := 256) a b d)
  o3 := fun a b d => (m ((c : Thread Cert.Kernel2Ideal.nD Cert.Kernel2Ideal.τ).loc Cert.Kernel2Ideal.main_arg4) : Vec Ideal Cert.Kernel2Ideal.S8x2048x256 .f32) (ix3 (n0 := 8) (n1 := 2048) (n2 := 256) a b d)
  g1 := fun a b d => (m ((c : Thread Cert.Kernel2Ideal.nD Cert.Kernel2Ideal.τ).loc Cert.Kernel2Ideal.main_arg5) : Vec Ideal Cert.Kernel2Ideal.S8x1x1024 .f32) (ix3 (n0 := 8) (n1 := 1) (n2 := 1024) a b d)
  sh := fun a b d => (m ((c : Thread Cert.Kernel2Ideal.nD Cert.Kernel2Ideal.τ).loc Cert.Kernel2Ideal.main_arg6) : Vec Ideal Cert.Kernel2Ideal.S8x1x1024 .f32) (ix3 (n0 := 8) (n1 := 1) (n2 := 1024) a b d)
  sc := fun a b d => (m ((c : Thread Cert.Kernel2Ideal.nD Cert.Kernel2Ideal.τ).loc Cert.Kernel2Ideal.main_arg7) : Vec Ideal Cert.Kernel2Ideal.S8x1x1024 .f32) (ix3 (n0 := 8) (n1 := 1) (n2 := 1024) a b d)
  g2 := fun a b d => (m ((c : Thread Cert.Kernel2Ideal.nD Cert.Kernel2Ideal.τ).loc Cert.Kernel2Ideal.main_arg8) : Vec Ideal Cert.Kernel2Ideal.S8x1x1024 .f32) (ix3 (n0 := 8) (n1 := 1) (n2 := 1024) a b d)
  ng := fun a => (m ((c : Thread Cert.Kernel2Ideal.nD Cert.Kernel2Ideal.τ).loc Cert.Kernel2Ideal.main_arg9) : Vec Ideal Cert.Kernel2Ideal.S1024 .f32) (ix1 (n0 := 1024) a)
  wo := fun a b => (m ((c : Thread Cert.Kernel2Ideal.nD Cert.Kernel2Ideal.τ).loc Cert.Kernel2Ideal.main_arg10) : Vec Ideal Cert.Kernel2Ideal.S1024x1024 .f32) (ix2 (n0 := 1024) (n1 := 1024) a b)
  wg := fun a b => (m ((c : Thread Cert.Kernel2Ideal.nD Cert.Kernel2Ideal.τ).loc Cert.Kernel2Ideal.main_arg11) : Vec Ideal Cert.Kernel2Ideal.S1024x2816 .f32) (ix2 (n0 := 1024) (n1 := 2816) a b)
  wu := fun a b => (m ((c : Thread Cert.Kernel2Ideal.nD Cert.Kernel2Ideal.τ).loc Cert.Kernel2Ideal.main_arg12) : Vec Ideal Cert.Kernel2Ideal.S1024x2816 .f32) (ix2 (n0 := 1024) (n1 := 2816) a b)
  wd := fun a b => (m ((c : Thread Cert.Kernel2Ideal.nD Cert.Kernel2Ideal.τ).loc Cert.Kernel2Ideal.main_arg13) : Vec Ideal Cert.Kernel2Ideal.S2816x1024 .f32) (ix2 (n0 := 2816) (n1 := 1024) a b)
  fg := fun a => (m ((c : Thread Cert.Kernel2Ideal.nD Cert.Kernel2Ideal.τ).loc Cert.Kernel2Ideal.main_arg14) : Vec Ideal Cert.Kernel2Ideal.S1024 .f32) (ix1 (n0 := 1024) a)

/-- The arguments in the reference's memory. -/
def rArgs : Args where
  x := fun a b d => (m' ((c.tc : Thread Cert.Reference2Ideal.nD Cert.Reference2Ideal.τ).loc Cert.Reference2Ideal.main_arg0) : Vec Ideal Cert.Reference2Ideal.S8x2048x1024 .f32) (ix3 (n0 := 8) (n1 := 2048) (n2 := 1024) a b d)
  o0 := fun a b d => (m' ((c.tc : Thread Cert.Reference2Ideal.nD Cert.Reference2Ideal.τ).loc Cert.Reference2Ideal.main_arg1) : Vec Ideal Cert.Reference2Ideal.S8x2048x256 .f32) (ix3 (n0 := 8) (n1 := 2048) (n2 := 256) a b d)
  o1 := fun a b d => (m' ((c.tc : Thread Cert.Reference2Ideal.nD Cert.Reference2Ideal.τ).loc Cert.Reference2Ideal.main_arg2) : Vec Ideal Cert.Reference2Ideal.S8x2048x256 .f32) (ix3 (n0 := 8) (n1 := 2048) (n2 := 256) a b d)
  o2 := fun a b d => (m' ((c.tc : Thread Cert.Reference2Ideal.nD Cert.Reference2Ideal.τ).loc Cert.Reference2Ideal.main_arg3) : Vec Ideal Cert.Reference2Ideal.S8x2048x256 .f32) (ix3 (n0 := 8) (n1 := 2048) (n2 := 256) a b d)
  o3 := fun a b d => (m' ((c.tc : Thread Cert.Reference2Ideal.nD Cert.Reference2Ideal.τ).loc Cert.Reference2Ideal.main_arg4) : Vec Ideal Cert.Reference2Ideal.S8x2048x256 .f32) (ix3 (n0 := 8) (n1 := 2048) (n2 := 256) a b d)
  g1 := fun a b d => (m' ((c.tc : Thread Cert.Reference2Ideal.nD Cert.Reference2Ideal.τ).loc Cert.Reference2Ideal.main_arg5) : Vec Ideal Cert.Reference2Ideal.S8x1x1024 .f32) (ix3 (n0 := 8) (n1 := 1) (n2 := 1024) a b d)
  sh := fun a b d => (m' ((c.tc : Thread Cert.Reference2Ideal.nD Cert.Reference2Ideal.τ).loc Cert.Reference2Ideal.main_arg6) : Vec Ideal Cert.Reference2Ideal.S8x1x1024 .f32) (ix3 (n0 := 8) (n1 := 1) (n2 := 1024) a b d)
  sc := fun a b d => (m' ((c.tc : Thread Cert.Reference2Ideal.nD Cert.Reference2Ideal.τ).loc Cert.Reference2Ideal.main_arg7) : Vec Ideal Cert.Reference2Ideal.S8x1x1024 .f32) (ix3 (n0 := 8) (n1 := 1) (n2 := 1024) a b d)
  g2 := fun a b d => (m' ((c.tc : Thread Cert.Reference2Ideal.nD Cert.Reference2Ideal.τ).loc Cert.Reference2Ideal.main_arg8) : Vec Ideal Cert.Reference2Ideal.S8x1x1024 .f32) (ix3 (n0 := 8) (n1 := 1) (n2 := 1024) a b d)
  ng := fun a => (m' ((c.tc : Thread Cert.Reference2Ideal.nD Cert.Reference2Ideal.τ).loc Cert.Reference2Ideal.main_arg9) : Vec Ideal Cert.Reference2Ideal.S1024 .f32) (ix1 (n0 := 1024) a)
  wo := fun a b => (m' ((c.tc : Thread Cert.Reference2Ideal.nD Cert.Reference2Ideal.τ).loc Cert.Reference2Ideal.main_arg10) : Vec Ideal Cert.Reference2Ideal.S1024x1024 .f32) (ix2 (n0 := 1024) (n1 := 1024) a b)
  wg := fun a b => (m' ((c.tc : Thread Cert.Reference2Ideal.nD Cert.Reference2Ideal.τ).loc Cert.Reference2Ideal.main_arg11) : Vec Ideal Cert.Reference2Ideal.S1024x2816 .f32) (ix2 (n0 := 1024) (n1 := 2816) a b)
  wu := fun a b => (m' ((c.tc : Thread Cert.Reference2Ideal.nD Cert.Reference2Ideal.τ).loc Cert.Reference2Ideal.main_arg12) : Vec Ideal Cert.Reference2Ideal.S1024x2816 .f32) (ix2 (n0 := 1024) (n1 := 2816) a b)
  wd := fun a b => (m' ((c.tc : Thread Cert.Reference2Ideal.nD Cert.Reference2Ideal.τ).loc Cert.Reference2Ideal.main_arg13) : Vec Ideal Cert.Reference2Ideal.S2816x1024 .f32) (ix2 (n0 := 2816) (n1 := 1024) a b)
  fg := fun a => (m' ((c.tc : Thread Cert.Reference2Ideal.nD Cert.Reference2Ideal.τ).loc Cert.Reference2Ideal.main_arg14) : Vec Ideal Cert.Reference2Ideal.S1024 .f32) (ix1 (n0 := 1024) a)

/-- The two programs are launched on the same arguments. -/
def Agree : Prop :=
  m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
  ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
  ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
  ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
  ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
  ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
  ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
  ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
  ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
  ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
  ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
  ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
  ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
  ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
  ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)

variable {m m' c}

/-- So the two readings agree. -/
theorem args_eq (H : Agree m m' c) : rArgs m' c = kArgs m c := by
  obtain ⟨h0, h1, h2, h3, h4, h5, h6, h7, h8, h9, h10, h11, h12, h13, h14⟩ := H
  simp only [rArgs, kArgs, Args.mk.injEq]
  exact ⟨by rw [← h0], by rw [← h1], by rw [← h2], by rw [← h3], by rw [← h4], by rw [← h5], by rw [← h6], by rw [← h7], by rw [← h8], by rw [← h9], by rw [← h10], by rw [← h11], by rw [← h12], by rw [← h13], by rw [← h14]⟩

end Cert.Proof.Post
-- ==== Proof.PostHost.lean ====
module
public import proofs.«01_k».proof.Proof.PostArgs
public import Idealize.ShloMosaic.Lib.StableHlo.RunRead
@[expose] public section
set_option maxRecDepth 16384
noncomputable section
namespace Cert.Proof.Post
open Idealize.ShloMosaic Idealize.SL.Sem Idealize.ShloMosaic.TcCoe Cert.Kernel2Ideal Cert.Kernel2Ideal.Gen
variable (m : (ℓ : Loc nD τ sig) → Buf (Elt Ideal) ℓ) (c : Dev nD)

/-- The sequence of grid point `t`. -/
def sq (t : Fin cfg0.N) : Fin 8 := ⟨(grid0.coords t 0).val, (grid0.coords t 0).isLt⟩

/-- Position `r` of grid point `t`'s 512 positions. -/
def row (t : Fin cfg0.N) (r : Fin 512) : Fin 2048 :=
  ⟨(grid0.coords t 1).val * 512 + r.val, by have : (grid0.coords t 1).val < 4 := (grid0.coords t 1).isLt; omega⟩

/-- Mixer 1: a row for a position, the sequences side by side. -/
theorem v2_at (r : Fin 2048) (q : Fin 2048) :
    (V m c main_v2 : Vec Ideal S2048x2048 .bf16) (ix2 (n0 := 2048) (n1 := 2048) r q) = (kArgs m c).o0 ⟨q.val / 256, by omega⟩ r ⟨q.val % 256, by omega⟩ := by
  unfold_abbrev_sides
  after_reads_simp
  pointwise

/-- Mixer 2: a row for a position, the sequences side by side. -/
theorem v5_at (r : Fin 2048) (q : Fin 2048) :
    (V m c main_v5 : Vec Ideal S2048x2048 .bf16) (ix2 (n0 := 2048) (n1 := 2048) r q) = (kArgs m c).o1 ⟨q.val / 256, by omega⟩ r ⟨q.val % 256, by omega⟩ := by
  unfold_abbrev_sides
  after_reads_simp
  pointwise

/-- Mixer 3: a row for a position, the sequences side by side. -/
theorem v8_at (r : Fin 2048) (q : Fin 2048) :
    (V m c main_v8 : Vec Ideal S2048x2048 .bf16) (ix2 (n0 := 2048) (n1 := 2048) r q) = (kArgs m c).o2 ⟨q.val / 256, by omega⟩ r ⟨q.val % 256, by omega⟩ := by
  unfold_abbrev_sides
  after_reads_simp
  pointwise

/-- Mixer 4: a row for a position, the sequences side by side. -/
theorem v11_at (r : Fin 2048) (q : Fin 2048) :
    (V m c main_v11 : Vec Ideal S2048x2048 .bf16) (ix2 (n0 := 2048) (n1 := 2048) r q) = (kArgs m c).o3 ⟨q.val / 256, by omega⟩ r ⟨q.val % 256, by omega⟩ := by
  unfold_abbrev_sides
  after_reads_simp
  pointwise

/-- The norm gain as one row. -/
theorem v12_at (r : Fin 1) (q : Fin 1024) :
    (V m c main_v12 : Vec Ideal S1x1024 .f32) (ix2 (n0 := 1) (n1 := 1024) r q) = (kArgs m c).ng q := by
  unfold_abbrev_sides
  after_reads_simp
  pointwise

/-- The output projection. -/
theorem v13_at (r : Fin 1024) (q : Fin 1024) :
    (V m c main_v13 : Vec Ideal S1024x1024 .bf16) (ix2 (n0 := 1024) (n1 := 1024) r q) = (kArgs m c).wo r q := by
  unfold_abbrev_sides
  after_reads_simp
  pointwise

/-- The gate matrix. -/
theorem v14_at (r : Fin 1024) (q : Fin 2816) :
    (V m c main_v14 : Vec Ideal S1024x2816 .bf16) (ix2 (n0 := 1024) (n1 := 2816) r q) = (kArgs m c).wg r q := by
  unfold_abbrev_sides
  after_reads_simp
  pointwise

/-- The up matrix. -/
theorem v15_at (r : Fin 1024) (q : Fin 2816) :
    (V m c main_v15 : Vec Ideal S1024x2816 .bf16) (ix2 (n0 := 1024) (n1 := 2816) r q) = (kArgs m c).wu r q := by
  unfold_abbrev_sides
  after_reads_simp
  pointwise

/-- The down matrix. -/
theorem v16_at (r : Fin 2816) (q : Fin 1024) :
    (V m c main_v16 : Vec Ideal S2816x1024 .bf16) (ix2 (n0 := 2816) (n1 := 1024) r q) = (kArgs m c).wd r q := by
  unfold_abbrev_sides
  after_reads_simp
  pointwise

/-- Window 0 does not move, or moves as stated. -/
theorem i0 : ∀ t : Fin cfg0.N, win0_0.index t = ![(grid0.coords t 0).val, (grid0.coords t 1).val, 0] := (by decide +kernel : ∀ t : Fin grid0.N, _)
/-- Window 0's block. -/
theorem blk0 (t : Fin cfg0.N) (z : Fin 1) (r : Fin 512) (q : Fin 1024) :
    (iblk m c 0 t : Vec Ideal S1x512x1024 .f32) (ix3 (n0 := 1) (n1 := 512) (n2 := 1024) z r q) = (kArgs m c).x (sq t) (row t r) q := by
  blk_simp [iblk]
  rw [show V m c main_arg0 = _ from V_main_arg0 m c]
  refine congrArg (m ((c : Thread nD τ).loc main_arg0)) (a₂ := ix3 (n0 := 8) (n1 := 2048) (n2 := 1024) (sq t) (row t r) q) ?_
  refine funext fun a => Fin.ext ?_
  blk_simp [i0]
  fin_cases a <;> simp [sq, row] <;> rfl

/-- Window 5 does not move, or moves as stated. -/
theorem i5 : ∀ t : Fin cfg0.N, win0_5.index t = ![(grid0.coords t 0).val, 0, 0] := (by decide +kernel : ∀ t : Fin grid0.N, _)
/-- Window 5's block. -/
theorem blk5 (t : Fin cfg0.N) (y z : Fin 1) (q : Fin 1024) :
    (iblk m c 5 t : Vec Ideal S1x1x1024 .f32) (ix3 (n0 := 1) (n1 := 1) (n2 := 1024) y z q) = (kArgs m c).g1 (sq t) z q := by
  blk_simp [iblk]
  rw [show V m c main_arg5 = _ from V_main_arg5 m c]
  refine congrArg (m ((c : Thread nD τ).loc main_arg5)) (a₂ := ix3 (n0 := 8) (n1 := 1) (n2 := 1024) (sq t) z q) ?_
  refine funext fun a => Fin.ext ?_
  blk_simp [i5]
  fin_cases a <;> simp [sq, row] <;> rfl

/-- Window 6 does not move, or moves as stated. -/
theorem i6 : ∀ t : Fin cfg0.N, win0_6.index t = ![(grid0.coords t 0).val, 0, 0] := (by decide +kernel : ∀ t : Fin grid0.N, _)
/-- Window 6's block. -/
theorem blk6 (t : Fin cfg0.N) (y z : Fin 1) (q : Fin 1024) :
    (iblk m c 6 t : Vec Ideal S1x1x1024 .f32) (ix3 (n0 := 1) (n1 := 1) (n2 := 1024) y z q) = (kArgs m c).sh (sq t) z q := by
  blk_simp [iblk]
  rw [show V m c main_arg6 = _ from V_main_arg6 m c]
  refine congrArg (m ((c : Thread nD τ).loc main_arg6)) (a₂ := ix3 (n0 := 8) (n1 := 1) (n2 := 1024) (sq t) z q) ?_
  refine funext fun a => Fin.ext ?_
  blk_simp [i6]
  fin_cases a <;> simp [sq, row] <;> rfl

/-- Window 7 does not move, or moves as stated. -/
theorem i7 : ∀ t : Fin cfg0.N, win0_7.index t = ![(grid0.coords t 0).val, 0, 0] := (by decide +kernel : ∀ t : Fin grid0.N, _)
/-- Window 7's block. -/
theorem blk7 (t : Fin cfg0.N) (y z : Fin 1) (q : Fin 1024) :
    (iblk m c 7 t : Vec Ideal S1x1x1024 .f32) (ix3 (n0 := 1) (n1 := 1) (n2 := 1024) y z q) = (kArgs m c).sc (sq t) z q := by
  blk_simp [iblk]
  rw [show V m c main_arg7 = _ from V_main_arg7 m c]
  refine congrArg (m ((c : Thread nD τ).loc main_arg7)) (a₂ := ix3 (n0 := 8) (n1 := 1) (n2 := 1024) (sq t) z q) ?_
  refine funext fun a => Fin.ext ?_
  blk_simp [i7]
  fin_cases a <;> simp [sq, row] <;> rfl

/-- Window 8 does not move, or moves as stated. -/
theorem i8 : ∀ t : Fin cfg0.N, win0_8.index t = ![(grid0.coords t 0).val, 0, 0] := (by decide +kernel : ∀ t : Fin grid0.N, _)
/-- Window 8's block. -/
theorem blk8 (t : Fin cfg0.N) (y z : Fin 1) (q : Fin 1024) :
    (iblk m c 8 t : Vec Ideal S1x1x1024 .f32) (ix3 (n0 := 1) (n1 := 1) (n2 := 1024) y z q) = (kArgs m c).g2 (sq t) z q := by
  blk_simp [iblk]
  rw [show V m c main_arg8 = _ from V_main_arg8 m c]
  refine congrArg (m ((c : Thread nD τ).loc main_arg8)) (a₂ := ix3 (n0 := 8) (n1 := 1) (n2 := 1024) (sq t) z q) ?_
  refine funext fun a => Fin.ext ?_
  blk_simp [i8]
  fin_cases a <;> simp [sq, row] <;> rfl

/-- Window 1 does not move, or moves as stated. -/
theorem i1 : ∀ t : Fin cfg0.N, win0_1.index t = ![(grid0.coords t 1).val, (grid0.coords t 0).val] := (by decide +kernel : ∀ t : Fin grid0.N, _)
/-- Window 1's block. -/
theorem blk1 (t : Fin cfg0.N) (r : Fin 512) (q : Fin 256) :
    (iblk m c 1 t : Vec Ideal S512x256 .bf16) (ix2 (n0 := 512) (n1 := 256) r q) = (kArgs m c).o0 (sq t) (row t r) q := by
  blk_simp [iblk]
  refine (congrArg (V m c main_v2) (a₂ := ix2 (n0 := 2048) (n1 := 2048) (row t r) ⟨(sq t).val * 256 + q.val, by have := (sq t).isLt; omega⟩) ?_).trans ?_
  · refine funext fun a => Fin.ext ?_
    blk_simp [i1]
    fin_cases a <;> simp [sq, row] <;> rfl
  · refine (v2_at m c _ _).trans (congrArg₂ (fun s q => (kArgs m c).o0 s (row t r) q) (Fin.ext ?_) (Fin.ext ?_))
    · show ((sq t).val * 256 + q.val) / 256 = (sq t).val; omega
    · show ((sq t).val * 256 + q.val) % 256 = q.val; omega

/-- Window 2 does not move, or moves as stated. -/
theorem i2 : ∀ t : Fin cfg0.N, win0_2.index t = ![(grid0.coords t 1).val, (grid0.coords t 0).val] := (by decide +kernel : ∀ t : Fin grid0.N, _)
/-- Window 2's block. -/
theorem blk2 (t : Fin cfg0.N) (r : Fin 512) (q : Fin 256) :
    (iblk m c 2 t : Vec Ideal S512x256 .bf16) (ix2 (n0 := 512) (n1 := 256) r q) = (kArgs m c).o1 (sq t) (row t r) q := by
  blk_simp [iblk]
  refine (congrArg (V m c main_v5) (a₂ := ix2 (n0 := 2048) (n1 := 2048) (row t r) ⟨(sq t).val * 256 + q.val, by have := (sq t).isLt; omega⟩) ?_).trans ?_
  · refine funext fun a => Fin.ext ?_
    blk_simp [i2]
    fin_cases a <;> simp [sq, row] <;> rfl
  · refine (v5_at m c _ _).trans (congrArg₂ (fun s q => (kArgs m c).o1 s (row t r) q) (Fin.ext ?_) (Fin.ext ?_))
    · show ((sq t).val * 256 + q.val) / 256 = (sq t).val; omega
    · show ((sq t).val * 256 + q.val) % 256 = q.val; omega

/-- Window 3 does not move, or moves as stated. -/
theorem i3 : ∀ t : Fin cfg0.N, win0_3.index t = ![(grid0.coords t 1).val, (grid0.coords t 0).val] := (by decide +kernel : ∀ t : Fin grid0.N, _)
/-- Window 3's block. -/
theorem blk3 (t : Fin cfg0.N) (r : Fin 512) (q : Fin 256) :
    (iblk m c 3 t : Vec Ideal S512x256 .bf16) (ix2 (n0 := 512) (n1 := 256) r q) = (kArgs m c).o2 (sq t) (row t r) q := by
  blk_simp [iblk]
  refine (congrArg (V m c main_v8) (a₂ := ix2 (n0 := 2048) (n1 := 2048) (row t r) ⟨(sq t).val * 256 + q.val, by have := (sq t).isLt; omega⟩) ?_).trans ?_
  · refine funext fun a => Fin.ext ?_
    blk_simp [i3]
    fin_cases a <;> simp [sq, row] <;> rfl
  · refine (v8_at m c _ _).trans (congrArg₂ (fun s q => (kArgs m c).o2 s (row t r) q) (Fin.ext ?_) (Fin.ext ?_))
    · show ((sq t).val * 256 + q.val) / 256 = (sq t).val; omega
    · show ((sq t).val * 256 + q.val) % 256 = q.val; omega

/-- Window 4 does not move, or moves as stated. -/
theorem i4 : ∀ t : Fin cfg0.N, win0_4.index t = ![(grid0.coords t 1).val, (grid0.coords t 0).val] := (by decide +kernel : ∀ t : Fin grid0.N, _)
/-- Window 4's block. -/
theorem blk4 (t : Fin cfg0.N) (r : Fin 512) (q : Fin 256) :
    (iblk m c 4 t : Vec Ideal S512x256 .bf16) (ix2 (n0 := 512) (n1 := 256) r q) = (kArgs m c).o3 (sq t) (row t r) q := by
  blk_simp [iblk]
  refine (congrArg (V m c main_v11) (a₂ := ix2 (n0 := 2048) (n1 := 2048) (row t r) ⟨(sq t).val * 256 + q.val, by have := (sq t).isLt; omega⟩) ?_).trans ?_
  · refine funext fun a => Fin.ext ?_
    blk_simp [i4]
    fin_cases a <;> simp [sq, row] <;> rfl
  · refine (v11_at m c _ _).trans (congrArg₂ (fun s q => (kArgs m c).o3 s (row t r) q) (Fin.ext ?_) (Fin.ext ?_))
    · show ((sq t).val * 256 + q.val) / 256 = (sq t).val; omega
    · show ((sq t).val * 256 + q.val) % 256 = q.val; omega

/-- Window 9 does not move, or moves as stated. -/
theorem i9 : ∀ t : Fin cfg0.N, win0_9.index t = ![0, 0] := (by decide +kernel : ∀ t : Fin grid0.N, _)
/-- Window 9's block. -/
theorem blk9 (t : Fin cfg0.N) (r : Fin 1) (q : Fin 1024) :
    (iblk m c 9 t : Vec Ideal S1x1024 .f32) (ix2 (n0 := 1) (n1 := 1024) r q) = (kArgs m c).ng q := by
  blk_simp [iblk]
  refine (congrArg (V m c main_v12) (a₂ := ix2 (n0 := 1) (n1 := 1024) r q) ?_).trans ?_
  · refine funext fun a => Fin.ext ?_
    blk_simp [i9]
    fin_cases a <;> simp [sq, row] <;> rfl
  · exact v12_at m c _ _

/-- Window 10 does not move, or moves as stated. -/
theorem i10 : ∀ t : Fin cfg0.N, win0_10.index t = ![0, 0] := (by decide +kernel : ∀ t : Fin grid0.N, _)
/-- Window 10's block. -/
theorem blk10 (t : Fin cfg0.N) (r : Fin 1024) (q : Fin 1024) :
    (iblk m c 10 t : Vec Ideal S1024x1024 .bf16) (ix2 (n0 := 1024) (n1 := 1024) r q) = (kArgs m c).wo r q := by
  blk_simp [iblk]
  refine (congrArg (V m c main_v13) (a₂ := ix2 (n0 := 1024) (n1 := 1024) r q) ?_).trans ?_
  · refine funext fun a => Fin.ext ?_
    blk_simp [i10]
    fin_cases a <;> simp [sq, row] <;> rfl
  · exact v13_at m c _ _

/-- Window 11 does not move, or moves as stated. -/
theorem i11 : ∀ t : Fin cfg0.N, win0_11.index t = ![0, 0] := (by decide +kernel : ∀ t : Fin grid0.N, _)
/-- Window 11's block. -/
theorem blk11 (t : Fin cfg0.N) (r : Fin 1024) (q : Fin 2816) :
    (iblk m c 11 t : Vec Ideal S1024x2816 .bf16) (ix2 (n0 := 1024) (n1 := 2816) r q) = (kArgs m c).wg r q := by
  blk_simp [iblk]
  refine (congrArg (V m c main_v14) (a₂ := ix2 (n0 := 1024) (n1 := 2816) r q) ?_).trans ?_
  · refine funext fun a => Fin.ext ?_
    blk_simp [i11]
    fin_cases a <;> simp [sq, row] <;> rfl
  · exact v14_at m c _ _

/-- Window 12 does not move, or moves as stated. -/
theorem i12 : ∀ t : Fin cfg0.N, win0_12.index t = ![0, 0] := (by decide +kernel : ∀ t : Fin grid0.N, _)
/-- Window 12's block. -/
theorem blk12 (t : Fin cfg0.N) (r : Fin 1024) (q : Fin 2816) :
    (iblk m c 12 t : Vec Ideal S1024x2816 .bf16) (ix2 (n0 := 1024) (n1 := 2816) r q) = (kArgs m c).wu r q := by
  blk_simp [iblk]
  refine (congrArg (V m c main_v15) (a₂ := ix2 (n0 := 1024) (n1 := 2816) r q) ?_).trans ?_
  · refine funext fun a => Fin.ext ?_
    blk_simp [i12]
    fin_cases a <;> simp [sq, row] <;> rfl
  · exact v15_at m c _ _

/-- Window 13 does not move, or moves as stated. -/
theorem i13 : ∀ t : Fin cfg0.N, win0_13.index t = ![0, 0] := (by decide +kernel : ∀ t : Fin grid0.N, _)
/-- Window 13's block. -/
theorem blk13 (t : Fin cfg0.N) (r : Fin 2816) (q : Fin 1024) :
    (iblk m c 13 t : Vec Ideal S2816x1024 .bf16) (ix2 (n0 := 2816) (n1 := 1024) r q) = (kArgs m c).wd r q := by
  blk_simp [iblk]
  refine (congrArg (V m c main_v16) (a₂ := ix2 (n0 := 2816) (n1 := 1024) r q) ?_).trans ?_
  · refine funext fun a => Fin.ext ?_
    blk_simp [i13]
    fin_cases a <;> simp [sq, row] <;> rfl
  · exact v16_at m c _ _

end Cert.Proof.Post
-- ==== Proof.PostSpec.lean ====
module
public import proofs.«01_k».proof.Proof.PostArgs
@[expose] public section
set_option maxRecDepth 16384
noncomputable section
namespace Cert.Proof.Post
open Idealize.ShloMosaic
variable (A : Args)

/-- The four mixers' outputs at one position, side by side. -/
def mix (b : Fin 8) (t : Fin 2048) (k : Fin 1024) : EReal :=
  if h : k.val < 256 then A.o0 b t ⟨k.val, h⟩
  else if h' : k.val - 256 < 256 then A.o1 b t ⟨k.val - 256, h'⟩
  else if h'' : k.val - 256 - 256 < 256 then A.o2 b t ⟨k.val - 256 - 256, h''⟩
  else A.o3 b t ⟨k.val - 256 - 256 - 256, by omega⟩

/-- The residual after the mixers: `x + g1 * (mix @ w_out)`. -/
def res (b : Fin 8) (t : Fin 2048) (q : Fin 1024) : EReal :=
  A.x b t q + A.g1 b 0 q * ∑ k : Fin 1024, mix A b t k * A.wo k q

/-- Its norm, with the gain. -/
def nrm (b : Fin 8) (t : Fin 2048) (q : Fin 1024) : EReal :=
  res A b t q * Ideal.rsqrt (Ideal.div (∑ k : Fin 1024, res A b t k * res A b t k) (Ideal.ofBits FTy.f32 0x44800000#32)
    + Ideal.ofBits FTy.f32 0x358637BD#32) * A.ng q

/-- The norm scaled and shifted by the conditioning. -/
def hid (b : Fin 8) (t : Fin 2048) (q : Fin 1024) : EReal := nrm A b t q * (1 + A.sc b 0 q) + A.sh b 0 q

/-- The gate's projection. -/
def gate (b : Fin 8) (t : Fin 2048) (j : Fin 2816) : EReal := ∑ k : Fin 1024, hid A b t k * A.wg k j

/-- The hidden activation: `silu gate * up`. -/
def act (b : Fin 8) (t : Fin 2048) (j : Fin 2816) : EReal :=
  gate A b t j * Ideal.div 1 (1 + Ideal.exp (-gate A b t j)) * ∑ k : Fin 1024, hid A b t k * A.wu k j

/-- The result. -/
def out (b : Fin 8) (t : Fin 2048) (q : Fin 1024) : EReal :=
  res A b t q + A.g2 b 0 q * ∑ j : Fin 2816, act A b t j * A.wd j q

end Cert.Proof.Post
-- ==== Proof.PostBlock.lean ====
module
public import proofs.«01_k».proof.Proof.PostHost
public import proofs.«01_k».proof.Proof.PostSpec
@[expose] public section
set_option maxRecDepth 16384
noncomputable section
namespace Cert.Proof.Post
open Idealize.ShloMosaic Idealize.SL.Sem Idealize.ShloMosaic.TcCoe Cert.Kernel2Ideal Cert.Kernel2Ideal.Gen
variable (m : (ℓ : Loc nD τ sig) → Buf (Elt Ideal) ℓ) (c : Dev nD) (t : Fin cfg0.N)

/-- The body's residual after the mixers, from the blocks of point `t`. -/
def bRes : FVec Ideal S512x1024 .f32 :=
  k0_pay2 (iblk m c 1 t) (iblk m c 2 t) (iblk m c 3 t) (iblk m c 4 t) (iblk m c 10 t) (iblk m c 0 t) (iblk m c 5 t)

/-- It is the residual of the point's positions. -/
theorem bRes_at (r : Fin 512) (q : Fin 1024) :
    bRes m c t (ix2 (n0 := 512) (n1 := 1024) r q) = res (kArgs m c) (sq t) (row t r) q := by
  unfold bRes k0_pay2
  pointwise
  simp only [blk0, blk1, blk2, blk3, blk4, blk5, blk10]
  exact congrArg (_ + ·) (mul_comm _ _)

/-- The body's norm. -/
def bNrm : FVec Ideal S512x1024 .f32 :=
  k0_pay3 (iblk m c 1 t) (iblk m c 2 t) (iblk m c 3 t) (iblk m c 4 t) (iblk m c 10 t) (iblk m c 0 t) (iblk m c 5 t) (iblk m c 9 t)

/-- It is the norm of the point's positions. -/
theorem bNrm_at (r : Fin 512) (q : Fin 1024) :
    bNrm m c t (ix2 (n0 := 512) (n1 := 1024) r q) = nrm (kArgs m c) (sq t) (row t r) q := by
  unfold bNrm k0_pay3
  rw [← bRes]
  pointwise
  simp only [bRes_at, blk9]
  rfl

/-- The body's operand of the two wide products. -/
theorem bHid_at (r : Fin 512) (q : Fin 1024) :
    k0_pay4 (bNrm m c t) (iblk m c 7 t) (iblk m c 6 t) (ix2 (n0 := 512) (n1 := 1024) r q) = hid (kArgs m c) (sq t) (row t r) q := by
  unfold k0_pay4
  pointwise
  simp only [bNrm_at, blk6, blk7]
  rfl

/-- Hidden column `j` of the first half. -/
def lo (j : Fin 1408) : Fin 2816 := ⟨j.val, by omega⟩
/-- Hidden column `j` of the second half. -/
def hi (j : Fin 1408) : Fin 2816 := ⟨1408 + j.val, by omega⟩

/-- A sum over the hidden columns is the sum over the two halves. -/
theorem sum_halves (f : Fin 2816 → EReal) : ∑ j, f j = ∑ j, f (lo j) + ∑ j, f (hi j) := by
  rw [show (∑ j, f j) = ∑ j : Fin (1408 + 1408), f j from rfl, Fin.sum_univ_add]
  refine congrArg₂ (· + ·) (Finset.sum_congr rfl fun j _ => congrArg f (Fin.ext ?_)) (Finset.sum_congr rfl fun j _ => congrArg f (Fin.ext ?_))
  · rfl
  · rfl

/-- The first half of the hidden columns: the body's sum. -/
theorem bLo_at (r : Fin 512) (q : Fin 1024) :
    k0_pay5 (bNrm m c t) (iblk m c 7 t) (iblk m c 6 t) (View.ld (iblk m c 11 t) r0_5) (View.ld (iblk m c 12 t) r0_5)
        (View.ld (iblk m c 13 t) r0_6) (ix2 (n0 := 512) (n1 := 1024) r q)
      = ∑ j, act (kArgs m c) (sq t) (row t r) (lo j) * (kArgs m c).wd (lo j) q := by
  unfold k0_pay5
  pointwise
  simp only [bHid_at]
  simp only [blk11, blk12, blk13]
  rfl

/-- The second half of the hidden columns: the body's activation. -/
theorem bHi_at (r : Fin 512) (j : Fin 1408) :
    k0_pay6 (bNrm m c t) (iblk m c 7 t) (iblk m c 6 t) (View.ld (iblk m c 11 t) r0_7) (View.ld (iblk m c 12 t) r0_7)
        (ix2 (n0 := 512) (n1 := 1408) r j)
      = act (kArgs m c) (sq t) (row t r) (hi j) := by
  unfold k0_pay6
  pointwise
  simp only [bHid_at, blk11, blk12]
  rfl

/-- What the body stores at point `t` is the result at its positions. -/
theorem out_at (z : Fin 1) (r : Fin 512) (q : Fin 1024) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
      (ix3 (n0 := 1) (n1 := 512) (n2 := 1024) z r q) = out (kArgs m c) (sq t) (row t r) q := by
  frame_out
  rw [← bRes]
  unfold k0_pay8
  frame_out
  rw [← bNrm]
  unfold k0_pay1 k0_pay7
  pointwise
  simp only [bRes_at, blk8, blk13]
  unfold out
  rw [sum_halves, mul_comm ((kArgs m c).g2 (sq t) 0 q)]
  refine congrArg₂ (· + ·) rfl (congrArg₂ (· * ·) (congrArg₂ (· + ·) ?_ (Finset.sum_congr rfl fun j _ => ?_)) rfl)
  · exact bLo_at m c t r q
  · exact congrArg₂ (· * ·) (bHi_at m c t r j) rfl

end Cert.Proof.Post
-- ==== Proof.PostRef.lean ====
module
public import proofs.«01_k».proof.Proof.PostSpec
@[expose] public section
set_option maxRecDepth 16384
noncomputable section
namespace Cert.Proof.Post
open Idealize.ShloMosaic Idealize.SL.Sem Idealize.ShloMosaic.TcCoe Cert.Reference2Ideal Cert.Reference2Ideal.Gen Cert.Reference2Ideal.Value
variable (m' : (ℓ : Loc nD τ sig) → Buf (Elt Ideal) ℓ) (c : Dev nD)

/-- The reference's result at an index. -/
theorem ref_at (b : Fin 8) (t : Fin 2048) (q : Fin 1024) :
    (res_main_v31 m' c : Vec Ideal S8x2048x1024 .f32) (ix3 (n0 := 8) (n1 := 2048) (n2 := 1024) b t q) = out (rArgs m' c) b t q := by
  unfold res_main_v31
  pointwise
  rfl

end Cert.Proof.Post
-- ==== Proof.PostClaim.lean ====
module
public import proofs.«01_k».proof.Proof.PostBlock
public import proofs.«01_k».proof.Proof.PostRef
@[expose] public section
set_option maxRecDepth 16384
noncomputable section
namespace Cert.Proof.Post
open Idealize.ShloMosaic Idealize.SL.Sem Idealize.ShloMosaic.TcCoe Cert.Kernel2Ideal Cert.Kernel2Ideal.Gen

/-- Window 15's block of point `t`: its sequence, its 512 positions, all columns. -/
theorem i15 : ∀ t : Fin cfg0.N, win0_15.index t = ![(grid0.coords t 0).val, (grid0.coords t 1).val, 0] :=
  (by decide +kernel : ∀ t : Fin grid0.N, _)

/-- The kernel's result at every index. -/
theorem arr (m : (ℓ : Loc nD τ sig) → Buf (Elt Ideal) ℓ) (c : Dev nD) :
    (dats m 0 c).arrAt 15 cfg0.N = (fun j : S8x2048x1024.Idx => out (kArgs m c) (j 0) (j 1) (j 2)) := by
  refine (dats m 0 c).arrAt_eq_of_covers 15 _ (by decide +kernel) fun t hf y => ?_
  blk_simp
  rw [after0_15]
  idx_vars y
  refine (out_at m c t _ _ _).trans ?_
  refine congr (congrArg₂ (out (kArgs m c)) (Fin.ext ?_) (Fin.ext ?_)) (Fin.ext ?_)
  all_goals blk_simp [i15]
  all_goals simp [sq, row]

/-- The reference's result is the kernel's. -/
theorem result {m : (ℓ : Loc nD τ sig) → Buf (Elt Ideal) ℓ}
    {m' : (ℓ : Loc Cert.Reference2Ideal.nD Cert.Reference2Ideal.τ Cert.Reference2Ideal.sig) → Buf (Elt Ideal) ℓ} {c : Dev nD} (H : Agree m m' c) :
    Cert.Reference2Ideal.Value.res_main_v31 m' c = (dats m 0 c).arrAt 15 cfg0.N := by
  rw [arr, ← args_eq H]
  funext j
  idx_vars j
  exact ref_at m' c _ _ _

/-- The kernel's result is the reference's, over the extended reals. -/
theorem algebraic : Cert.algebraic_Kernel2Ideal_Reference2Ideal := fun m g m' g' _ hag =>
  ⟨fun c => (dats m 0 c).arrAt 15 cfg0.N, Cert.Kernel2Ideal.Value.run_blocks m g,
   (θ_run _ _ _).mono (fun _ h c => ⟨(h c).1.trans (result (hag c)), (h c).2⟩) (Cert.Reference2Ideal.Value.run m' g')⟩
end Cert.Proof.Post
-- ==== Proof.PreArgs.lean ====
module
public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise
@[expose] public section
set_option maxRecDepth 16384
noncomputable section
namespace Cert.Proof.Pre
open Idealize.ShloMosaic Idealize.SL.Sem Idealize.ShloMosaic.TcCoe

/-- The beginning of the layer (norm, adaLN, input projection): its arguments, read by coordinates. -/
structure Args where
  x : Fin 8 → Fin 2048 → Fin 1024 → EReal
  sh : Fin 8 → Fin 1 → Fin 1024 → EReal
  sc : Fin 8 → Fin 1 → Fin 1024 → EReal
  ng : Fin 1024 → EReal
  w : Fin 1024 → Fin 2064 → EReal
  b : Fin 2064 → EReal

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ) (c : Dev Cert.Kernel3Ideal.nD)

/-- The arguments in the kernel's memory. -/
def kArgs : Args where
  x := fun a b d => (m ((c : Thread Cert.Kernel3Ideal.nD Cert.Kernel3Ideal.τ).loc Cert.Kernel3Ideal.main_arg0) : Vec Ideal Cert.Kernel3Ideal.S8x2048x1024 .f32) (ix3 (n0 := 8) (n1 := 2048) (n2 := 1024) a b d)
  sh := fun a b d => (m ((c : Thread Cert.Kernel3Ideal.nD Cert.Kernel3Ideal.τ).loc Cert.Kernel3Ideal.main_arg1) : Vec Ideal Cert.Kernel3Ideal.S8x1x1024 .f32) (ix3 (n0 := 8) (n1 := 1) (n2 := 1024) a b d)
  sc := fun a b d => (m ((c : Thread Cert.Kernel3Ideal.nD Cert.Kernel3Ideal.τ).loc Cert.Kernel3Ideal.main_arg2) : Vec Ideal Cert.Kernel3Ideal.S8x1x1024 .f32) (ix3 (n0 := 8) (n1 := 1) (n2 := 1024) a b d)
  ng := fun a => (m ((c : Thread Cert.Kernel3Ideal.nD Cert.Kernel3Ideal.τ).loc Cert.Kernel3Ideal.main_arg3) : Vec Ideal Cert.Kernel3Ideal.S1024 .f32) (ix1 (n0 := 1024) a)
  w := fun a b => (m ((c : Thread Cert.Kernel3Ideal.nD Cert.Kernel3Ideal.τ).loc Cert.Kernel3Ideal.main_arg4) : Vec Ideal Cert.Kernel3Ideal.S1024x2064 .f32) (ix2 (n0 := 1024) (n1 := 2064) a b)
  b := fun a => (m ((c : Thread Cert.Kernel3Ideal.nD Cert.Kernel3Ideal.τ).loc Cert.Kernel3Ideal.main_arg5) : Vec Ideal Cert.Kernel3Ideal.S2064 .f32) (ix1 (n0 := 2064) a)

/-- The arguments in the reference's memory. -/
def rArgs : Args where
  x := fun a b d => (m' ((c.tc : Thread Cert.Reference3Ideal.nD Cert.Reference3Ideal.τ).loc Cert.Reference3Ideal.main_arg0) : Vec Ideal Cert.Reference3Ideal.S8x2048x1024 .f32) (ix3 (n0 := 8) (n1 := 2048) (n2 := 1024) a b d)
  sh := fun a b d => (m' ((c.tc : Thread Cert.Reference3Ideal.nD Cert.Reference3Ideal.τ).loc Cert.Reference3Ideal.main_arg1) : Vec Ideal Cert.Reference3Ideal.S8x1x1024 .f32) (ix3 (n0 := 8) (n1 := 1) (n2 := 1024) a b d)
  sc := fun a b d => (m' ((c.tc : Thread Cert.Reference3Ideal.nD Cert.Reference3Ideal.τ).loc Cert.Reference3Ideal.main_arg2) : Vec Ideal Cert.Reference3Ideal.S8x1x1024 .f32) (ix3 (n0 := 8) (n1 := 1) (n2 := 1024) a b d)
  ng := fun a => (m' ((c.tc : Thread Cert.Reference3Ideal.nD Cert.Reference3Ideal.τ).loc Cert.Reference3Ideal.main_arg3) : Vec Ideal Cert.Reference3Ideal.S1024 .f32) (ix1 (n0 := 1024) a)
  w := fun a b => (m' ((c.tc : Thread Cert.Reference3Ideal.nD Cert.Reference3Ideal.τ).loc Cert.Reference3Ideal.main_arg4) : Vec Ideal Cert.Reference3Ideal.S1024x2064 .f32) (ix2 (n0 := 1024) (n1 := 2064) a b)
  b := fun a => (m' ((c.tc : Thread Cert.Reference3Ideal.nD Cert.Reference3Ideal.τ).loc Cert.Reference3Ideal.main_arg5) : Vec Ideal Cert.Reference3Ideal.S2064 .f32) (ix1 (n0 := 2064) a)

/-- The two programs are launched on the same arguments. -/
def Agree : Prop :=
  m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
  ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
  ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
  ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
  ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
  ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)

variable {m m' c}

/-- So the two readings agree. -/
theorem args_eq (H : Agree m m' c) : rArgs m' c = kArgs m c := by
  obtain ⟨h0, h1, h2, h3, h4, h5⟩ := H
  simp only [rArgs, kArgs, Args.mk.injEq]
  exact ⟨by rw [← h0], by rw [← h1], by rw [← h2], by rw [← h3], by rw [← h4], by rw [← h5]⟩

end Cert.Proof.Pre
-- ==== Proof.PreSpec.lean ====
module
public import proofs.«01_k».proof.Proof.PreArgs
@[expose] public section
set_option maxRecDepth 16384
noncomputable section
namespace Cert.Proof.Pre
open Idealize.ShloMosaic
variable (A : Args)

/-- The norm with its gain, scaled and shifted by the conditioning. -/
def hid (b : Fin 8) (t : Fin 2048) (q : Fin 1024) : EReal :=
  A.x b t q * Ideal.rsqrt (Ideal.div (∑ k : Fin 1024, A.x b t k * A.x b t k) (Ideal.ofBits FTy.f32 0x44800000#32)
    + Ideal.ofBits FTy.f32 0x358637BD#32) * A.ng q * (1 + A.sc b 0 q) + A.sh b 0 q

/-- The input projection. -/
def proj (b : Fin 8) (t : Fin 2048) (j : Fin 2064) : EReal := ∑ k : Fin 1024, hid A b t k * A.w k j + A.b j

/-- The GLA part of the projection in its padded width of 896: 784 columns of the projection, then zeros. -/
def gla (b : Fin 8) (t : Fin 2048) (j : Fin 896) : EReal :=
  if h : j.val < 784 then proj A b t ⟨256 + j.val, by omega⟩ else 0

end Cert.Proof.Pre
-- ==== Proof.PreHost.lean ====
module
public import proofs.«01_k».proof.Proof.PreSpec
public import Idealize.ShloMosaic.Lib.StableHlo.RunRead
@[expose] public section
set_option maxRecDepth 16384
noncomputable section
namespace Cert.Proof.Pre
open Idealize.ShloMosaic Idealize.SL.Sem Idealize.ShloMosaic.TcCoe Cert.Kernel3Ideal Cert.Kernel3Ideal.Gen
variable (m : (ℓ : Loc nD τ sig) → Buf (Elt Ideal) ℓ) (c : Dev nD)

/-- The sequence of grid point `t`. -/
def sq (t : Fin cfg0.N) : Fin 8 := ⟨(grid0.coords t 0).val, (grid0.coords t 0).isLt⟩

/-- Position `r` of grid point `t`'s 512 positions. -/
def row (t : Fin cfg0.N) (r : Fin 512) : Fin 2048 :=
  ⟨(grid0.coords t 1).val * 512 + r.val, by have : (grid0.coords t 1).val < 4 := (grid0.coords t 1).isLt; omega⟩

/-- The norm gain as one row. -/
theorem v10_at (r : Fin 1) (q : Fin 1024) :
    (V m c main_v10 : Vec Ideal S1x1024 .f32) (ix2 (n0 := 1) (n1 := 1024) r q) = (kArgs m c).ng q := by
  unfold_abbrev_sides
  after_reads_simp
  pointwise

/-- The input matrix with 112 zero columns after column 1039, so that the GLA gate has a whole tile. -/
def wide (A : Args) (k : Fin 1024) (j : Fin 2176) : EReal :=
  if h : j.val < 1040 then A.w k ⟨j.val, by omega⟩
  else if j.val - 1040 < 112 then 0
  else A.w k ⟨1040 + (j.val - 1040 - 112), by omega⟩

/-- The bias, widened in the same way. -/
def wbias (A : Args) (j : Fin 2176) : EReal :=
  if h : j.val < 1040 then A.b ⟨j.val, by omega⟩
  else if j.val - 1040 < 112 then 0
  else A.b ⟨1040 + (j.val - 1040 - 112), by omega⟩

/-- The weight operand. -/
theorem v8_at (r : Fin 1024) (q : Fin 2176) :
    (V m c main_v8 : Vec Ideal S1024x2176 .bf16) (ix2 (n0 := 1024) (n1 := 2176) r q) = wide (kArgs m c) r q := by
  unfold_abbrev_sides
  after_reads_simp
  pointwise
  unfold wide
  split
  · after_reads_simp
    pointwise
    rfl
  · split
    · after_reads_simp
      pointwise
    · after_reads_simp
      pointwise
      rfl

/-- The bias operand. -/
theorem v9_at (r : Fin 1) (q : Fin 2176) :
    (V m c main_v9 : Vec Ideal S1x2176 .f32) (ix2 (n0 := 1) (n1 := 2176) r q) = wbias (kArgs m c) q := by
  unfold_abbrev_sides
  after_reads_simp
  pointwise
  unfold wbias
  split
  · after_reads_simp
    pointwise
    rfl
  · split
    · after_reads_simp
      pointwise
    · after_reads_simp
      pointwise
      rfl

/-- Window 0 does not move, or moves as stated. -/
theorem i0 : ∀ t : Fin cfg0.N, win0_0.index t = ![(grid0.coords t 0).val, (grid0.coords t 1).val, 0] := (by decide +kernel : ∀ t : Fin grid0.N, _)
/-- Window 0's block. -/
theorem blk0 (t : Fin cfg0.N) (z : Fin 1) (r : Fin 512) (q : Fin 1024) :
    (iblk m c 0 t : Vec Ideal S1x512x1024 .f32) (ix3 (n0 := 1) (n1 := 512) (n2 := 1024) z r q) = (kArgs m c).x (sq t) (row t r) q := by
  blk_simp [iblk]
  rw [show V m c main_arg0 = _ from V_main_arg0 m c]
  refine congrArg (m ((c : Thread nD τ).loc main_arg0)) (a₂ := ix3 (n0 := 8) (n1 := 2048) (n2 := 1024) (sq t) (row t r) q) ?_
  refine funext fun a => Fin.ext ?_
  blk_simp [i0]
  fin_cases a <;> simp [sq, row] <;> rfl

/-- Window 1 does not move, or moves as stated. -/
theorem i1 : ∀ t : Fin cfg0.N, win0_1.index t = ![(grid0.coords t 0).val, 0, 0] := (by decide +kernel : ∀ t : Fin grid0.N, _)
/-- Window 1's block. -/
theorem blk1 (t : Fin cfg0.N) (y z : Fin 1) (q : Fin 1024) :
    (iblk m c 1 t : Vec Ideal S1x1x1024 .f32) (ix3 (n0 := 1) (n1 := 1) (n2 := 1024) y z q) = (kArgs m c).sh (sq t) z q := by
  blk_simp [iblk]
  rw [show V m c main_arg1 = _ from V_main_arg1 m c]
  refine congrArg (m ((c : Thread nD τ).loc main_arg1)) (a₂ := ix3 (n0 := 8) (n1 := 1) (n2 := 1024) (sq t) z q) ?_
  refine funext fun a => Fin.ext ?_
  blk_simp [i1]
  fin_cases a <;> simp [sq, row] <;> rfl

/-- Window 2 does not move, or moves as stated. -/
theorem i2 : ∀ t : Fin cfg0.N, win0_2.index t = ![(grid0.coords t 0).val, 0, 0] := (by decide +kernel : ∀ t : Fin grid0.N, _)
/-- Window 2's block. -/
theorem blk2 (t : Fin cfg0.N) (y z : Fin 1) (q : Fin 1024) :
    (iblk m c 2 t : Vec Ideal S1x1x1024 .f32) (ix3 (n0 := 1) (n1 := 1) (n2 := 1024) y z q) = (kArgs m c).sc (sq t) z q := by
  blk_simp [iblk]
  rw [show V m c main_arg2 = _ from V_main_arg2 m c]
  refine congrArg (m ((c : Thread nD τ).loc main_arg2)) (a₂ := ix3 (n0 := 8) (n1 := 1) (n2 := 1024) (sq t) z q) ?_
  refine funext fun a => Fin.ext ?_
  blk_simp [i2]
  fin_cases a <;> simp [sq, row] <;> rfl

/-- Window 3 does not move, or moves as stated. -/
theorem i3 : ∀ t : Fin cfg0.N, win0_3.index t = ![0, 0] := (by decide +kernel : ∀ t : Fin grid0.N, _)
/-- Window 3's block. -/
theorem blk3 (t : Fin cfg0.N) (r : Fin 1) (q : Fin 1024) :
    (iblk m c 3 t : Vec Ideal S1x1024 .f32) (ix2 (n0 := 1) (n1 := 1024) r q) = (kArgs m c).ng q := by
  blk_simp [iblk]
  refine (congrArg (V m c main_v10) (a₂ := ix2 (n0 := 1) (n1 := 1024) r q) ?_).trans ?_
  · refine funext fun a => Fin.ext ?_
    blk_simp [i3]
    fin_cases a <;> simp [sq, row] <;> rfl
  · exact v10_at m c _ _

/-- Window 4 does not move, or moves as stated. -/
theorem i4 : ∀ t : Fin cfg0.N, win0_4.index t = ![0, 0] := (by decide +kernel : ∀ t : Fin grid0.N, _)
/-- Window 4's block. -/
theorem blk4 (t : Fin cfg0.N) (r : Fin 1024) (q : Fin 2176) :
    (iblk m c 4 t : Vec Ideal S1024x2176 .bf16) (ix2 (n0 := 1024) (n1 := 2176) r q) = wide (kArgs m c) r q := by
  blk_simp [iblk]
  refine (congrArg (V m c main_v8) (a₂ := ix2 (n0 := 1024) (n1 := 2176) r q) ?_).trans ?_
  · refine funext fun a => Fin.ext ?_
    blk_simp [i4]
    fin_cases a <;> simp [sq, row] <;> rfl
  · exact v8_at m c _ _

/-- Window 5 does not move, or moves as stated. -/
theorem i5 : ∀ t : Fin cfg0.N, win0_5.index t = ![0, 0] := (by decide +kernel : ∀ t : Fin grid0.N, _)
/-- Window 5's block. -/
theorem blk5 (t : Fin cfg0.N) (r : Fin 1) (q : Fin 2176) :
    (iblk m c 5 t : Vec Ideal S1x2176 .f32) (ix2 (n0 := 1) (n1 := 2176) r q) = wbias (kArgs m c) q := by
  blk_simp [iblk]
  refine (congrArg (V m c main_v9) (a₂ := ix2 (n0 := 1) (n1 := 2176) r q) ?_).trans ?_
  · refine funext fun a => Fin.ext ?_
    blk_simp [i5]
    fin_cases a <;> simp [sq, row] <;> rfl
  · exact v9_at m c _ _

end Cert.Proof.Pre
-- ==== Proof.PreBlock.lean ====
module
public import proofs.«01_k».proof.Proof.PreHost
@[expose] public section
set_option maxRecDepth 16384
noncomputable section
namespace Cert.Proof.Pre
open Idealize.ShloMosaic Idealize.SL.Sem Idealize.ShloMosaic.TcCoe Cert.Kernel3Ideal Cert.Kernel3Ideal.Gen
variable (m : (ℓ : Loc nD τ sig) → Buf (Elt Ideal) ℓ) (c : Dev nD) (t : Fin cfg0.N)

/-- Column `j` of the projection in the call's widened layout. -/
def col (A : Args) (b : Fin 8) (s : Fin 2048) (j : Fin 2176) : EReal := ∑ k : Fin 1024, hid A b s k * wide A k j + wbias A j

/-- The first 1040 columns are the projection's own. -/
theorem col_lo (A : Args) (b : Fin 8) (s : Fin 2048) (j : Fin 2176) (h : j.val < 1040) :
    col A b s j = proj A b s ⟨j.val, by omega⟩ := by
  unfold col proj wide wbias
  simp only [dif_pos h]

/-- The 112 columns after them are zero. -/
theorem col_mid (A : Args) (b : Fin 8) (s : Fin 2048) (j : Fin 2176) (h : ¬ j.val < 1040) (h' : j.val < 1152) :
    col A b s j = 0 := by
  unfold col wide wbias
  simp only [dif_neg h, if_pos (show j.val - 1040 < 112 by omega), mul_zero, Finset.sum_const_zero, add_zero]

/-- The rest are the projection's columns from 1040 on. -/
theorem col_hi (A : Args) (b : Fin 8) (s : Fin 2048) (j : Fin 2176) (h : ¬ j.val < 1152) :
    col A b s j = proj A b s ⟨1040 + (j.val - 1040 - 112), by omega⟩ := by
  unfold col proj wide wbias
  simp only [dif_neg (show ¬ j.val < 1040 by omega), if_neg (show ¬ j.val - 1040 < 112 by omega)]

/-- The body's projection of point `t`'s positions. -/
theorem col_at (r : Fin 512) (q : Fin 2176) :
    k0_pay6 (iblk m c 0 t) (iblk m c 1 t) (iblk m c 2 t) (iblk m c 3 t) (iblk m c 4 t) (iblk m c 5 t) (ix2 (n0 := 512) (n1 := 2176) r q)
      = col (kArgs m c) (sq t) (row t r) q := by
  unfold k0_pay6 k0_pay4
  pointwise
  simp only [blk0, blk1, blk2, blk3, blk4, blk5]
  rfl

/-- The first 256 columns of the body's projection. -/
theorem slice_lo (v : FVec Ideal S512x2176 .f32) (r : Fin 512) (q : Fin 256) :
    extractStridedSlice S512x256 ![0, 0] v slices_S512x2176_o0_0_S512x256 (ix2 (n0 := 512) (n1 := 256) r q)
      = v (ix2 (n0 := 512) (n1 := 2176) r ⟨q.val, by omega⟩) := by
  pointwise

/-- The body's projection of point `t`'s positions, as the first result reads it. -/
theorem col_at' (r : Fin 512) (q : Fin 2176) :
    k0_pay4 (iblk m c 0 t) (iblk m c 3 t) (iblk m c 2 t) (iblk m c 1 t) (iblk m c 4 t) (iblk m c 5 t) (ix2 (n0 := 512) (n1 := 2176) r q)
      = col (kArgs m c) (sq t) (row t r) q := by
  unfold k0_pay4
  pointwise
  simp only [blk0, blk1, blk2, blk3, blk4, blk5]
  rfl

/-- Window 6's block after the body. -/
theorem out6_at (r : Fin 512) (q : Fin 256) :
    out0_6 (iblk m c 0 t) (iblk m c 1 t) (iblk m c 2 t) (iblk m c 3 t) (iblk m c 4 t) (iblk m c 5 t) (ix2 (n0 := 512) (n1 := 256) r q)
      = proj (kArgs m c) (sq t) (row t r) ⟨q.val, by omega⟩ := by
  frame_out
  unfold k0_pay5
  refine (slice_lo _ r q).trans ?_
  refine (col_at' m c t r ⟨q.val, by omega⟩).trans ?_
  exact col_lo _ _ _ ⟨q.val, by omega⟩ (show q.val < 1040 by omega)

/-- What result 0 holds at position `s`, column `q` (the sequences side by side). -/
def res6 (A : Args) (s : Fin 2048) (q : Fin 2048) : EReal := proj A ⟨q.val / 256, by omega⟩ s ⟨q.val % 256, by omega⟩

/-- Window 6's block of point `t`. -/
theorem i6 : ∀ t : Fin cfg0.N, win0_6.index t = ![(grid0.coords t 1).val, (grid0.coords t 0).val] := (by decide +kernel : ∀ t : Fin grid0.N, _)

/-- Result 0 after the whole launch. -/
theorem arr6 : (dats m 0 c).arrAt 6 cfg0.N = (fun j : S2048x2048.Idx => res6 (kArgs m c) (j 0) (j 1)) := by
  refine (dats m 0 c).arrAt_eq_of_covers 6 _ (by decide +kernel) fun t hf y => ?_
  blk_simp
  rw [after0_6]
  idx_vars y
  refine (out6_at m c t _ _).trans ?_
  have e0 : (win0_6.blk t).view.emb (ix2 y0 y1) 0 = row t y0 := Fin.ext (by blk_simp [i6]; simp [row])
  have e1 : ((win0_6.blk t).view.emb (ix2 y0 y1) 1).val = (sq t).val * 256 + y1.val := by blk_simp [i6]; simp [sq]
  have hd : (⟨((win0_6.blk t).view.emb (ix2 y0 y1) 1).val / 256, by have := (sq t).isLt; omega⟩ : Fin 8) = sq t :=
    Fin.ext (by show ((win0_6.blk t).view.emb (ix2 y0 y1) 1).val / 256 = _; omega)
  have hr : ((win0_6.blk t).view.emb (ix2 y0 y1) 1).val % 256 = y1.val := by omega
  refine Eq.trans ?_ (congrArg (fun s => res6 (kArgs m c) s _) e0.symm)
  unfold res6
  exact congrArg₂ (fun b q => proj (kArgs m c) b (row t y0) q) hd.symm (Fin.ext hr.symm)

/-- Window 7's block after the body. -/
theorem out7_at (r : Fin 512) (q : Fin 896) :
    out0_7 (iblk m c 0 t) (iblk m c 1 t) (iblk m c 2 t) (iblk m c 3 t) (iblk m c 4 t) (iblk m c 5 t) (ix2 (n0 := 512) (n1 := 896) r q)
      = gla (kArgs m c) (sq t) (row t r) q := by
  frame_out
  unfold k0_pay1
  pointwise
  refine (col_at m c t r ⟨256 + q.val, by omega⟩).trans ?_
  unfold gla
  split
  · exact col_lo _ _ _ _ (show 256 + q.val < 1040 by omega)
  · exact col_mid _ _ _ _ (show ¬ 256 + q.val < 1040 by omega) (show 256 + q.val < 1152 by omega)

/-- What result 1 holds at position `s`, column `q` (the sequences side by side). -/
def res7 (A : Args) (s : Fin 2048) (q : Fin 7168) : EReal := gla A ⟨q.val / 896, by omega⟩ s ⟨q.val % 896, by omega⟩

/-- Window 7's block of point `t`. -/
theorem i7 : ∀ t : Fin cfg0.N, win0_7.index t = ![(grid0.coords t 1).val, (grid0.coords t 0).val] := (by decide +kernel : ∀ t : Fin grid0.N, _)

/-- Result 1 after the whole launch. -/
theorem arr7 : (dats m 0 c).arrAt 7 cfg0.N = (fun j : S2048x7168.Idx => res7 (kArgs m c) (j 0) (j 1)) := by
  refine (dats m 0 c).arrAt_eq_of_covers 7 _ (by decide +kernel) fun t hf y => ?_
  blk_simp
  rw [after0_7]
  idx_vars y
  refine (out7_at m c t _ _).trans ?_
  have e0 : (win0_7.blk t).view.emb (ix2 y0 y1) 0 = row t y0 := Fin.ext (by blk_simp [i7]; simp [row])
  have e1 : ((win0_7.blk t).view.emb (ix2 y0 y1) 1).val = (sq t).val * 896 + y1.val := by blk_simp [i7]; simp [sq]
  have hd : (⟨((win0_7.blk t).view.emb (ix2 y0 y1) 1).val / 896, by have := (sq t).isLt; omega⟩ : Fin 8) = sq t :=
    Fin.ext (by show ((win0_7.blk t).view.emb (ix2 y0 y1) 1).val / 896 = _; omega)
  have hr : ((win0_7.blk t).view.emb (ix2 y0 y1) 1).val % 896 = y1.val := by omega
  refine Eq.trans ?_ (congrArg (fun s => res7 (kArgs m c) s _) e0.symm)
  unfold res7
  exact congrArg₂ (fun b q => gla (kArgs m c) b (row t y0) q) hd.symm (Fin.ext hr.symm)

/-- Window 8's block after the body. -/
theorem out8_at (r : Fin 512) (q : Fin 512) :
    out0_8 (iblk m c 0 t) (iblk m c 1 t) (iblk m c 2 t) (iblk m c 3 t) (iblk m c 4 t) (iblk m c 5 t) (ix2 (n0 := 512) (n1 := 512) r q)
      = proj (kArgs m c) (sq t) (row t r) ⟨1040 + q.val, by omega⟩ := by
  frame_out
  unfold k0_pay2
  pointwise
  refine (col_at m c t r ⟨1152 + q.val, by omega⟩).trans ?_
  refine (col_hi _ _ _ _ (show ¬ 1152 + q.val < 1152 by omega)).trans ?_
  exact congrArg (proj _ _ _) (Fin.ext (show 1040 + (1152 + q.val - 1040 - 112) = 1040 + q.val by omega))

/-- What result 2 holds at position `s`, column `q` (the sequences side by side). -/
def res8 (A : Args) (s : Fin 2048) (q : Fin 4096) : EReal := proj A ⟨q.val / 512, by omega⟩ s ⟨1040 + q.val % 512, by omega⟩

/-- Window 8's block of point `t`. -/
theorem i8 : ∀ t : Fin cfg0.N, win0_8.index t = ![(grid0.coords t 1).val, (grid0.coords t 0).val] := (by decide +kernel : ∀ t : Fin grid0.N, _)

/-- Result 2 after the whole launch. -/
theorem arr8 : (dats m 0 c).arrAt 8 cfg0.N = (fun j : S2048x4096.Idx => res8 (kArgs m c) (j 0) (j 1)) := by
  refine (dats m 0 c).arrAt_eq_of_covers 8 _ (by decide +kernel) fun t hf y => ?_
  blk_simp
  rw [after0_8]
  idx_vars y
  refine (out8_at m c t _ _).trans ?_
  have e0 : (win0_8.blk t).view.emb (ix2 y0 y1) 0 = row t y0 := Fin.ext (by blk_simp [i8]; simp [row])
  have e1 : ((win0_8.blk t).view.emb (ix2 y0 y1) 1).val = (sq t).val * 512 + y1.val := by blk_simp [i8]; simp [sq]
  have hd : (⟨((win0_8.blk t).view.emb (ix2 y0 y1) 1).val / 512, by have := (sq t).isLt; omega⟩ : Fin 8) = sq t :=
    Fin.ext (by show ((win0_8.blk t).view.emb (ix2 y0 y1) 1).val / 512 = _; omega)
  have hr : ((win0_8.blk t).view.emb (ix2 y0 y1) 1).val % 512 = y1.val := by omega
  refine Eq.trans ?_ (congrArg (fun s => res8 (kArgs m c) s _) e0.symm)
  unfold res8
  exact congrArg₂ (fun b q => proj (kArgs m c) b (row t y0) q) hd.symm (Fin.ext (congrArg (1040 + ·) hr.symm))

/-- Window 9's block after the body. -/
theorem out9_at (r : Fin 512) (q : Fin 512) :
    out0_9 (iblk m c 0 t) (iblk m c 1 t) (iblk m c 2 t) (iblk m c 3 t) (iblk m c 4 t) (iblk m c 5 t) (ix2 (n0 := 512) (n1 := 512) r q)
      = proj (kArgs m c) (sq t) (row t r) ⟨1552 + q.val, by omega⟩ := by
  frame_out
  unfold k0_pay3
  pointwise
  refine (col_at m c t r ⟨1664 + q.val, by omega⟩).trans ?_
  refine (col_hi _ _ _ _ (show ¬ 1664 + q.val < 1152 by omega)).trans ?_
  exact congrArg (proj _ _ _) (Fin.ext (show 1040 + (1664 + q.val - 1040 - 112) = 1552 + q.val by omega))

/-- What result 3 holds at position `s`, column `q` (the sequences side by side). -/
def res9 (A : Args) (s : Fin 2048) (q : Fin 4096) : EReal := proj A ⟨q.val / 512, by omega⟩ s ⟨1552 + q.val % 512, by omega⟩

/-- Window 9's block of point `t`. -/
theorem i9 : ∀ t : Fin cfg0.N, win0_9.index t = ![(grid0.coords t 1).val, (grid0.coords t 0).val] := (by decide +kernel : ∀ t : Fin grid0.N, _)

/-- Result 3 after the whole launch. -/
theorem arr9 : (dats m 0 c).arrAt 9 cfg0.N = (fun j : S2048x4096.Idx => res9 (kArgs m c) (j 0) (j 1)) := by
  refine (dats m 0 c).arrAt_eq_of_covers 9 _ (by decide +kernel) fun t hf y => ?_
  blk_simp
  rw [after0_9]
  idx_vars y
  refine (out9_at m c t _ _).trans ?_
  have e0 : (win0_9.blk t).view.emb (ix2 y0 y1) 0 = row t y0 := Fin.ext (by blk_simp [i9]; simp [row])
  have e1 : ((win0_9.blk t).view.emb (ix2 y0 y1) 1).val = (sq t).val * 512 + y1.val := by blk_simp [i9]; simp [sq]
  have hd : (⟨((win0_9.blk t).view.emb (ix2 y0 y1) 1).val / 512, by have := (sq t).isLt; omega⟩ : Fin 8) = sq t :=
    Fin.ext (by show ((win0_9.blk t).view.emb (ix2 y0 y1) 1).val / 512 = _; omega)
  have hr : ((win0_9.blk t).view.emb (ix2 y0 y1) 1).val % 512 = y1.val := by omega
  refine Eq.trans ?_ (congrArg (fun s => res9 (kArgs m c) s _) e0.symm)
  unfold res9
  exact congrArg₂ (fun b q => proj (kArgs m c) b (row t y0) q) hd.symm (Fin.ext (congrArg (1552 + ·) hr.symm))

end Cert.Proof.Pre
-- ==== Proof.PreClaim.lean ====
module
public import proofs.«01_k».proof.Proof.PreBlock
@[expose] public section
set_option maxRecDepth 16384
noncomputable section
namespace Cert.Proof.Pre
open Idealize.ShloMosaic Idealize.SL.Sem Idealize.ShloMosaic.TcCoe Cert.Kernel3Ideal Cert.Kernel3Ideal.Gen

/-- The kernel's four results are the reference's, over the extended reals. -/
theorem algebraic : Cert.algebraic_Kernel3Ideal_Reference3Ideal := fun m g m' g' _ hag => by
  refine ⟨fun c => (dats m 0 c).arrAt 6 cfg0.N, fun c => (dats m 0 c).arrAt 7 cfg0.N, fun c => (dats m 0 c).arrAt 8 cfg0.N,
    fun c => (dats m 0 c).arrAt 9 cfg0.N, Cert.Kernel3Ideal.Value.run_blocks m g,
    (θ_run _ _ _).mono (fun _ h c => ⟨(h c).1.trans ?_, (h c).2.1.trans ?_, (h c).2.2.1.trans ?_, (h c).2.2.2.1.trans ?_, (h c).2.2.2.2⟩)
      (Cert.Reference3Ideal.Value.run m' g')⟩
  · refine Eq.trans ?_ (arr6 m c).symm
    rw [← args_eq (hag c)]
    funext j
    idx_vars j
    pointwise
    rfl
  · refine Eq.trans ?_ (arr7 m c).symm
    rw [← args_eq (hag c)]
    funext j
    idx_vars j
    pointwise
    rfl
  · refine Eq.trans ?_ (arr8 m c).symm
    rw [← args_eq (hag c)]
    funext j
    idx_vars j
    pointwise
    rfl
  · refine Eq.trans ?_ (arr9 m c).symm
    rw [← args_eq (hag c)]
    funext j
    idx_vars j
    pointwise
    rfl
end Cert.Proof.Pre
-- ==== Proof.GmlpArgs.lean ====
module
public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise
@[expose] public section
set_option maxRecDepth 16384
noncomputable section
namespace Cert.Proof.Gmlp
open Idealize.ShloMosaic Idealize.SL.Sem Idealize.ShloMosaic.TcCoe

/-- The gMLP mixer: its arguments, read by coordinates. -/
structure Args where
  u : Fin 128 → Fin 8 → Fin 256 → EReal
  v : Fin 128 → Fin 8 → Fin 256 → EReal
  lg : Fin 256 → EReal
  lb : Fin 256 → EReal
  ws : Fin 4 → Fin 128 → Fin 128 → EReal
  bs : Fin 4 → Fin 128 → EReal
  gain : Fin 256 → EReal

variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ) (c : Dev Cert.Kernel4Ideal.nD)

/-- The arguments in the kernel's memory. -/
def kArgs : Args where
  u := fun a b d => (m ((c : Thread Cert.Kernel4Ideal.nD Cert.Kernel4Ideal.τ).loc Cert.Kernel4Ideal.main_arg0) : Vec Ideal Cert.Kernel4Ideal.S128x8x256 .f32) (ix3 (n0 := 128) (n1 := 8) (n2 := 256) a b d)
  v := fun a b d => (m ((c : Thread Cert.Kernel4Ideal.nD Cert.Kernel4Ideal.τ).loc Cert.Kernel4Ideal.main_arg1) : Vec Ideal Cert.Kernel4Ideal.S128x8x256 .f32) (ix3 (n0 := 128) (n1 := 8) (n2 := 256) a b d)
  lg := fun a => (m ((c : Thread Cert.Kernel4Ideal.nD Cert.Kernel4Ideal.τ).loc Cert.Kernel4Ideal.main_arg2) : Vec Ideal Cert.Kernel4Ideal.S256 .f32) (ix1 (n0 := 256) a)
  lb := fun a => (m ((c : Thread Cert.Kernel4Ideal.nD Cert.Kernel4Ideal.τ).loc Cert.Kernel4Ideal.main_arg3) : Vec Ideal Cert.Kernel4Ideal.S256 .f32) (ix1 (n0 := 256) a)
  ws := fun a b d => (m ((c : Thread Cert.Kernel4Ideal.nD Cert.Kernel4Ideal.τ).loc Cert.Kernel4Ideal.main_arg4) : Vec Ideal Cert.Kernel4Ideal.S4x128x128 .f32) (ix3 (n0 := 4) (n1 := 128) (n2 := 128) a b d)
  bs := fun a b => (m ((c : Thread Cert.Kernel4Ideal.nD Cert.Kernel4Ideal.τ).loc Cert.Kernel4Ideal.main_arg5) : Vec Ideal Cert.Kernel4Ideal.S4x128 .f32) (ix2 (n0 := 4) (n1 := 128) a b)
  gain := fun a => (m ((c : Thread Cert.Kernel4Ideal.nD Cert.Kernel4Ideal.τ).loc Cert.Kernel4Ideal.main_arg6) : Vec Ideal Cert.Kernel4Ideal.S256 .f32) (ix1 (n0 := 256) a)

/-- The arguments in the reference's memory. -/
def rArgs : Args where
  u := fun a b d => (m' ((c.tc : Thread Cert.Reference4Ideal.nD Cert.Reference4Ideal.τ).loc Cert.Reference4Ideal.main_arg0) : Vec Ideal Cert.Reference4Ideal.S128x8x256 .f32) (ix3 (n0 := 128) (n1 := 8) (n2 := 256) a b d)
  v := fun a b d => (m' ((c.tc : Thread Cert.Reference4Ideal.nD Cert.Reference4Ideal.τ).loc Cert.Reference4Ideal.main_arg1) : Vec Ideal Cert.Reference4Ideal.S128x8x256 .f32) (ix3 (n0 := 128) (n1 := 8) (n2 := 256) a b d)
  lg := fun a => (m' ((c.tc : Thread Cert.Reference4Ideal.nD Cert.Reference4Ideal.τ).loc Cert.Reference4Ideal.main_arg2) : Vec Ideal Cert.Reference4Ideal.S256 .f32) (ix1 (n0 := 256) a)
  lb := fun a => (m' ((c.tc : Thread Cert.Reference4Ideal.nD Cert.Reference4Ideal.τ).loc Cert.Reference4Ideal.main_arg3) : Vec Ideal Cert.Reference4Ideal.S256 .f32) (ix1 (n0 := 256) a)
  ws := fun a b d => (m' ((c.tc : Thread Cert.Reference4Ideal.nD Cert.Reference4Ideal.τ).loc Cert.Reference4Ideal.main_arg4) : Vec Ideal Cert.Reference4Ideal.S4x128x128 .f32) (ix3 (n0 := 4) (n1 := 128) (n2 := 128) a b d)
  bs := fun a b => (m' ((c.tc : Thread Cert.Reference4Ideal.nD Cert.Reference4Ideal.τ).loc Cert.Reference4Ideal.main_arg5) : Vec Ideal Cert.Reference4Ideal.S4x128 .f32) (ix2 (n0 := 4) (n1 := 128) a b)
  gain := fun a => (m' ((c.tc : Thread Cert.Reference4Ideal.nD Cert.Reference4Ideal.τ).loc Cert.Reference4Ideal.main_arg6) : Vec Ideal Cert.Reference4Ideal.S256 .f32) (ix1 (n0 := 256) a)

/-- The two programs are launched on the same arguments. -/
def Agree : Prop :=
  m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
  ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
  ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
  ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
  ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
  ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
  ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)

variable {m m' c}

/-- So the two readings agree. -/
theorem args_eq (H : Agree m m' c) : rArgs m' c = kArgs m c := by
  obtain ⟨h0, h1, h2, h3, h4, h5, h6⟩ := H
  simp only [rArgs, kArgs, Args.mk.injEq]
  exact ⟨by rw [← h0], by rw [← h1], by rw [← h2], by rw [← h3], by rw [← h4], by rw [← h5], by rw [← h6]⟩

end Cert.Proof.Gmlp
-- ==== Proof.GmlpSpec.lean ====
module
public import proofs.«01_k».proof.Proof.GmlpArgs
@[expose] public section
set_option maxRecDepth 16384
noncomputable section
namespace Cert.Proof.Gmlp
open Idealize.ShloMosaic
variable (A : Args)

/-- The second half less its mean. -/
def cen (b : Fin 128) (t : Fin 8) (d : Fin 256) : EReal :=
  A.v b t d - Ideal.div (∑ x : Fin 256, A.v b t x) (Ideal.ofBits FTy.f32 0x43800000#32)

/-- Its layer norm: a result of the call. -/
def vn (b : Fin 128) (t : Fin 8) (d : Fin 256) : EReal :=
  cen A b t d * Ideal.rsqrt (Ideal.div (∑ x : Fin 256, cen A b t x * cen A b t x) (Ideal.ofBits FTy.f32 0x43800000#32)
    + Ideal.ofBits FTy.f32 0x358637BD#32) * A.lg d + A.lb d

/-- The rows up to position `t`, mixed by the weights of the column's head, and the bias. -/
def mixed (b : Fin 128) (t : Fin 8) (q : Fin 256) : EReal :=
  (∑ j : Fin 8, if j ≤ t then vn A b j q * A.ws ⟨q.val / 64, by omega⟩ ⟨t.val, by omega⟩ ⟨j.val, by omega⟩ else 0)
    + A.bs ⟨q.val / 64, by omega⟩ ⟨t.val, by omega⟩

/-- The gated rows. -/
def gated (b : Fin 128) (t : Fin 8) (q : Fin 256) : EReal := A.u b t q * mixed A b t q

/-- Their norm, with the gain: the call's first result. -/
def out (b : Fin 128) (t : Fin 8) (q : Fin 256) : EReal :=
  gated A b t q * Ideal.rsqrt (Ideal.div (∑ x : Fin 256, gated A b t x * gated A b t x) (Ideal.ofBits FTy.f32 0x43800000#32)
    + Ideal.ofBits FTy.f32 0x358637BD#32) * A.gain q

/-- A result's rows are in time-major order: row `r` is sequence `r % 128` at position `r / 128`. -/
def rows (f : Fin 128 → Fin 8 → Fin 256 → EReal) (r : Fin 1024) (q : Fin 256) : EReal :=
  f ⟨r.val % 128, by omega⟩ ⟨r.val / 128, by omega⟩ q

end Cert.Proof.Gmlp
-- ==== Proof.GmlpRows.lean ====
module
public import proofs.«01_k».proof.Proof.GmlpSpec
@[expose] public section
set_option maxRecDepth 16384
noncomputable section
namespace Cert.Proof.Gmlp
open Idealize.ShloMosaic Idealize.SL.Sem Idealize.ShloMosaic.TcCoe Cert.Kernel4Ideal Cert.Kernel4Ideal.Gen
/-- The row of sequence `b` at position `n`. -/
def rowN : (n : ℕ) → n < 8 → Fin 128 → Fin 1024
  | 0, _, b => ⟨b.val, by omega⟩
  | n + 1, _, b => ⟨128 * (n + 1) + b.val, by omega⟩

/-- Its number. -/
theorem rowN_val (n : ℕ) (hn : n < 8) (b : Fin 128) : (rowN n hn b).val = 128 * n + b.val := by
  cases n with
  | zero => simp [rowN]
  | succ n => rfl

variable (U V y : FVec Ideal S1024x256 .f32) (W : FVec Ideal S64x256 .f32) (B : FVec Ideal S8x256 .f32) (G x1 x2 : Vec Ideal S1x256 .f32)

/-- Position `i`'s sum once `n` rows are in it: the kernel's order of additions. -/
def acc (i : Fin 8) (b : Fin 128) (q : Fin 256) : (n : ℕ) → n ≤ 8 → EReal
  | 0, _ => B (ix2 (n0 := 8) (n1 := 256) i q)
  | n + 1, h => acc i b q n (Nat.le_of_succ_le h)
      + W (ix2 (n0 := 64) (n1 := 256) ⟨8 * i.val + n, by omega⟩ q) * V (ix2 (n0 := 1024) (n1 := 256) (rowN n h b) q)

/-- Position `i`'s gated row. -/
def gat (i : Fin 8) (b : Fin 128) (q : Fin 256) : EReal :=
  U (ix2 (n0 := 1024) (n1 := 256) (rowN i.val i.isLt b) q) * acc V W B i b q (i.val + 1) i.isLt

/-- Position `i`'s row of the result. -/
def outp (i : Fin 8) (b : Fin 128) (q : Fin 256) : EReal :=
  gat U V W B i b q * Ideal.rsqrt (Ideal.div (∑ x : Fin 256, gat U V W B i b x * gat U V W B i b x) (Ideal.ofBits FTy.f32 0x43800000#32)
    + Ideal.ofBits FTy.f32 0x358637BD#32) * G (ix2 (n0 := 1) (n1 := 256) 0 q)

/-- The first block of rows that the kernel stores. -/
theorem p0 (r : Fin 128) (q : Fin 256) :
    (k0_pay8 U (k0_pay5 B) (k0_pay6 W) (k0_pay7 y x1 x2) G) (ix2 (n0 := 128) (n1 := 256) r q) = outp U (k0_pay2 y x1 x2) (k0_pay3 W) (k0_pay4 B) G 0 r q := by
  unfold k0_pay8 k0_pay5 k0_pay6 k0_pay7
  pointwise
  rfl

/-- The second block of rows that the kernel stores. -/
theorem p1 (r : Fin 128) (q : Fin 256) :
    (k0_pay10 (k0_pay9 U V W B) G) (ix2 (n0 := 128) (n1 := 256) r q) = outp U V W B G 1 r q := by
  unfold k0_pay10 k0_pay9
  pointwise
  rfl

/-- The third block of rows that the kernel stores. -/
theorem p2 (r : Fin 128) (q : Fin 256) :
    (k0_pay11 U V W B G) (ix2 (n0 := 128) (n1 := 256) r q) = outp U V W B G 2 r q := by
  unfold k0_pay11
  pointwise
  rfl

/-- The fourth block of rows that the kernel stores. -/
theorem p3 (r : Fin 128) (q : Fin 256) :
    (k0_pay14 U V W (k0_pay12 (F := Ideal)) (k0_pay13 B) G) (ix2 (n0 := 128) (n1 := 256) r q) = outp U V W B G 3 r q := by
  unfold k0_pay14 k0_pay12 k0_pay13
  pointwise
  rfl

/-- The fifth block of rows that the kernel stores. -/
theorem p4 (r : Fin 128) (q : Fin 256) :
    (k0_pay18 U V W (k0_pay15 V W B) (k0_pay16 V) (k0_pay17 W) G) (ix2 (n0 := 128) (n1 := 256) r q) = outp U V W B G 4 r q := by
  unfold k0_pay18 k0_pay15 k0_pay16 k0_pay17
  pointwise
  rfl

/-- The sixth block of rows that the kernel stores. -/
theorem p5 (r : Fin 128) (q : Fin 256) :
    (k0_pay22 U V W (k0_pay19 V W B) (k0_pay20 W) (k0_pay21 V) G) (ix2 (n0 := 128) (n1 := 256) r q) = outp U V W B G 5 r q := by
  unfold k0_pay22 k0_pay19 k0_pay20 k0_pay21
  pointwise
  rfl

/-- The seventh block of rows that the kernel stores. -/
theorem p6 (r : Fin 128) (q : Fin 256) :
    (k0_pay25 U V W (k0_pay23 V W B) (k0_pay24 W) G) (ix2 (n0 := 128) (n1 := 256) r q) = outp U V W B G 6 r q := by
  unfold k0_pay25 k0_pay23 k0_pay24
  pointwise
  rfl

/-- The eighth block of rows that the kernel stores. -/
theorem p7 (r : Fin 128) (q : Fin 256) :
    (k0_pay27 U V W (k0_pay26 V W B) G) (ix2 (n0 := 128) (n1 := 256) r q) = outp U V W B G 7 r q := by
  unfold k0_pay27 k0_pay26
  pointwise
  rfl

/-- What the kernel reads, in terms of the arguments. -/
structure Lay (A : Args) : Prop where
  u : ∀ i b q, U (ix2 (n0 := 1024) (n1 := 256) (rowN i.val i.isLt b) q) = A.u b i q
  v : ∀ i b q, V (ix2 (n0 := 1024) (n1 := 256) (rowN i.val i.isLt b) q) = vn A b i q
  w : ∀ (i n : Fin 8) q, n ≤ i → W (ix2 (n0 := 64) (n1 := 256) ⟨8 * i.val + n.val, by omega⟩ q)
    = A.ws ⟨q.val / 64, by omega⟩ ⟨i.val, by omega⟩ ⟨n.val, by omega⟩
  b : ∀ i q, B (ix2 (n0 := 8) (n1 := 256) i q) = A.bs ⟨q.val / 64, by omega⟩ ⟨i.val, by omega⟩
  g : ∀ q, G (ix2 (n0 := 1) (n1 := 256) 0 q) = A.gain q

/-- A sum over the first `n + 1` positions is that over the first `n` and the next term. -/
theorem sum_lt_succ (f : Fin 8 → EReal) (n : ℕ) (hn : n < 8) :
    (∑ j : Fin 8, if j.val < n + 1 then f j else 0) = (∑ j : Fin 8, if j.val < n then f j else 0) + f ⟨n, hn⟩ := by
  rw [show f ⟨n, hn⟩ = ∑ j : Fin 8, if j = ⟨n, hn⟩ then f j else 0 by simp, ← Finset.sum_add_distrib]
  refine Finset.sum_congr rfl fun j _ => ?_
  rcases Nat.lt_trichotomy j.val n with h | h | h
  · rw [if_pos (by omega), if_pos h, if_neg (fun e => by simp [e] at h), add_zero]
  · rw [if_pos (by omega), if_neg (by omega), if_pos (Fin.ext h), zero_add]
  · rw [if_neg (by omega), if_neg (by omega), if_neg (fun e => by simp [e] at h), add_zero]

variable {U V W B G} {A : Args} (L : Lay U V W B G A)
include L

/-- The kernel's sum after `n` rows. -/
theorem acc_eq (i : Fin 8) (b : Fin 128) (q : Fin 256) : ∀ (n : ℕ) (hn : n ≤ i.val + 1),
    acc V W B i b q n (by omega) = (∑ j : Fin 8, if j.val < n then vn A b j q * A.ws ⟨q.val / 64, by omega⟩ ⟨i.val, by omega⟩ ⟨j.val, by omega⟩ else 0)
      + A.bs ⟨q.val / 64, by omega⟩ ⟨i.val, by omega⟩
  | 0, _ => by simp [acc, L.b]
  | n + 1, hn => by
    rw [sum_lt_succ _ n (by omega), acc, acc_eq i b q n (by omega)]
    have hw := L.w i ⟨n, by omega⟩ q (Nat.le_of_lt_succ hn)
    have hv := L.v ⟨n, by omega⟩ b q
    rw [show W (ix2 (n0 := 64) (n1 := 256) ⟨8 * i.val + n, by omega⟩ q) = _ from hw,
      show V (ix2 (n0 := 1024) (n1 := 256) (rowN n (by omega) b) q) = _ from hv, mul_comm, add_right_comm]

/-- Position `i`'s gated row is the specification's. -/
theorem gat_eq (i : Fin 8) (b : Fin 128) (q : Fin 256) : gat U V W B i b q = gated A b i q := by
  unfold gat gated mixed
  rw [L.u, acc_eq L i b q (i.val + 1) le_rfl]
  simp only [Nat.lt_succ_iff, Fin.le_def]

/-- Position `i`'s row of the result is the specification's. -/
theorem outp_eq (i : Fin 8) (b : Fin 128) (q : Fin 256) : outp U V W B G i b q = out A b i q := by
  unfold outp out
  simp only [gat_eq L, L.g]

end Cert.Proof.Gmlp
-- ==== Proof.GmlpHost.lean ====
module
public import proofs.«01_k».proof.Proof.GmlpSpec
public import Idealize.ShloMosaic.Lib.StableHlo.RunRead
@[expose] public section
set_option maxRecDepth 16384
noncomputable section
namespace Cert.Proof.Gmlp
open Idealize.ShloMosaic Idealize.SL.Sem Idealize.ShloMosaic.TcCoe Cert.Kernel4Ideal Cert.Kernel4Ideal.Gen
variable (m : (ℓ : Loc nD τ sig) → Buf (Elt Ideal) ℓ) (c : Dev nD)

/-- The sequence of a row in time-major order. -/
def rb (r : Fin 1024) : Fin 128 := ⟨r.val % 128, by omega⟩
/-- The position of a row in time-major order. -/
def rt (r : Fin 1024) : Fin 8 := ⟨r.val / 128, by omega⟩

/-- The triangle's comparison holds on and below the diagonal. -/
theorem tri_pos : ∀ r : Fin 64, r.val % 8 ≤ r.val / 8 →
    IntOp.cmpi CmpIPredicate.sge (IntOp.addi (BitVec.ofNat 32 (r.val / 8)) 0#32) (BitVec.ofNat 32 (r.val % 8)) = 1#1 := by decide +kernel

/-- The two halves of a row side by side. -/
def uv (r : Fin 1024) (q : Fin 512) : EReal :=
  if h : q.val < 256 then (kArgs m c).u (rb r) (rt r) ⟨q.val, h⟩ else (kArgs m c).v (rb r) (rt r) ⟨q.val - 256, by omega⟩

/-- They come with the rows in time-major order. -/
theorem v4_at (r : Fin 1024) (q : Fin 512) :
    (V m c main_v4 : Vec Ideal S1024x512 .f32) (ix2 (n0 := 1024) (n1 := 512) r q) = uv m c r q := by
  after_reads_simp
  pointwise
  rfl

/-- A choice whose condition holds. -/
theorem sel_pos {b : BitVec 1} (h : b = 1#1) (x y : EReal) : Scalar.select b x y = x := by
  subst h
  rfl

/-- The mixing weights on and below the diagonal. -/
theorem v14_at (r : Fin 64) (q : Fin 256) (hr : r.val % 8 ≤ r.val / 8) :
    (V m c main_v14 : Vec Ideal S64x256 .f32) (ix2 (n0 := 64) (n1 := 256) r q)
      = (kArgs m c).ws ⟨q.val / 64, by omega⟩ ⟨r.val / 8, by omega⟩ ⟨r.val % 8, by omega⟩ := by
  unfold_abbrev_sides
  after_reads_simp
  simp only [StableHlo.TRef.toBuf, StableHlo.TRef.ofBuf, cast_eq]
  pointwise
  refine (sel_pos (tri_pos r hr) _ _).trans ?_
  rfl

/-- The biases. -/
theorem v18_at (r : Fin 8) (q : Fin 256) :
    (V m c main_v18 : Vec Ideal S8x256 .f32) (ix2 (n0 := 8) (n1 := 256) r q) = (kArgs m c).bs ⟨q.val / 64, by omega⟩ ⟨r.val, by omega⟩ := by
  unfold_abbrev_sides
  after_reads_simp
  pointwise

/-- The norm's factors as one row. -/
theorem v19_at (r : Fin 1) (q : Fin 256) :
    (V m c main_v19 : Vec Ideal S1x256 .f32) (ix2 (n0 := 1) (n1 := 256) r q) = (kArgs m c).lg q := by
  unfold_abbrev_sides
  after_reads_simp
  pointwise

/-- The norm's shifts as one row. -/
theorem v20_at (r : Fin 1) (q : Fin 256) :
    (V m c main_v20 : Vec Ideal S1x256 .f32) (ix2 (n0 := 1) (n1 := 256) r q) = (kArgs m c).lb q := by
  unfold_abbrev_sides
  after_reads_simp
  pointwise

/-- The gain as one row. -/
theorem v21_at (r : Fin 1) (q : Fin 256) :
    (V m c main_v21 : Vec Ideal S1x256 .f32) (ix2 (n0 := 1) (n1 := 256) r q) = (kArgs m c).gain q := by
  unfold_abbrev_sides
  after_reads_simp
  pointwise

/-- Window 0's block number at a point. -/
theorem i0 : ∀ t : Fin cfg0.N, win0_0.index t = ![0, 0] := (by decide +kernel : ∀ t : Fin grid0.N, _)
/-- Window 0's block. -/
theorem blk0 (t : Fin cfg0.N) (r : Fin 1024) (q : Fin 512) :
    (iblk m c 0 t : Vec Ideal S1024x512 .f32) (ix2 (n0 := 1024) (n1 := 512) r q) = uv m c r q := by
  blk_simp [iblk]
  refine (congrArg (V m c main_v4) (a₂ := ix2 (n0 := 1024) (n1 := 512) r q) ?_).trans ?_
  · refine funext fun a => Fin.ext ?_
    blk_simp [i0]
    fin_cases a <;> simp [rb] <;> rfl
  · exact v4_at m c _ _

/-- Window 1's block number at a point. -/
theorem i1 : ∀ t : Fin cfg0.N, win0_1.index t = ![0, 0] := (by decide +kernel : ∀ t : Fin grid0.N, _)
/-- Window 1's block. -/
theorem blk1 (t : Fin cfg0.N) (r : Fin 1) (q : Fin 256) :
    (iblk m c 1 t : Vec Ideal S1x256 .f32) (ix2 (n0 := 1) (n1 := 256) r q) = (kArgs m c).lg q := by
  blk_simp [iblk]
  refine (congrArg (V m c main_v19) (a₂ := ix2 (n0 := 1) (n1 := 256) r q) ?_).trans ?_
  · refine funext fun a => Fin.ext ?_
    blk_simp [i1]
    fin_cases a <;> simp [rb] <;> rfl
  · exact v19_at m c _ _

/-- Window 2's block number at a point. -/
theorem i2 : ∀ t : Fin cfg0.N, win0_2.index t = ![0, 0] := (by decide +kernel : ∀ t : Fin grid0.N, _)
/-- Window 2's block. -/
theorem blk2 (t : Fin cfg0.N) (r : Fin 1) (q : Fin 256) :
    (iblk m c 2 t : Vec Ideal S1x256 .f32) (ix2 (n0 := 1) (n1 := 256) r q) = (kArgs m c).lb q := by
  blk_simp [iblk]
  refine (congrArg (V m c main_v20) (a₂ := ix2 (n0 := 1) (n1 := 256) r q) ?_).trans ?_
  · refine funext fun a => Fin.ext ?_
    blk_simp [i2]
    fin_cases a <;> simp [rb] <;> rfl
  · exact v20_at m c _ _

/-- Window 4's block number at a point. -/
theorem i4 : ∀ t : Fin cfg0.N, win0_4.index t = ![0, 0] := (by decide +kernel : ∀ t : Fin grid0.N, _)
/-- Window 4's block. -/
theorem blk4 (t : Fin cfg0.N) (r : Fin 8) (q : Fin 256) :
    (iblk m c 4 t : Vec Ideal S8x256 .f32) (ix2 (n0 := 8) (n1 := 256) r q) = (kArgs m c).bs ⟨q.val / 64, by omega⟩ ⟨r.val, by omega⟩ := by
  blk_simp [iblk]
  refine (congrArg (V m c main_v18) (a₂ := ix2 (n0 := 8) (n1 := 256) r q) ?_).trans ?_
  · refine funext fun a => Fin.ext ?_
    blk_simp [i4]
    fin_cases a <;> simp [rb] <;> rfl
  · exact v18_at m c _ _

/-- Window 5's block number at a point. -/
theorem i5 : ∀ t : Fin cfg0.N, win0_5.index t = ![0, 0] := (by decide +kernel : ∀ t : Fin grid0.N, _)
/-- Window 5's block. -/
theorem blk5 (t : Fin cfg0.N) (r : Fin 1) (q : Fin 256) :
    (iblk m c 5 t : Vec Ideal S1x256 .f32) (ix2 (n0 := 1) (n1 := 256) r q) = (kArgs m c).gain q := by
  blk_simp [iblk]
  refine (congrArg (V m c main_v21) (a₂ := ix2 (n0 := 1) (n1 := 256) r q) ?_).trans ?_
  · refine funext fun a => Fin.ext ?_
    blk_simp [i5]
    fin_cases a <;> simp [rb] <;> rfl
  · exact v21_at m c _ _

/-- Window 3's block number at a point. -/
theorem i3 : ∀ t : Fin cfg0.N, win0_3.index t = ![0, 0] := (by decide +kernel : ∀ t : Fin grid0.N, _)
/-- Window 3's block. -/
theorem blk3 (t : Fin cfg0.N) (r : Fin 64) (q : Fin 256) (hr : r.val % 8 ≤ r.val / 8) :
    (iblk m c 3 t : Vec Ideal S64x256 .f32) (ix2 (n0 := 64) (n1 := 256) r q) = (kArgs m c).ws ⟨q.val / 64, by omega⟩ ⟨r.val / 8, by omega⟩ ⟨r.val % 8, by omega⟩ := by
  blk_simp [iblk]
  refine (congrArg (V m c main_v14) (a₂ := ix2 (n0 := 64) (n1 := 256) r q) ?_).trans ?_
  · refine funext fun a => Fin.ext ?_
    blk_simp [i3]
    fin_cases a <;> simp [rb] <;> rfl
  · exact v14_at m c _ _ hr

end Cert.Proof.Gmlp
-- ==== Proof.GmlpBlock.lean ====
module
public import proofs.«01_k».proof.Proof.GmlpRows
public import proofs.«01_k».proof.Proof.GmlpHost
@[expose] public section
set_option maxRecDepth 16384
noncomputable section
namespace Cert.Proof.Gmlp
open Idealize.ShloMosaic Idealize.SL.Sem Idealize.ShloMosaic.TcCoe Cert.Kernel4Ideal Cert.Kernel4Ideal.Gen
variable (m : (ℓ : Loc nD τ sig) → Buf (Elt Ideal) ℓ) (c : Dev nD) (t : Fin cfg0.N)

/-- The first half as the kernel reads it. -/
theorem u_at (i : Fin 8) (b : Fin 128) (q : Fin 256) :
    (k0_pay1 (View.ld (iblk m c 0 t) r0_0) : FVec Ideal S1024x256 .f32) (ix2 (n0 := 1024) (n1 := 256) (rowN i.val i.isLt b) q) = (kArgs m c).u b i q := by
  unfold k0_pay1
  pointwise
  refine (blk0 m c t _ _).trans ((dif_pos q.isLt).trans ?_)
  refine congr (congrArg₂ (kArgs m c).u (Fin.ext ?_) (Fin.ext ?_)) rfl
  all_goals simp [rb, rt, rowN_val] <;> omega

/-- The second half as the kernel reads it. -/
theorem v_at (i : Fin 8) (b : Fin 128) (q : Fin 256) :
    (View.ld (iblk m c 0 t) r0_1 : Vec Ideal S1024x256 .f32) (ix2 (n0 := 1024) (n1 := 256) (rowN i.val i.isLt b) q) = (kArgs m c).v b i q := by
  pointwise
  refine (blk0 m c t _ _).trans ((dif_neg (by simp)).trans ?_)
  refine congr (congrArg₂ (kArgs m c).v (Fin.ext ?_) (Fin.ext ?_)) (Fin.ext ?_)
  all_goals simp [rb, rt, rowN_val] <;> omega

/-- The kernel's norm at an index, over any vectors. -/
theorem norm_at (y : Vec Ideal S1024x256 .f32) (x1 x2 : Vec Ideal S1x256 .f32) (r : Fin 1024) (q : Fin 256) :
    (k0_pay2 y x1 x2) (ix2 (n0 := 1024) (n1 := 256) r q)
      = (y (ix2 (n0 := 1024) (n1 := 256) r q) - Ideal.div (∑ x : Fin 256, y (ix2 (n0 := 1024) (n1 := 256) r x)) (Ideal.ofBits FTy.f32 0x43800000#32))
        * Ideal.rsqrt (Ideal.div (∑ x : Fin 256,
            (y (ix2 (n0 := 1024) (n1 := 256) r x) - Ideal.div (∑ x : Fin 256, y (ix2 (n0 := 1024) (n1 := 256) r x)) (Ideal.ofBits FTy.f32 0x43800000#32))
            * (y (ix2 (n0 := 1024) (n1 := 256) r x) - Ideal.div (∑ x : Fin 256, y (ix2 (n0 := 1024) (n1 := 256) r x)) (Ideal.ofBits FTy.f32 0x43800000#32)))
            (Ideal.ofBits FTy.f32 0x43800000#32) + Ideal.ofBits FTy.f32 0x358637BD#32)
        * x1 (ix2 (n0 := 1) (n1 := 256) 0 q) + x2 (ix2 (n0 := 1) (n1 := 256) 0 q) := by
  unfold k0_pay2
  pointwise

/-- The norm as the kernel computes it. -/
theorem vn_at (i : Fin 8) (b : Fin 128) (q : Fin 256) :
    (k0_pay2 (View.ld (iblk m c 0 t) r0_1) (View.ld (iblk m c 1 t) r0_2) (View.ld (iblk m c 2 t) r0_2))
      (ix2 (n0 := 1024) (n1 := 256) (rowN i.val i.isLt b) q) = vn (kArgs m c) b i q := by
  rw [norm_at]
  simp only [v_at]
  refine congrArg₂ (· + ·) (congrArg₂ (· * ·) rfl ?_) ?_
  · pointwise
    exact blk1 m c t _ _
  · pointwise
    exact blk2 m c t _ _

/-- What the kernel reads is the arguments, laid out by the host code. -/
theorem lay : Lay (k0_pay1 (View.ld (iblk m c 0 t) r0_0))
    (k0_pay2 (View.ld (iblk m c 0 t) r0_1) (View.ld (iblk m c 1 t) r0_2) (View.ld (iblk m c 2 t) r0_2))
    (k0_pay3 (View.ld (iblk m c 3 t) r0_4)) (k0_pay4 (View.ld (iblk m c 4 t) r0_5)) (View.ld (iblk m c 5 t) r0_2) (kArgs m c) where
  u i b q := u_at m c t i b q
  v i b q := vn_at m c t i b q
  w i n q h := by
    unfold k0_pay3
    pointwise
    refine (blk3 m c t _ _ ?_).trans ?_
    · have := Fin.le_def.mp h
      simp
      omega
    · refine congr (congrArg₂ (kArgs m c).ws rfl (Fin.ext ?_)) (Fin.ext ?_)
      all_goals simp <;> omega
  b i q := by
    unfold k0_pay4
    pointwise
    exact blk4 m c t _ _
  g q := by
    pointwise
    exact blk5 m c t _ _

/-- A row of the result by its number. -/
theorem rows_at (f : Fin 128 → Fin 8 → Fin 256 → EReal) (i : Fin 8) (b : Fin 128) (q : Fin 256) (R : Fin 1024) (Q : Fin 256)
    (hR : R.val = 128 * i.val + b.val) (hQ : Q.val = q.val) : f b i q = rows f R Q := by
  unfold rows
  refine congr (congrArg₂ f (Fin.ext ?_) (Fin.ext ?_)) (Fin.ext hQ.symm)
  · show b.val = R.val % 128
    omega
  · show i.val = R.val / 128
    omega

/-- The specification's rows as the first result's buffer. -/
def out6 (A : Args) : Vec Ideal S1024x256 .bf16 := fun j => rows (out A) (j 0) (j 1)
/-- The specification's rows as the second result's buffer. -/
def out7 (A : Args) : Vec Ideal S1024x256 .f32 := fun j => rows (vn A) (j 0) (j 1)

/-- The block of the first result: eight blocks of rows, one of each position. -/
theorem out6_at : out0_6 (iblk m c 0 t) (iblk m c 1 t) (iblk m c 2 t) (iblk m c 3 t) (iblk m c 4 t) (iblk m c 5 t)
    = out6 (kArgs m c) := by
  have L := lay m c t
  unfold_out out0_6
  funext y
  refine View.canon_apply_of_pieces (out6 (kArgs m c)) _ (View.PiecesOf.mem ?_) y (cover0_6 _ _ _ _ _ _ _ _ y)
  refine ⟨fun x => ?_, fun x => ?_, fun x => ?_, fun x => ?_, fun x => ?_, fun x => ?_, fun x => ?_, fun x => ?_, trivial⟩
  · idx_vars x
    exact ((p7 _ _ _ _ _ _ _).trans (outp_eq L 7 _ _)).trans (rows_at _ _ _ _ _ _ (by simp) (by simp))
  · idx_vars x
    exact ((p6 _ _ _ _ _ _ _).trans (outp_eq L 6 _ _)).trans (rows_at _ _ _ _ _ _ (by simp) (by simp))
  · idx_vars x
    exact ((p5 _ _ _ _ _ _ _).trans (outp_eq L 5 _ _)).trans (rows_at _ _ _ _ _ _ (by simp) (by simp))
  · idx_vars x
    exact ((p4 _ _ _ _ _ _ _).trans (outp_eq L 4 _ _)).trans (rows_at _ _ _ _ _ _ (by simp) (by simp))
  · idx_vars x
    exact ((p3 _ _ _ _ _ _ _).trans (outp_eq L 3 _ _)).trans (rows_at _ _ _ _ _ _ (by simp) (by simp))
  · idx_vars x
    exact ((p2 _ _ _ _ _ _ _).trans (outp_eq L 2 _ _)).trans (rows_at _ _ _ _ _ _ (by simp) (by simp))
  · idx_vars x
    exact ((p1 _ _ _ _ _ _ _).trans (outp_eq L 1 _ _)).trans (rows_at _ _ _ _ _ _ (by simp) (by simp))
  · idx_vars x
    exact ((p0 _ _ _ _ _ _ _ _ _).trans (outp_eq L 0 _ _)).trans (rows_at _ _ _ _ _ _ (by simp) (by simp))

/-- The norm as the kernel computes it, by the row's number. -/
theorem vn_row (r : Fin 1024) (q : Fin 256) :
    (k0_pay2 (View.ld (iblk m c 0 t) r0_1) (View.ld (iblk m c 1 t) r0_2) (View.ld (iblk m c 2 t) r0_2))
      (ix2 (n0 := 1024) (n1 := 256) r q) = rows (vn (kArgs m c)) r q := by
  have hr : r = rowN (r.val / 128) (by omega) ⟨r.val % 128, by omega⟩ := Fin.ext (by rw [rowN_val]; simp; omega)
  rw [hr]
  exact (vn_at m c t ⟨r.val / 128, by omega⟩ ⟨r.val % 128, by omega⟩ q).trans (rows_at _ _ _ _ _ _ (by simp [rowN_val]) (by simp))

/-- The block of the second result: the norm. -/
theorem out7_at : out0_7 (iblk m c 0 t) (iblk m c 1 t) (iblk m c 2 t) (iblk m c 3 t) (iblk m c 4 t) (iblk m c 5 t)
    = out7 (kArgs m c) := by
  unfold_out out0_7
  funext y
  refine View.canon_apply_of_pieces (out7 (kArgs m c)) _ (View.PiecesOf.mem ?_) y (cover0_7 _ y)
  refine ⟨fun x => ?_, trivial⟩
  idx_vars x
  exact (vn_row m c t _ _).trans (congrArg₂ (rows (vn (kArgs m c))) (Fin.ext (by simp)) (Fin.ext (by simp)))

end Cert.Proof.Gmlp
-- ==== Proof.GmlpRef.lean ====
module
public import proofs.«01_k».proof.Proof.GmlpSpec
public import Idealize.ShloMosaic.Lib.KernelVsHost
@[expose] public section
set_option maxRecDepth 16384
noncomputable section
namespace Cert.Proof.Gmlp
open Idealize.ShloMosaic Idealize.SL.Sem Idealize.ShloMosaic.TcCoe Cert.Reference4Ideal Cert.Reference4Ideal.Gen Cert.Reference4Ideal.Value
/-- A place of the padded rows lies among the rows themselves. -/
abbrev Inside (b : Fin 128) (x : Fin 128) (d : Fin 256) : Prop :=
  ∀ a : Fin S128x8x256.rank, (![0, 0, 0] : Fin 3 → ℕ) a ≤ (ix3 (n0 := 128) (n1 := 128) (n2 := 256) b x d a).val
    ∧ ((ix3 (n0 := 128) (n1 := 128) (n2 := 256) b x d a).val - (![0, 0, 0] : Fin 3 → ℕ) a) % ((![0, 0, 0] : Fin 3 → ℕ) a + 1) = 0
    ∧ ((ix3 (n0 := 128) (n1 := 128) (n2 := 256) b x d a).val - (![0, 0, 0] : Fin 3 → ℕ) a) / ((![0, 0, 0] : Fin 3 → ℕ) a + 1) < S128x8x256.size a

/-- That is: the position is below 8. -/
theorem inside_iff (b : Fin 128) (x : Fin 128) (d : Fin 256) : Inside b x d ↔ x.val < 8 := by
  constructor
  · intro h
    have := (h 1).2.2
    simpa using this
  · intro h a
    have hb := b.isLt
    have hd := d.isLt
    fin_cases a
    · exact ⟨Nat.zero_le _, Nat.mod_one _, (Nat.div_one _).trans_lt hb⟩
    · exact ⟨Nat.zero_le _, Nat.mod_one _, (Nat.div_one _).trans_lt h⟩
    · exact ⟨Nat.zero_le _, Nat.mod_one _, (Nat.div_one _).trans_lt hd⟩

/-- The norm padded with zero rows to the 128 rows of the weights. -/
def padded (A : Args) (b : Fin 128) (x : Fin 128) (d : Fin 256) : EReal :=
  if h : Inside b x d then vn A b ⟨x.val, (inside_iff b x d).1 h⟩ d else (FloatOps.sitofp FTy.f32 0#32 : Ideal .f32)

/-- A row of the padded norm: the norm's, or zero. -/
theorem padded_at (A : Args) (b : Fin 128) (x : Fin 128) (d : Fin 256) :
    padded A b x d = if h : x.val < 8 then vn A b ⟨x.val, h⟩ d else 0 := by
  unfold padded
  by_cases h : x.val < 8
  · rw [dif_pos h, dif_pos ((inside_iff b x d).2 h)]
  · rw [dif_neg h, dif_neg (fun hh => h ((inside_iff b x d).1 hh))]
    exact sitofp_zero (φ := .f32)

/-- A weight of the lower triangle, or zero. -/
def low (A : Args) (h : Fin 4) (i x : Fin 128) : EReal :=
  Scalar.select (Scalar.select (IntOp.cmpi CmpIPredicate.sge (IntOp.addi (BitVec.ofNat 32 i.val) 0#32) (BitVec.ofNat 32 x.val)) 1#1 0#1)
    (A.ws h i x) (id (constant S_ FTy.f32 0#32 : FVec Ideal S_ .f32) ix0)

/-- The comparison is that of the two positions. -/
theorem tri_eq : ∀ (i : Fin 8) (x : Fin 128), IntOp.cmpi CmpIPredicate.sge (IntOp.addi (BitVec.ofNat 32 i.val) 0#32) (BitVec.ofNat 32 x.val)
    = if x.val ≤ i.val then 1#1 else 0#1 := by decide +kernel

/-- So the weight is kept up to the position and zero after it. -/
theorem low_at (A : Args) (h : Fin 4) (i : Fin 8) (x : Fin 128) :
    low A h ⟨i.val, by omega⟩ x = if x.val ≤ i.val then A.ws h ⟨i.val, by omega⟩ x else 0 := by
  unfold low
  rw [tri_eq i x]
  split
  · rfl
  · exact Ideal.ofBits_zero_f32

/-- The reference's mixed rows. -/
def rmix (A : Args) (b : Fin 128) (i : Fin 8) (q : Fin 256) : EReal :=
  (∑ x : Fin 128, padded A b x q * low A ⟨q.val / 64, by omega⟩ ⟨i.val, by omega⟩ x) + A.bs ⟨q.val / 64, by omega⟩ ⟨i.val, by omega⟩

/-- The padding and the triangle leave the rows up to the position. -/
theorem rmix_eq (A : Args) (b : Fin 128) (i : Fin 8) (q : Fin 256) : rmix A b i q = mixed A b i q := by
  unfold rmix mixed
  refine congrArg (· + _) ?_
  rw [show (∑ x : Fin 128, padded A b x q * low A ⟨q.val / 64, by omega⟩ ⟨i.val, by omega⟩ x)
    = ∑ x : Fin (8 + 120), padded A b x q * low A ⟨q.val / 64, by omega⟩ ⟨i.val, by omega⟩ x from rfl, Fin.sum_univ_add,
    Finset.sum_eq_zero (s := (Finset.univ : Finset (Fin 120))), add_zero]
  · refine Finset.sum_congr rfl fun j _ => ?_
    rw [padded_at, low_at, dif_pos (show (Fin.castAdd 120 j).val < 8 from j.isLt)]
    by_cases h : j ≤ i
    · rw [if_pos (show (Fin.castAdd 120 j).val ≤ i.val from h), if_pos h]; rfl
    · rw [if_neg (show ¬(Fin.castAdd 120 j).val ≤ i.val from h), if_neg h, mul_zero]
  · intro j _
    rw [padded_at, dif_neg (show ¬(Fin.natAdd 8 j).val < 8 by simp), zero_mul]

variable (m' : (ℓ : Loc nD τ sig) → Buf (Elt Ideal) ℓ) (c : Dev nD)

/-- The reference's result with its own mixed rows. -/
theorem ref_at' (r : Fin 1024) (q : Fin 256) :
    (res_main_v54 m' c : Vec Ideal S1024x256 .bf16) (ix2 (n0 := 1024) (n1 := 256) r q)
      = rows (fun b t q => (rArgs m' c).u b t q * rmix (rArgs m' c) b t q * Ideal.rsqrt (Ideal.div (∑ x : Fin 256,
          (rArgs m' c).u b t x * rmix (rArgs m' c) b t x * ((rArgs m' c).u b t x * rmix (rArgs m' c) b t x)) (Ideal.ofBits FTy.f32 0x43800000#32)
        + Ideal.ofBits FTy.f32 0x358637BD#32) * (rArgs m' c).gain q) r q := by
  unfold res_main_v54
  pointwise
  rfl

/-- The reference's first result at an index. -/
theorem ref_at (r : Fin 1024) (q : Fin 256) :
    (res_main_v54 m' c : Vec Ideal S1024x256 .bf16) (ix2 (n0 := 1024) (n1 := 256) r q) = rows (out (rArgs m' c)) r q := by
  rw [ref_at']
  simp only [rmix_eq]
  rfl

end Cert.Proof.Gmlp
-- ==== Proof.GmlpClaim.lean ====
module
public import proofs.«01_k».proof.Proof.GmlpBlock
public import proofs.«01_k».proof.Proof.GmlpRef
@[expose] public section
set_option maxRecDepth 16384
noncomputable section
namespace Cert.Proof.Gmlp
open Idealize.ShloMosaic Idealize.SL.Sem Idealize.ShloMosaic.TcCoe Cert.Kernel4Ideal Cert.Kernel4Ideal.Gen

/-- The windows of the results do not move. -/
theorem i6 : ∀ t : Fin cfg0.N, win0_6.index t = ![0, 0] := (by decide +kernel : ∀ t : Fin grid0.N, _)
/-- The windows of the results do not move. -/
theorem i7 : ∀ t : Fin cfg0.N, win0_7.index t = ![0, 0] := (by decide +kernel : ∀ t : Fin grid0.N, _)

variable (m : (ℓ : Loc nD τ sig) → Buf (Elt Ideal) ℓ) (c : Dev nD)

/-- The kernel's first result. -/
theorem arr6 : (dats m 0 c).arrAt 6 cfg0.N = out6 (kArgs m c) := by
  refine (dats m 0 c).arrAt_eq_of_covers 6 _ (by decide +kernel) fun t hf y => ?_
  blk_simp
  rw [after0_6, out6_at]
  refine congrArg (out6 (kArgs m c)) (funext fun a => Fin.ext ?_)
  blk_simp [i6]
  fin_cases a <;> simp <;> rfl

/-- The kernel's second result. -/
theorem arr7 : (dats m 0 c).arrAt 7 cfg0.N = out7 (kArgs m c) := by
  refine (dats m 0 c).arrAt_eq_of_covers 7 _ (by decide +kernel) fun t hf y => ?_
  blk_simp
  rw [after0_7, out7_at]
  refine congrArg (out7 (kArgs m c)) (funext fun a => Fin.ext ?_)
  blk_simp [i7]
  fin_cases a <;> simp <;> rfl

/-- The kernel's two results are the reference's, over the extended reals. -/
theorem algebraic : Cert.algebraic_Kernel4Ideal_Reference4Ideal := fun m g m' g' _ hag => by
  refine ⟨fun c => (dats m 0 c).arrAt 6 cfg0.N, fun c => (dats m 0 c).arrAt 7 cfg0.N, Cert.Kernel4Ideal.Value.run_blocks m g,
    (θ_run _ _ _).mono (fun _ h c => ⟨(h c).1.trans ?_, (h c).2.1.trans ?_, (h c).2.2⟩) (Cert.Reference4Ideal.Value.run m' g')⟩
  · refine Eq.trans ?_ (arr6 m c).symm
    rw [← args_eq (hag c)]
    funext j
    idx_vars j
    exact ref_at m' c _ _
  · refine Eq.trans ?_ (arr7 m c).symm
    rw [← args_eq (hag c)]
    funext j
    idx_vars j
    pointwise
    rfl
end Cert.Proof.Gmlp
-- ==== Proof.CombArgs.lean ====
module
public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise
@[expose] public section
set_option maxRecDepth 16384
noncomputable section
namespace Cert.Proof.Comb
open Idealize.ShloMosaic Idealize.SL.Sem Idealize.ShloMosaic.TcCoe

/-- The joining of the experts' rows: its arguments, read by coordinates. -/
structure Args where
  x : Fin 8 → Fin 2048 → Fin 1024 → EReal
  y : Fin 2 → Fin 17408 → Fin 1024 → EReal
  rt : Fin 17408 → Fin 128 → EReal
  g2 : Fin 8 → Fin 1 → Fin 1024 → EReal
  fg : Fin 1024 → EReal

variable (m : (ℓ : Loc Cert.Kernel5Ideal.nD Cert.Kernel5Ideal.τ Cert.Kernel5Ideal.sig) → Buf (Elt Ideal) ℓ)
  (m' : (ℓ : Loc Cert.Reference5Ideal.nD Cert.Reference5Ideal.τ Cert.Reference5Ideal.sig) → Buf (Elt Ideal) ℓ) (c : Dev Cert.Kernel5Ideal.nD)

/-- The arguments in the kernel's memory. -/
def kArgs : Args where
  x := fun a b d => (m ((c : Thread Cert.Kernel5Ideal.nD Cert.Kernel5Ideal.τ).loc Cert.Kernel5Ideal.main_arg0) : Vec Ideal Cert.Kernel5Ideal.S8x2048x1024 .f32) (ix3 (n0 := 8) (n1 := 2048) (n2 := 1024) a b d)
  y := fun a b d => (m ((c : Thread Cert.Kernel5Ideal.nD Cert.Kernel5Ideal.τ).loc Cert.Kernel5Ideal.main_arg1) : Vec Ideal Cert.Kernel5Ideal.S2x17408x1024 .f32) (ix3 (n0 := 2) (n1 := 17408) (n2 := 1024) a b d)
  rt := fun a b => (m ((c : Thread Cert.Kernel5Ideal.nD Cert.Kernel5Ideal.τ).loc Cert.Kernel5Ideal.main_arg2) : Vec Ideal Cert.Kernel5Ideal.S17408x128 .f32) (ix2 (n0 := 17408) (n1 := 128) a b)
  g2 := fun a b d => (m ((c : Thread Cert.Kernel5Ideal.nD Cert.Kernel5Ideal.τ).loc Cert.Kernel5Ideal.main_arg3) : Vec Ideal Cert.Kernel5Ideal.S8x1x1024 .f32) (ix3 (n0 := 8) (n1 := 1) (n2 := 1024) a b d)
  fg := fun a => (m ((c : Thread Cert.Kernel5Ideal.nD Cert.Kernel5Ideal.τ).loc Cert.Kernel5Ideal.main_arg4) : Vec Ideal Cert.Kernel5Ideal.S1024 .f32) (ix1 (n0 := 1024) a)

/-- The arguments in the reference's memory. -/
def rArgs : Args where
  x := fun a b d => (m' ((c.tc : Thread Cert.Reference5Ideal.nD Cert.Reference5Ideal.τ).loc Cert.Reference5Ideal.main_arg0) : Vec Ideal Cert.Reference5Ideal.S8x2048x1024 .f32) (ix3 (n0 := 8) (n1 := 2048) (n2 := 1024) a b d)
  y := fun a b d => (m' ((c.tc : Thread Cert.Reference5Ideal.nD Cert.Reference5Ideal.τ).loc Cert.Reference5Ideal.main_arg1) : Vec Ideal Cert.Reference5Ideal.S2x17408x1024 .f32) (ix3 (n0 := 2) (n1 := 17408) (n2 := 1024) a b d)
  rt := fun a b => (m' ((c.tc : Thread Cert.Reference5Ideal.nD Cert.Reference5Ideal.τ).loc Cert.Reference5Ideal.main_arg2) : Vec Ideal Cert.Reference5Ideal.S17408x128 .f32) (ix2 (n0 := 17408) (n1 := 128) a b)
  g2 := fun a b d => (m' ((c.tc : Thread Cert.Reference5Ideal.nD Cert.Reference5Ideal.τ).loc Cert.Reference5Ideal.main_arg3) : Vec Ideal Cert.Reference5Ideal.S8x1x1024 .f32) (ix3 (n0 := 8) (n1 := 1) (n2 := 1024) a b d)
  fg := fun a => (m' ((c.tc : Thread Cert.Reference5Ideal.nD Cert.Reference5Ideal.τ).loc Cert.Reference5Ideal.main_arg4) : Vec Ideal Cert.Reference5Ideal.S1024 .f32) (ix1 (n0 := 1024) a)

/-- The two programs are launched on the same arguments. -/
def Agree : Prop :=
  m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
  ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
  ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
  ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
  ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)

variable {m m' c}

/-- So the two readings agree. -/
theorem args_eq (H : Agree m m' c) : rArgs m' c = kArgs m c := by
  obtain ⟨h0, h1, h2, h3, h4⟩ := H
  simp only [rArgs, kArgs, Args.mk.injEq]
  exact ⟨by rw [← h0], by rw [← h1], by rw [← h2], by rw [← h3], by rw [← h4]⟩

end Cert.Proof.Comb
-- ==== Proof.CombSpec.lean ====
module
public import proofs.«01_k».proof.Proof.CombArgs
@[expose] public section
set_option maxRecDepth 16384
noncomputable section
namespace Cert.Proof.Comb
open Idealize.ShloMosaic
variable (A : Args)

/-- The number of position `t` of sequence `b` among the tokens. -/
def tok (b : Fin 8) (t : Fin 2048) : Fin 17408 := ⟨b.val * 2048 + t.val, by omega⟩

/-- The residual: the rows of the token's two experts, weighted by their gates (columns 2 and 3) and added. -/
def res (b : Fin 8) (t : Fin 2048) (q : Fin 1024) : EReal :=
  A.x b t q + A.g2 b 0 q * (A.rt (tok b t) 2 * A.y 0 (tok b t) q + A.rt (tok b t) 3 * A.y 1 (tok b t) q)

/-- The result: its norm, with the gain. -/
def out (b : Fin 8) (t : Fin 2048) (q : Fin 1024) : EReal :=
  res A b t q * Ideal.rsqrt (Ideal.div (∑ k : Fin 1024, res A b t k * res A b t k) (Ideal.ofBits FTy.f32 0x44800000#32)
    + Ideal.ofBits FTy.f32 0x358637BD#32) * A.fg q

end Cert.Proof.Comb
-- ==== Proof.CombHost.lean ====
module
public import proofs.«01_k».proof.Proof.CombSpec
public import Idealize.ShloMosaic.Lib.StableHlo.RunRead
@[expose] public section
set_option maxRecDepth 16384
noncomputable section
namespace Cert.Proof.Comb
open Idealize.ShloMosaic Idealize.SL.Sem Idealize.ShloMosaic.TcCoe Cert.Kernel5Ideal Cert.Kernel5Ideal.Gen
variable (m : (ℓ : Loc nD τ sig) → Buf (Elt Ideal) ℓ) (c : Dev nD)

/-- The sequence of grid point `t`. -/
def sq (t : Fin cfg0.N) : Fin 8 := ⟨(grid0.coords t 0).val, (grid0.coords t 0).isLt⟩

/-- Position `r` of grid point `t`'s 1024 positions. -/
def row (t : Fin cfg0.N) (r : Fin 1024) : Fin 2048 :=
  ⟨(grid0.coords t 1).val * 1024 + r.val, by have : (grid0.coords t 1).val < 2 := (grid0.coords t 1).isLt; omega⟩

/-- The token of position `r` of grid point `t`. -/
def tk (t : Fin cfg0.N) (r : Fin 1024) : Fin 17408 := tok (sq t) (row t r)

/-- The experts' rows: eight rows of 128 for a token. -/
theorem v0_at (e : Fin 2) (p : Fin 139264) (l : Fin 128) :
    (V m c main_v0 : Vec Ideal S2x139264x128 .f32) (ix3 (n0 := 2) (n1 := 139264) (n2 := 128) e p l) = (kArgs m c).y e ⟨p.val / 8, by omega⟩ ⟨p.val % 8 * 128 + l.val, by omega⟩ := by
  unfold_abbrev_sides
  after_reads_simp
  pointwise

/-- The gain as one row. -/
theorem v1_at (r : Fin 1) (q : Fin 1024) :
    (V m c main_v1 : Vec Ideal S1x1024 .f32) (ix2 (n0 := 1) (n1 := 1024) r q) = (kArgs m c).fg q := by
  unfold_abbrev_sides
  after_reads_simp
  pointwise

/-- Window 0's block number at a point. -/
theorem i0 : ∀ t : Fin cfg0.N, win0_0.index t = ![(grid0.coords t 0).val, (grid0.coords t 1).val, 0] := (by decide +kernel : ∀ t : Fin grid0.N, _)
/-- Window 0's block. -/
theorem blk0 (t : Fin cfg0.N) (z : Fin 1) (r : Fin 1024) (q : Fin 1024) :
    (iblk m c 0 t : Vec Ideal S1x1024x1024 .f32) (ix3 (n0 := 1) (n1 := 1024) (n2 := 1024) z r q) = (kArgs m c).x (sq t) (row t r) q := by
  blk_simp [iblk]
  rw [show V m c main_arg0 = _ from V_main_arg0 m c]
  refine congrArg (m ((c : Thread nD τ).loc main_arg0)) (a₂ := ix3 (n0 := 8) (n1 := 2048) (n2 := 1024) (sq t) (row t r) q) ?_
  refine funext fun a => Fin.ext ?_
  blk_simp [i0]
  fin_cases a <;> simp [sq, row] <;> rfl

/-- Window 1's block number at a point. -/
theorem i1 : ∀ t : Fin cfg0.N, win0_1.index t = ![0, (grid0.coords t 0).val * 2 + (grid0.coords t 1).val, 0] := (by decide +kernel : ∀ t : Fin grid0.N, _)
/-- Window 1's block. -/
theorem blk1 (t : Fin cfg0.N) (z : Fin 1) (p : Fin 8192) (l : Fin 128) :
    (iblk m c 1 t : Vec Ideal S1x8192x128 .f32) (ix3 (n0 := 1) (n1 := 8192) (n2 := 128) z p l) = (kArgs m c).y 0 (tk t ⟨p.val / 8, by omega⟩) ⟨p.val % 8 * 128 + l.val, by omega⟩ := by
  blk_simp [iblk]
  refine (congrArg (V m c main_v0) (a₂ := ix3 (n0 := 2) (n1 := 139264) (n2 := 128) 0 ⟨(tk t ⟨p.val / 8, by omega⟩).val * 8 + p.val % 8, by have := (tk t ⟨p.val / 8, by omega⟩).isLt; omega⟩ l) ?_).trans ?_
  · refine funext fun a => Fin.ext ?_
    blk_simp [i1]
    fin_cases a <;> simp [sq, row, tok, tk] <;> omega
  · refine (v0_at m c _ _ _).trans (congrArg₂ (fun s q => (kArgs m c).y 0 s q) (Fin.ext ?_) (Fin.ext ?_))
    · simp only []; omega
    · simp only []; omega

/-- Window 2's block number at a point. -/
theorem i2 : ∀ t : Fin cfg0.N, win0_2.index t = ![1, (grid0.coords t 0).val * 2 + (grid0.coords t 1).val, 0] := (by decide +kernel : ∀ t : Fin grid0.N, _)
/-- Window 2's block. -/
theorem blk2 (t : Fin cfg0.N) (z : Fin 1) (p : Fin 8192) (l : Fin 128) :
    (iblk m c 2 t : Vec Ideal S1x8192x128 .f32) (ix3 (n0 := 1) (n1 := 8192) (n2 := 128) z p l) = (kArgs m c).y 1 (tk t ⟨p.val / 8, by omega⟩) ⟨p.val % 8 * 128 + l.val, by omega⟩ := by
  blk_simp [iblk]
  refine (congrArg (V m c main_v0) (a₂ := ix3 (n0 := 2) (n1 := 139264) (n2 := 128) 1 ⟨(tk t ⟨p.val / 8, by omega⟩).val * 8 + p.val % 8, by have := (tk t ⟨p.val / 8, by omega⟩).isLt; omega⟩ l) ?_).trans ?_
  · refine funext fun a => Fin.ext ?_
    blk_simp [i2]
    fin_cases a <;> simp [sq, row, tok, tk] <;> omega
  · refine (v0_at m c _ _ _).trans (congrArg₂ (fun s q => (kArgs m c).y 1 s q) (Fin.ext ?_) (Fin.ext ?_))
    · simp only []; omega
    · simp only []; omega

/-- Window 3's block number at a point. -/
theorem i3 : ∀ t : Fin cfg0.N, win0_3.index t = ![(grid0.coords t 0).val * 2 + (grid0.coords t 1).val, 0] := (by decide +kernel : ∀ t : Fin grid0.N, _)
/-- Window 3's block. -/
theorem blk3 (t : Fin cfg0.N) (r : Fin 1024) (l : Fin 128) :
    (iblk m c 3 t : Vec Ideal S1024x128 .f32) (ix2 (n0 := 1024) (n1 := 128) r l) = (kArgs m c).rt (tk t r) l := by
  blk_simp [iblk]
  rw [show V m c main_arg2 = _ from V_main_arg2 m c]
  refine congrArg (m ((c : Thread nD τ).loc main_arg2)) (a₂ := ix2 (n0 := 17408) (n1 := 128) (tk t r) l) ?_
  refine funext fun a => Fin.ext ?_
  blk_simp [i3]
  fin_cases a <;> simp [sq, row, tok, tk] <;> omega

/-- Window 4's block number at a point. -/
theorem i4 : ∀ t : Fin cfg0.N, win0_4.index t = ![(grid0.coords t 0).val, 0, 0] := (by decide +kernel : ∀ t : Fin grid0.N, _)
/-- Window 4's block. -/
theorem blk4 (t : Fin cfg0.N) (y z : Fin 1) (q : Fin 1024) :
    (iblk m c 4 t : Vec Ideal S1x1x1024 .f32) (ix3 (n0 := 1) (n1 := 1) (n2 := 1024) y z q) = (kArgs m c).g2 (sq t) z q := by
  blk_simp [iblk]
  rw [show V m c main_arg3 = _ from V_main_arg3 m c]
  refine congrArg (m ((c : Thread nD τ).loc main_arg3)) (a₂ := ix3 (n0 := 8) (n1 := 1) (n2 := 1024) (sq t) z q) ?_
  refine funext fun a => Fin.ext ?_
  blk_simp [i4]
  fin_cases a <;> simp [sq, row] <;> rfl

/-- Window 5's block number at a point. -/
theorem i5 : ∀ t : Fin cfg0.N, win0_5.index t = ![0, 0] := (by decide +kernel : ∀ t : Fin grid0.N, _)
/-- Window 5's block. -/
theorem blk5 (t : Fin cfg0.N) (r : Fin 1) (q : Fin 1024) :
    (iblk m c 5 t : Vec Ideal S1x1024 .f32) (ix2 (n0 := 1) (n1 := 1024) r q) = (kArgs m c).fg q := by
  blk_simp [iblk]
  refine (congrArg (V m c main_v1) (a₂ := ix2 (n0 := 1) (n1 := 1024) r q) ?_).trans ?_
  · refine funext fun a => Fin.ext ?_
    blk_simp [i5]
    fin_cases a <;> simp [sq, row] <;> rfl
  · exact v1_at m c _ _

end Cert.Proof.Comb
-- ==== Proof.CombBlock.lean ====
module
public import proofs.«01_k».proof.Proof.CombHost
@[expose] public section
set_option maxRecDepth 16384
noncomputable section
namespace Cert.Proof.Comb
open Idealize.ShloMosaic Idealize.SL.Sem Idealize.ShloMosaic.TcCoe Cert.Kernel5Ideal Cert.Kernel5Ideal.Gen
variable (m : (ℓ : Loc nD τ sig) → Buf (Elt Ideal) ℓ) (c : Dev nD) (t : Fin cfg0.N)

/-- Every eighth row of a block, from row `k`: piece `k` of each token's row. -/
theorem piece_at (a : Memref sig .tc .vmem S1x8192x128 .f32) (ha : a.IsWhole) (X : Vec Ideal S1x8192x128 .f32) (k : Nat) (hk : k < 8)
    (h : ∀ a' : Fin S1x8192x128.rank, (![1, 1024, 128] : Fin 3 → Nat) a' = 0 ∨
      (![0, k, 0] : Fin 3 → Nat) a' + (![1, 8, 1] : Fin 3 → Nat) a' * ((![1, 1024, 128] : Fin 3 → Nat) a' - 1) < S1x8192x128.size a')
    (z : Fin 1) (r : Fin 1024) (l : Fin 128) :
    View.readAt (Elt Ideal) a.view (⟨![0, k, 0], ![1, 1024, 128], ![1, 8, 1], h⟩ : LoadRect S1x8192x128) (ha.unread X)
        (ix3 (n0 := 1) (n1 := 1024) (n2 := 128) z r l)
      = X (ix3 (n0 := 1) (n1 := 8192) (n2 := 128) 0 ⟨r.val * 8 + k, by omega⟩ l) := by
  rw [View.readAt_apply, ha.read_unread]
  refine congrArg X (funext fun a' => Fin.ext ?_)
  fin_cases a' <;> simp [LoadRect.idx] <;> omega

/-- Eight pieces side by side. -/
def join8 (v : Fin 8 → Vec Ideal S1x1024x128 .f32) (r q : Fin 1024) : EReal :=
  if h0 : q.val < 128 then v 0 (ix3 (n0 := 1) (n1 := 1024) (n2 := 128) 0 r ⟨q.val, h0⟩)
  else if h1 : q.val - 128 < 128 then v 1 (ix3 (n0 := 1) (n1 := 1024) (n2 := 128) 0 r ⟨q.val - 128, h1⟩)
  else if h2 : q.val - 128 - 128 < 128 then v 2 (ix3 (n0 := 1) (n1 := 1024) (n2 := 128) 0 r ⟨q.val - 128 - 128, h2⟩)
  else if h3 : q.val - 128 - 128 - 128 < 128 then v 3 (ix3 (n0 := 1) (n1 := 1024) (n2 := 128) 0 r ⟨q.val - 128 - 128 - 128, h3⟩)
  else if h4 : q.val - 128 - 128 - 128 - 128 < 128 then v 4 (ix3 (n0 := 1) (n1 := 1024) (n2 := 128) 0 r ⟨q.val - 128 - 128 - 128 - 128, h4⟩)
  else if h5 : q.val - 128 - 128 - 128 - 128 - 128 < 128 then v 5 (ix3 (n0 := 1) (n1 := 1024) (n2 := 128) 0 r ⟨q.val - 128 - 128 - 128 - 128 - 128, h5⟩)
  else if h6 : q.val - 128 - 128 - 128 - 128 - 128 - 128 < 128 then v 6 (ix3 (n0 := 1) (n1 := 1024) (n2 := 128) 0 r ⟨q.val - 128 - 128 - 128 - 128 - 128 - 128, h6⟩)
  else v 7 (ix3 (n0 := 1) (n1 := 1024) (n2 := 128) 0 r ⟨q.val - 128 - 128 - 128 - 128 - 128 - 128 - 128, by omega⟩)

/-- They are the row whose pieces they are. -/
theorem join8_eq (v : Fin 8 → Vec Ideal S1x1024x128 .f32) (f : Fin 1024 → Fin 1024 → EReal)
    (h : ∀ (k : Fin 8) (r : Fin 1024) (l : Fin 128), v k (ix3 (n0 := 1) (n1 := 1024) (n2 := 128) 0 r l) = f r ⟨k.val * 128 + l.val, by omega⟩)
    (r q : Fin 1024) : join8 v r q = f r q := by
  unfold join8
  split_ifs
  all_goals
    rw [h]
    refine congrArg (f r) (Fin.ext ?_)
    simp
  all_goals omega

/-- The first expert's rows, weighted. -/
theorem pay2_at (v0 : Vec Ideal S1024x128 .f32) (v : Fin 8 → Vec Ideal S1x1024x128 .f32) (r q : Fin 1024) :
    k0_pay2 v0 (v 0) (v 1) (v 2) (v 3) (v 4) (v 5) (v 6) (v 7) (ix2 (n0 := 1024) (n1 := 1024) r q)
      = v0 (ix2 (n0 := 1024) (n1 := 128) r 2) * join8 v r q := by
  unfold k0_pay2
  pointwise
  rfl

/-- The residual, from the body's values. -/
def bRes (v20 : FVec Ideal S1024x1024 .f32) (v21 : FVec Ideal S1024x1 .f32) (v : Fin 8 → Vec Ideal S1x1024x128 .f32)
    (x : Vec Ideal S1x1024x1024 .f32) (g : Vec Ideal S1x1x1024 .f32) (r q : Fin 1024) : EReal :=
  x (ix3 (n0 := 1) (n1 := 1024) (n2 := 1024) 0 r q) + (v20 (ix2 (n0 := 1024) (n1 := 1024) r q) + v21 (ix2 (n0 := 1024) (n1 := 1) r 0) * join8 v r q)
    * g (ix3 (n0 := 1) (n1 := 1) (n2 := 1024) 0 0 q)

/-- Its norm. -/
theorem pay6_at (v20 : FVec Ideal S1024x1024 .f32) (v21 : FVec Ideal S1024x1 .f32) (v : Fin 8 → Vec Ideal S1x1024x128 .f32)
    (x : Vec Ideal S1x1024x1024 .f32) (g : Vec Ideal S1x1x1024 .f32) (r q : Fin 1024) :
    k0_pay6 v20 v21 (k0_pay4 (v 0)) (k0_pay5 (v 1)) (v 2) (v 3) (v 4) (v 5) (v 6) (v 7) x g (ix2 (n0 := 1024) (n1 := 1024) r q)
      = bRes v20 v21 v x g r q * Ideal.rsqrt (Ideal.div (∑ k : Fin 1024, bRes v20 v21 v x g r k * bRes v20 v21 v x g r k)
          (Ideal.ofBits FTy.f32 0x44800000#32) + Ideal.ofBits FTy.f32 0x358637BD#32) := by
  unfold k0_pay6 k0_pay4 k0_pay5
  pointwise
  rfl

/-- The pieces of the first expert's block at point `t`. -/
def va : Fin 8 → Vec Ideal S1x1024x128 .f32 :=
  ![(View.readAt (Elt Ideal) (ms0_1 t).view
    (⟨![0, 0, 0], ![1, 1024, 128], ![1, 8, 1], inb_S1x8192x128_S1x1024x128_0_0_0_s_1_8_1⟩ : LoadRect S1x8192x128) ((hs0_1 t).unread (iblk m c 1 t))),
    (View.readAt (Elt Ideal) (ms0_1 t).view
    (⟨![0, 1, 0], ![1, 1024, 128], ![1, 8, 1], inb_S1x8192x128_S1x1024x128_0_1_0_s_1_8_1⟩ : LoadRect S1x8192x128) ((hs0_1 t).unread (iblk m c 1 t))),
    (View.readAt (Elt Ideal) (ms0_1 t).view
    (⟨![0, 2, 0], ![1, 1024, 128], ![1, 8, 1], inb_S1x8192x128_S1x1024x128_0_2_0_s_1_8_1⟩ : LoadRect S1x8192x128) ((hs0_1 t).unread (iblk m c 1 t))),
    (View.readAt (Elt Ideal) (ms0_1 t).view
    (⟨![0, 3, 0], ![1, 1024, 128], ![1, 8, 1], inb_S1x8192x128_S1x1024x128_0_3_0_s_1_8_1⟩ : LoadRect S1x8192x128) ((hs0_1 t).unread (iblk m c 1 t))),
    (View.readAt (Elt Ideal) (ms0_1 t).view
    (⟨![0, 4, 0], ![1, 1024, 128], ![1, 8, 1], inb_S1x8192x128_S1x1024x128_0_4_0_s_1_8_1⟩ : LoadRect S1x8192x128) ((hs0_1 t).unread (iblk m c 1 t))),
    (View.readAt (Elt Ideal) (ms0_1 t).view
    (⟨![0, 5, 0], ![1, 1024, 128], ![1, 8, 1], inb_S1x8192x128_S1x1024x128_0_5_0_s_1_8_1⟩ : LoadRect S1x8192x128) ((hs0_1 t).unread (iblk m c 1 t))),
    (View.readAt (Elt Ideal) (ms0_1 t).view
    (⟨![0, 6, 0], ![1, 1024, 128], ![1, 8, 1], inb_S1x8192x128_S1x1024x128_0_6_0_s_1_8_1⟩ : LoadRect S1x8192x128) ((hs0_1 t).unread (iblk m c 1 t))),
    (View.readAt (Elt Ideal) (ms0_1 t).view
    (⟨![0, 7, 0], ![1, 1024, 128], ![1, 8, 1], inb_S1x8192x128_S1x1024x128_0_7_0_s_1_8_1⟩ : LoadRect S1x8192x128) ((hs0_1 t).unread (iblk m c 1 t)))]

/-- The pieces of the second expert's block at point `t`. -/
def vb : Fin 8 → Vec Ideal S1x1024x128 .f32 :=
  ![(View.readAt (Elt Ideal) (ms0_2 t).view
    (⟨![0, 0, 0], ![1, 1024, 128], ![1, 8, 1], inb_S1x8192x128_S1x1024x128_0_0_0_s_1_8_1⟩ : LoadRect S1x8192x128) ((hs0_2 t).unread (iblk m c 2 t))),
    (View.readAt (Elt Ideal) (ms0_2 t).view
    (⟨![0, 1, 0], ![1, 1024, 128], ![1, 8, 1], inb_S1x8192x128_S1x1024x128_0_1_0_s_1_8_1⟩ : LoadRect S1x8192x128) ((hs0_2 t).unread (iblk m c 2 t))),
    (View.readAt (Elt Ideal) (ms0_2 t).view
    (⟨![0, 2, 0], ![1, 1024, 128], ![1, 8, 1], inb_S1x8192x128_S1x1024x128_0_2_0_s_1_8_1⟩ : LoadRect S1x8192x128) ((hs0_2 t).unread (iblk m c 2 t))),
    (View.readAt (Elt Ideal) (ms0_2 t).view
    (⟨![0, 3, 0], ![1, 1024, 128], ![1, 8, 1], inb_S1x8192x128_S1x1024x128_0_3_0_s_1_8_1⟩ : LoadRect S1x8192x128) ((hs0_2 t).unread (iblk m c 2 t))),
    (View.readAt (Elt Ideal) (ms0_2 t).view
    (⟨![0, 4, 0], ![1, 1024, 128], ![1, 8, 1], inb_S1x8192x128_S1x1024x128_0_4_0_s_1_8_1⟩ : LoadRect S1x8192x128) ((hs0_2 t).unread (iblk m c 2 t))),
    (View.readAt (Elt Ideal) (ms0_2 t).view
    (⟨![0, 5, 0], ![1, 1024, 128], ![1, 8, 1], inb_S1x8192x128_S1x1024x128_0_5_0_s_1_8_1⟩ : LoadRect S1x8192x128) ((hs0_2 t).unread (iblk m c 2 t))),
    (View.readAt (Elt Ideal) (ms0_2 t).view
    (⟨![0, 6, 0], ![1, 1024, 128], ![1, 8, 1], inb_S1x8192x128_S1x1024x128_0_6_0_s_1_8_1⟩ : LoadRect S1x8192x128) ((hs0_2 t).unread (iblk m c 2 t))),
    (View.readAt (Elt Ideal) (ms0_2 t).view
    (⟨![0, 7, 0], ![1, 1024, 128], ![1, 8, 1], inb_S1x8192x128_S1x1024x128_0_7_0_s_1_8_1⟩ : LoadRect S1x8192x128) ((hs0_2 t).unread (iblk m c 2 t)))]

/-- Side by side they are the first expert's rows. -/
theorem va_eq (r q : Fin 1024) : join8 (va m c t) r q = (kArgs m c).y 0 (tk t r) q := by
  refine join8_eq _ (fun r q => (kArgs m c).y 0 (tk t r) q) (fun k r l => ?_) r q
  fin_cases k
  all_goals
    refine (piece_at (ms0_1 t) (hs0_1 t) _ _ (by decide) _ 0 r l).trans ((blk1 m c t _ _ _).trans (congrArg₂ (fun r q => (kArgs m c).y 0 (tk t r) q) (Fin.ext ?_) (Fin.ext ?_)))
    all_goals simp
    all_goals omega

/-- Side by side they are the second expert's rows. -/
theorem vb_eq (r q : Fin 1024) : join8 (vb m c t) r q = (kArgs m c).y 1 (tk t r) q := by
  refine join8_eq _ (fun r q => (kArgs m c).y 1 (tk t r) q) (fun k r l => ?_) r q
  fin_cases k
  all_goals
    refine (piece_at (ms0_2 t) (hs0_2 t) _ _ (by decide) _ 0 r l).trans ((blk2 m c t _ _ _).trans (congrArg₂ (fun r q => (kArgs m c).y 1 (tk t r) q) (Fin.ext ?_) (Fin.ext ?_)))
    all_goals simp
    all_goals omega

/-- The body's residual is the residual of the point's positions. -/
theorem bRes_at (r q : Fin 1024) :
    bRes (k0_pay2 (iblk m c 3 t) (va m c t 0) (va m c t 1) (va m c t 2) (va m c t 3) (va m c t 4) (va m c t 5) (va m c t 6) (va m c t 7))
      (k0_pay3 (iblk m c 3 t)) (vb m c t) (iblk m c 0 t) (iblk m c 4 t) r q = res (kArgs m c) (sq t) (row t r) q := by
  unfold bRes
  rw [pay2_at, va_eq, vb_eq, blk0, blk4, show k0_pay3 (iblk m c 3 t) (ix2 (n0 := 1024) (n1 := 1) r 0)
    = (iblk m c 3 t : Vec Ideal S1024x128 .f32) (ix2 (n0 := 1024) (n1 := 128) r 3) by unfold k0_pay3; pointwise, blk3, blk3]
  exact congrArg (_ + ·) (mul_comm _ _)

/-- The norm, with the gain. -/
theorem pay1_at (v : FVec Ideal S1024x1024 .f32) (g : Vec Ideal S1x1024 .f32) (z : Fin 1) (r q : Fin 1024) :
    k0_pay1 v g (ix3 (n0 := 1) (n1 := 1024) (n2 := 1024) z r q) = v (ix2 (n0 := 1024) (n1 := 1024) r q) * g (ix2 (n0 := 1) (n1 := 1024) 0 q) := by
  unfold k0_pay1
  pointwise

/-- What the body stores at point `t` is the result at its positions. -/
theorem out_at (z : Fin 1) (r : Fin 1024) (q : Fin 1024) :
    outsAt0 m c t (ix3 (n0 := 1) (n1 := 1024) (n2 := 1024) z r q) = out (kArgs m c) (sq t) (row t r) q := by
  unfold outsAt0
  frame_out
  refine (pay1_at _ _ z r q).trans ?_
  refine (congrArg₂ (· * ·) (pay6_at _ _ (vb m c t) _ _ r q) (blk5 m c t 0 q)).trans ?_
  unfold out
  refine congrArg₂ (· * ·) (congrArg₂ (· * ·) (bRes_at m c t r q) (congrArg Ideal.rsqrt (congrArg (· + _) (congrArg (Ideal.div · _) (Finset.sum_congr rfl fun k _ => ?_))))) rfl
  exact congrArg₂ (· * ·) (bRes_at m c t r k) (bRes_at m c t r k)

end Cert.Proof.Comb
-- ==== Proof.CombRef.lean ====
module
public import proofs.«01_k».proof.Proof.CombSpec
@[expose] public section
set_option maxRecDepth 16384
noncomputable section
namespace Cert.Proof.Comb
open Idealize.ShloMosaic Idealize.SL.Sem Idealize.ShloMosaic.TcCoe Cert.Reference5Ideal Cert.Reference5Ideal.Gen Cert.Reference5Ideal.Value
variable (m' : (ℓ : Loc nD τ sig) → Buf (Elt Ideal) ℓ) (c : Dev nD)

/-- The reference's result at an index. -/
theorem ref_at (b : Fin 8) (t : Fin 2048) (q : Fin 1024) :
    (res_main_v30 m' c : Vec Ideal S8x2048x1024 .f32) (ix3 (n0 := 8) (n1 := 2048) (n2 := 1024) b t q) = out (rArgs m' c) b t q := by
  unfold res_main_v30
  pointwise
  rfl

end Cert.Proof.Comb
-- ==== Proof.CombClaim.lean ====
module
public import proofs.«01_k».proof.Proof.CombBlock
public import proofs.«01_k».proof.Proof.CombRef
@[expose] public section
set_option maxRecDepth 16384
noncomputable section
namespace Cert.Proof.Comb
open Idealize.ShloMosaic Idealize.SL.Sem Idealize.ShloMosaic.TcCoe Cert.Kernel5Ideal Cert.Kernel5Ideal.Gen

/-- Window 6's block of point `t`: its sequence, its 1024 positions, all columns. -/
theorem i6 : ∀ t : Fin cfg0.N, win0_6.index t = ![(grid0.coords t 0).val, (grid0.coords t 1).val, 0] :=
  (by decide +kernel : ∀ t : Fin grid0.N, _)

/-- The kernel's result at every index. -/
theorem arr (m : (ℓ : Loc nD τ sig) → Buf (Elt Ideal) ℓ) (c : Dev nD) :
    (dats m 0 c).arrAt 6 cfg0.N = (fun j : S8x2048x1024.Idx => out (kArgs m c) (j 0) (j 1) (j 2)) := by
  refine (dats m 0 c).arrAt_eq_of_covers 6 _ (by decide +kernel) fun t hf y => ?_
  blk_simp
  rw [after0_6]
  idx_vars y
  refine (out_at m c t _ _ _).trans ?_
  refine congr (congrArg₂ (out (kArgs m c)) (Fin.ext ?_) (Fin.ext ?_)) (Fin.ext ?_)
  all_goals blk_simp [i6]
  all_goals simp [sq, row]

/-- The reference's result is the kernel's. -/
theorem result {m : (ℓ : Loc nD τ sig) → Buf (Elt Ideal) ℓ}
    {m' : (ℓ : Loc Cert.Reference5Ideal.nD Cert.Reference5Ideal.τ Cert.Reference5Ideal.sig) → Buf (Elt Ideal) ℓ} {c : Dev nD} (H : Agree m m' c) :
    Cert.Reference5Ideal.Value.res_main_v30 m' c = (dats m 0 c).arrAt 6 cfg0.N := by
  rw [arr, ← args_eq H]
  funext j
  idx_vars j
  exact ref_at m' c _ _ _

/-- The kernel's result is the reference's, over the extended reals. -/
theorem algebraic : Cert.algebraic_Kernel5Ideal_Reference5Ideal := fun m g m' g' _ hag =>
  ⟨fun c => (dats m 0 c).arrAt 6 cfg0.N, Cert.Kernel5Ideal.Value.run_blocks m g,
   (θ_run _ _ _).mono (fun _ h c => ⟨(h c).1.trans (result (hag c)), (h c).2⟩) (Cert.Reference5Ideal.Value.run m' g')⟩
end Cert.Proof.Comb
-- ==== Proof.MoeArgs.lean ====
module
public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Pointwise
@[expose] public section
set_option maxRecDepth 16384
noncomputable section
namespace Cert.Proof.Moe
open Idealize.ShloMosaic Idealize.SL.Sem Idealize.ShloMosaic.TcCoe

/-- The end of the layer with its experts: its arguments, read by coordinates. -/
structure Args where
  x : Fin 8 → Fin 2048 → Fin 1024 → EReal
  o0 : Fin 8 → Fin 2048 → Fin 256 → EReal
  o1 : Fin 8 → Fin 2048 → Fin 256 → EReal
  o2 : Fin 8 → Fin 2048 → Fin 256 → EReal
  o3 : Fin 8 → Fin 2048 → Fin 256 → EReal
  g1 : Fin 8 → Fin 1 → Fin 1024 → EReal
  sh : Fin 8 → Fin 1 → Fin 1024 → EReal
  sc : Fin 8 → Fin 1 → Fin 1024 → EReal
  g2 : Fin 8 → Fin 1 → Fin 1024 → EReal
  ng : Fin 1024 → EReal
  wo : Fin 1024 → Fin 1024 → EReal
  rt : Fin 1024 → Fin 8 → EReal
  wg : Fin 8 → Fin 1024 → Fin 2816 → EReal
  wu : Fin 8 → Fin 1024 → Fin 2816 → EReal
  wd : Fin 8 → Fin 2816 → Fin 1024 → EReal
  fg : Fin 1024 → EReal

variable (m : (ℓ : Loc Cert.Kernel6Ideal.nD Cert.Kernel6Ideal.τ Cert.Kernel6Ideal.sig) → Buf (Elt Ideal) ℓ)
  (m' : (ℓ : Loc Cert.Reference6Ideal.nD Cert.Reference6Ideal.τ Cert.Reference6Ideal.sig) → Buf (Elt Ideal) ℓ) (c : Dev Cert.Kernel6Ideal.nD)

/-- The arguments in the kernel's memory. -/
def kArgs : Args where
  x := fun a b d => (m ((c : Thread Cert.Kernel6Ideal.nD Cert.Kernel6Ideal.τ).loc Cert.Kernel6Ideal.main_arg0) : Vec Ideal Cert.Kernel6Ideal.S8x2048x1024 .f32) (ix3 (n0 := 8) (n1 := 2048) (n2 := 1024) a b d)
  o0 := fun a b d => (m ((c : Thread Cert.Kernel6Ideal.nD Cert.Kernel6Ideal.τ).loc Cert.Kernel6Ideal.main_arg1) : Vec Ideal Cert.Kernel6Ideal.S8x2048x256 .f32) (ix3 (n0 := 8) (n1 := 2048) (n2 := 256) a b d)
  o1 := fun a b d => (m ((c : Thread Cert.Kernel6Ideal.nD Cert.Kernel6Ideal.τ).loc Cert.Kernel6Ideal.main_arg2) : Vec Ideal Cert.Kernel6Ideal.S8x2048x256 .f32) (ix3 (n0 := 8) (n1 := 2048) (n2 := 256) a b d)
  o2 := fun a b d => (m ((c : Thread Cert.Kernel6Ideal.nD Cert.Kernel6Ideal.τ).loc Cert.Kernel6Ideal.main_arg3) : Vec Ideal Cert.Kernel6Ideal.S8x2048x256 .f32) (ix3 (n0 := 8) (n1 := 2048) (n2 := 256) a b d)
  o3 := fun a b d => (m ((c : Thread Cert.Kernel6Ideal.nD Cert.Kernel6Ideal.τ).loc Cert.Kernel6Ideal.main_arg4) : Vec Ideal Cert.Kernel6Ideal.S8x2048x256 .f32) (ix3 (n0 := 8) (n1 := 2048) (n2 := 256) a b d)
  g1 := fun a b d => (m ((c : Thread Cert.Kernel6Ideal.nD Cert.Kernel6Ideal.τ).loc Cert.Kernel6Ideal.main_arg5) : Vec Ideal Cert.Kernel6Ideal.S8x1x1024 .f32) (ix3 (n0 := 8) (n1 := 1) (n2 := 1024) a b d)
  sh := fun a b d => (m ((c : Thread Cert.Kernel6Ideal.nD Cert.Kernel6Ideal.τ).loc Cert.Kernel6Ideal.main_arg6) : Vec Ideal Cert.Kernel6Ideal.S8x1x1024 .f32) (ix3 (n0 := 8) (n1 := 1) (n2 := 1024) a b d)
  sc := fun a b d => (m ((c : Thread Cert.Kernel6Ideal.nD Cert.Kernel6Ideal.τ).loc Cert.Kernel6Ideal.main_arg7) : Vec Ideal Cert.Kernel6Ideal.S8x1x1024 .f32) (ix3 (n0 := 8) (n1 := 1) (n2 := 1024) a b d)
  g2 := fun a b d => (m ((c : Thread Cert.Kernel6Ideal.nD Cert.Kernel6Ideal.τ).loc Cert.Kernel6Ideal.main_arg8) : Vec Ideal Cert.Kernel6Ideal.S8x1x1024 .f32) (ix3 (n0 := 8) (n1 := 1) (n2 := 1024) a b d)
  ng := fun a => (m ((c : Thread Cert.Kernel6Ideal.nD Cert.Kernel6Ideal.τ).loc Cert.Kernel6Ideal.main_arg9) : Vec Ideal Cert.Kernel6Ideal.S1024 .f32) (ix1 (n0 := 1024) a)
  wo := fun a b => (m ((c : Thread Cert.Kernel6Ideal.nD Cert.Kernel6Ideal.τ).loc Cert.Kernel6Ideal.main_arg10) : Vec Ideal Cert.Kernel6Ideal.S1024x1024 .f32) (ix2 (n0 := 1024) (n1 := 1024) a b)
  rt := fun a b => (m ((c : Thread Cert.Kernel6Ideal.nD Cert.Kernel6Ideal.τ).loc Cert.Kernel6Ideal.main_arg11) : Vec Ideal Cert.Kernel6Ideal.S1024x8 .f32) (ix2 (n0 := 1024) (n1 := 8) a b)
  wg := fun a b d => (m ((c : Thread Cert.Kernel6Ideal.nD Cert.Kernel6Ideal.τ).loc Cert.Kernel6Ideal.main_arg12) : Vec Ideal Cert.Kernel6Ideal.S8x1024x2816 .f32) (ix3 (n0 := 8) (n1 := 1024) (n2 := 2816) a b d)
  wu := fun a b d => (m ((c : Thread Cert.Kernel6Ideal.nD Cert.Kernel6Ideal.τ).loc Cert.Kernel6Ideal.main_arg13) : Vec Ideal Cert.Kernel6Ideal.S8x1024x2816 .f32) (ix3 (n0 := 8) (n1 := 1024) (n2 := 2816) a b d)
  wd := fun a b d => (m ((c : Thread Cert.Kernel6Ideal.nD Cert.Kernel6Ideal.τ).loc Cert.Kernel6Ideal.main_arg14) : Vec Ideal Cert.Kernel6Ideal.S8x2816x1024 .f32) (ix3 (n0 := 8) (n1 := 2816) (n2 := 1024) a b d)
  fg := fun a => (m ((c : Thread Cert.Kernel6Ideal.nD Cert.Kernel6Ideal.τ).loc Cert.Kernel6Ideal.main_arg15) : Vec Ideal Cert.Kernel6Ideal.S1024 .f32) (ix1 (n0 := 1024) a)

/-- The arguments in the reference's memory. -/
def rArgs : Args where
  x := fun a b d => (m' ((c.tc : Thread Cert.Reference6Ideal.nD Cert.Reference6Ideal.τ).loc Cert.Reference6Ideal.main_arg0) : Vec Ideal Cert.Reference6Ideal.S8x2048x1024 .f32) (ix3 (n0 := 8) (n1 := 2048) (n2 := 1024) a b d)
  o0 := fun a b d => (m' ((c.tc : Thread Cert.Reference6Ideal.nD Cert.Reference6Ideal.τ).loc Cert.Reference6Ideal.main_arg1) : Vec Ideal Cert.Reference6Ideal.S8x2048x256 .f32) (ix3 (n0 := 8) (n1 := 2048) (n2 := 256) a b d)
  o1 := fun a b d => (m' ((c.tc : Thread Cert.Reference6Ideal.nD Cert.Reference6Ideal.τ).loc Cert.Reference6Ideal.main_arg2) : Vec Ideal Cert.Reference6Ideal.S8x2048x256 .f32) (ix3 (n0 := 8) (n1 := 2048) (n2 := 256) a b d)
  o2 := fun a b d => (m' ((c.tc : Thread Cert.Reference6Ideal.nD Cert.Reference6Ideal.τ).loc Cert.Reference6Ideal.main_arg3) : Vec Ideal Cert.Reference6Ideal.S8x2048x256 .f32) (ix3 (n0 := 8) (n1 := 2048) (n2 := 256) a b d)
  o3 := fun a b d => (m' ((c.tc : Thread Cert.Reference6Ideal.nD Cert.Reference6Ideal.τ).loc Cert.Reference6Ideal.main_arg4) : Vec Ideal Cert.Reference6Ideal.S8x2048x256 .f32) (ix3 (n0 := 8) (n1 := 2048) (n2 := 256) a b d)
  g1 := fun a b d => (m' ((c.tc : Thread Cert.Reference6Ideal.nD Cert.Reference6Ideal.τ).loc Cert.Reference6Ideal.main_arg5) : Vec Ideal Cert.Reference6Ideal.S8x1x1024 .f32) (ix3 (n0 := 8) (n1 := 1) (n2 := 1024) a b d)
  sh := fun a b d => (m' ((c.tc : Thread Cert.Reference6Ideal.nD Cert.Reference6Ideal.τ).loc Cert.Reference6Ideal.main_arg6) : Vec Ideal Cert.Reference6Ideal.S8x1x1024 .f32) (ix3 (n0 := 8) (n1 := 1) (n2 := 1024) a b d)
  sc := fun a b d => (m' ((c.tc : Thread Cert.Reference6Ideal.nD Cert.Reference6Ideal.τ).loc Cert.Reference6Ideal.main_arg7) : Vec Ideal Cert.Reference6Ideal.S8x1x1024 .f32) (ix3 (n0 := 8) (n1 := 1) (n2 := 1024) a b d)
  g2 := fun a b d => (m' ((c.tc : Thread Cert.Reference6Ideal.nD Cert.Reference6Ideal.τ).loc Cert.Reference6Ideal.main_arg8) : Vec Ideal Cert.Reference6Ideal.S8x1x1024 .f32) (ix3 (n0 := 8) (n1 := 1) (n2 := 1024) a b d)
  ng := fun a => (m' ((c.tc : Thread Cert.Reference6Ideal.nD Cert.Reference6Ideal.τ).loc Cert.Reference6Ideal.main_arg9) : Vec Ideal Cert.Reference6Ideal.S1024 .f32) (ix1 (n0 := 1024) a)
  wo := fun a b => (m' ((c.tc : Thread Cert.Reference6Ideal.nD Cert.Reference6Ideal.τ).loc Cert.Reference6Ideal.main_arg10) : Vec Ideal Cert.Reference6Ideal.S1024x1024 .f32) (ix2 (n0 := 1024) (n1 := 1024) a b)
  rt := fun a b => (m' ((c.tc : Thread Cert.Reference6Ideal.nD Cert.Reference6Ideal.τ).loc Cert.Reference6Ideal.main_arg11) : Vec Ideal Cert.Reference6Ideal.S1024x8 .f32) (ix2 (n0 := 1024) (n1 := 8) a b)
  wg := fun a b d => (m' ((c.tc : Thread Cert.Reference6Ideal.nD Cert.Reference6Ideal.τ).loc Cert.Reference6Ideal.main_arg12) : Vec Ideal Cert.Reference6Ideal.S8x1024x2816 .f32) (ix3 (n0 := 8) (n1 := 1024) (n2 := 2816) a b d)
  wu := fun a b d => (m' ((c.tc : Thread Cert.Reference6Ideal.nD Cert.Reference6Ideal.τ).loc Cert.Reference6Ideal.main_arg13) : Vec Ideal Cert.Reference6Ideal.S8x1024x2816 .f32) (ix3 (n0 := 8) (n1 := 1024) (n2 := 2816) a b d)
  wd := fun a b d => (m' ((c.tc : Thread Cert.Reference6Ideal.nD Cert.Reference6Ideal.τ).loc Cert.Reference6Ideal.main_arg14) : Vec Ideal Cert.Reference6Ideal.S8x2816x1024 .f32) (ix3 (n0 := 8) (n1 := 2816) (n2 := 1024) a b d)
  fg := fun a => (m' ((c.tc : Thread Cert.Reference6Ideal.nD Cert.Reference6Ideal.τ).loc Cert.Reference6Ideal.main_arg15) : Vec Ideal Cert.Reference6Ideal.S1024 .f32) (ix1 (n0 := 1024) a)

/-- The two programs are launched on the same arguments. -/
def Agree : Prop :=
  m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
  ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
  ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
  ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
  ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
  ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
  ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
  ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
  ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
  ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
  ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
  ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
  ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
  ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
  ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
  ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)

variable {m m' c}

/-- So the two readings agree. -/
theorem args_eq (H : Agree m m' c) : rArgs m' c = kArgs m c := by
  obtain ⟨h0, h1, h2, h3, h4, h5, h6, h7, h8, h9, h10, h11, h12, h13, h14, h15⟩ := H
  simp only [rArgs, kArgs, Args.mk.injEq]
  exact ⟨by rw [← h0], by rw [← h1], by rw [← h2], by rw [← h3], by rw [← h4], by rw [← h5], by rw [← h6], by rw [← h7], by rw [← h8], by rw [← h9], by rw [← h10], by rw [← h11], by rw [← h12], by rw [← h13], by rw [← h14], by rw [← h15]⟩

end Cert.Proof.Moe
-- ==== Proof.MoeHost.lean ====
module
public import proofs.«01_k».proof.Proof.MoeArgs
public import Idealize.ShloMosaic.Lib.StableHlo.RunRead
public import Idealize.ShloMosaic.Lib.Routing.OpsOne
@[expose] public section
set_option maxRecDepth 16384
noncomputable section
namespace Cert.Proof.Moe
open Idealize.ShloMosaic Idealize.SL.Sem Idealize.ShloMosaic.TcCoe Cert.Kernel6Ideal Cert.Kernel6Ideal.Gen
variable (m : (ℓ : Loc nD τ sig) → Buf (Elt Ideal) ℓ) (c : Dev nD)

/-- The sequence of grid point `t`. -/
def sq (t : Fin cfg0.N) : Fin 8 := ⟨(grid0.coords t 0).val, (grid0.coords t 0).isLt⟩

/-- Position `r` of grid point `t`'s 512 positions. -/
def row (t : Fin cfg0.N) (r : Fin 512) : Fin 2048 :=
  ⟨(grid0.coords t 1).val * 512 + r.val, by have : (grid0.coords t 1).val < 4 := (grid0.coords t 1).isLt; omega⟩

/-- The expert of grid point `t`. -/
def ex (t : Fin cfg0.N) : Fin 8 := ⟨(grid0.coords t 2).val, (grid0.coords t 2).isLt⟩

/-- Hidden channel `j` of grid point `t`'s half. -/
def ch (t : Fin cfg0.N) (j : Fin 1408) : Fin 2816 :=
  ⟨(grid0.coords t 3).val * 1408 + j.val, by have : (grid0.coords t 3).val < 2 := (grid0.coords t 3).isLt; omega⟩

/-- Mixer 1: a row for a position, the sequences side by side. -/
theorem v5_at (r : Fin 2048) (q : Fin 2048) :
    (V m c main_v5 : Vec Ideal S2048x2048 .bf16) (ix2 (n0 := 2048) (n1 := 2048) r q) = (kArgs m c).o0 ⟨q.val / 256, by omega⟩ r ⟨q.val % 256, by omega⟩ := by
  unfold_abbrev_sides
  after_reads_simp
  pointwise

/-- Mixer 2: a row for a position, the sequences side by side. -/
theorem v8_at (r : Fin 2048) (q : Fin 2048) :
    (V m c main_v8 : Vec Ideal S2048x2048 .bf16) (ix2 (n0 := 2048) (n1 := 2048) r q) = (kArgs m c).o1 ⟨q.val / 256, by omega⟩ r ⟨q.val % 256, by omega⟩ := by
  unfold_abbrev_sides
  after_reads_simp
  pointwise

/-- Mixer 3: a row for a position, the sequences side by side. -/
theorem v11_at (r : Fin 2048) (q : Fin 2048) :
    (V m c main_v11 : Vec Ideal S2048x2048 .bf16) (ix2 (n0 := 2048) (n1 := 2048) r q) = (kArgs m c).o2 ⟨q.val / 256, by omega⟩ r ⟨q.val % 256, by omega⟩ := by
  unfold_abbrev_sides
  after_reads_simp
  pointwise

/-- Mixer 4: a row for a position, the sequences side by side. -/
theorem v14_at (r : Fin 2048) (q : Fin 2048) :
    (V m c main_v14 : Vec Ideal S2048x2048 .bf16) (ix2 (n0 := 2048) (n1 := 2048) r q) = (kArgs m c).o3 ⟨q.val / 256, by omega⟩ r ⟨q.val % 256, by omega⟩ := by
  unfold_abbrev_sides
  after_reads_simp
  pointwise

/-- The norm gain as one row. -/
theorem v15_at (r : Fin 1) (q : Fin 1024) :
    (V m c main_v15 : Vec Ideal S1x1024 .f32) (ix2 (n0 := 1) (n1 := 1024) r q) = (kArgs m c).ng q := by
  unfold_abbrev_sides
  after_reads_simp
  pointwise

/-- The output projection. -/
theorem v16_at (r : Fin 1024) (q : Fin 1024) :
    (V m c main_v16 : Vec Ideal S1024x1024 .bf16) (ix2 (n0 := 1024) (n1 := 1024) r q) = (kArgs m c).wo r q := by
  unfold_abbrev_sides
  after_reads_simp
  pointwise

/-- The gate matrices. -/
theorem v17_at (e : Fin 8) (r : Fin 1024) (q : Fin 2816) :
    (V m c main_v17 : Vec Ideal S8x1024x2816 .bf16) (ix3 (n0 := 8) (n1 := 1024) (n2 := 2816) e r q) = (kArgs m c).wg e r q := by
  unfold_abbrev_sides
  after_reads_simp
  pointwise

/-- The up matrices. -/
theorem v18_at (e : Fin 8) (r : Fin 1024) (q : Fin 2816) :
    (V m c main_v18 : Vec Ideal S8x1024x2816 .bf16) (ix3 (n0 := 8) (n1 := 1024) (n2 := 2816) e r q) = (kArgs m c).wu e r q := by
  unfold_abbrev_sides
  after_reads_simp
  pointwise

/-- The down matrices. -/
theorem v19_at (e : Fin 8) (r : Fin 2816) (q : Fin 1024) :
    (V m c main_v19 : Vec Ideal S8x2816x1024 .bf16) (ix3 (n0 := 8) (n1 := 2816) (n2 := 1024) e r q) = (kArgs m c).wd e r q := by
  unfold_abbrev_sides
  after_reads_simp
  pointwise

/-- The last gain as one row. -/
theorem v20_at (r : Fin 1) (q : Fin 1024) :
    (V m c main_v20 : Vec Ideal S1x1024 .f32) (ix2 (n0 := 1) (n1 := 1024) r q) = (kArgs m c).fg q := by
  unfold_abbrev_sides
  after_reads_simp
  pointwise

end Cert.Proof.Moe
-- ==== Proof.MoeBlk.lean ====
module
public import proofs.«01_k».proof.Proof.MoeHost
@[expose] public section
set_option maxRecDepth 16384
noncomputable section
namespace Cert.Proof.Moe
open Idealize.ShloMosaic Idealize.SL.Sem Idealize.ShloMosaic.TcCoe Cert.Kernel6Ideal Cert.Kernel6Ideal.Gen
variable (m : (ℓ : Loc nD τ sig) → Buf (Elt Ideal) ℓ) (c : Dev nD)

/-- Window 0's block number at a point. -/
theorem i0 : ∀ t : Fin cfg0.N, win0_0.index t = ![(grid0.coords t 0).val, (grid0.coords t 1).val, 0] := (by decide +kernel : ∀ t : Fin grid0.N, _)
/-- Window 0's block. -/
theorem blk0 (t : Fin cfg0.N) (z : Fin 1) (r : Fin 512) (q : Fin 1024) :
    (iblk m c 0 t : Vec Ideal S1x512x1024 .f32) (ix3 (n0 := 1) (n1 := 512) (n2 := 1024) z r q) = (kArgs m c).x (sq t) (row t r) q := by
  blk_simp [iblk]
  rw [show V m c main_arg0 = _ from V_main_arg0 m c]
  refine congrArg (m ((c : Thread nD τ).loc main_arg0)) (a₂ := ix3 (n0 := 8) (n1 := 2048) (n2 := 1024) (sq t) (row t r) q) ?_
  refine funext fun a => Fin.ext ?_
  blk_simp [i0]
  fin_cases a <;> simp [sq, row] <;> rfl

/-- Window 5's block number at a point. -/
theorem i5 : ∀ t : Fin cfg0.N, win0_5.index t = ![(grid0.coords t 0).val, 0, 0] := (by decide +kernel : ∀ t : Fin grid0.N, _)
/-- Window 5's block. -/
theorem blk5 (t : Fin cfg0.N) (y z : Fin 1) (q : Fin 1024) :
    (iblk m c 5 t : Vec Ideal S1x1x1024 .f32) (ix3 (n0 := 1) (n1 := 1) (n2 := 1024) y z q) = (kArgs m c).g1 (sq t) z q := by
  blk_simp [iblk]
  rw [show V m c main_arg5 = _ from V_main_arg5 m c]
  refine congrArg (m ((c : Thread nD τ).loc main_arg5)) (a₂ := ix3 (n0 := 8) (n1 := 1) (n2 := 1024) (sq t) z q) ?_
  refine funext fun a => Fin.ext ?_
  blk_simp [i5]
  fin_cases a <;> simp [sq, row] <;> rfl

/-- Window 6's block number at a point. -/
theorem i6 : ∀ t : Fin cfg0.N, win0_6.index t = ![(grid0.coords t 0).val, 0, 0] := (by decide +kernel : ∀ t : Fin grid0.N, _)
/-- Window 6's block. -/
theorem blk6 (t : Fin cfg0.N) (y z : Fin 1) (q : Fin 1024) :
    (iblk m c 6 t : Vec Ideal S1x1x1024 .f32) (ix3 (n0 := 1) (n1 := 1) (n2 := 1024) y z q) = (kArgs m c).sh (sq t) z q := by
  blk_simp [iblk]
  rw [show V m c main_arg6 = _ from V_main_arg6 m c]
  refine congrArg (m ((c : Thread nD τ).loc main_arg6)) (a₂ := ix3 (n0 := 8) (n1 := 1) (n2 := 1024) (sq t) z q) ?_
  refine funext fun a => Fin.ext ?_
  blk_simp [i6]
  fin_cases a <;> simp [sq, row] <;> rfl

/-- Window 7's block number at a point. -/
theorem i7 : ∀ t : Fin cfg0.N, win0_7.index t = ![(grid0.coords t 0).val, 0, 0] := (by decide +kernel : ∀ t : Fin grid0.N, _)
/-- Window 7's block. -/
theorem blk7 (t : Fin cfg0.N) (y z : Fin 1) (q : Fin 1024) :
    (iblk m c 7 t : Vec Ideal S1x1x1024 .f32) (ix3 (n0 := 1) (n1 := 1) (n2 := 1024) y z q) = (kArgs m c).sc (sq t) z q := by
  blk_simp [iblk]
  rw [show V m c main_arg7 = _ from V_main_arg7 m c]
  refine congrArg (m ((c : Thread nD τ).loc main_arg7)) (a₂ := ix3 (n0 := 8) (n1 := 1) (n2 := 1024) (sq t) z q) ?_
  refine funext fun a => Fin.ext ?_
  blk_simp [i7]
  fin_cases a <;> simp [sq, row] <;> rfl

/-- Window 8's block number at a point. -/
theorem i8 : ∀ t : Fin cfg0.N, win0_8.index t = ![(grid0.coords t 0).val, 0, 0] := (by decide +kernel : ∀ t : Fin grid0.N, _)
/-- Window 8's block. -/
theorem blk8 (t : Fin cfg0.N) (y z : Fin 1) (q : Fin 1024) :
    (iblk m c 8 t : Vec Ideal S1x1x1024 .f32) (ix3 (n0 := 1) (n1 := 1) (n2 := 1024) y z q) = (kArgs m c).g2 (sq t) z q := by
  blk_simp [iblk]
  rw [show V m c main_arg8 = _ from V_main_arg8 m c]
  refine congrArg (m ((c : Thread nD τ).loc main_arg8)) (a₂ := ix3 (n0 := 8) (n1 := 1) (n2 := 1024) (sq t) z q) ?_
  refine funext fun a => Fin.ext ?_
  blk_simp [i8]
  fin_cases a <;> simp [sq, row] <;> rfl

/-- Window 1's block number at a point. -/
theorem i1 : ∀ t : Fin cfg0.N, win0_1.index t = ![(grid0.coords t 1).val, (grid0.coords t 0).val] := (by decide +kernel : ∀ t : Fin grid0.N, _)
/-- Window 1's block. -/
theorem blk1 (t : Fin cfg0.N) (r : Fin 512) (q : Fin 256) :
    (iblk m c 1 t : Vec Ideal S512x256 .bf16) (ix2 (n0 := 512) (n1 := 256) r q) = (kArgs m c).o0 (sq t) (row t r) q := by
  blk_simp [iblk]
  refine (congrArg (V m c main_v5) (a₂ := ix2 (n0 := 2048) (n1 := 2048) (row t r) ⟨(sq t).val * 256 + q.val, by have := (sq t).isLt; omega⟩) ?_).trans ?_
  · refine funext fun a => Fin.ext ?_
    blk_simp [i1]
    fin_cases a <;> simp [sq, row] <;> rfl
  · refine (v5_at m c _ _).trans (congrArg₂ (fun s q => (kArgs m c).o0 s (row t r) q) (Fin.ext ?_) (Fin.ext ?_))
    · show ((sq t).val * 256 + q.val) / 256 = (sq t).val; omega
    · show ((sq t).val * 256 + q.val) % 256 = q.val; omega

/-- Window 2's block number at a point. -/
theorem i2 : ∀ t : Fin cfg0.N, win0_2.index t = ![(grid0.coords t 1).val, (grid0.coords t 0).val] := (by decide +kernel : ∀ t : Fin grid0.N, _)
/-- Window 2's block. -/
theorem blk2 (t : Fin cfg0.N) (r : Fin 512) (q : Fin 256) :
    (iblk m c 2 t : Vec Ideal S512x256 .bf16) (ix2 (n0 := 512) (n1 := 256) r q) = (kArgs m c).o1 (sq t) (row t r) q := by
  blk_simp [iblk]
  refine (congrArg (V m c main_v8) (a₂ := ix2 (n0 := 2048) (n1 := 2048) (row t r) ⟨(sq t).val * 256 + q.val, by have := (sq t).isLt; omega⟩) ?_).trans ?_
  · refine funext fun a => Fin.ext ?_
    blk_simp [i2]
    fin_cases a <;> simp [sq, row] <;> rfl
  · refine (v8_at m c _ _).trans (congrArg₂ (fun s q => (kArgs m c).o1 s (row t r) q) (Fin.ext ?_) (Fin.ext ?_))
    · show ((sq t).val * 256 + q.val) / 256 = (sq t).val; omega
    · show ((sq t).val * 256 + q.val) % 256 = q.val; omega

/-- Window 3's block number at a point. -/
theorem i3 : ∀ t : Fin cfg0.N, win0_3.index t = ![(grid0.coords t 1).val, (grid0.coords t 0).val] := (by decide +kernel : ∀ t : Fin grid0.N, _)
/-- Window 3's block. -/
theorem blk3 (t : Fin cfg0.N) (r : Fin 512) (q : Fin 256) :
    (iblk m c 3 t : Vec Ideal S512x256 .bf16) (ix2 (n0 := 512) (n1 := 256) r q) = (kArgs m c).o2 (sq t) (row t r) q := by
  blk_simp [iblk]
  refine (congrArg (V m c main_v11) (a₂ := ix2 (n0 := 2048) (n1 := 2048) (row t r) ⟨(sq t).val * 256 + q.val, by have := (sq t).isLt; omega⟩) ?_).trans ?_
  · refine funext fun a => Fin.ext ?_
    blk_simp [i3]
    fin_cases a <;> simp [sq, row] <;> rfl
  · refine (v11_at m c _ _).trans (congrArg₂ (fun s q => (kArgs m c).o2 s (row t r) q) (Fin.ext ?_) (Fin.ext ?_))
    · show ((sq t).val * 256 + q.val) / 256 = (sq t).val; omega
    · show ((sq t).val * 256 + q.val) % 256 = q.val; omega

/-- Window 4's block number at a point. -/
theorem i4 : ∀ t : Fin cfg0.N, win0_4.index t = ![(grid0.coords t 1).val, (grid0.coords t 0).val] := (by decide +kernel : ∀ t : Fin grid0.N, _)
/-- Window 4's block. -/
theorem blk4 (t : Fin cfg0.N) (r : Fin 512) (q : Fin 256) :
    (iblk m c 4 t : Vec Ideal S512x256 .bf16) (ix2 (n0 := 512) (n1 := 256) r q) = (kArgs m c).o3 (sq t) (row t r) q := by
  blk_simp [iblk]
  refine (congrArg (V m c main_v14) (a₂ := ix2 (n0 := 2048) (n1 := 2048) (row t r) ⟨(sq t).val * 256 + q.val, by have := (sq t).isLt; omega⟩) ?_).trans ?_
  · refine funext fun a => Fin.ext ?_
    blk_simp [i4]
    fin_cases a <;> simp [sq, row] <;> rfl
  · refine (v14_at m c _ _).trans (congrArg₂ (fun s q => (kArgs m c).o3 s (row t r) q) (Fin.ext ?_) (Fin.ext ?_))
    · show ((sq t).val * 256 + q.val) / 256 = (sq t).val; omega
    · show ((sq t).val * 256 + q.val) % 256 = q.val; omega

/-- Window 9's block number at a point. -/
theorem i9 : ∀ t : Fin cfg0.N, win0_9.index t = ![0, 0] := (by decide +kernel : ∀ t : Fin grid0.N, _)
/-- Window 9's block. -/
theorem blk9 (t : Fin cfg0.N) (r : Fin 1) (q : Fin 1024) :
    (iblk m c 9 t : Vec Ideal S1x1024 .f32) (ix2 (n0 := 1) (n1 := 1024) r q) = (kArgs m c).ng q := by
  blk_simp [iblk]
  refine (congrArg (V m c main_v15) (a₂ := ix2 (n0 := 1) (n1 := 1024) r q) ?_).trans ?_
  · refine funext fun a => Fin.ext ?_
    blk_simp [i9]
    fin_cases a <;> simp [sq, row] <;> rfl
  · exact v15_at m c _ _

/-- Window 10's block number at a point. -/
theorem i10 : ∀ t : Fin cfg0.N, win0_10.index t = ![0, 0] := (by decide +kernel : ∀ t : Fin grid0.N, _)
/-- Window 10's block. -/
theorem blk10 (t : Fin cfg0.N) (r : Fin 1024) (q : Fin 1024) :
    (iblk m c 10 t : Vec Ideal S1024x1024 .bf16) (ix2 (n0 := 1024) (n1 := 1024) r q) = (kArgs m c).wo r q := by
  blk_simp [iblk]
  refine (congrArg (V m c main_v16) (a₂ := ix2 (n0 := 1024) (n1 := 1024) r q) ?_).trans ?_
  · refine funext fun a => Fin.ext ?_
    blk_simp [i10]
    fin_cases a <;> simp [sq, row] <;> rfl
  · exact v16_at m c _ _

/-- Window 15's block number at a point. -/
theorem i15 : ∀ t : Fin cfg0.N, win0_15.index t = ![0, 0] := (by decide +kernel : ∀ t : Fin grid0.N, _)
/-- Window 15's block. -/
theorem blk15 (t : Fin cfg0.N) (r : Fin 1) (q : Fin 1024) :
    (iblk m c 15 t : Vec Ideal S1x1024 .f32) (ix2 (n0 := 1) (n1 := 1024) r q) = (kArgs m c).fg q := by
  blk_simp [iblk]
  refine (congrArg (V m c main_v20) (a₂ := ix2 (n0 := 1) (n1 := 1024) r q) ?_).trans ?_
  · refine funext fun a => Fin.ext ?_
    blk_simp [i15]
    fin_cases a <;> simp [sq, row] <;> rfl
  · exact v20_at m c _ _

/-- Window 12's block number at a point. -/
theorem i12 : ∀ t : Fin cfg0.N, win0_12.index t = ![(grid0.coords t 2).val, 0, (grid0.coords t 3).val] := (by decide +kernel : ∀ t : Fin grid0.N, _)
/-- Window 12's block. -/
theorem blk12 (t : Fin cfg0.N) (z : Fin 1) (r : Fin 1024) (j : Fin 1408) :
    (iblk m c 12 t : Vec Ideal S1x1024x1408 .bf16) (ix3 (n0 := 1) (n1 := 1024) (n2 := 1408) z r j) = (kArgs m c).wg (ex t) r (ch t j) := by
  blk_simp [iblk]
  refine (congrArg (V m c main_v17) (a₂ := ix3 (n0 := 8) (n1 := 1024) (n2 := 2816) (ex t) r (ch t j)) ?_).trans ?_
  · refine funext fun a => Fin.ext ?_
    blk_simp [i12]
    fin_cases a <;> simp [sq, row, ex, ch] <;> rfl
  · exact v17_at m c _ _ _

/-- Window 13's block number at a point. -/
theorem i13 : ∀ t : Fin cfg0.N, win0_13.index t = ![(grid0.coords t 2).val, 0, (grid0.coords t 3).val] := (by decide +kernel : ∀ t : Fin grid0.N, _)
/-- Window 13's block. -/
theorem blk13 (t : Fin cfg0.N) (z : Fin 1) (r : Fin 1024) (j : Fin 1408) :
    (iblk m c 13 t : Vec Ideal S1x1024x1408 .bf16) (ix3 (n0 := 1) (n1 := 1024) (n2 := 1408) z r j) = (kArgs m c).wu (ex t) r (ch t j) := by
  blk_simp [iblk]
  refine (congrArg (V m c main_v18) (a₂ := ix3 (n0 := 8) (n1 := 1024) (n2 := 2816) (ex t) r (ch t j)) ?_).trans ?_
  · refine funext fun a => Fin.ext ?_
    blk_simp [i13]
    fin_cases a <;> simp [sq, row, ex, ch] <;> rfl
  · exact v18_at m c _ _ _

/-- Window 14's block number at a point. -/
theorem i14 : ∀ t : Fin cfg0.N, win0_14.index t = ![(grid0.coords t 2).val, (grid0.coords t 3).val, 0] := (by decide +kernel : ∀ t : Fin grid0.N, _)
/-- Window 14's block. -/
theorem blk14 (t : Fin cfg0.N) (z : Fin 1) (j : Fin 1408) (q : Fin 1024) :
    (iblk m c 14 t : Vec Ideal S1x1408x1024 .bf16) (ix3 (n0 := 1) (n1 := 1408) (n2 := 1024) z j q) = (kArgs m c).wd (ex t) (ch t j) q := by
  blk_simp [iblk]
  refine (congrArg (V m c main_v19) (a₂ := ix3 (n0 := 8) (n1 := 2816) (n2 := 1024) (ex t) (ch t j) q) ?_).trans ?_
  · refine funext fun a => Fin.ext ?_
    blk_simp [i14]
    fin_cases a <;> simp [sq, row, ex, ch] <;> rfl
  · exact v19_at m c _ _ _

end Cert.Proof.Moe
-- ==== Proof.MoeTop.lean ====
module
public import Idealize.ShloMosaic.Lib.SortFacts
public import Mathlib.Data.EReal.Basic
@[expose] public section
noncomputable section
namespace Cert.Proof.Moe
open Idealize.ShloMosaic

/-- Position `k` goes before position `k'` in a descending sort: its entry is the bigger one. -/
def ahead (L : Fin 8 → EReal) (k k' : Fin 8) : Bool := decide (L k' < L k)

/-- The same with ties decided by the position. -/
def aheadT (L : Fin 8 → EReal) (k k' : Fin 8) : Bool := decide (L k' < L k ∨ (L k = L k' ∧ k < k'))

/-- A stable sort of increasing positions decides ties by the position. -/
theorem stableSort_tie (L : Fin 8 → EReal) (l : List (Fin 8)) (hl : l.Pairwise (· < ·)) :
    stableSort (ahead L) l = stableSort (aheadT L) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have := hl.1 b hb'
    simp only [ahead, aheadT, decide_eq_decide]
    constructor
    · exact Or.inl
    · rintro (h | ⟨_, h⟩)
      · exact h
      · exact absurd h (lt_asymm this)

/-- The expert in place `j` of the descending order. -/
def pos (L : Fin 8 → EReal) (j : Fin 8) : Fin 8 := sortedFrom (ahead L) j

/-- The order of the places is the sort's. -/
theorem pos_eq (L : Fin 8 → EReal) : pos L = sortedFrom (aheadT L) := by
  have h : sortPositions 8 (ahead L) = sortPositions 8 (aheadT L) :=
    stableSort_tie L _ (by decide)
  funext j
  unfold pos sortedFrom
  simp only [List.get_eq_getElem, h, Fin.val_cast]

/-- No expert has two places. -/
theorem pos_injective (L : Fin 8 → EReal) : Function.Injective (pos L) := sortedFrom_injective _

/-- An earlier place holds a bigger entry, or an equal one at a smaller position. -/
theorem pos_order (L : Fin 8 → EReal) {i j : Fin 8} (h : i < j) :
    L (pos L j) < L (pos L i) ∨ (L (pos L i) = L (pos L j) ∧ pos L i < pos L j) := by
  have hn : pos L i ≠ pos L j := fun e => absurd (pos_injective L e) (ne_of_lt h)
  have h2 := sortedFrom_noInversion (aheadT L) (aheadT L)
    (fun a b hab => by
      simp only [aheadT, decide_eq_true_eq, decide_eq_false_iff_not] at hab ⊢
      rintro (h | ⟨e, h⟩) <;> rcases hab with h' | ⟨e', h'⟩
      · exact lt_asymm h h'
      · exact absurd e' (ne_of_lt h)
      · exact absurd e (ne_of_lt h')
      · exact lt_asymm h h')
    (fun a b h => h)
    (fun a b d hab hbd => by
      simp only [aheadT, decide_eq_false_iff_not, not_or, not_and, not_lt] at hab hbd ⊢
      refine ⟨le_trans hab.1 hbd.1, fun e => ?_⟩
      have e1 : L a = L b := le_antisymm hab.1 (e ▸ hbd.1)
      have e2 : L b = L d := e1 ▸ e
      exact le_trans (hbd.2 e2) (hab.2 e1)) i j h
  rw [← pos_eq] at h2
  simp only [aheadT, decide_eq_false_iff_not, not_or, not_and, not_lt] at h2
  rcases lt_or_eq_of_le h2.1 with h3 | h3
  · exact Or.inl h3
  · exact Or.inr ⟨h3.symm, lt_of_le_of_ne (h2.2 h3) hn⟩

/-- The first place: no entry is bigger, and an equal one sits at a later position. -/
theorem pos0 (L : Fin 8 → EReal) (k : Fin 8) (h : k ≠ pos L 0) :
    L k < L (pos L 0) ∨ (L (pos L 0) = L k ∧ pos L 0 < k) := by
  obtain ⟨j, rfl⟩ := sortedFrom_surjective (ahead L) k
  exact pos_order L (Fin.pos_of_ne_zero fun e => h (by rw [e]; rfl))

/-- The first place holds the biggest logit. -/
theorem pos0_le (L : Fin 8 → EReal) (k : Fin 8) : L k ≤ L (pos L 0) := by
  by_cases h : k = pos L 0
  · rw [h]
  · exact (pos0 L k h).elim le_of_lt fun e => le_of_eq e.1.symm

/-- The two chosen experts differ. -/
theorem pos01 (L : Fin 8 → EReal) : pos L 1 ≠ pos L 0 := fun e => absurd (pos_injective L e) (by decide)

/-- The second place: no entry but the first's is bigger, and an equal one sits at a later position. -/
theorem pos1 (L : Fin 8 → EReal) (k : Fin 8) (h : k ≠ pos L 0) (h' : k ≠ pos L 1) :
    L k < L (pos L 1) ∨ (L (pos L 1) = L k ∧ pos L 1 < k) := by
  obtain ⟨j, rfl⟩ := sortedFrom_surjective (ahead L) k
  refine pos_order L ?_
  have h0 : j ≠ 0 := fun e => h (by rw [e]; rfl)
  have h1 : j ≠ 1 := fun e => h' (by rw [e]; rfl)
  omega

/-- The second place holds the biggest of the other logits. -/
theorem pos1_le (L : Fin 8 → EReal) (k : Fin 8) (h : k ≠ pos L 0) : L k ≤ L (pos L 1) := by
  by_cases h' : k = pos L 1
  · rw [h']
  · exact (pos1 L k h h').elim le_of_lt fun e => le_of_eq e.1.symm

end Cert.Proof.Moe
-- ==== Proof.MoeSpec.lean ====
module
public import proofs.«01_k».proof.Proof.MoeArgs
public import proofs.«01_k».proof.Proof.MoeTop
@[expose] public section
set_option maxRecDepth 16384
noncomputable section
namespace Cert.Proof.Moe
open Idealize.ShloMosaic
variable (A : Args)

/-- The four mixers' outputs at one position, side by side. -/
def mix (b : Fin 8) (t : Fin 2048) (k : Fin 1024) : EReal :=
  if h : k.val < 256 then A.o0 b t ⟨k.val, h⟩
  else if h' : k.val - 256 < 256 then A.o1 b t ⟨k.val - 256, h'⟩
  else if h'' : k.val - 256 - 256 < 256 then A.o2 b t ⟨k.val - 256 - 256, h''⟩
  else A.o3 b t ⟨k.val - 256 - 256 - 256, by omega⟩

/-- The residual after the mixers: `x + g1 * (mix @ w_out)`. -/
def res (b : Fin 8) (t : Fin 2048) (q : Fin 1024) : EReal :=
  A.x b t q + A.g1 b 0 q * ∑ k : Fin 1024, mix A b t k * A.wo k q

/-- Its norm, with the gain. -/
def nrm (b : Fin 8) (t : Fin 2048) (q : Fin 1024) : EReal :=
  res A b t q * Ideal.rsqrt (Ideal.div (∑ k : Fin 1024, res A b t k * res A b t k) (Ideal.ofBits FTy.f32 0x44800000#32)
    + Ideal.ofBits FTy.f32 0x358637BD#32) * A.ng q

/-- The norm scaled and shifted by the conditioning. -/
def hid (b : Fin 8) (t : Fin 2048) (q : Fin 1024) : EReal := nrm A b t q * (1 + A.sc b 0 q) + A.sh b 0 q

/-- The router's logits at one position. -/
def logit (b : Fin 8) (t : Fin 2048) (e : Fin 8) : EReal := ∑ k : Fin 1024, hid A b t k * A.rt k e

/-- How much the second best expert weighs against the best, before the two are normed. -/
def second (L : Fin 8 → EReal) : EReal := Ideal.exp (L (pos L 1) - L (pos L 0))

/-- The weight of each expert: the softmax of the two biggest logits at their experts, nothing at the others. -/
def gates (L : Fin 8 → EReal) (e : Fin 8) : EReal :=
  (if e = pos L 0 then Ideal.div 1 (1 + second L) else 0) + (if e = pos L 1 then Ideal.div (second L) (1 + second L) else 0)

/-- An expert's gate projection. -/
def proj (b : Fin 8) (t : Fin 2048) (e : Fin 8) (j : Fin 2816) : EReal := ∑ k : Fin 1024, hid A b t k * A.wg e k j

/-- An expert's hidden activation: `silu gate * up`. -/
def act (b : Fin 8) (t : Fin 2048) (e : Fin 8) (j : Fin 2816) : EReal :=
  proj A b t e j * Ideal.div 1 (1 + Ideal.exp (-proj A b t e j)) * ∑ k : Fin 1024, hid A b t k * A.wu e k j

/-- The experts' outputs, weighted and added up. -/
def moe (b : Fin 8) (t : Fin 2048) (q : Fin 1024) : EReal :=
  ∑ e : Fin 8, gates (logit A b t) e * ∑ j : Fin 2816, act A b t e j * A.wd e j q

/-- The residual after the experts. -/
def fin (b : Fin 8) (t : Fin 2048) (q : Fin 1024) : EReal := res A b t q + A.g2 b 0 q * moe A b t q

/-- The result: its norm with the last gain. -/
def out (b : Fin 8) (t : Fin 2048) (q : Fin 1024) : EReal :=
  fin A b t q * Ideal.rsqrt (Ideal.div (∑ k : Fin 1024, fin A b t k * fin A b t k) (Ideal.ofBits FTy.f32 0x44800000#32)
    + Ideal.ofBits FTy.f32 0x358637BD#32) * A.fg q

end Cert.Proof.Moe
-- ==== Proof.MoeLane.lean ====
module
public import proofs.«01_k».proof.Proof.MoeSpec
public import Idealize.ShloMosaic.Lib.KernelVsHost
@[expose] public section
set_option maxRecDepth 16384
noncomputable section
namespace Cert.Proof.Moe
open Idealize.ShloMosaic

/-- The maximum over the lanes is an entry that bounds them all. -/
theorem fold_max_eq (f : Fin 128 → EReal) (x : EReal) (h : ∀ l, f l ≤ x) (l : Fin 128) (hl : f l = x) :
    (Finset.univ : Finset (Fin 128)).fold max ⊥ f = x :=
  le_antisymm ((Finset.fold_max_le _).2 ⟨bot_le, fun l _ => h l⟩) ((Finset.le_fold_max _).2 (Or.inr ⟨l, Finset.mem_univ _, hl.ge⟩))

/-- The minimum over the lanes is an entry that is below them all. -/
theorem fold_min_eq (f : Fin 128 → EReal) (x : EReal) (h : ∀ l, x ≤ f l) (l : Fin 128) (hl : f l = x) :
    (Finset.univ : Finset (Fin 128)).fold min ⊤ f = x :=
  le_antisymm ((Finset.fold_min_le _).2 (Or.inr ⟨l, Finset.mem_univ _, hl.le⟩)) ((Finset.le_fold_min _).2 ⟨le_top, fun l _ => h l⟩)

/-- A lane's number. -/
def num (l : Fin 128) : EReal := ((l.val : ℝ) : EReal)

/-- Lanes' numbers are ordered as the lanes are. -/
theorem num_le {l k : Fin 128} : num l ≤ num k ↔ l.val ≤ k.val := by
  unfold num
  rw [EReal.coe_le_coe_iff, Nat.cast_le]

/-- Lanes with one number are one lane. -/
theorem num_inj {l k : Fin 128} : num l = num k ↔ l = k := by
  rw [le_antisymm_iff, num_le, num_le, ← le_antisymm_iff, Fin.ext_iff]

/-- The lane's index as a float. -/
theorem num_word (l : Fin 128) : FloatOps.sitofp (F := Ideal) FTy.f32 (BitVec.ofNat 32 l.val) = num l := by
  show (((BitVec.ofNat 32 l.val).toInt : ℝ) : EReal) = ((l.val : ℝ) : EReal)
  have : (BitVec.ofNat 32 l.val).toInt = (l.val : ℤ) := by
    have : ∀ l : Fin 128, (BitVec.ofNat 32 l.val).toInt = (l.val : ℤ) := by decide
    exact this l
  rw [this, Int.cast_natCast]

/-- The float word of 8. -/
theorem eight : Ideal.ofBits FTy.f32 0x41000000#32 = ((8 : ℝ) : EReal) := by
  simp [Ideal.ofBits, Ideal.ieee, -EReal.coe_mul]; norm_num

/-- The float word of 128. -/
theorem lanes : Ideal.ofBits FTy.f32 0x43000000#32 = ((128 : ℝ) : EReal) := by
  simp [Ideal.ofBits, Ideal.ieee, -EReal.coe_mul]; norm_num

/-- The float word of minus infinity. -/
theorem bot_word : Ideal.ofBits FTy.f32 0xFF800000#32 = ⊥ := by simp [Ideal.ofBits, Ideal.ieee]
/-- The float word of plus infinity. -/
theorem top_word : Ideal.ofBits FTy.f32 0x7F800000#32 = ⊤ := by simp [Ideal.ofBits, Ideal.ieee]

/-- The lanes below 8 by their numbers. -/
theorem num_lt_eight (l : Fin 128) : num l < Ideal.ofBits FTy.f32 0x41000000#32 ↔ l.val < 8 := by
  rw [eight]
  unfold num
  rw [EReal.coe_lt_coe_iff]
  exact_mod_cast Iff.rfl

/-- No lane's number exceeds 128. -/
theorem num_le_lanes (l : Fin 128) : num l ≤ Ideal.ofBits FTy.f32 0x43000000#32 := by
  rw [lanes]
  unfold num
  rw [EReal.coe_le_coe_iff]
  have := l.isLt
  exact_mod_cast this.le

/-- Expert `e`'s lane. -/
def lane (e : Fin 8) : Fin 128 := ⟨e.val, by omega⟩

variable (L : Fin 8 → EReal)

/-- The logits on the lanes: nothing but `-∞` on the lanes that hold no expert. -/
def wide (l : Fin 128) : EReal := if h : l.val < 8 then L ⟨l.val, h⟩ else ⊥

/-- The logits without the best expert's. -/
def rest (l : Fin 128) : EReal := if l = lane (pos L 0) then ⊥ else wide L l

/-- An expert's lane holds its logit. -/
theorem wide_lane (e : Fin 8) : wide L (lane e) = L e := dif_pos e.isLt

variable (hL : ∀ e, L e ≠ ⊤ ∧ L e ≠ ⊥)
include hL

/-- The lanes' maximum is the best logit. -/
theorem max_wide : (Finset.univ : Finset (Fin 128)).fold max ⊥ (wide L) = L (pos L 0) := by
  refine fold_max_eq _ _ (fun l => ?_) (lane (pos L 0)) (wide_lane L _)
  unfold wide
  split
  · exact pos0_le L _
  · exact bot_le

/-- The first lane at which it is met is the best expert's. -/
theorem arg_wide : (Finset.univ : Finset (Fin 128)).fold min ⊤ (fun l => if wide L l = L (pos L 0) then num l else Ideal.ofBits FTy.f32 0x43000000#32)
    = num (lane (pos L 0)) := by
  refine fold_min_eq _ _ (fun l => ?_) (lane (pos L 0)) (if_pos (wide_lane L _))
  split
  · rename_i h
    unfold wide at h
    split at h
    · rename_i h8
      rw [num_le]
      by_cases e : (⟨l.val, h8⟩ : Fin 8) = pos L 0
      · exact le_of_eq (congrArg (fun x : Fin 8 => x.val) e.symm)
      · rcases pos0 L _ e with h1 | h1
        · exact absurd h (ne_of_lt h1)
        · exact le_of_lt h1.2
    · exact absurd h.symm (hL _).2
  · exact num_le_lanes _

/-- The second best expert's lane holds its logit among the rest. -/
theorem rest_lane : rest L (lane (pos L 1)) = L (pos L 1) := by
  unfold rest
  have hn : lane (pos L 1) ≠ lane (pos L 0) := fun h => pos01 L (Fin.ext (congrArg (fun x : Fin 128 => x.val) h))
  rw [if_neg hn, wide_lane]

/-- The maximum of the rest is the second best logit. -/
theorem max_rest : (Finset.univ : Finset (Fin 128)).fold max ⊥ (rest L) = L (pos L 1) := by
  refine fold_max_eq _ _ (fun l => ?_) (lane (pos L 1)) (rest_lane L hL)
  unfold rest
  split
  · exact bot_le
  · rename_i h
    unfold wide
    split
    · exact pos1_le L _ fun e => h (Fin.ext (congrArg (fun x : Fin 8 => x.val) e))
    · exact bot_le

/-- The first lane at which it is met is the second best expert's. -/
theorem arg_rest : (Finset.univ : Finset (Fin 128)).fold min ⊤ (fun l => if rest L l = L (pos L 1) then num l else Ideal.ofBits FTy.f32 0x43000000#32)
    = num (lane (pos L 1)) := by
  refine fold_min_eq _ _ (fun l => ?_) (lane (pos L 1)) (if_pos (rest_lane L hL))
  split
  · rename_i h
    unfold rest at h
    split at h
    · exact absurd h.symm (hL _).2
    · rename_i hn
      unfold wide at h
      split at h
      · rename_i h8
        rw [num_le]
        by_cases e : (⟨l.val, h8⟩ : Fin 8) = pos L 1
        · exact le_of_eq (congrArg (fun x : Fin 8 => x.val) e.symm)
        · rcases pos1 L _ (fun e => hn (Fin.ext (congrArg (fun x : Fin 8 => x.val) e))) e with h1 | h1
          · exact absurd h (ne_of_lt h1)
          · exact le_of_lt h1.2
      · exact absurd h.symm (hL _).2
  · exact num_le_lanes _

end Cert.Proof.Moe
-- ==== Proof.MoeRouter.lean ====
module
public import proofs.«01_k».proof.Proof.MoeHost
public import proofs.«01_k».proof.Proof.MoeLane
@[expose] public section
set_option maxRecDepth 16384
noncomputable section
namespace Cert.Proof.Moe
open Idealize.ShloMosaic Idealize.SL.Sem Idealize.ShloMosaic.TcCoe Cert.Kernel6Ideal Cert.Kernel6Ideal.Gen
variable (m : (ℓ : Loc nD τ sig) → Buf (Elt Ideal) ℓ) (c : Dev nD)

/-- The scatter's dimensions. -/
abbrev dR : ScatterDims S1024x128 S1 S1024x8 := scatter_S1024x128_S1_S1024x8_01_n_1_0

/-- The block of eight columns written at column 0 lands entry on entry. -/
theorem lands_block (idx : IVec S1 32) (hidx : ∀ j, (idx j).toInt = 0) (j : S1024x8.Idx) (r : Fin 1024) (q : Fin 128) :
    dR.resultIdx? j idx = some (ValueIdx.ix2 r q) ↔ (j 0).val = r.val ∧ (j 1).val = q.val := by
  have hwin0 : dR.window j 0 = (j 0).val := rfl
  have hwin1 : dR.window j 1 = (j 1).val := rfl
  have hstart0 : dR.start j idx 0 = 0 := rfl
  have hstart1 : dR.start j idx 1 = 0 := hidx _
  refine (Routing.resultIdx?_ix2 dR j idx r q).trans ?_
  rw [hstart0, hwin0, hstart1, hwin1]
  omega

/-- The padded router: its first eight columns are the router. -/
theorem v2_at (r : Fin 1024) (e : Fin 8) :
    (V m c main_v2 : Vec Ideal S1024x128 .f32) (ix2 (n0 := 1024) (n1 := 128) r (lane e)) = (kArgs m c).rt r e := by
  unfold_abbrev_sides
  after_reads_simp
  refine Routing.scatter_set_hit dR _ _ _ _ _ (fun j hj => ?_) (ix2 (n0 := 1024) (n1 := 8) r e)
    ((lands_block _ (fun _ => rfl) _ r (lane e)).2 ⟨rfl, rfl⟩)
  have h := (lands_block _ (fun _ => rfl) j r (lane e)).1 hj
  have h' : j = ix2 (n0 := 1024) (n1 := 8) r e := by
    funext a
    fin_cases a
    · exact Fin.ext h.1
    · exact Fin.ext h.2
  rw [h']

end Cert.Proof.Moe
-- ==== Proof.MoeFrame.lean ====
module
public import proofs.«01_k».proof.Proof.MoeArgs
@[expose] public section
set_option maxRecDepth 16384
noncomputable section
namespace Cert.Proof.Moe
open Idealize.ShloMosaic Idealize.SL.Sem Idealize.ShloMosaic.TcCoe Cert.Kernel6Ideal Cert.Kernel6Ideal.Gen
variable (m : (ℓ : Loc nD τ sig) → Buf (Elt Ideal) ℓ) (c : Dev nD) (t : Fin cfg0.N)

/-- The body's residual after the mixers, from the blocks of point `t`. -/
def bRes : FVec Ideal S512x1024 .f32 := k0_pay3 (iblk m c 1 t) (iblk m c 2 t) (iblk m c 3 t) (iblk m c 4 t) (iblk m c 10 t) (iblk m c 0 t) (iblk m c 5 t)

/-- The body's residual over its root mean square. -/
def bRms : FVec Ideal S512x1024 .f32 := k0_pay5 (iblk m c 1 t) (iblk m c 2 t) (iblk m c 3 t) (iblk m c 4 t) (iblk m c 10 t) (iblk m c 0 t) (iblk m c 5 t)

/-- The body's normed, scaled and shifted residual. -/
def bHid : FVec Ideal S512x1024 .f32 := k0_pay7 (bRms m c t) (k0_pay6 (iblk m c 9 t)) (iblk m c 7 t) (iblk m c 6 t)

/-- The same, stored for the experts' products. -/
def bHid16 : FVec Ideal S512x1024 .bf16 := k0_pay8 (bRms m c t) (k0_pay6 (iblk m c 9 t)) (iblk m c 7 t) (iblk m c 6 t)

/-- The body's logits, a lane for an expert. -/
def bLog : FVec Ideal S512x128 .f32 := k0_pay11 (bRms m c t) (k0_pay6 (iblk m c 9 t)) (iblk m c 7 t) (iblk m c 6 t) (iblk m c 11 t)

/-- The best logit of a row. -/
def bMax : FVec Ideal S512x1 .f32 := k0_pay12 (bRms m c t) (k0_pay6 (iblk m c 9 t)) (iblk m c 7 t) (iblk m c 6 t) (iblk m c 11 t)

/-- The lane of the best logit of a row. -/
def bArg : FVec Ideal S512x1 .f32 := k0_pay13 (bRms m c t) (k0_pay6 (iblk m c 9 t)) (iblk m c 7 t) (iblk m c 6 t) (iblk m c 11 t)

/-- The same on all lanes. -/
def bArgs : FVec Ideal S512x128 .f32 := k0_pay14 (bRms m c t) (k0_pay6 (iblk m c 9 t)) (iblk m c 7 t) (iblk m c 6 t) (iblk m c 11 t)

/-- The body's gates. -/
def bGate : FVec Ideal S512x128 .f32 := k0_pay15 k0_pay10 (bLog m c t) (bMax m c t) (bArg m c t) (bArgs m c t)

/-- One more tile's products on top of `a`, from the stored rows `h` and the stored gates `g`. -/
def bTile (a : FVec Ideal S512x1024 .f32) (h : FVec Ideal S512x1024 .bf16) (g : FVec Ideal S512x128 .f32) : FVec Ideal S512x1024 .f32 :=
  k0_pay1 a (k0_pay16 (grid0.coords t) h (iblk m c 12 t) (iblk m c 13 t) g) (iblk m c 14 t)

/-- The body's result, from the residual `o` and the experts' sum `a`. -/
def bOut (o : FVec Ideal S1x512x1024 .f32) (a : FVec Ideal S512x1024 .f32) : FVec Ideal S1x512x1024 .f32 := k0_pay2 o a (iblk m c 8 t) (iblk m c 15 t)

/-- What the point before `t` left behind. -/
abbrev prev : Vec Ideal S1x512x1024 .f32 × Vec Ideal S512x1024 .bf16 × Vec Ideal S512x1024 .f32 × Vec Ideal S512x128 .f32 :=
  outsAt0 m c (t.val - 1) (Nat.lt_of_le_of_lt (Nat.sub_le _ _) t.isLt)

/-- At a tile's first point: the result's block. -/
theorem fA0 (h0 : t.val % 16 = 0) (h1 : ¬t.val % 16 = 15) : (outsAt0 m c t.val t.isLt).1 = k0_pay4 (iblk m c 1 t) (iblk m c 2 t) (iblk m c 3 t) (iblk m c 4 t) (iblk m c 10 t) (iblk m c 0 t) (iblk m c 5 t) := by
  rw [outsAt0_A m c t h0 h1]
  dsimp only
  frame_out

/-- At a tile's first point: the stored rows. -/
theorem fA1 (h0 : t.val % 16 = 0) (h1 : ¬t.val % 16 = 15) : (outsAt0 m c t.val t.isLt).2.1 = bHid16 m c t := by
  rw [outsAt0_A m c t h0 h1]
  dsimp only
  frame_out
  rfl

/-- At a tile's first point: the running sum. -/
theorem fA2 (h0 : t.val % 16 = 0) (h1 : ¬t.val % 16 = 15) : (outsAt0 m c t.val t.isLt).2.2.1 = bTile m c t k0_pay9 (bHid16 m c t) (bGate m c t) := by
  rw [outsAt0_A m c t h0 h1]
  dsimp only
  frame_out
  rfl

/-- At a tile's first point: the stored gates. -/
theorem fA3 (h0 : t.val % 16 = 0) (h1 : ¬t.val % 16 = 15) : (outsAt0 m c t.val t.isLt).2.2.2 = bGate m c t := by
  rw [outsAt0_A m c t h0 h1]
  dsimp only
  frame_out
  rfl

/-- Between: the result's block. -/
theorem fB0 (h0 : ¬t.val % 16 = 0) (h1 : ¬t.val % 16 = 15) : (outsAt0 m c t.val t.isLt).1 = (prev m c t).1 := by
  rw [outsAt0_B m c t h0 h1]
  rfl

/-- Between: the stored rows. -/
theorem fB1 (h0 : ¬t.val % 16 = 0) (h1 : ¬t.val % 16 = 15) : (outsAt0 m c t.val t.isLt).2.1 = (prev m c t).2.1 := by
  rw [outsAt0_B m c t h0 h1]
  rfl

/-- Between: the running sum. -/
theorem fB2 (h0 : ¬t.val % 16 = 0) (h1 : ¬t.val % 16 = 15) : (outsAt0 m c t.val t.isLt).2.2.1 = bTile m c t (prev m c t).2.2.1 (prev m c t).2.1 (prev m c t).2.2.2 := by
  rw [outsAt0_B m c t h0 h1]
  dsimp only
  frame_out
  simp only [Memref.IsWhole.read_unread, read_unread_whole]
  rfl

/-- Between: the stored gates. -/
theorem fB3 (h0 : ¬t.val % 16 = 0) (h1 : ¬t.val % 16 = 15) : (outsAt0 m c t.val t.isLt).2.2.2 = (prev m c t).2.2.2 := by
  rw [outsAt0_B m c t h0 h1]
  rfl

/-- At a tile's last point: the result's block. -/
theorem fC0 (h0 : ¬t.val % 16 = 0) (h1 : t.val % 16 = 15) : (outsAt0 m c t.val t.isLt).1 = bOut m c t (prev m c t).1 (bTile m c t (prev m c t).2.2.1 (prev m c t).2.1 (prev m c t).2.2.2) := by
  rw [outsAt0_C m c t h0 h1]
  dsimp only
  frame_out
  simp only [Memref.IsWhole.read_unread, read_unread_whole]
  rfl

/-- At a tile's last point: the stored rows. -/
theorem fC1 (h0 : ¬t.val % 16 = 0) (h1 : t.val % 16 = 15) : (outsAt0 m c t.val t.isLt).2.1 = (prev m c t).2.1 := by
  rw [outsAt0_C m c t h0 h1]
  rfl

/-- At a tile's last point: the running sum. -/
theorem fC2 (h0 : ¬t.val % 16 = 0) (h1 : t.val % 16 = 15) : (outsAt0 m c t.val t.isLt).2.2.1 = bTile m c t (prev m c t).2.2.1 (prev m c t).2.1 (prev m c t).2.2.2 := by
  rw [outsAt0_C m c t h0 h1]
  dsimp only
  frame_out
  simp only [Memref.IsWhole.read_unread, read_unread_whole]
  rfl

/-- At a tile's last point: the stored gates. -/
theorem fC3 (h0 : ¬t.val % 16 = 0) (h1 : t.val % 16 = 15) : (outsAt0 m c t.val t.isLt).2.2.2 = (prev m c t).2.2.2 := by
  rw [outsAt0_C m c t h0 h1]
  rfl

end Cert.Proof.Moe
-- ==== Proof.MoeBlock.lean ====
module
public import proofs.«01_k».proof.Proof.MoeBlk
public import proofs.«01_k».proof.Proof.MoeRouter
public import proofs.«01_k».proof.Proof.MoeFrame
public import Idealize.ShloMosaic.Lib.KernelVsHost
@[expose] public section
set_option maxRecDepth 16384
noncomputable section
namespace Cert.Proof.Moe
open Idealize.ShloMosaic Idealize.SL.Sem Idealize.ShloMosaic.TcCoe Cert.Kernel6Ideal Cert.Kernel6Ideal.Gen
/-- Lanes of experts are told apart. -/
theorem lane_inj {e f : Fin 8} : lane e = lane f ↔ e = f :=
  ⟨fun h => Fin.ext (congrArg (fun x : Fin 128 => x.val) h), congrArg lane⟩

/-- The gates as the body takes them, from the lanes' numbers, the logits, the best logit and the best lane. -/
theorem pay15_at (L : Fin 8 → EReal) (hL : ∀ e, L e ≠ ⊤ ∧ L e ≠ ⊥) (a b : FVec Ideal S512x128 .f32) (w w' : FVec Ideal S512x1 .f32) (d : FVec Ideal S512x128 .f32)
    (r : Fin 512) (e : Fin 8)
    (ha : ∀ l, a (ix2 (n0 := 512) (n1 := 128) r l) = num l) (hb : ∀ l, b (ix2 (n0 := 512) (n1 := 128) r l) = wide L l)
    (hw : w (ix2 (n0 := 512) (n1 := 1) r 0) = L (pos L 0)) (hw' : w' (ix2 (n0 := 512) (n1 := 1) r 0) = num (lane (pos L 0)))
    (hd : ∀ l, d (ix2 (n0 := 512) (n1 := 128) r l) = num (lane (pos L 0))) :
    k0_pay15 a b w w' d (ix2 (n0 := 512) (n1 := 128) r (lane e)) = gates L e := by
  have hr : ∀ x, (if a (ix2 (n0 := 512) (n1 := 128) r x) = d (ix2 (n0 := 512) (n1 := 128) r x) then Ideal.ofBits FTy.f32 0xFF800000#32
      else b (ix2 (n0 := 512) (n1 := 128) r x)) = rest L x := fun x => by
    rw [ha, hd, hb, bot_word]
    unfold rest
    simp only [num_inj]
  unfold k0_pay15
  pointwise
  simp only [hr]
  rw [bot_word, top_word, max_rest L hL]
  simp only [ha, hw, hw']
  rw [arg_rest L hL]
  simp only [num_inj]
  simp only [lane_inj]
  rfl

variable (m : (ℓ : Loc nD τ sig) → Buf (Elt Ideal) ℓ) (c : Dev nD) (t : Fin cfg0.N)

/-- Window 11's block number at a point. -/
theorem i11 : ∀ t : Fin cfg0.N, win0_11.index t = ![0, 0] := (by decide +kernel : ∀ t : Fin grid0.N, _)
/-- Window 11's block: the padded router. -/
theorem blk11 (r : Fin 1024) (e : Fin 8) :
    (iblk m c 11 t : Vec Ideal S1024x128 .f32) (ix2 (n0 := 1024) (n1 := 128) r (lane e)) = (kArgs m c).rt r e := by
  blk_simp [iblk]
  refine (congrArg (V m c main_v2) (a₂ := ix2 (n0 := 1024) (n1 := 128) r (lane e)) ?_).trans ?_
  · refine funext fun a => Fin.ext ?_
    blk_simp [i11]
    fin_cases a <;> simp <;> rfl
  · exact v2_at m c _ _

/-- The body's residual is the residual of the point's positions. -/
theorem bRes_at (r : Fin 512) (q : Fin 1024) :
    bRes m c t (ix2 (n0 := 512) (n1 := 1024) r q) = res (kArgs m c) (sq t) (row t r) q := by
  unfold bRes k0_pay3
  pointwise
  simp only [blk0, blk1, blk2, blk3, blk4, blk5, blk10]
  exact congrArg (_ + ·) (mul_comm _ _)

/-- The body's normed, scaled and shifted residual is that of the point's positions. -/
theorem bHid_at (r : Fin 512) (q : Fin 1024) :
    bHid m c t (ix2 (n0 := 512) (n1 := 1024) r q) = hid (kArgs m c) (sq t) (row t r) q := by
  unfold bHid k0_pay7 k0_pay6 bRms k0_pay5
  rw [← bRes]
  pointwise
  simp only [bRes_at, blk6, blk7, blk9]
  rfl

/-- So is the stored one. -/
theorem bHid16_at (r : Fin 512) (q : Fin 1024) :
    bHid16 m c t (ix2 (n0 := 512) (n1 := 1024) r q) = hid (kArgs m c) (sq t) (row t r) q := by
  unfold bHid16 k0_pay8
  rw [← bHid]
  pointwise
  exact bHid_at m c t r q

/-- The result's block holds the residual. -/
theorem bStore_at (z : Fin 1) (r : Fin 512) (q : Fin 1024) :
    k0_pay4 (iblk m c 1 t) (iblk m c 2 t) (iblk m c 3 t) (iblk m c 4 t) (iblk m c 10 t) (iblk m c 0 t) (iblk m c 5 t)
      (ix3 (n0 := 1) (n1 := 512) (n2 := 1024) z r q) = res (kArgs m c) (sq t) (row t r) q := by
  unfold k0_pay4
  rw [← bRes]
  pointwise
  exact bRes_at m c t r q

/-- The sum over the tiles begins at nothing. -/
theorem zero_at (r : Fin 512) (q : Fin 1024) : (k0_pay9 (F := Ideal)) (ix2 (n0 := 512) (n1 := 1024) r q) = 0 := by
  unfold k0_pay9
  pointwise

/-- The lanes' numbers. -/
theorem num_at (r : Fin 512) (l : Fin 128) : (k0_pay10 (F := Ideal)) (ix2 (n0 := 512) (n1 := 128) r l) = num l := by
  unfold k0_pay10
  pointwise
  exact num_word l

/-- The body's logits on the lanes are those of the point's positions, and `-∞` where no expert is. -/
theorem bLog_at (r : Fin 512) (l : Fin 128) :
    bLog m c t (ix2 (n0 := 512) (n1 := 128) r l) = wide (logit (kArgs m c) (sq t) (row t r)) l := by
  unfold bLog k0_pay11
  rw [← bHid]
  unfold k0_pay10
  pointwise
  rw [num_word]
  unfold wide
  by_cases h : l.val < 8
  · rw [dif_pos h, if_pos ((num_lt_eight l).2 h)]
    refine Finset.sum_congr rfl fun k _ => congrArg₂ (· * ·) (bHid_at m c t r k) (blk11 m c t k ⟨l.val, h⟩)
  · rw [dif_neg h, if_neg fun h' => h ((num_lt_eight l).1 h')]
    exact bot_word

variable (hL : ∀ b t e, logit (kArgs m c) b t e ≠ ⊤ ∧ logit (kArgs m c) b t e ≠ ⊥)
include hL

/-- The best logit. -/
theorem bMax_at (r : Fin 512) (z : Fin 1) :
    bMax m c t (ix2 (n0 := 512) (n1 := 1) r z) = logit (kArgs m c) (sq t) (row t r) (pos (logit (kArgs m c) (sq t) (row t r)) 0) := by
  unfold bMax k0_pay12
  rw [← bLog]
  pointwise
  simp only [bLog_at]
  rw [bot_word]
  exact max_wide _ (hL _ _)

/-- The best expert's lane. -/
theorem bArg_at (r : Fin 512) (z : Fin 1) :
    bArg m c t (ix2 (n0 := 512) (n1 := 1) r z) = num (lane (pos (logit (kArgs m c) (sq t) (row t r)) 0)) := by
  unfold bArg k0_pay13
  rw [← bLog, ← bMax]
  pointwise
  simp only [bLog_at, bMax_at m c t hL, num_at]
  rw [top_word]
  exact arg_wide _ (hL _ _)

/-- The same on every lane. -/
theorem bArgs_at (r : Fin 512) (l : Fin 128) :
    bArgs m c t (ix2 (n0 := 512) (n1 := 128) r l) = num (lane (pos (logit (kArgs m c) (sq t) (row t r)) 0)) := by
  unfold bArgs k0_pay14
  rw [← bArg]
  pointwise
  exact bArg_at m c t hL r _

/-- An expert's lane holds the expert's gate. -/
theorem bGate_at (r : Fin 512) (e : Fin 8) :
    bGate m c t (ix2 (n0 := 512) (n1 := 128) r (lane e)) = gates (logit (kArgs m c) (sq t) (row t r)) e :=
  pay15_at _ (hL _ _) _ _ _ _ _ r e (num_at r) (bLog_at m c t r) (bMax_at m c t hL r 0) (bArg_at m c t hL r 0) (bArgs_at m c t hL r)

end Cert.Proof.Moe
-- ==== Proof.MoeSum.lean ====
module
public import proofs.«01_k».proof.Proof.MoeSpec
@[expose] public section
set_option maxRecDepth 16384
noncomputable section
namespace Cert.Proof.Moe
open Idealize.ShloMosaic

/-- Hidden channel `j` of half `k`. -/
def half (k : ℕ) (j : Fin 1408) : Fin 2816 := ⟨k % 2 * 1408 + j.val, by omega⟩

/-- A sum over the hidden channels is the sum over the two halves. -/
theorem sum_halves (f : Fin 2816 → EReal) : ∑ j, f j = ∑ j, f (half 0 j) + ∑ j, f (half 1 j) := by
  rw [show (∑ j, f j) = ∑ j : Fin (1408 + 1408), f j from rfl, Fin.sum_univ_add]
  refine congrArg₂ (· + ·) (Finset.sum_congr rfl fun j _ => congrArg f (Fin.ext ?_)) (Finset.sum_congr rfl fun j _ => congrArg f (Fin.ext ?_))
  · show j.val = 0 % 2 * 1408 + j.val
    omega
  · show 1408 + j.val = 1 % 2 * 1408 + j.val
    omega

/-- A nonnegative finite factor goes into a sum. -/
theorem mul_sum {ι : Type} (s : Finset ι) (x : EReal) (h0 : 0 ≤ x) (h1 : x ≠ ⊤) (f : ι → EReal) : x * ∑ i ∈ s, f i = ∑ i ∈ s, x * f i := by
  classical
  induction s using Finset.induction_on with
  | empty => simp
  | insert i s hi ih => rw [Finset.sum_insert hi, Finset.sum_insert hi, EReal.left_distrib_of_nonneg_of_ne_top h0 h1, ih]

/-- With finite logits a gate is a nonnegative real. -/
theorem gates_real (L : Fin 8 → EReal) (hL : ∀ e, L e ≠ ⊤ ∧ L e ≠ ⊥) (e : Fin 8) : ∃ g : ℝ, 0 ≤ g ∧ gates L e = (g : EReal) := by
  have hs : second L = (Real.exp ((L (pos L 1)).toReal - (L (pos L 0)).toReal) : EReal) := by
    unfold second
    rw [← Ideal.exp_coe, EReal.coe_sub, EReal.coe_toReal (hL _).1 (hL _).2, EReal.coe_toReal (hL _).1 (hL _).2]
  generalize hx : Real.exp ((L (pos L 1)).toReal - (L (pos L 0)).toReal) = x at hs
  have h0 : 0 < x := hx ▸ Real.exp_pos _
  have hd : ∀ y : ℝ, Ideal.div (y : EReal) (1 + second L) = ((y * (1 / (1 + x)) : ℝ) : EReal) := fun y => by
    rw [hs, ← EReal.coe_one, ← EReal.coe_add, Ideal.div_coe (by positivity), ← EReal.coe_mul]
  refine ⟨(if e = pos L 0 then 1 * (1 / (1 + x)) else 0) + (if e = pos L 1 then x * (1 / (1 + x)) else 0), ?_, ?_⟩
  · refine add_nonneg ?_ ?_ <;> split <;> positivity
  · unfold gates
    have h1 : Ideal.div 1 (1 + second L) = _ := hd 1
    have h2 : Ideal.div (second L) (1 + second L) = _ := (congrArg (fun y => Ideal.div y (1 + second L)) hs).trans (hd x)
    rw [EReal.coe_add, h1, h2]
    refine congrArg₂ (· + ·) ?_ ?_ <;> split <;> rfl

/-- One tile's products at one column: a point's hidden channels, gated, times the down matrix's rows. -/
def tile (A : Args) (s : Fin 8) (p : Fin 2048) (e : Fin 8) (f : Fin 1408 → Fin 2816) (q : Fin 1024) : EReal :=
  ∑ j : Fin 1408, act A s p e (f j) * gates (logit A s p) e * A.wd e (f j) q

/-- The first `n` tiles' products, in the grid's order: the experts one by one, two halves each. -/
def part (A : Args) (s : Fin 8) (p : Fin 2048) (q : Fin 1024) (n : ℕ) : EReal :=
  ∑ k ∈ Finset.range n, tile A s p ⟨k / 2 % 8, by omega⟩ (half k) q

/-- An expert's weighted output is its two tiles. -/
theorem expert_eq (A : Args) (s : Fin 8) (p : Fin 2048) (q : Fin 1024) (hL : ∀ e, logit A s p e ≠ ⊤ ∧ logit A s p e ≠ ⊥) (e : Fin 8) :
    gates (logit A s p) e * ∑ j : Fin 2816, act A s p e j * A.wd e j q = tile A s p e (half 0) q + tile A s p e (half 1) q := by
  obtain ⟨g, h0, hg⟩ := gates_real _ hL e
  rw [mul_sum _ _ (hg ▸ EReal.coe_nonneg.2 h0) (hg ▸ EReal.coe_ne_top g), sum_halves]
  refine congrArg₂ (· + ·) ?_ ?_ <;>
  · refine Finset.sum_congr rfl fun j _ => ?_
    rw [mul_comm (act A s p e _) (gates _ _), mul_assoc]

/-- All sixteen tiles are the experts' outputs, weighted and added up. -/
theorem part_all (A : Args) (s : Fin 8) (p : Fin 2048) (q : Fin 1024) (hL : ∀ e, logit A s p e ≠ ⊤ ∧ logit A s p e ≠ ⊥) :
    part A s p q 16 = moe A s p q := by
  unfold moe
  rw [Finset.sum_congr rfl fun e _ => expert_eq A s p q hL e, Fin.sum_univ_eight]
  unfold part
  simp only [Finset.sum_range_succ, Finset.sum_range_zero, zero_add, ← add_assoc]
  rfl

end Cert.Proof.Moe
-- ==== Proof.MoeTile.lean ====
module
public import proofs.«01_k».proof.Proof.MoeBlk
public import proofs.«01_k».proof.Proof.MoeRouter
public import proofs.«01_k».proof.Proof.MoeFrame
public import proofs.«01_k».proof.Proof.MoeSum
public import Idealize.ShloMosaic.Lib.KernelVsHost
@[expose] public section
set_option maxRecDepth 16384
noncomputable section
namespace Cert.Proof.Moe
open Idealize.ShloMosaic Idealize.SL.Sem Idealize.ShloMosaic.TcCoe Cert.Kernel6Ideal Cert.Kernel6Ideal.Gen
variable (m : (ℓ : Loc nD τ sig) → Buf (Elt Ideal) ℓ) (c : Dev nD) (t : Fin cfg0.N)

/-- Whether a lane's number is the expert's. -/
theorem lane_eq : ∀ (x : Fin 128) (e : Fin 8), IntOp.cmpi .eq (BitVec.ofNat 32 x.val) (BitVec.ofNat 32 e.val) = if x = lane e then 1#1 else 0#1 := by
  decide +kernel

/-- The sum over the lanes that keeps the expert's lane alone is that lane. -/
theorem pick (e : Fin 8) (v : Fin 128 → EReal) :
    ∑ x : Fin 128, Scalar.select (IntOp.cmpi .eq (BitVec.ofNat 32 x.val) (BitVec.ofNat 32 e.val)) (v x) 0 = v (lane e) := by
  refine (Finset.sum_eq_single (lane e) (fun x _ hx => ?_) (fun h => absurd (Finset.mem_univ _) h)).trans ?_
  · rw [lane_eq, if_neg hx]
    rfl
  · rw [lane_eq, if_pos rfl]
    rfl

/-- From stored rows and gates that are the positions' own, a tile adds its products. -/
theorem bTile_at (a : FVec Ideal S512x1024 .f32) (h : FVec Ideal S512x1024 .bf16) (g : FVec Ideal S512x128 .f32) (r : Fin 512) (q : Fin 1024)
    (hh : ∀ k, h (ix2 (n0 := 512) (n1 := 1024) r k) = hid (kArgs m c) (sq t) (row t r) k)
    (hg : ∀ e, g (ix2 (n0 := 512) (n1 := 128) r (lane e)) = gates (logit (kArgs m c) (sq t) (row t r)) e) :
    bTile m c t a h g (ix2 (n0 := 512) (n1 := 1024) r q)
      = a (ix2 (n0 := 512) (n1 := 1024) r q) + tile (kArgs m c) (sq t) (row t r) (ex t) (ch t) q := by
  unfold bTile k0_pay1 k0_pay16
  pointwise
  simp only [blk12, blk13, blk14, hh]
  refine congrArg (_ + ·) (Finset.sum_congr rfl fun j _ => congrArg (· * _) (congrArg₂ (· * ·) rfl ?_))
  exact (pick (ex t) fun x => g (ix2 r x)).trans (hg _)

/-- The body's result from a residual and an experts' sum that are the positions' own. -/
theorem bOut_at (o : FVec Ideal S1x512x1024 .f32) (a : FVec Ideal S512x1024 .f32) (z : Fin 1) (r : Fin 512) (q : Fin 1024)
    (ho : ∀ k, o (ix3 (n0 := 1) (n1 := 512) (n2 := 1024) 0 r k) = res (kArgs m c) (sq t) (row t r) k)
    (ha : ∀ k, a (ix2 (n0 := 512) (n1 := 1024) r k) = moe (kArgs m c) (sq t) (row t r) k) :
    bOut m c t o a (ix3 (n0 := 1) (n1 := 512) (n2 := 1024) z r q) = out (kArgs m c) (sq t) (row t r) q := by
  unfold bOut k0_pay2
  pointwise
  simp only [blk8, blk15, ho, ha]
  simp only [mul_comm (moe _ _ _ _)]
  rfl

end Cert.Proof.Moe
-- ==== Proof.MoeStep.lean ====
module
public import proofs.«01_k».proof.Proof.MoeBlock
public import proofs.«01_k».proof.Proof.MoeTile
@[expose] public section
set_option maxRecDepth 16384
noncomputable section
namespace Cert.Proof.Moe
open Idealize.ShloMosaic Idealize.SL.Sem Idealize.ShloMosaic.TcCoe Cert.Kernel6Ideal Cert.Kernel6Ideal.Gen

/-- Which sequence, block of positions, expert and half a grid point is. -/
theorem co : ∀ t : Fin cfg0.N, (grid0.coords t 0).val = t.val / 64 ∧ (grid0.coords t 1).val = t.val / 16 % 4
    ∧ (grid0.coords t 2).val = t.val / 2 % 8 ∧ (grid0.coords t 3).val = t.val % 2 :=
  (by decide +kernel : ∀ t : Fin grid0.N, _)

/-- The point's expert, by its number in the tile. -/
theorem ex_eq (t : Fin cfg0.N) : ex t = ⟨t.val % 16 / 2 % 8, by omega⟩ :=
  Fin.ext (by
    show (grid0.coords t 2).val = t.val % 16 / 2 % 8
    have := (co t).2.2.1
    omega)

/-- The point's hidden channels, by its number in the tile. -/
theorem ch_eq (t : Fin cfg0.N) : ch t = half (t.val % 16) :=
  funext fun j => Fin.ext (by
    show (grid0.coords t 3).val * 1408 + j.val = t.val % 16 % 2 * 1408 + j.val
    have := (co t).2.2.2
    omega)

/-- Within a tile the sequence stays. -/
theorem sq_step (t t' : Fin cfg0.N) (h : t.val = t'.val + 1) (h0 : ¬t.val % 16 = 0) : sq t = sq t' :=
  Fin.ext (by
    show (grid0.coords t 0).val = (grid0.coords t' 0).val
    have := (co t).1
    have := (co t').1
    omega)

/-- Within a tile the positions stay. -/
theorem row_step (t t' : Fin cfg0.N) (h : t.val = t'.val + 1) (h0 : ¬t.val % 16 = 0) : row t = row t' :=
  funext fun r => Fin.ext (by
    show (grid0.coords t 1).val * 512 + r.val = (grid0.coords t' 1).val * 512 + r.val
    have := (co t).2.1
    have := (co t').2.1
    omega)

variable (m : (ℓ : Loc nD τ sig) → Buf (Elt Ideal) ℓ) (c : Dev nD)

/-- What a grid point leaves behind: the positions' normed rows and gates, the sum of the tiles so far, and, until the last, the residual. -/
structure Left (t : Fin cfg0.N) : Prop where
  /-- The stored rows. -/
  h : ∀ r k, (outsAt0 m c t.val t.isLt).2.1 (ix2 (n0 := 512) (n1 := 1024) r k) = hid (kArgs m c) (sq t) (row t r) k
  /-- The stored gates. -/
  g : ∀ r e, (outsAt0 m c t.val t.isLt).2.2.2 (ix2 (n0 := 512) (n1 := 128) r (lane e)) = gates (logit (kArgs m c) (sq t) (row t r)) e
  /-- The running sum. -/
  a : ∀ r q, (outsAt0 m c t.val t.isLt).2.2.1 (ix2 (n0 := 512) (n1 := 1024) r q) = part (kArgs m c) (sq t) (row t r) q (t.val % 16 + 1)
  /-- The result's block. -/
  o : ¬t.val % 16 = 15 → ∀ z r q, (outsAt0 m c t.val t.isLt).1 (ix3 (n0 := 1) (n1 := 512) (n2 := 1024) z r q) = res (kArgs m c) (sq t) (row t r) q

/-- The running sum of one tile more. -/
theorem part_step (t : Fin cfg0.N) (p : Fin 2048) (q : Fin 1024) :
    part (kArgs m c) (sq t) p q (t.val % 16) + tile (kArgs m c) (sq t) p (ex t) (ch t) q = part (kArgs m c) (sq t) p q (t.val % 16 + 1) := by
  unfold part
  rw [Finset.sum_range_succ, ex_eq, ch_eq]

variable (hL : ∀ b t e, logit (kArgs m c) b t e ≠ ⊤ ∧ logit (kArgs m c) b t e ≠ ⊥)
include hL

/-- A tile's first point leaves this. -/
theorem left_first (t : Fin cfg0.N) (h0 : t.val % 16 = 0) : Left m c t := by
  have h1 : ¬t.val % 16 = 15 := by omega
  refine ⟨fun r k => ?_, fun r e => ?_, fun r q => ?_, fun _ z r q => ?_⟩
  · rw [fA1 m c t h0 h1]
    exact bHid16_at m c t r k
  · rw [fA3 m c t h0 h1]
    exact bGate_at m c t hL r e
  · rw [fA2 m c t h0 h1]
    refine (bTile_at m c t _ _ _ r q (bHid16_at m c t r) (bGate_at m c t hL r)).trans ?_
    rw [zero_at, ← part_step, h0]
    rfl
  · rw [fA0 m c t h0 h1]
    exact bStore_at m c t z r q

/-- A later point leaves this, if the point before it did. -/
theorem left_next (t t' : Fin cfg0.N) (h : t.val = t'.val + 1) (h0 : ¬t.val % 16 = 0) (H : Left m c t') : Left m c t := by
  have hp : prev m c t = outsAt0 m c t'.val t'.isLt := by
    unfold prev
    congr 1
    omega
  have hh : ∀ r k, (prev m c t).2.1 (ix2 (n0 := 512) (n1 := 1024) r k) = hid (kArgs m c) (sq t) (row t r) k := fun r k => by
    rw [hp, sq_step t t' h h0, row_step t t' h h0]
    exact H.h r k
  have hg : ∀ r e, (prev m c t).2.2.2 (ix2 (n0 := 512) (n1 := 128) r (lane e)) = gates (logit (kArgs m c) (sq t) (row t r)) e := fun r e => by
    rw [hp, sq_step t t' h h0, row_step t t' h h0]
    exact H.g r e
  have ha : ∀ r q, (prev m c t).2.2.1 (ix2 (n0 := 512) (n1 := 1024) r q) = part (kArgs m c) (sq t) (row t r) q (t.val % 16) := fun r q => by
    rw [hp, sq_step t t' h h0, row_step t t' h h0, show t.val % 16 = t'.val % 16 + 1 by omega]
    exact H.a r q
  have hs : ∀ r q, bTile m c t (prev m c t).2.2.1 (prev m c t).2.1 (prev m c t).2.2.2 (ix2 (n0 := 512) (n1 := 1024) r q)
      = part (kArgs m c) (sq t) (row t r) q (t.val % 16 + 1) := fun r q => by
    rw [bTile_at m c t _ _ _ r q (hh r) (hg r), ha, part_step]
  by_cases h1 : t.val % 16 = 15
  · refine ⟨fun r k => ?_, fun r e => ?_, fun r q => ?_, fun h => absurd h1 h⟩
    · rw [fC1 m c t h0 h1]
      exact hh r k
    · rw [fC3 m c t h0 h1]
      exact hg r e
    · rw [fC2 m c t h0 h1]
      exact hs r q
  · refine ⟨fun r k => ?_, fun r e => ?_, fun r q => ?_, fun _ z r q => ?_⟩
    · rw [fB1 m c t h0 h1]
      exact hh r k
    · rw [fB3 m c t h0 h1]
      exact hg r e
    · rw [fB2 m c t h0 h1]
      exact hs r q
    · rw [fB0 m c t h0 h1, hp, sq_step t t' h h0, row_step t t' h h0]
      exact H.o (by omega) z r q

/-- So every point leaves this. -/
theorem left : ∀ (n : ℕ) (hn : n < cfg0.N), Left m c ⟨n, hn⟩
  | 0, hn => left_first m c hL ⟨0, hn⟩ rfl
  | n + 1, hn => by
    by_cases h0 : (n + 1) % 16 = 0
    · exact left_first m c hL ⟨n + 1, hn⟩ h0
    · exact left_next m c hL ⟨n + 1, hn⟩ ⟨n, by omega⟩ rfl h0 (left n (by omega))

/-- A tile's last point leaves the layer's result. -/
theorem left_last (t : Fin cfg0.N) (h1 : t.val % 16 = 15) (z : Fin 1) (r : Fin 512) (q : Fin 1024) :
    (outsAt0 m c t.val t.isLt).1 (ix3 (n0 := 1) (n1 := 512) (n2 := 1024) z r q) = out (kArgs m c) (sq t) (row t r) q := by
  have h0 : ¬t.val % 16 = 0 := by omega
  obtain ⟨t', h⟩ : ∃ t' : Fin cfg0.N, t.val = t'.val + 1 := ⟨⟨t.val - 1, by have := t.isLt; omega⟩, by show t.val = t.val - 1 + 1; omega⟩
  have H := left m c hL t'.val t'.isLt
  have hp : prev m c t = outsAt0 m c t'.val t'.isLt := by
    unfold prev
    congr 1
    omega
  rw [fC0 m c t h0 h1]
  refine bOut_at m c t _ _ z r q (fun k => ?_) fun k => ?_
  · rw [hp, sq_step t t' h h0, row_step t t' h h0]
    exact H.o (by show ¬t'.val % 16 = 15; omega) 0 r k
  · have hs := (left m c hL t.val t.isLt).a r k
    rw [fC2 m c t h0 h1, h1] at hs
    exact hs.trans (part_all _ _ _ _ (hL _ _))

end Cert.Proof.Moe
-- ==== Proof.MoeRef.lean ====
module
public import proofs.«01_k».proof.Proof.MoeSpec
@[expose] public section
set_option maxRecDepth 16384
noncomputable section
namespace Cert.Proof.Moe
open Idealize.ShloMosaic Idealize.ShloMosaic.StableHlo Idealize.SL.Sem Idealize.ShloMosaic.TcCoe Cert.Reference6Ideal Cert.Reference6Ideal.Gen Cert.Reference6Ideal.Value
variable (m' : (ℓ : Loc nD τ sig) → Buf (Elt Ideal) ℓ) (c : Dev nD)

/-- The residual after the mixers. -/
theorem ref_res (b : Fin 8) (t : Fin 2048) (q : Fin 1024) :
    (res_main_v4 (launchContents m' c) : Vec Ideal S8x2048x1024 .f32) (ix3 (n0 := 8) (n1 := 2048) (n2 := 1024) b t q) = res (rArgs m' c) b t q := by
  unfold res_main_v4
  pointwise
  rfl

/-- The normed residual, scaled and shifted. -/
theorem ref_hid (b : Fin 8) (t : Fin 2048) (q : Fin 1024) :
    (res_main_v23 (launchContents m' c) : Vec Ideal S8x2048x1024 .f32) (ix3 (n0 := 8) (n1 := 2048) (n2 := 1024) b t q) = hid (rArgs m' c) b t q := by
  unfold res_main_v23
  pointwise
  simp only [ref_res]
  rfl

/-- The router's logits. -/
theorem ref_logit (b : Fin 8) (t : Fin 2048) (e : Fin 8) :
    (res_main_v24 (launchContents m' c) : Vec Ideal S8x2048x8 .f32) (ix3 (n0 := 8) (n1 := 2048) (n2 := 8) b t e) = logit (rArgs m' c) b t e := by
  unfold res_main_v24
  pointwise
  simp only [ref_hid]
  rfl

/-- Place `k` of the two. -/
def place (k : Fin 2) : Fin 8 := ⟨k.val, by omega⟩

/-- The order by which `top_k` sorts. -/
theorem topk_order (L : Fin 8 → EReal) :
    (fun k k' : Fin 8 => ((FloatOps.cmpfTotal (F := Ideal) (φ := .f32) .gt (L k) (L k')) == 1#1)) = ahead L := by
  funext k k'
  show ((BitVec.ofBool (decide (L k' < L k))) == 1#1) = decide (L k' < L k)
  cases decide (L k' < L k) <;> rfl

/-- An index with its last coordinate replaced. -/
theorem along_last (b : Fin 8) (t : Fin 2048) (k k' : Fin 8) :
    Shape.Idx.along (s := S8x2048x8) (ix3 (n0 := 8) (n1 := 2048) (n2 := 8) b t k) (2 : Fin 3) k' = ix3 (n0 := 8) (n1 := 2048) (n2 := 8) b t k' := by
  funext a
  fin_cases a <;> rfl

/-- The sorted rows, and the positions they come from. -/
theorem sort_at {β : Type} (x : FVec Ideal S8x2048x8 .f32) (y : S8x2048x8.Idx → β) (b : Fin 8) (t : Fin 2048) (k : Fin 8) :
    (Host.sort2 S8x2048x8 2 (fun l r => FloatOps.cmpfTotal (F := Ideal) (φ := .f32) .gt l.1 r.1) x y).1 (ix3 (n0 := 8) (n1 := 2048) (n2 := 8) b t k)
      = x (ix3 (n0 := 8) (n1 := 2048) (n2 := 8) b t (pos (fun e => x (ix3 (n0 := 8) (n1 := 2048) (n2 := 8) b t e)) k))
    ∧ (Host.sort2 S8x2048x8 2 (fun l r => FloatOps.cmpfTotal (F := Ideal) (φ := .f32) .gt l.1 r.1) x y).2 (ix3 (n0 := 8) (n1 := 2048) (n2 := 8) b t k)
      = y (ix3 (n0 := 8) (n1 := 2048) (n2 := 8) b t (pos (fun e => x (ix3 (n0 := 8) (n1 := 2048) (n2 := 8) b t e)) k)) := by
  have hp : sortedFrom (fun k₁ k₂ : Fin 8 => FloatOps.cmpfTotal (F := Ideal) (φ := .f32) .gt
        (x (Shape.Idx.along (s := S8x2048x8) (ix3 (n0 := 8) (n1 := 2048) (n2 := 8) b t k) (2 : Fin 3) k₁))
        (x (Shape.Idx.along (s := S8x2048x8) (ix3 (n0 := 8) (n1 := 2048) (n2 := 8) b t k) (2 : Fin 3) k₂)) == 1#1) k
      = pos (fun e => x (ix3 (n0 := 8) (n1 := 2048) (n2 := 8) b t e)) k := by
    simp only [along_last]
    exact congrFun (congrArg sortedFrom (topk_order fun e => x (ix3 (n0 := 8) (n1 := 2048) (n2 := 8) b t e))) k
  unfold Host.sort2
  rw [dif_pos (by decide)]
  constructor
  · refine congrArg x (Eq.trans ?_ (along_last b t k _))
    exact congrArg (Shape.Idx.along (s := S8x2048x8) (ix3 (n0 := 8) (n1 := 2048) (n2 := 8) b t k) (2 : Fin 3)) hp
  · refine congrArg y (Eq.trans ?_ (along_last b t k _))
    exact congrArg (Shape.Idx.along (s := S8x2048x8) (ix3 (n0 := 8) (n1 := 2048) (n2 := 8) b t k) (2 : Fin 3)) hp

/-- The first two places of a row. -/
theorem slice_last (b : Fin 8) (t : Fin 2048) (k : Fin 2) {α : Type} (v : S8x2048x8.Idx → α) (h) :
    extractStridedSlice S8x2048x2 (fun _ => 0) v h (ix3 (n0 := 8) (n1 := 2048) (n2 := 2) b t k) = v (ix3 (n0 := 8) (n1 := 2048) (n2 := 8) b t (place k)) := by
  refine congrArg v (funext fun a => Fin.ext ?_)
  fin_cases a
  · exact Nat.zero_add _
  · exact Nat.zero_add _
  · exact Nat.zero_add _

/-- The positions that `top_k` sorts along with the entries. -/
def posWords : IVec S8x2048x8 32 := fun i => if hd : 2 < S8x2048x8.rank then iotaInDim S8x2048x8 32 ⟨2, hd⟩ i else 0#32

/-- The two biggest entries. -/
theorem topk_val (x : FVec Ideal S8x2048x8 .f32) (h) (b : Fin 8) (t : Fin 2048) (k : Fin 2) :
    (Host.topK S8x2048x2 2 (FloatOps.cmpfTotal (F := Ideal) (φ := .f32) .gt) x h).1 (ix3 (n0 := 8) (n1 := 2048) (n2 := 2) b t k)
      = x (ix3 (n0 := 8) (n1 := 2048) (n2 := 8) b t (pos (fun e => x (ix3 (n0 := 8) (n1 := 2048) (n2 := 8) b t e)) (place k))) := by
  exact (slice_last b t k (Host.sort2 S8x2048x8 2 (fun l r => FloatOps.cmpfTotal (F := Ideal) (φ := .f32) .gt l.1 r.1) x posWords).1 h).trans (sort_at x posWords b t (place k)).1

/-- Their positions. -/
theorem topk_pos (x : FVec Ideal S8x2048x8 .f32) (h) (b : Fin 8) (t : Fin 2048) (k : Fin 2) :
    (Host.topK S8x2048x2 2 (FloatOps.cmpfTotal (F := Ideal) (φ := .f32) .gt) x h).2 (ix3 (n0 := 8) (n1 := 2048) (n2 := 2) b t k)
      = BitVec.ofNat 32 (pos (fun e => x (ix3 (n0 := 8) (n1 := 2048) (n2 := 8) b t e)) (place k)).val := by
  exact (slice_last b t k (Host.sort2 S8x2048x8 2 (fun l r => FloatOps.cmpfTotal (F := Ideal) (φ := .f32) .gt l.1 r.1) x posWords).2 h).trans (sort_at x posWords b t (place k)).2

/-- The two biggest logits. -/
theorem ref_values (b : Fin 8) (t : Fin 2048) (k : Fin 2) :
    (res_main_values (launchContents m' c) : Vec Ideal S8x2048x2 .f32) (ix3 (n0 := 8) (n1 := 2048) (n2 := 2) b t k)
      = logit (rArgs m' c) b t (pos (logit (rArgs m' c) b t) (place k)) := by
  unfold res_main_values
  refine (topk_val _ _ b t k).trans ?_
  have h : (fun e => res_main_v24 (launchContents m' c) (ix3 (n0 := 8) (n1 := 2048) (n2 := 8) b t e)) = logit (rArgs m' c) b t :=
    funext fun e => ref_logit m' c b t e
  rw [h]
  exact ref_logit m' c b t _

/-- The maximum over two entries. -/
theorem fold_two (f : Fin 2 → EReal) (z : EReal) : (Finset.univ : Finset (Fin 2)).fold max z f = max (f 0) (max (f 1) z) := rfl

/-- The negative infinity's pattern. -/
theorem bot_bits : Ideal.ofBits FTy.f32 0xFF800000#32 = ⊥ := by simp [Ideal.ofBits, Ideal.ieee]

/-- The exponentials of two entries less their maximum. -/
theorem exp_at (v : FVec Ideal S8x2048x2 .f32) (b : Fin 8) (t : Fin 2048) (k : Fin 2) :
    (Host.exp (subf v (broadcastInDim S8x2048x2 ![0, 1, 2] bcast_S8x2048x1_S8x2048x2_0_1_2 (broadcastInDim S8x2048x1 ![0, 1] bcast_S8x2048_S8x2048x1_0_1 (maximumf (broadcastInDim S8x2048 ![] bcast_S_S8x2048 (constant S_ .f32 0xFF800000#32)) (Host.reduce FloatOps.maximumf v (constant S_ .f32 0xFF800000#32) reducesTo_S8x2048x2_S8x2048_d2 h_S_))))) : FVec Ideal S8x2048x2 .f32) (ix3 (n0 := 8) (n1 := 2048) (n2 := 2) b t k)
      = Ideal.exp (v (ix3 (n0 := 8) (n1 := 2048) (n2 := 2) b t k) - max (v (ix3 (n0 := 8) (n1 := 2048) (n2 := 2) b t 0)) (v (ix3 (n0 := 8) (n1 := 2048) (n2 := 2) b t 1))) := by
  pointwise
  rw [fold_two, bot_bits, max_bot_right, max_bot_left]

/-- The reference's exponentials. -/
theorem ref_exp (b : Fin 8) (t : Fin 2048) (k : Fin 2) :
    (res_main_v31 (launchContents m' c) : Vec Ideal S8x2048x2 .f32) (ix3 (n0 := 8) (n1 := 2048) (n2 := 2) b t k)
      = Ideal.exp (logit (rArgs m' c) b t (pos (logit (rArgs m' c) b t) (place k)) - logit (rArgs m' c) b t (pos (logit (rArgs m' c) b t) 0)) := by
  unfold res_main_v31
  refine (exp_at _ b t k).trans ?_
  rw [ref_values, ref_values, ref_values]
  exact congrArg (fun z => Ideal.exp (_ - z)) (max_eq_left (pos0_le _ _))

/-- Whether an expert is the chosen one, as a number. -/
theorem chosen (a e : Fin 8) :
    FloatOps.uitofp (F := Ideal) FTy.f32 (IntOp.cmpi .eq (BitVec.ofNat 32 a.val) (BitVec.ofNat 32 e.val)) = if e = a then 1 else 0 := by
  by_cases h : e = a
  · rw [if_pos h, h]
    have h1 : IntOp.cmpi .eq (BitVec.ofNat 32 a.val) (BitVec.ofNat 32 a.val) = 1#1 := by simp [IntOp.cmpi]
    rw [h1]
    show ((((1#1 : BitVec 1).toNat : ℝ)) : EReal) = 1
    simp
  · rw [if_neg h]
    have h1 : IntOp.cmpi .eq (BitVec.ofNat 32 a.val) (BitVec.ofNat 32 e.val) = 0#1 := by
      have : ∀ a e : Fin 8, e ≠ a → IntOp.cmpi .eq (BitVec.ofNat 32 a.val) (BitVec.ofNat 32 e.val) = 0#1 := by decide
      exact this a e h
    rw [h1]
    show ((((0#1 : BitVec 1).toNat : ℝ)) : EReal) = 0
    simp

/-- A real number less itself is nothing. -/
theorem sub_self_real {x : EReal} (h : x ≠ ⊤) (h' : x ≠ ⊥) : x - x = 0 := by
  lift x to ℝ using ⟨h, h'⟩
  rw [← EReal.coe_sub, sub_self, EReal.coe_zero]

/-- Where the logits are real numbers, the softmax over the two places, put at the experts, is the gates. -/
theorem gates_eq (L : Fin 8 → EReal) (hL : ∀ e, L e ≠ ⊤ ∧ L e ≠ ⊥) (e : Fin 8) :
    (∑ k : Fin 2, FloatOps.uitofp (F := Ideal) FTy.f32 (IntOp.cmpi .eq (BitVec.ofNat 32 (pos L (place k)).val) (BitVec.ofNat 32 e.val))
        * Ideal.div (Ideal.exp (L (pos L (place k)) - L (pos L 0))) (∑ j : Fin 2, Ideal.exp (L (pos L (place j)) - L (pos L 0))))
      = gates L e := by
  have h0 : Ideal.exp (L (pos L (place 0)) - L (pos L 0)) = 1 := by
    have : L (pos L (place 0)) - L (pos L 0) = 0 := sub_self_real (hL _).1 (hL _).2
    rw [this]
    show ((Real.exp 0 : ℝ) : EReal) = 1
    simp
  have h1 : Ideal.exp (L (pos L (place 1)) - L (pos L 0)) = second L := rfl
  rw [Fin.sum_univ_two, Fin.sum_univ_two, h0, h1, chosen, chosen]
  unfold gates
  refine congrArg₂ (· + ·) ?_ ?_
  · show (if e = pos L 0 then (1 : EReal) else 0) * _ = _
    split <;> simp
  · show (if e = pos L 1 then (1 : EReal) else 0) * _ = _
    split <;> simp

/-- An expert's gate projection. -/
theorem ref_proj (b : Fin 8) (t : Fin 2048) (e : Fin 8) (j : Fin 2816) :
    (res_main_v41 (launchContents m' c) : Vec Ideal S8x2048x8x2816 .f32) (ix4 (n0 := 8) (n1 := 2048) (n2 := 8) (n3 := 2816) b t e j) = proj (rArgs m' c) b t e j := by
  unfold res_main_v41
  pointwise
  simp only [ref_hid]
  rfl

variable (hL : ∀ b t e, logit (rArgs m' c) b t e ≠ ⊤ ∧ logit (rArgs m' c) b t e ≠ ⊥)
include hL

/-- The residual after the experts, at a position. -/
theorem ref_fin (b : Fin 8) (t : Fin 2048) (q : Fin 1024) :
    (res_main_v53 (launchContents m' c) : Vec Ideal S8x2048x1024 .f32) (ix3 (n0 := 8) (n1 := 2048) (n2 := 1024) b t q) = fin (rArgs m' c) b t q := by
  unfold res_main_v53
  pointwise
  simp only [topk_pos]
  have h : (fun e => res_main_v24 (launchContents m' c) (ix3 (n0 := 8) (n1 := 2048) (n2 := 8) b t e)) = logit (rArgs m' c) b t :=
    funext fun e => ref_logit m' c b t e
  simp only [h, ref_exp, ref_proj, ref_hid, ref_res, gates_eq _ (hL b t)]
  unfold fin moe
  refine congrArg₂ (· + ·) rfl (congrArg₂ (· * ·) rfl (Finset.sum_congr rfl fun e _ => congrArg₂ (· * ·) rfl (Finset.sum_congr rfl fun j _ => ?_)))
  exact mul_comm _ _

/-- The reference's result at an index. -/
theorem ref_at (b : Fin 8) (t : Fin 2048) (q : Fin 1024) :
    (mulf (mulf (res_main_v53 (launchContents m' c)) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (res_main_v53 (launchContents m' c)) (res_main_v53 (launchContents m' c))) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 ((launchContents m' c) (Proc.devRef .tc main_arg15)))) : Vec Ideal S8x2048x1024 .f32) (ix3 (n0 := 8) (n1 := 2048) (n2 := 1024) b t q) = out (rArgs m' c) b t q := by
  pointwise
  simp only [ref_fin m' c hL]
  rfl

end Cert.Proof.Moe
-- ==== Proof.MoePre.lean ====
module
public import proofs.«01_k».proof.Proof.MoeSpec
public import proofs.«01_k».proof.Proof.Gen.Pre_finite_logits
@[expose] public section
set_option maxRecDepth 16384
noncomputable section
namespace Cert.Proof.Moe
open Idealize.ShloMosaic Idealize.SL.Sem Idealize.ShloMosaic.TcCoe Cert.Kernel6Ideal
variable (m : (ℓ : Loc nD τ sig) → Buf (Elt Ideal) ℓ) (c : Dev nD)

/-- The precondition says that the router's logits are real numbers. -/
theorem finite (H : Cert.Pre_Kernel6Ideal_finite_logits m) (b : Fin 8) (t : Fin 2048) (e : Fin 8) :
    logit (kArgs m c) b t e ≠ ⊤ ∧ logit (kArgs m c) b t e ≠ ⊥ := by
  have h := congrFun (H c) (ix3 (n0 := 8) (n1 := 2048) (n2 := 8) b t e)
  unfold Cert.Pre_finite_logits.fn Cert.Pre_finite_logits.fn_part1 at h
  pointwise at h
  have h' : BitVec.ofBool (decide (FloatOps.absf (F := Ideal) (logit (kArgs m c) b t e) < Ideal.ofBits FTy.f32 0x7F800000#32)) = 1#1 := h
  have hT : Ideal.ofBits FTy.f32 0x7F800000#32 = ⊤ := by simp [Ideal.ofBits, Ideal.ieee]
  rw [hT] at h'
  generalize logit (kArgs m c) b t e = x at h'
  refine ⟨fun hx => ?_, fun hx => ?_⟩ <;>
  · rw [hx] at h'
    revert h'
    show BitVec.ofBool (decide (max _ _ < ⊤)) = 1#1 → False
    simp

end Cert.Proof.Moe
-- ==== Proof.MoeClaim.lean ====
module
public import proofs.«01_k».proof.Proof.MoeStep
public import proofs.«01_k».proof.Proof.MoeRef
public import proofs.«01_k».proof.Proof.MoePre
@[expose] public section
set_option maxRecDepth 16384
noncomputable section
namespace Cert.Proof.Moe
open Idealize.ShloMosaic Idealize.SL.Sem Idealize.ShloMosaic.TcCoe Cert.Kernel6Ideal Cert.Kernel6Ideal.Gen

/-- Window 16's block of point `t`: its sequence, its 512 positions, all columns. -/
theorem i16 : ∀ t : Fin cfg0.N, win0_16.index t = ![(grid0.coords t 0).val, (grid0.coords t 1).val, 0] :=
  (by decide +kernel : ∀ t : Fin grid0.N, _)

/-- The result's blocks go back to memory at the tiles' last points. -/
theorem flush16 : ∀ t : Fin cfg0.N, win0_16.flush t = true → t.val % 16 = 15 :=
  (by decide +kernel : ∀ t : Fin grid0.N, _)

/-- The kernel's result at every index, where the logits are real numbers. -/
theorem arr (m : (ℓ : Loc nD τ sig) → Buf (Elt Ideal) ℓ) (c : Dev nD)
    (hL : ∀ b t e, logit (kArgs m c) b t e ≠ ⊤ ∧ logit (kArgs m c) b t e ≠ ⊥) :
    (dats m 0 c).arrAt 16 cfg0.N = (fun j : S8x2048x1024.Idx => out (kArgs m c) (j 0) (j 1) (j 2)) := by
  refine (dats m 0 c).arrAt_eq_of_covers 16 _ (by decide +kernel) fun t hf y => ?_
  have h1 : t.val % 16 = 15 := flush16 t hf
  blk_simp
  rw [after0_16]
  idx_vars y
  refine (left_last m c hL t h1 _ _ _).trans ?_
  refine congr (congrArg₂ (out (kArgs m c)) (Fin.ext ?_) (Fin.ext ?_)) (Fin.ext ?_)
  all_goals blk_simp [i16]
  all_goals simp [sq, row]

/-- The reference's result, being the layer's at every index, is the kernel's. -/
theorem result {m : (ℓ : Loc nD τ sig) → Buf (Elt Ideal) ℓ}
    {m' : (ℓ : Loc Cert.Reference6Ideal.nD Cert.Reference6Ideal.τ Cert.Reference6Ideal.sig) → Buf (Elt Ideal) ℓ} {c : Dev nD} (H : Agree m m' c)
    (hL : ∀ b t e, logit (kArgs m c) b t e ≠ ⊤ ∧ logit (kArgs m c) b t e ≠ ⊥) (v : Vec Ideal S8x2048x1024 .f32)
    (hv : (∀ b t e, logit (rArgs m' c) b t e ≠ ⊤ ∧ logit (rArgs m' c) b t e ≠ ⊥) →
      ∀ b t q, v (ix3 (n0 := 8) (n1 := 2048) (n2 := 1024) b t q) = out (rArgs m' c) b t q) :
    v = (dats m 0 c).arrAt 16 cfg0.N := by
  rw [arr m c hL]
  rw [← args_eq H] at hL ⊢
  funext j
  idx_vars j
  exact hv hL _ _ _

/-- The kernel's result is the reference's, over the extended reals, where the router's logits are real numbers. -/
theorem algebraic : Cert.algebraic_Kernel6Ideal_Reference6Ideal_pre_finite_logits := fun m g m' g' hp hag =>
  ⟨fun c => (dats m 0 c).arrAt 16 cfg0.N, Cert.Kernel6Ideal.Value.run_blocks m g,
   (θ_run _ _ _).mono (fun _ h c => ⟨(h c).1.trans (result (hag c) (finite m c hp) _ (ref_at m' c)), (h c).2⟩) (Cert.Reference6Ideal.Value.run m' g')⟩
end Cert.Proof.Moe
-- ==== Proof.ConvArgs.lean ====
module
public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.Pointwise
@[expose] public section
set_option maxRecDepth 16384
noncomputable section
namespace Cert.Proof.Conv
open Idealize.ShloMosaic Idealize.SL.Sem Idealize.ShloMosaic.TcCoe

/-- The convolution mixer: its arguments, read by coordinates. -/
structure Args where
  a : Fin 128 → Fin 8 → Fin 256 → EReal
  g : Fin 128 → Fin 8 → Fin 256 → EReal
  c0 : Fin 128 → Fin 30 → Fin 256 → EReal
  wd : Fin 31 → Fin 256 → EReal
  bd : Fin 256 → EReal
  lg : Fin 256 → EReal
  lb : Fin 256 → EReal
  wp : Fin 256 → Fin 256 → EReal
  bp : Fin 256 → EReal
  gain : Fin 256 → EReal

variable (m : (ℓ : Loc Cert.Kernel7Ideal.nD Cert.Kernel7Ideal.τ Cert.Kernel7Ideal.sig) → Buf (Elt Ideal) ℓ)
  (m' : (ℓ : Loc Cert.Reference7Ideal.nD Cert.Reference7Ideal.τ Cert.Reference7Ideal.sig) → Buf (Elt Ideal) ℓ) (c : Dev Cert.Kernel7Ideal.nD)

/-- The arguments in the kernel's memory. -/
def kArgs : Args where
  a := fun a b d => (m ((c : Thread Cert.Kernel7Ideal.nD Cert.Kernel7Ideal.τ).loc Cert.Kernel7Ideal.main_arg0) : Vec Ideal Cert.Kernel7Ideal.S128x8x256 .f32) (ix3 (n0 := 128) (n1 := 8) (n2 := 256) a b d)
  g := fun a b d => (m ((c : Thread Cert.Kernel7Ideal.nD Cert.Kernel7Ideal.τ).loc Cert.Kernel7Ideal.main_arg1) : Vec Ideal Cert.Kernel7Ideal.S128x8x256 .f32) (ix3 (n0 := 128) (n1 := 8) (n2 := 256) a b d)
  c0 := fun a b d => (m ((c : Thread Cert.Kernel7Ideal.nD Cert.Kernel7Ideal.τ).loc Cert.Kernel7Ideal.main_arg2) : Vec Ideal Cert.Kernel7Ideal.S128x30x256 .f32) (ix3 (n0 := 128) (n1 := 30) (n2 := 256) a b d)
  wd := fun a b => (m ((c : Thread Cert.Kernel7Ideal.nD Cert.Kernel7Ideal.τ).loc Cert.Kernel7Ideal.main_arg3) : Vec Ideal Cert.Kernel7Ideal.S31x256 .f32) (ix2 (n0 := 31) (n1 := 256) a b)
  bd := fun a => (m ((c : Thread Cert.Kernel7Ideal.nD Cert.Kernel7Ideal.τ).loc Cert.Kernel7Ideal.main_arg4) : Vec Ideal Cert.Kernel7Ideal.S256 .f32) (ix1 (n0 := 256) a)
  lg := fun a => (m ((c : Thread Cert.Kernel7Ideal.nD Cert.Kernel7Ideal.τ).loc Cert.Kernel7Ideal.main_arg5) : Vec Ideal Cert.Kernel7Ideal.S256 .f32) (ix1 (n0 := 256) a)
  lb := fun a => (m ((c : Thread Cert.Kernel7Ideal.nD Cert.Kernel7Ideal.τ).loc Cert.Kernel7Ideal.main_arg6) : Vec Ideal Cert.Kernel7Ideal.S256 .f32) (ix1 (n0 := 256) a)
  wp := fun a b => (m ((c : Thread Cert.Kernel7Ideal.nD Cert.Kernel7Ideal.τ).loc Cert.Kernel7Ideal.main_arg7) : Vec Ideal Cert.Kernel7Ideal.S256x256 .f32) (ix2 (n0 := 256) (n1 := 256) a b)
  bp := fun a => (m ((c : Thread Cert.Kernel7Ideal.nD Cert.Kernel7Ideal.τ).loc Cert.Kernel7Ideal.main_arg8) : Vec Ideal Cert.Kernel7Ideal.S256 .f32) (ix1 (n0 := 256) a)
  gain := fun a => (m ((c : Thread Cert.Kernel7Ideal.nD Cert.Kernel7Ideal.τ).loc Cert.Kernel7Ideal.main_arg9) : Vec Ideal Cert.Kernel7Ideal.S256 .f32) (ix1 (n0 := 256) a)

/-- The arguments in the reference's memory. -/
def rArgs : Args where
  a := fun a b d => (m' ((c.tc : Thread Cert.Reference7Ideal.nD Cert.Reference7Ideal.τ).loc Cert.Reference7Ideal.main_arg0) : Vec Ideal Cert.Reference7Ideal.S128x8x256 .f32) (ix3 (n0 := 128) (n1 := 8) (n2 := 256) a b d)
  g := fun a b d => (m' ((c.tc : Thread Cert.Reference7Ideal.nD Cert.Reference7Ideal.τ).loc Cert.Reference7Ideal.main_arg1) : Vec Ideal Cert.Reference7Ideal.S128x8x256 .f32) (ix3 (n0 := 128) (n1 := 8) (n2 := 256) a b d)
  c0 := fun a b d => (m' ((c.tc : Thread Cert.Reference7Ideal.nD Cert.Reference7Ideal.τ).loc Cert.Reference7Ideal.main_arg2) : Vec Ideal Cert.Reference7Ideal.S128x30x256 .f32) (ix3 (n0 := 128) (n1 := 30) (n2 := 256) a b d)
  wd := fun a b => (m' ((c.tc : Thread Cert.Reference7Ideal.nD Cert.Reference7Ideal.τ).loc Cert.Reference7Ideal.main_arg3) : Vec Ideal Cert.Reference7Ideal.S31x256 .f32) (ix2 (n0 := 31) (n1 := 256) a b)
  bd := fun a => (m' ((c.tc : Thread Cert.Reference7Ideal.nD Cert.Reference7Ideal.τ).loc Cert.Reference7Ideal.main_arg4) : Vec Ideal Cert.Reference7Ideal.S256 .f32) (ix1 (n0 := 256) a)
  lg := fun a => (m' ((c.tc : Thread Cert.Reference7Ideal.nD Cert.Reference7Ideal.τ).loc Cert.Reference7Ideal.main_arg5) : Vec Ideal Cert.Reference7Ideal.S256 .f32) (ix1 (n0 := 256) a)
  lb := fun a => (m' ((c.tc : Thread Cert.Reference7Ideal.nD Cert.Reference7Ideal.τ).loc Cert.Reference7Ideal.main_arg6) : Vec Ideal Cert.Reference7Ideal.S256 .f32) (ix1 (n0 := 256) a)
  wp := fun a b => (m' ((c.tc : Thread Cert.Reference7Ideal.nD Cert.Reference7Ideal.τ).loc Cert.Reference7Ideal.main_arg7) : Vec Ideal Cert.Reference7Ideal.S256x256 .f32) (ix2 (n0 := 256) (n1 := 256) a b)
  bp := fun a => (m' ((c.tc : Thread Cert.Reference7Ideal.nD Cert.Reference7Ideal.τ).loc Cert.Reference7Ideal.main_arg8) : Vec Ideal Cert.Reference7Ideal.S256 .f32) (ix1 (n0 := 256) a)
  gain := fun a => (m' ((c.tc : Thread Cert.Reference7Ideal.nD Cert.Reference7Ideal.τ).loc Cert.Reference7Ideal.main_arg9) : Vec Ideal Cert.Reference7Ideal.S256 .f32) (ix1 (n0 := 256) a)

/-- The two programs are launched on the same arguments. -/
def Agree : Prop :=
  m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
  ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
  ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
  ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
  ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
  ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
  ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
  ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
  ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
  ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)

variable {m m' c}

/-- So the two readings agree. -/
theorem args_eq (H : Agree m m' c) : rArgs m' c = kArgs m c := by
  obtain ⟨h0, h1, h2, h3, h4, h5, h6, h7, h8, h9⟩ := H
  simp only [rArgs, kArgs, Args.mk.injEq]
  exact ⟨by rw [← h0], by rw [← h1], by rw [← h2], by rw [← h3], by rw [← h4], by rw [← h5], by rw [← h6], by rw [← h7], by rw [← h8], by rw [← h9]⟩

end Cert.Proof.Conv
-- ==== Proof.ConvHost.lean ====
module
public import proofs.«01_k».proof.Proof.ConvArgs
public import Idealize.ShloMosaic.Lib.StableHlo.RunRead
@[expose] public section
set_option maxRecDepth 16384
noncomputable section
namespace Cert.Proof.Conv
open Idealize.ShloMosaic Idealize.SL.Sem Idealize.ShloMosaic.TcCoe Cert.Kernel7Ideal Cert.Kernel7Ideal.Gen
variable (m : (ℓ : Loc nD τ sig) → Buf (Elt Ideal) ℓ) (c : Dev nD)

/-! The grid has one point, and every window's block is its whole array: the argument, laid out by the host code. -/

/-- What the host code puts in window 0's array. -/
theorem v4_at (r : Fin 1024) (q : Fin 512) :
    (V m c main_v4 : Vec Ideal S1024x512 .f32) (ix2 (n0 := 1024) (n1 := 512) r q) = if h : q.val < 256 then (kArgs m c).a ⟨r.val % 128, by omega⟩ ⟨r.val / 128, by omega⟩ ⟨q.val, h⟩
      else (kArgs m c).g ⟨r.val % 128, by omega⟩ ⟨r.val / 128, by omega⟩ ⟨q.val - 256, by omega⟩ := by
  unfold_abbrev_sides
  after_reads_simp
  pointwise
  rfl
/-- Window 0 does not move. -/
theorem i0 : ∀ t : Fin cfg0.N, win0_0.index t = ![0, 0] := (by decide +kernel : ∀ t : Fin grid0.N, _)
/-- Window 0's block. -/
theorem blk0 (t : Fin cfg0.N) (r : Fin 1024) (q : Fin 512) :
    (iblk m c 0 t : Vec Ideal S1024x512 .f32) (ix2 (n0 := 1024) (n1 := 512) r q) = if h : q.val < 256 then (kArgs m c).a ⟨r.val % 128, by omega⟩ ⟨r.val / 128, by omega⟩ ⟨q.val, h⟩
      else (kArgs m c).g ⟨r.val % 128, by omega⟩ ⟨r.val / 128, by omega⟩ ⟨q.val - 256, by omega⟩ := by
  refine Eq.trans ?_ (v4_at m c r q)
  blk_simp [iblk]
  refine congrArg (V m c main_v4) (funext fun a => Fin.ext ?_)
  blk_simp [i0]
  fin_cases a <;> simp <;> rfl

/-- What the host code puts in window 1's array. -/
theorem v6_at (r : Fin 3840) (q : Fin 256) :
    (V m c main_v6 : Vec Ideal S3840x256 .f32) (ix2 (n0 := 3840) (n1 := 256) r q) = (kArgs m c).c0 ⟨r.val % 128, by omega⟩ ⟨r.val / 128, by omega⟩ q := by
  unfold_abbrev_sides
  after_reads_simp
  pointwise
/-- Window 1 does not move. -/
theorem i1 : ∀ t : Fin cfg0.N, win0_1.index t = ![0, 0] := (by decide +kernel : ∀ t : Fin grid0.N, _)
/-- Window 1's block. -/
theorem blk1 (t : Fin cfg0.N) (r : Fin 3840) (q : Fin 256) :
    (iblk m c 1 t : Vec Ideal S3840x256 .f32) (ix2 (n0 := 3840) (n1 := 256) r q) = (kArgs m c).c0 ⟨r.val % 128, by omega⟩ ⟨r.val / 128, by omega⟩ q := by
  refine Eq.trans ?_ (v6_at m c r q)
  blk_simp [iblk]
  refine congrArg (V m c main_v6) (funext fun a => Fin.ext ?_)
  blk_simp [i1]
  fin_cases a <;> simp <;> rfl

/-- What the host code puts in window 2's array. -/
theorem arg3_at (r : Fin 31) (q : Fin 256) :
    (V m c main_arg3 : Vec Ideal S31x256 .f32) (ix2 (n0 := 31) (n1 := 256) r q) = (kArgs m c).wd r q := by
  unfold_abbrev_sides
  after_reads_simp
/-- Window 2 does not move. -/
theorem i2 : ∀ t : Fin cfg0.N, win0_2.index t = ![0, 0] := (by decide +kernel : ∀ t : Fin grid0.N, _)
/-- Window 2's block. -/
theorem blk2 (t : Fin cfg0.N) (r : Fin 31) (q : Fin 256) :
    (iblk m c 2 t : Vec Ideal S31x256 .f32) (ix2 (n0 := 31) (n1 := 256) r q) = (kArgs m c).wd r q := by
  refine Eq.trans ?_ (arg3_at m c r q)
  blk_simp [iblk]
  refine congrArg (V m c main_arg3) (funext fun a => Fin.ext ?_)
  blk_simp [i2]
  fin_cases a <;> simp <;> rfl

/-- What the host code puts in window 3's array. -/
theorem v7_at (r : Fin 1) (q : Fin 256) :
    (V m c main_v7 : Vec Ideal S1x256 .f32) (ix2 (n0 := 1) (n1 := 256) r q) = (kArgs m c).bd q := by
  unfold_abbrev_sides
  after_reads_simp
  pointwise
/-- Window 3 does not move. -/
theorem i3 : ∀ t : Fin cfg0.N, win0_3.index t = ![0, 0] := (by decide +kernel : ∀ t : Fin grid0.N, _)
/-- Window 3's block. -/
theorem blk3 (t : Fin cfg0.N) (r : Fin 1) (q : Fin 256) :
    (iblk m c 3 t : Vec Ideal S1x256 .f32) (ix2 (n0 := 1) (n1 := 256) r q) = (kArgs m c).bd q := by
  refine Eq.trans ?_ (v7_at m c r q)
  blk_simp [iblk]
  refine congrArg (V m c main_v7) (funext fun a => Fin.ext ?_)
  blk_simp [i3]
  fin_cases a <;> simp <;> rfl

/-- What the host code puts in window 4's array. -/
theorem v8_at (r : Fin 1) (q : Fin 256) :
    (V m c main_v8 : Vec Ideal S1x256 .f32) (ix2 (n0 := 1) (n1 := 256) r q) = (kArgs m c).lg q := by
  unfold_abbrev_sides
  after_reads_simp
  pointwise
/-- Window 4 does not move. -/
theorem i4 : ∀ t : Fin cfg0.N, win0_4.index t = ![0, 0] := (by decide +kernel : ∀ t : Fin grid0.N, _)
/-- Window 4's block. -/
theorem blk4 (t : Fin cfg0.N) (r : Fin 1) (q : Fin 256) :
    (iblk m c 4 t : Vec Ideal S1x256 .f32) (ix2 (n0 := 1) (n1 := 256) r q) = (kArgs m c).lg q := by
  refine Eq.trans ?_ (v8_at m c r q)
  blk_simp [iblk]
  refine congrArg (V m c main_v8) (funext fun a => Fin.ext ?_)
  blk_simp [i4]
  fin_cases a <;> simp <;> rfl

/-- What the host code puts in window 5's array. -/
theorem v9_at (r : Fin 1) (q : Fin 256) :
    (V m c main_v9 : Vec Ideal S1x256 .f32) (ix2 (n0 := 1) (n1 := 256) r q) = (kArgs m c).lb q := by
  unfold_abbrev_sides
  after_reads_simp
  pointwise
/-- Window 5 does not move. -/
theorem i5 : ∀ t : Fin cfg0.N, win0_5.index t = ![0, 0] := (by decide +kernel : ∀ t : Fin grid0.N, _)
/-- Window 5's block. -/
theorem blk5 (t : Fin cfg0.N) (r : Fin 1) (q : Fin 256) :
    (iblk m c 5 t : Vec Ideal S1x256 .f32) (ix2 (n0 := 1) (n1 := 256) r q) = (kArgs m c).lb q := by
  refine Eq.trans ?_ (v9_at m c r q)
  blk_simp [iblk]
  refine congrArg (V m c main_v9) (funext fun a => Fin.ext ?_)
  blk_simp [i5]
  fin_cases a <;> simp <;> rfl

/-- What the host code puts in window 6's array. -/
theorem v10_at (r : Fin 256) (q : Fin 256) :
    (V m c main_v10 : Vec Ideal S256x256 .bf16) (ix2 (n0 := 256) (n1 := 256) r q) = (kArgs m c).wp r q := by
  unfold_abbrev_sides
  after_reads_simp
  pointwise
/-- Window 6 does not move. -/
theorem i6 : ∀ t : Fin cfg0.N, win0_6.index t = ![0, 0] := (by decide +kernel : ∀ t : Fin grid0.N, _)
/-- Window 6's block. -/
theorem blk6 (t : Fin cfg0.N) (r : Fin 256) (q : Fin 256) :
    (iblk m c 6 t : Vec Ideal S256x256 .bf16) (ix2 (n0 := 256) (n1 := 256) r q) = (kArgs m c).wp r q := by
  refine Eq.trans ?_ (v10_at m c r q)
  blk_simp [iblk]
  refine congrArg (V m c main_v10) (funext fun a => Fin.ext ?_)
  blk_simp [i6]
  fin_cases a <;> simp <;> rfl

/-- What the host code puts in window 7's array. -/
theorem v11_at (r : Fin 1) (q : Fin 256) :
    (V m c main_v11 : Vec Ideal S1x256 .f32) (ix2 (n0 := 1) (n1 := 256) r q) = (kArgs m c).bp q := by
  unfold_abbrev_sides
  after_reads_simp
  pointwise
/-- Window 7 does not move. -/
theorem i7 : ∀ t : Fin cfg0.N, win0_7.index t = ![0, 0] := (by decide +kernel : ∀ t : Fin grid0.N, _)
/-- Window 7's block. -/
theorem blk7 (t : Fin cfg0.N) (r : Fin 1) (q : Fin 256) :
    (iblk m c 7 t : Vec Ideal S1x256 .f32) (ix2 (n0 := 1) (n1 := 256) r q) = (kArgs m c).bp q := by
  refine Eq.trans ?_ (v11_at m c r q)
  blk_simp [iblk]
  refine congrArg (V m c main_v11) (funext fun a => Fin.ext ?_)
  blk_simp [i7]
  fin_cases a <;> simp <;> rfl

/-- What the host code puts in window 8's array. -/
theorem v12_at (r : Fin 1) (q : Fin 256) :
    (V m c main_v12 : Vec Ideal S1x256 .f32) (ix2 (n0 := 1) (n1 := 256) r q) = (kArgs m c).gain q := by
  unfold_abbrev_sides
  after_reads_simp
  pointwise
/-- Window 8 does not move. -/
theorem i8 : ∀ t : Fin cfg0.N, win0_8.index t = ![0, 0] := (by decide +kernel : ∀ t : Fin grid0.N, _)
/-- Window 8's block. -/
theorem blk8 (t : Fin cfg0.N) (r : Fin 1) (q : Fin 256) :
    (iblk m c 8 t : Vec Ideal S1x256 .f32) (ix2 (n0 := 1) (n1 := 256) r q) = (kArgs m c).gain q := by
  refine Eq.trans ?_ (v12_at m c r q)
  blk_simp [iblk]
  refine congrArg (V m c main_v12) (funext fun a => Fin.ext ?_)
  blk_simp [i8]
  fin_cases a <;> simp <;> rfl

end Cert.Proof.Conv
-- ==== Proof.ConvSpec.lean ====
module
public import proofs.«01_k».proof.Proof.ConvArgs
@[expose] public section
set_option maxRecDepth 16384
noncomputable section
namespace Cert.Proof.Conv
open Idealize.ShloMosaic
variable (A : Args)

/-- A sum over the 31 steps, written out. -/
theorem sum31 (f : Fin 31 → EReal) : ∑ k : Fin 31, f k
    = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
  simp only [Fin.sum_univ_castSucc, Fin.sum_univ_zero, zero_add]
  rfl

/-- The gated input. -/
def z (b : Fin 128) (t : Fin 8) (q : Fin 256) : EReal := A.a b t q * Ideal.div 1 (1 + Ideal.exp (-A.g b t q))

/-- The 30 steps before, then the sample's 8 steps. -/
def zc (b : Fin 128) (j : Fin 38) (q : Fin 256) : EReal :=
  if h : j.val < 30 then A.c0 b ⟨j.val, h⟩ q else z A b ⟨j.val - 30, by omega⟩ q

/-- The convolution over the 31 steps that end at step `t`, and the bias. -/
def cv (b : Fin 128) (t : Fin 8) (q : Fin 256) : EReal :=
  (∑ k : Fin 31, A.wd k q * zc A b ⟨k.val + t.val, by omega⟩ q) + A.bd q

/-- Its mean over the lanes. -/
def mean (y : Fin 256 → EReal) : EReal := Ideal.div (∑ k : Fin 256, y k) (Ideal.ofBits FTy.f32 0x43800000#32)

/-- Layer norm. -/
def lnorm (y : Fin 256 → EReal) (q : Fin 256) : EReal :=
  (y q - mean y) * Ideal.rsqrt (mean (fun k => (y k - mean y) * (y k - mean y)) + Ideal.ofBits FTy.f32 0x358637BD#32) * A.lg q + A.lb q

/-- Its silu, projected. -/
def proj (y : Fin 256 → EReal) (q : Fin 256) : EReal :=
  (∑ k : Fin 256, lnorm A y k * Ideal.div 1 (1 + Ideal.exp (-lnorm A y k)) * A.wp k q) + A.bp q

/-- Its norm, with the gain. -/
def fin (y : Fin 256 → EReal) (q : Fin 256) : EReal :=
  proj A y q * Ideal.rsqrt (mean (fun k => proj A y k * proj A y k) + Ideal.ofBits FTy.f32 0x358637BD#32) * A.gain q

/-- The mixer's output at row `128 t + b`. -/
def oAt (r : Fin 1024) (q : Fin 256) : EReal :=
  fin A (fun k => cv A ⟨r.val % 128, by omega⟩ ⟨r.val / 128, by omega⟩ k) q

/-- The last 30 steps at row `128 j + b`. -/
def bAt (r : Fin 3840) (q : Fin 256) : EReal := zc A ⟨r.val % 128, by omega⟩ ⟨r.val / 128 + 8, by omega⟩ q

end Cert.Proof.Conv
-- ==== Proof.ConvZc.lean ====
module
public import proofs.«01_k».proof.Proof.ConvHost
public import proofs.«01_k».proof.Proof.ConvSpec
@[expose] public section
set_option maxRecDepth 16384
noncomputable section
namespace Cert.Proof.Conv
open Idealize.ShloMosaic Idealize.SL.Sem Idealize.ShloMosaic.TcCoe Cert.Kernel7Ideal Cert.Kernel7Ideal.Gen
variable (m : (ℓ : Loc nD τ sig) → Buf (Elt Ideal) ℓ) (c : Dev nD) (t : Fin cfg0.N)

/-- The stores into the kernel's first scratch. -/
abbrev Lz : List (View.Piece (Elt Ideal) S2x4864x128 .f32) :=
  [⟨Rect.unit ![1, 3840, 0] ![1, 1024, 128] inb_S2x4864x128_S1x1024x128_1_3840_0,
      k0_pay39 (View.ld (iblk m c 0 t) (Rect.unit ![0, 0] ![1024, 256] inb_S1024x512_S1024x256_0_0))
        (View.ld (iblk m c 0 t) (Rect.unit ![0, 256] ![1024, 256] inb_S1024x512_S1024x256_0_256))⟩,
    ⟨Rect.unit ![0, 3840, 0] ![1, 1024, 128] inb_S2x4864x128_S1x1024x128_0_3840_0,
      k0_pay38 (View.ld (iblk m c 0 t) (Rect.unit ![0, 0] ![1024, 256] inb_S1024x512_S1024x256_0_0))
        (View.ld (iblk m c 0 t) (Rect.unit ![0, 256] ![1024, 256] inb_S1024x512_S1024x256_0_256))⟩,
    ⟨Rect.unit ![1, 0, 0] ![1, 3840, 128] inb_S2x4864x128_S1x3840x128_1_0_0,
      k0_pay34 (View.ld (iblk m c 1 t) (Rect.unit ![0, 128] ![3840, 128] inb_S3840x256_S3840x128_0_128))⟩,
    ⟨Rect.unit ![0, 0, 0] ![1, 3840, 128] inb_S2x4864x128_S1x3840x128_0_0_0,
      k0_pay33 (View.ld (iblk m c 1 t) (Rect.unit ![0, 0] ![3840, 128] inb_S3840x256_S3840x128_0_0))⟩]

/-- What the scratch holds: tile `d` of row `128 j + b` is the lanes `128 d …` of step `j` of sequence `b`. -/
def zrow (d : ℕ) (n : ℕ) (l : ℕ) : EReal :=
  if h : n / 128 < 38 ∧ 128 * d + l < 256 then zc (kArgs m c) ⟨n % 128, by omega⟩ ⟨n / 128, h.1⟩ ⟨128 * d + l, h.2⟩ else 0

/-- The scratch by index. -/
def zG : S2x4864x128.Idx → EReal := fun y => zrow m c (y 0).val (y 1).val (y 2).val

/-- Tile 0 of the steps before. -/
theorem pay33_at (r : Fin 3840) (l : Fin 128) :
    k0_pay33 (View.ld (iblk m c 1 t) (Rect.unit ![0, 0] ![3840, 128] inb_S3840x256_S3840x128_0_0)) (ix3 (n0 := 1) (n1 := 3840) (n2 := 128) 0 r l)
      = zrow m c 0 r.val l.val := by
  unfold k0_pay33
  pointwise
  refine (blk1 m c t _ _).trans ?_
  have h : r.val / 128 < 38 ∧ 128 * 0 + l.val < 256 := ⟨by omega, by omega⟩
  rw [zrow, dif_pos h, zc, dif_pos (show r.val / 128 < 30 by omega)]
  refine congrArg _ (Fin.ext ?_)
  simp
/-- Tile 1 of the steps before. -/
theorem pay34_at (r : Fin 3840) (l : Fin 128) :
    k0_pay34 (View.ld (iblk m c 1 t) (Rect.unit ![0, 128] ![3840, 128] inb_S3840x256_S3840x128_0_128)) (ix3 (n0 := 1) (n1 := 3840) (n2 := 128) 0 r l)
      = zrow m c 1 r.val l.val := by
  unfold k0_pay34
  pointwise
  refine (blk1 m c t _ _).trans ?_
  have h : r.val / 128 < 38 ∧ 128 * 1 + l.val < 256 := ⟨by omega, by omega⟩
  rw [zrow, dif_pos h, zc, dif_pos (show r.val / 128 < 30 by omega)]
/-- Tile 0 of the sample's steps. -/
theorem pay38_at (r : Fin 1024) (l : Fin 128) :
    k0_pay38 (View.ld (iblk m c 0 t) (Rect.unit ![0, 0] ![1024, 256] inb_S1024x512_S1024x256_0_0))
        (View.ld (iblk m c 0 t) (Rect.unit ![0, 256] ![1024, 256] inb_S1024x512_S1024x256_0_256)) (ix3 (n0 := 1) (n1 := 1024) (n2 := 128) 0 r l)
      = zrow m c 0 (3840 + r.val) l.val := by
  unfold k0_pay38 k0_pay37
  pointwise
  refine (congrArg₂ (fun a g : EReal => a * Ideal.logistic g) ((blk0 m c t _ _).trans (dif_pos (by simp; try omega))) ((blk0 m c t _ _).trans (dif_neg (by simp)))).trans ?_
  have h : (3840 + r.val) / 128 < 38 ∧ 128 * 0 + l.val < 256 := ⟨by omega, by omega⟩
  rw [zrow, dif_pos h, zc, dif_neg (show ¬ (3840 + r.val) / 128 < 30 by omega)]
  have e1 : r.val % 128 = (3840 + r.val) % 128 := by omega
  have e2 : r.val / 128 = (3840 + r.val) / 128 - 30 := by omega
  simp only [e1, e2, Nat.add_sub_cancel_left]
  first | rfl | (unfold z; simp only [Nat.mul_zero, Nat.zero_add, Nat.mul_one]; rfl)
/-- Tile 1 of the sample's steps. -/
theorem pay39_at (r : Fin 1024) (l : Fin 128) :
    k0_pay39 (View.ld (iblk m c 0 t) (Rect.unit ![0, 0] ![1024, 256] inb_S1024x512_S1024x256_0_0))
        (View.ld (iblk m c 0 t) (Rect.unit ![0, 256] ![1024, 256] inb_S1024x512_S1024x256_0_256)) (ix3 (n0 := 1) (n1 := 1024) (n2 := 128) 0 r l)
      = zrow m c 1 (3840 + r.val) l.val := by
  unfold k0_pay39 k0_pay37
  pointwise
  refine (congrArg₂ (fun a g : EReal => a * Ideal.logistic g) ((blk0 m c t _ _).trans (dif_pos (by simp; try omega))) ((blk0 m c t _ _).trans (dif_neg (by simp)))).trans ?_
  have h : (3840 + r.val) / 128 < 38 ∧ 128 * 1 + l.val < 256 := ⟨by omega, by omega⟩
  rw [zrow, dif_pos h, zc, dif_neg (show ¬ (3840 + r.val) / 128 < 30 by omega)]
  have e1 : r.val % 128 = (3840 + r.val) % 128 := by omega
  have e2 : r.val / 128 = (3840 + r.val) / 128 - 30 := by omega
  simp only [e1, e2, Nat.add_sub_cancel_left]
  first | rfl | (unfold z; simp only [Nat.mul_zero, Nat.zero_add, Nat.mul_one]; rfl)
/-- So the scratch is `zG`. -/
theorem canon_z : View.canon (Lz m c t) = zG m c := by
  funext y
  have h : View.PiecesOf (zG m c) (Lz m c t) := by
    refine ⟨fun x => ?_, fun x => ?_, fun x => ?_, fun x => ?_, trivial⟩
    all_goals idx_vars x
    all_goals obtain rfl : x0 = 0 := Subsingleton.elim _ _
    · refine (pay39_at m c t x1 x2).trans ?_
      unfold zG
      simp only [Rect.emb_apply]
      congr 1 <;> simp
    · refine (pay38_at m c t x1 x2).trans ?_
      unfold zG
      simp only [Rect.emb_apply]
      congr 1 <;> simp
    · refine (pay34_at m c t x1 x2).trans ?_
      unfold zG
      simp only [Rect.emb_apply]
      congr 1 <;> simp
    · refine (pay33_at m c t x1 x2).trans ?_
      unfold zG
      simp only [Rect.emb_apply]
      congr 1 <;> simp
  have hc : ∃ p ∈ Lz m c t, y ∈ p.1.set := by
    have h0 : (y 0).val < 2 := (y 0).isLt
    have h1 : (y 1).val < 4864 := (y 1).isLt
    have h2 : (y 2).val < 128 := (y 2).isLt
    by_cases e0 : (y 0).val = 0 <;> by_cases e1 : (y 1).val < 3840
    · refine ⟨_, List.mem_cons_of_mem _ (List.mem_cons_of_mem _ (List.mem_cons_of_mem _ List.mem_cons_self)), ?_⟩
      rw [Rect.mem_set_unit]
      intro a
      fin_cases a <;> simp <;> omega
    · refine ⟨_, List.mem_cons_of_mem _ List.mem_cons_self, ?_⟩
      rw [Rect.mem_set_unit]
      intro a
      fin_cases a <;> simp <;> omega
    · refine ⟨_, List.mem_cons_of_mem _ (List.mem_cons_of_mem _ List.mem_cons_self), ?_⟩
      rw [Rect.mem_set_unit]
      intro a
      fin_cases a <;> simp <;> omega
    · refine ⟨_, List.mem_cons_self, ?_⟩
      rw [Rect.mem_set_unit]
      intro a
      fin_cases a <;> simp <;> omega
  have := View.canon_append_of_piecesOf (zG m c) [] (Lz m c t) h y hc
  rwa [List.append_nil] at this

/-- A read of the scratch. -/
theorem zread (v : View sig .tc .vmem S2x4864x128 .f32) (B : LoadRect S2x4864x128) : v.readCov (Lz m c t) B = fun j => zG m c (B.idx j) := by
  rw [View.readCov_eq_canon', canon_z]

end Cert.Proof.Conv
-- ==== Proof.ConvTile.lean ====
module
public import proofs.«01_k».proof.Proof.ConvZc
@[expose] public section
set_option maxRecDepth 16384
noncomputable section
namespace Cert.Proof.Conv
open Idealize.ShloMosaic Idealize.SL.Sem Idealize.ShloMosaic.TcCoe Cert.Kernel7Ideal Cert.Kernel7Ideal.Gen

/-! One trip of the loop: 64 rows of each lane tile, the 31 products summed. -/

/-- What a trip stores in tile 0. -/
theorem tile0_at (v : Vec Ideal S31x256 .f32) (X : Fin 31 → Vec Ideal S1x64x128 .f32) (r : Fin 64) (l : Fin 128) :
    (k0_pay18 v (k0_pay15 v (k0_pay13 v (k0_pay10 v (k0_pay8 v (k0_pay6 v (X 0) (X 1) (X 2) (X 3)) (k0_pay7 v (X 4)) (X 5) (X 6) (X 7) (X 8) (X 9)) (k0_pay9 v) (X 10) (X 11) (X 12) (X 13) (X 14)) (k0_pay11 (X 15)) (k0_pay12 v) (X 16) (X 17) (X 18) (X 19) (X 20)) (k0_pay14 v) (X 21) (X 22) (X 23) (X 24) (X 25)) (k0_pay16 v) (k0_pay17 (X 26)) (X 27) (X 28) (X 29) (X 30) : FVec Ideal S1x64x128 .f32) (ix3 (n0 := 1) (n1 := 64) (n2 := 128) 0 r l)
      = (∑ k : Fin 31, v (ix2 (n0 := 31) (n1 := 256) k ⟨128 * 0 + l.val, by omega⟩) * X k (ix3 (n0 := 1) (n1 := 64) (n2 := 128) 0 r l) : EReal) := by
  rw [sum31]
  unfold k0_pay18 k0_pay17 k0_pay16 k0_pay15 k0_pay14 k0_pay13 k0_pay12 k0_pay11 k0_pay10 k0_pay9 k0_pay8 k0_pay7 k0_pay6
  pointwise

/-- What a trip stores in tile 1. -/
theorem tile1_at (v : Vec Ideal S31x256 .f32) (X : Fin 31 → Vec Ideal S1x64x128 .f32) (r : Fin 64) (l : Fin 128) :
    (k0_pay40 v (k0_pay31 v (k0_pay29 v (k0_pay26 v (k0_pay24 v (k0_pay21 v k0_pay19 (k0_pay20 v) (X 0) (X 1) (X 2) (X 3) (X 4)) (k0_pay22 (X 5)) (k0_pay23 v) (X 6) (X 7) (X 8) (X 9) (X 10)) (k0_pay25 v) (X 11) (X 12) (X 13) (X 14) (X 15)) (k0_pay27 v) (k0_pay28 (X 16)) (X 17) (X 18) (X 19) (X 20) (X 21)) (k0_pay30 v) (X 22) (X 23) (X 24) (X 25) (X 26)) (k0_pay32 v) (X 27) (X 28) (X 29) (X 30) : FVec Ideal S1x64x128 .f32) (ix3 (n0 := 1) (n1 := 64) (n2 := 128) 0 r l)
      = (∑ k : Fin 31, v (ix2 (n0 := 31) (n1 := 256) k ⟨128 * 1 + l.val, by omega⟩) * X k (ix3 (n0 := 1) (n1 := 64) (n2 := 128) 0 r l) : EReal) := by
  rw [sum31]
  unfold k0_pay40 k0_pay32 k0_pay31 k0_pay30 k0_pay29 k0_pay28 k0_pay27 k0_pay26 k0_pay25 k0_pay24 k0_pay23 k0_pay22 k0_pay21 k0_pay20 k0_pay19
  pointwise

end Cert.Proof.Conv
-- ==== Proof.ConvTrip.lean ====
module
public import proofs.«01_k».proof.Proof.ConvTile
@[expose] public section
set_option maxRecDepth 16384
noncomputable section
namespace Cert.Proof.Conv
open Idealize.ShloMosaic Idealize.SL.Sem Idealize.ShloMosaic.TcCoe Cert.Kernel7Ideal Cert.Kernel7Ideal.Gen
variable (m : (ℓ : Loc nD τ sig) → Buf (Elt Ideal) ℓ) (c : Dev nD) (t : Fin cfg0.N)

/-- The convolution's sum at row `n` of tile `d`. -/
def yrow (d n l : ℕ) : EReal :=
  ∑ k : Fin 31, (if h : 128 * d + l < 256 then (kArgs m c).wd k ⟨128 * d + l, h⟩ else 0) * zrow m c d (n + 128 * k.val) l

/-- The filter at a lane of tile `d`. -/
theorem wd_if (k : Fin 31) (d l : ℕ) (h : 128 * d + l < 256) :
    (if h : 128 * d + l < 256 then (kArgs m c).wd k ⟨128 * d + l, h⟩ else 0 : EReal) = (kArgs m c).wd k ⟨128 * d + l, h⟩ := by
  rw [dif_pos h]

/-- The second scratch by index. -/
def yG : S2x1024x128.Idx → EReal := fun y => yrow m c (y 0).val (y 1).val (y 2).val

/-- The contents of the first scratch. -/
abbrev Xz : BufTy.Contents (Elt Ideal) (scM0_0.view).ty :=
  (View.whole cc0_scratch0).writes (Elt Ideal) (View.whole cc0_scratch0).junk (Lz m c t)

/-- The stores of the trips before `k`. -/
abbrev pbs (k : ℕ) : List (View.Piece (Elt Ideal) S2x1024x128 .f32) :=
  pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole cc0_scratch0) scM0_1 (Memref.isWhole_whole cc0_scratch1) (iblk m c 2 t) (Xz m c t) k

/-- The stores of trip `k`. -/
abbrev tl (k : Fin k0_t1_loop.trips) : List (View.Piece (Elt Ideal) S2x1024x128 .f32) :=
  tripL_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole cc0_scratch0) scM0_1 (Memref.isWhole_whole cc0_scratch1) (iblk m c 2 t) (Xz m c t) k

/-- A load of trip `k` from tile 0. -/
abbrev ld1 (k : Fin k0_t1_loop.trips) (j : Fin 31) : Vec Ideal S1x64x128 .f32 :=
  View.readAt (Elt Ideal) (View.whole cc0_scratch0) (Rect.unit (k0_off1 k (BitVec.ofNat 32 (128 * j.val))) S1x64x128.size (k0_off1_inb k j) : Rect S2x4864x128).toLoadRect (Xz m c t)
/-- A load of trip `k` from tile 1. -/
abbrev ld3 (k : Fin k0_t1_loop.trips) (j : Fin 31) : Vec Ideal S1x64x128 .f32 :=
  View.readAt (Elt Ideal) (View.whole cc0_scratch0) (Rect.unit (k0_off3 k (BitVec.ofNat 32 (128 * j.val))) S1x64x128.size (k0_off3_inb k j) : Rect S2x4864x128).toLoadRect (Xz m c t)

/-- Its value. -/
theorem ld1_at (k : Fin k0_t1_loop.trips) (j : Fin 31) (r : Fin 64) (l : Fin 128) :
    ld1 m c t k j (ix3 (n0 := 1) (n1 := 64) (n2 := 128) 0 r l) = zrow m c 0 (64 * k.val + r.val + 128 * j.val) l.val := by
  unfold ld1
  rw [View.readAt_writes_junk_eq_canon, canon_z]
  unfold zG
  have e := k0_off1_eq k j
  show zrow m c _ _ _ = _
  congr 1
  · show k0_off1 k (BitVec.ofNat 32 (128 * j.val)) 1 + 1 * r.val = _
    rw [e]
    show 64 * k.val + 128 * j.val + 1 * r.val = _
    omega
  · show k0_off1 k (BitVec.ofNat 32 (128 * j.val)) 2 + 1 * l.val = _
    rw [e]
    show 0 + 1 * l.val = _
    omega
/-- Its value. -/
theorem ld3_at (k : Fin k0_t1_loop.trips) (j : Fin 31) (r : Fin 64) (l : Fin 128) :
    ld3 m c t k j (ix3 (n0 := 1) (n1 := 64) (n2 := 128) 0 r l) = zrow m c 1 (64 * k.val + r.val + 128 * j.val) l.val := by
  unfold ld3
  rw [View.readAt_writes_junk_eq_canon, canon_z]
  unfold zG
  have e := k0_off3_eq k j
  show zrow m c _ _ _ = _
  congr 1
  · show k0_off3 k (BitVec.ofNat 32 (128 * j.val)) 1 + 1 * r.val = _
    rw [e]
    show 64 * k.val + 128 * j.val + 1 * r.val = _
    omega
  · show k0_off3 k (BitVec.ofNat 32 (128 * j.val)) 2 + 1 * l.val = _
    rw [e]
    show 0 + 1 * l.val = _
    omega

/-- Where trip `k`'s store in tile 0 lands. -/
theorem st2_at (k : Fin k0_t1_loop.trips) (r : Fin 64) (l : Fin 128) :
    yG m c ((Rect.unit (k0_off2 k) S1x64x128.size (k0_off2_inb k) : Rect S2x1024x128).emb (ix3 (n0 := 1) (n1 := 64) (n2 := 128) 0 r l)) = yrow m c 0 (64 * k.val + r.val) l.val := by
  unfold yG
  have e := k0_off2_eq k
  congr 1
  · show k0_off2 k 1 + 1 * r.val = _
    rw [e]
    show 64 * k.val + 1 * r.val = _
    omega
  · show k0_off2 k 2 + 1 * l.val = _
    rw [e]
    show 0 + 1 * l.val = _
    omega
/-- Where trip `k`'s store in tile 1 lands. -/
theorem st4_at (k : Fin k0_t1_loop.trips) (r : Fin 64) (l : Fin 128) :
    yG m c ((Rect.unit (k0_off4 k) S1x64x128.size (k0_off4_inb k) : Rect S2x1024x128).emb (ix3 (n0 := 1) (n1 := 64) (n2 := 128) 0 r l)) = yrow m c 1 (64 * k.val + r.val) l.val := by
  unfold yG
  have e := k0_off4_eq k
  congr 1
  · show k0_off4 k 1 + 1 * r.val = _
    rw [e]
    show 64 * k.val + 1 * r.val = _
    omega
  · show k0_off4 k 2 + 1 * l.val = _
    rw [e]
    show 0 + 1 * l.val = _
    omega
/-- A trip stores `yG`. -/
theorem trip_at (k : Fin k0_t1_loop.trips) : View.PiecesOf (yG m c) (tl m c t k) := by
  unfold tl tripL_k0_t1 trip_k0_t1
  dsimp only
  unfold trip_k0_t1.sl.r_14 trip_k0_t1.sl.r_13 trip_k0_t1.sl.r_12 trip_k0_t1.sl.r_11 trip_k0_t1.sl.r_10 trip_k0_t1.sl.r_9 trip_k0_t1.sl.r_8 trip_k0_t1.sl.r_6 trip_k0_t1.sl.r_5 trip_k0_t1.sl.r_4 trip_k0_t1.sl.r_3 trip_k0_t1.sl.r_2 trip_k0_t1.sl.r_1 trip_k0_t1.sl.r trip_k0_t1.sl.r_7 trip_k0_t1.sl.r_15
  refine ⟨fun x => ?_, fun x => ?_, trivial⟩
  · idx_vars x
    obtain rfl : x0 = 0 := Subsingleton.elim _ _
    refine (tile1_at (iblk m c 2 t) (ld3 m c t k) x1 x2).trans (Eq.trans ?_ (st4_at m c k x1 x2).symm)
    exact Finset.sum_congr rfl fun j _ => congrArg₂ (fun a b : EReal => a * b)
      ((blk2 m c t j _).trans (wd_if m c j 1 x2.val (by omega)).symm) (ld3_at m c t k j x1 x2)
  · idx_vars x
    obtain rfl : x0 = 0 := Subsingleton.elim _ _
    refine (tile0_at (iblk m c 2 t) (ld1 m c t k) x1 x2).trans (Eq.trans ?_ (st2_at m c k x1 x2).symm)
    exact Finset.sum_congr rfl fun j _ => congrArg₂ (fun a b : EReal => a * b)
      ((blk2 m c t j _).trans (wd_if m c j 0 x2.val (by omega)).symm) (ld1_at m c t k j x1 x2)

/-- A trip's stores cover its rows. -/
theorem trip_mem (k : Fin k0_t1_loop.trips) (y : S2x1024x128.Idx) (h1 : 64 * k.val ≤ (y 1).val) (h2 : (y 1).val < 64 * k.val + 64) :
    ∃ p ∈ tl m c t k, y ∈ p.1.set := by
  have h0 : (y 0).val < 2 := (y 0).isLt
  have h3 : (y 2).val < 128 := (y 2).isLt
  unfold tl tripL_k0_t1 trip_k0_t1
  dsimp only
  by_cases e0 : (y 0).val = 0
  · refine ⟨_, List.mem_cons_of_mem _ List.mem_cons_self, ?_⟩
    rw [Rect.mem_set_unit]
    intro a
    have e := k0_off2_eq k
    rw [e]
    fin_cases a <;> simp <;> omega
  · refine ⟨_, List.mem_cons_self, ?_⟩
    rw [Rect.mem_set_unit]
    intro a
    have e := k0_off4_eq k
    rw [e]
    fin_cases a <;> simp <;> omega

/-- The trips before `n` store `yG`. -/
theorem pbs_at (n : ℕ) (hn : n ≤ 16) : View.PiecesOf (yG m c) (pbs m c t n) := by
  have app : ∀ L L' : List (View.Piece (Elt Ideal) S2x1024x128 .f32), View.PiecesOf (yG m c) L → View.PiecesOf (yG m c) L' → View.PiecesOf (yG m c) (L ++ L') := by
    intro L L' h h'
    induction L with
    | nil => exact h'
    | cons p L ih => exact ⟨h.1, ih h.2⟩
  induction n with
  | zero => exact trivial
  | succ n ih =>
    have h : n < k0_t1_loop.trips := by show n < 16; omega
    have := pb_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole cc0_scratch0) scM0_1 (Memref.isWhole_whole cc0_scratch1) (iblk m c 2 t) (Xz m c t) ⟨n, h⟩
    unfold pbs
    rw [this]
    exact app _ _ (trip_at m c t ⟨n, h⟩) (ih (by omega))

/-- The trips before `n` cover the first `64 n` rows. -/
theorem pbs_mem (y : S2x1024x128.Idx) (n : ℕ) (hn : n ≤ 16) (h1 : (y 1).val < 64 * n) : ∃ p ∈ pbs m c t n, y ∈ p.1.set := by
  induction n with
  | zero => omega
  | succ n ih =>
    have h : n < k0_t1_loop.trips := by show n < 16; omega
    have := pb_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole cc0_scratch0) scM0_1 (Memref.isWhole_whole cc0_scratch1) (iblk m c 2 t) (Xz m c t) ⟨n, h⟩
    unfold pbs
    rw [this]
    by_cases e : (y 1).val < 64 * n
    · obtain ⟨p, hp, hy⟩ := ih (by omega) e
      exact ⟨p, List.mem_append_right _ hp, hy⟩
    · obtain ⟨p, hp, hy⟩ := trip_mem m c t ⟨n, h⟩ y (by show 64 * n ≤ (y 1).val; omega) (by show (y 1).val < 64 * n + 64; omega)
      exact ⟨p, List.mem_append_left _ hp, hy⟩

/-- So after the loop the second scratch is `yG`. -/
theorem canon_y : View.canon (pbs m c t 16) = yG m c := by
  funext y
  have h1 : (y 1).val < 1024 := (y 1).isLt
  have := View.canon_append_of_piecesOf (yG m c) [] (pbs m c t 16) (pbs_at m c t 16 le_rfl) y (pbs_mem m c t y 16 le_rfl (by omega))
  rwa [List.append_nil] at this

end Cert.Proof.Conv
-- ==== Proof.ConvOut.lean ====
module
public import proofs.«01_k».proof.Proof.ConvTrip
@[expose] public section
set_option maxRecDepth 16384
noncomputable section
namespace Cert.Proof.Conv
open Idealize.ShloMosaic Idealize.SL.Sem Idealize.ShloMosaic.TcCoe Cert.Kernel7Ideal Cert.Kernel7Ideal.Gen
variable (m : (ℓ : Loc nD τ sig) → Buf (Elt Ideal) ℓ) (c : Dev nD) (t : Fin cfg0.N)

/-! After the loop: the layer norm, the projection, the norm, and the two results. -/

/-- Tile 0 of the second scratch. -/
abbrev y0 : Rect S2x1024x128 := Rect.unit ![0, 0, 0] ![1, 1024, 128] inb_S2x1024x128_S1x1024x128_0_0_0
/-- Tile 1 of the second scratch. -/
abbrev y1 : Rect S2x1024x128 := Rect.unit ![1, 0, 0] ![1, 1024, 128] inb_S2x1024x128_S1x1024x128_1_0_0
/-- The last 3840 rows of tile 0 of the first scratch. -/
abbrev z0 : Rect S2x4864x128 := Rect.unit ![0, 1024, 0] ![1, 3840, 128] inb_S2x4864x128_S1x3840x128_0_1024_0
/-- The last 3840 rows of tile 1 of the first scratch. -/
abbrev z1 : Rect S2x4864x128 := Rect.unit ![1, 1024, 0] ![1, 3840, 128] inb_S2x4864x128_S1x3840x128_1_1024_0

/-- Tile 0 read after the loop. -/
theorem ry0 (r : Fin 1024) (l : Fin 128) :
    (View.whole cc0_scratch1).readCov (pbs m c t 16) y0.toLoadRect (ix3 (n0 := 1) (n1 := 1024) (n2 := 128) 0 r l) = yrow m c 0 r.val l.val := by
  rw [View.readCov_eq_canon', canon_y]
  show yrow m c (0 + 1 * 0) (0 + 1 * r.val) (0 + 1 * l.val) = _
  simp only [Nat.zero_add, Nat.one_mul]
/-- Tile 1 read after the loop. -/
theorem ry1 (r : Fin 1024) (l : Fin 128) :
    (View.whole cc0_scratch1).readCov (pbs m c t 16) y1.toLoadRect (ix3 (n0 := 1) (n1 := 1024) (n2 := 128) 0 r l) = yrow m c 1 r.val l.val := by
  rw [View.readCov_eq_canon', canon_y]
  show yrow m c (1 + 1 * 0) (0 + 1 * r.val) (0 + 1 * l.val) = _
  simp only [Nat.zero_add, Nat.one_mul]
/-- Tile 0 of the steps that stay. -/
theorem rz0 (r : Fin 3840) (l : Fin 128) :
    (View.whole cc0_scratch0).readCov (Lz m c t) z0.toLoadRect (ix3 (n0 := 1) (n1 := 3840) (n2 := 128) 0 r l) = zrow m c 0 (1024 + r.val) l.val := by
  rw [zread]
  show zrow m c (0 + 1 * 0) (1024 + 1 * r.val) (0 + 1 * l.val) = _
  simp only [Nat.zero_add, Nat.one_mul]
/-- Tile 1 of the steps that stay. -/
theorem rz1 (r : Fin 3840) (l : Fin 128) :
    (View.whole cc0_scratch0).readCov (Lz m c t) z1.toLoadRect (ix3 (n0 := 1) (n1 := 3840) (n2 := 128) 0 r l) = zrow m c 1 (1024 + r.val) l.val := by
  rw [zread]
  show zrow m c (1 + 1 * 0) (1024 + 1 * r.val) (0 + 1 * l.val) = _
  simp only [Nat.zero_add, Nat.one_mul]

/-- The rows after the loop, before the bias. -/
abbrev Y : FVec Ideal S1024x256 .f32 :=
  k0_pay41 ((View.whole cc0_scratch1).readCov (pbs m c t 16) y0.toLoadRect) ((View.whole cc0_scratch1).readCov (pbs m c t 16) y1.toLoadRect)

/-- The sum at a row is the convolution's. -/
theorem yrow_cv (d : ℕ) (r : Fin 1024) (l : ℕ) (q : Fin 256) (h : q.val = 128 * d + l) :
    yrow m c d r.val l + (kArgs m c).bd q = cv (kArgs m c) ⟨r.val % 128, by omega⟩ ⟨r.val / 128, by omega⟩ q := by
  unfold yrow cv
  refine congrArg (· + (kArgs m c).bd q) (Finset.sum_congr rfl fun k _ => ?_)
  have hq : 128 * d + l < 256 := by omega
  have hk : (r.val + 128 * k.val) / 128 < 38 ∧ 128 * d + l < 256 := ⟨by omega, hq⟩
  have e1 : (r.val + 128 * k.val) % 128 = r.val % 128 := by omega
  have e2 : (r.val + 128 * k.val) / 128 = k.val + r.val / 128 := by omega
  rw [wd_if m c k d l hq, zrow, dif_pos hk]
  obtain ⟨q, hq'⟩ := q
  obtain rfl : q = 128 * d + l := h
  simp only [e1, e2]

/-- The rows with the bias. -/
theorem Y_at (r : Fin 1024) (q : Fin 256) :
    (Y m c t (ix2 (n0 := 1024) (n1 := 256) r q) : EReal) + (kArgs m c).bd q = cv (kArgs m c) ⟨r.val % 128, by omega⟩ ⟨r.val / 128, by omega⟩ q := by
  unfold Y k0_pay41
  by_cases h : q.val < 128
  · refine Eq.trans (congrArg (· + (kArgs m c).bd q) ?_) (yrow_cv m c 0 r q.val q (by omega))
    pointwise
    simp [h]
    exact ry0 m c t r _
  · refine Eq.trans (congrArg (· + (kArgs m c).bd q) ?_) (yrow_cv m c 1 r (q.val - 128) q (by omega))
    pointwise
    simp [h]
    exact ry1 m c t r _

/-- The layer norm, silu and projection of rows. -/
theorem pay42_at (v : FVec Ideal S1024x256 .f32) (y : Fin 1024 → Fin 256 → EReal)
    (h : ∀ r q, (v (ix2 (n0 := 1024) (n1 := 256) r q) : EReal) + (kArgs m c).bd q = y r q) (r : Fin 1024) (q : Fin 256) :
    (k0_pay42 v (iblk m c 3 t) (iblk m c 4 t) (iblk m c 5 t) (iblk m c 6 t) (iblk m c 7 t) (ix2 (n0 := 1024) (n1 := 256) r q) : EReal) = proj (kArgs m c) (y r) q := by
  unfold k0_pay42
  pointwise
  simp only [blk3, blk4, blk5, blk6, blk7, h]
  rfl

/-- The norm of the projection. -/
theorem pay1_at (v : FVec Ideal S1024x256 .f32) (y : Fin 1024 → Fin 256 → EReal)
    (h : ∀ r q, (v (ix2 (n0 := 1024) (n1 := 256) r q) : EReal) + (kArgs m c).bd q = y r q) (r : Fin 1024) (q : Fin 256) :
    (k0_pay1 (k0_pay42 v (iblk m c 3 t) (iblk m c 4 t) (iblk m c 5 t) (iblk m c 6 t) (iblk m c 7 t)) (k0_pay43 v (iblk m c 3 t) (iblk m c 4 t) (iblk m c 5 t) (iblk m c 6 t) (iblk m c 7 t)) (iblk m c 8 t)
      (ix2 (n0 := 1024) (n1 := 256) r q) : EReal) = fin (kArgs m c) (y r) q := by
  unfold k0_pay1 k0_pay43
  pointwise
  simp only [pay42_at m c t v y h, blk8]
  rfl

/-- The steps that stay, as the kernel's second result. -/
theorem out2_at (r : Fin 3840) (q : Fin 256) :
    ((outsAt0 m c t).2 (ix2 (n0 := 3840) (n1 := 256) r q) : EReal) = bAt (kArgs m c) r q := by
  have e : (outsAt0 m c t).2 = k0_pay5 ((View.whole cc0_scratch0).readCov (Lz m c t) z0.toLoadRect) ((View.whole cc0_scratch0).readCov (Lz m c t) z1.toLoadRect) := by
    unfold outsAt0
    dsimp only
    frame_out
    rfl
  rw [e]
  unfold k0_pay5 bAt
  by_cases h : q.val < 128
  · have hk : (1024 + r.val) / 128 < 38 ∧ 128 * 0 + q.val < 256 := ⟨by omega, by omega⟩
    have e1 : (1024 + r.val) % 128 = r.val % 128 := by omega
    have e2 : (1024 + r.val) / 128 = r.val / 128 + 8 := by omega
    pointwise
    simp [h]
    refine (rz0 m c t r _).trans ?_
    rw [zrow, dif_pos hk]
    simp only [e1, e2, Nat.mul_zero, Nat.zero_add]
  · have hk : (1024 + r.val) / 128 < 38 ∧ 128 * 1 + (q.val - 128) < 256 := ⟨by omega, by omega⟩
    have e1 : (1024 + r.val) % 128 = r.val % 128 := by omega
    have e2 : (1024 + r.val) / 128 = r.val / 128 + 8 := by omega
    have e3 : 128 * 1 + (q.val - 128) = q.val := by omega
    pointwise
    simp [h]
    refine (rz1 m c t r _).trans ?_
    rw [zrow, dif_pos hk]
    simp only [e1, e2, e3]

/-- The mixer's output, as the kernel's first result. -/
theorem out1_at (r : Fin 1024) (q : Fin 256) :
    ((outsAt0 m c t).1 (ix2 (n0 := 1024) (n1 := 256) r q) : EReal) = oAt (kArgs m c) r q := by
  have e : (outsAt0 m c t).1 = k0_pay4
      (k0_pay2 (k0_pay42 (Y m c t) (iblk m c 3 t) (iblk m c 4 t) (iblk m c 5 t) (iblk m c 6 t) (iblk m c 7 t)) (k0_pay43 (Y m c t) (iblk m c 3 t) (iblk m c 4 t) (iblk m c 5 t) (iblk m c 6 t) (iblk m c 7 t)) (iblk m c 8 t))
      (k0_pay3 (k0_pay42 (Y m c t) (iblk m c 3 t) (iblk m c 4 t) (iblk m c 5 t) (iblk m c 6 t) (iblk m c 7 t)) (k0_pay43 (Y m c t) (iblk m c 3 t) (iblk m c 4 t) (iblk m c 5 t) (iblk m c 6 t) (iblk m c 7 t)) (iblk m c 8 t)) := by
    unfold outsAt0
    dsimp only
    frame_out
    refine congrArg₂ k0_pay4 ?_ ?_
    · rw [View.readCov_skip _ _ _ _ _ (by decide), View.readCov_cons_toLoadRect]
      rfl
    · rw [View.readCov_cons_toLoadRect]
      rfl
  rw [e]
  unfold k0_pay4 k0_pay2 k0_pay3
  refine Eq.trans ?_ (pay1_at m c t (Y m c t) (fun r q => cv (kArgs m c) ⟨r.val % 128, by omega⟩ ⟨r.val / 128, by omega⟩ q) (Y_at m c t) r q)
  by_cases h : q.val < 128
  · pointwise
    simp [h]
  · pointwise
    simp [h]
    have e3 : ∀ h', (⟨128 + (q.val - 128), h'⟩ : Fin 256) = q := fun _ => Fin.ext (by show 128 + (q.val - 128) = q.val; omega)
    rw [e3]

end Cert.Proof.Conv
-- ==== Proof.ConvRef.lean ====
module
public import proofs.«01_k».proof.Proof.ConvSpec
@[expose] public section
set_option maxRecDepth 16384
noncomputable section
namespace Cert.Proof.Conv
open Idealize.ShloMosaic Idealize.SL.Sem Idealize.ShloMosaic.TcCoe Idealize.ShloMosaic.StableHlo Cert.Reference7Ideal Cert.Reference7Ideal.Gen Cert.Reference7Ideal.Value
variable (m' : (ℓ : Loc nD τ sig) → Buf (Elt Ideal) ℓ) (c : Dev nD)

/-- The steps before and the sample's. -/
theorem zc_at (b : Fin 128) (j : Fin 38) (q : Fin 256) :
    (res_main_v7 (launchContents m' c) : Vec Ideal S128x38x256 .f32) (ix3 (n0 := 128) (n1 := 38) (n2 := 256) b j q) = zc (rArgs m' c) b j q := by
  unfold res_main_v7
  pointwise
  rfl

/-- One product of the convolution. -/
def tp (k : Fin 31) (b : Fin 128) (t : Fin 8) (q : Fin 256) : EReal :=
  (rArgs m' c).wd k q * zc (rArgs m' c) b ⟨k.val + t.val, by omega⟩ q

/-- The first product. -/
theorem tp_zero (b : Fin 128) (t : Fin 8) (q : Fin 256) :
    tp m' c 0 b t q = (rArgs m' c).wd 0 q * zc (rArgs m' c) b ⟨t.val, by omega⟩ q := by
  have e : ∀ h, (⟨(0 : Fin 31).val + t.val, h⟩ : Fin 38) = ⟨t.val, by omega⟩ := fun _ => Fin.ext (Nat.zero_add _)
  unfold tp
  rw [e]

/-- The convolution, up to product 10. -/
theorem v83_at (b : Fin 128) (t : Fin 8) (q : Fin 256) :
    (res_main_v83 (launchContents m' c) : Vec Ideal S128x8x256 .f32) (ix3 (n0 := 128) (n1 := 8) (n2 := 256) b t q)
      = (tp m' c 0 b t q + tp m' c 1 b t q + tp m' c 2 b t q + tp m' c 3 b t q + tp m' c 4 b t q + tp m' c 5 b t q + tp m' c 6 b t q + tp m' c 7 b t q + tp m' c 8 b t q + tp m' c 9 b t q + tp m' c 10 b t q  : EReal) := by
  unfold res_main_v83
  pointwise
  simp only [zc_at]
  rw [tp_zero]
  rfl

/-- The convolution, up to product 21. -/
theorem v160_at (b : Fin 128) (t : Fin 8) (q : Fin 256) :
    (res_main_v160 (launchContents m' c) : Vec Ideal S128x8x256 .f32) (ix3 (n0 := 128) (n1 := 8) (n2 := 256) b t q)
      = (tp m' c 0 b t q + tp m' c 1 b t q + tp m' c 2 b t q + tp m' c 3 b t q + tp m' c 4 b t q + tp m' c 5 b t q + tp m' c 6 b t q + tp m' c 7 b t q + tp m' c 8 b t q + tp m' c 9 b t q + tp m' c 10 b t q + tp m' c 11 b t q + tp m' c 12 b t q + tp m' c 13 b t q + tp m' c 14 b t q + tp m' c 15 b t q + tp m' c 16 b t q + tp m' c 17 b t q + tp m' c 18 b t q + tp m' c 19 b t q + tp m' c 20 b t q + tp m' c 21 b t q  : EReal) := by
  unfold res_main_v160
  pointwise
  simp only [zc_at]
  rw [v83_at m' c]
  rfl

/-- The convolution, up to product 30. -/
theorem v226_at (b : Fin 128) (t : Fin 8) (q : Fin 256) :
    (res_main_v226 (launchContents m' c) : Vec Ideal S128x8x256 .f32) (ix3 (n0 := 128) (n1 := 8) (n2 := 256) b t q)
      = (tp m' c 0 b t q + tp m' c 1 b t q + tp m' c 2 b t q + tp m' c 3 b t q + tp m' c 4 b t q + tp m' c 5 b t q + tp m' c 6 b t q + tp m' c 7 b t q + tp m' c 8 b t q + tp m' c 9 b t q + tp m' c 10 b t q + tp m' c 11 b t q + tp m' c 12 b t q + tp m' c 13 b t q + tp m' c 14 b t q + tp m' c 15 b t q + tp m' c 16 b t q + tp m' c 17 b t q + tp m' c 18 b t q + tp m' c 19 b t q + tp m' c 20 b t q + tp m' c 21 b t q + tp m' c 22 b t q + tp m' c 23 b t q + tp m' c 24 b t q + tp m' c 25 b t q + tp m' c 26 b t q + tp m' c 27 b t q + tp m' c 28 b t q + tp m' c 29 b t q + tp m' c 30 b t q + (rArgs m' c).bd q : EReal) := by
  unfold res_main_v226
  pointwise
  simp only [zc_at]
  rw [v160_at m' c]
  rfl

/-- The convolution. -/
theorem cv_at (b : Fin 128) (t : Fin 8) (q : Fin 256) :
    (res_main_v226 (launchContents m' c) : Vec Ideal S128x8x256 .f32) (ix3 (n0 := 128) (n1 := 8) (n2 := 256) b t q) = cv (rArgs m' c) b t q := by
  rw [v226_at, cv, sum31]
  rfl

/-- The normed convolution. -/
theorem v250_at (y : Fin 128 → Fin 8 → Fin 256 → EReal)
    (h : ∀ b t q, (res_main_v226 (launchContents m' c) : Vec Ideal S128x8x256 .f32) (ix3 (n0 := 128) (n1 := 8) (n2 := 256) b t q) = y b t q)
    (b : Fin 128) (t : Fin 8) (q : Fin 256) :
    (res_main_v250 (launchContents m' c) : Vec Ideal S128x8x256 .f32) (ix3 (n0 := 128) (n1 := 8) (n2 := 256) b t q) = lnorm (rArgs m' c) (y b t) q := by
  unfold res_main_v250 res_main_v232 res_main_v230
  pointwise
  simp only [h]
  rfl

/-- Its projection. -/
theorem v255_at (y : Fin 128 → Fin 8 → Fin 256 → EReal)
    (h : ∀ b t q, (res_main_v226 (launchContents m' c) : Vec Ideal S128x8x256 .f32) (ix3 (n0 := 128) (n1 := 8) (n2 := 256) b t q) = y b t q)
    (b : Fin 128) (t : Fin 8) (q : Fin 256) :
    (res_main_v255 (launchContents m' c) : Vec Ideal S128x8x256 .f32) (ix3 (n0 := 128) (n1 := 8) (n2 := 256) b t q) = proj (rArgs m' c) (y b t) q := by
  unfold res_main_v255
  pointwise
  simp only [v250_at m' c y h]
  rfl

end Cert.Proof.Conv
-- ==== Proof.ConvClaim.lean ====
module
public import proofs.«01_k».proof.Proof.ConvOut
public import proofs.«01_k».proof.Proof.ConvRef
@[expose] public section
set_option maxRecDepth 16384
noncomputable section
namespace Cert.Proof.Conv
open Idealize.ShloMosaic Idealize.SL.Sem Idealize.ShloMosaic.TcCoe Cert.Kernel7Ideal Cert.Kernel7Ideal.Gen

/-- The windows of the results do not move. -/
theorem i9 : ∀ t : Fin cfg0.N, win0_9.index t = ![0, 0] := (by decide +kernel : ∀ t : Fin grid0.N, _)
/-- The windows of the results do not move. -/
theorem i10 : ∀ t : Fin cfg0.N, win0_10.index t = ![0, 0] := (by decide +kernel : ∀ t : Fin grid0.N, _)

/-- The mixer's output, as an array. -/
def out9 (A : Args) : Vec Ideal S1024x256 .bf16 := fun j => oAt A (j 0) (j 1)
/-- The steps that stay, as an array. -/
def out10 (A : Args) : Vec Ideal S3840x256 .f32 := fun j => bAt A (j 0) (j 1)

variable (m : (ℓ : Loc nD τ sig) → Buf (Elt Ideal) ℓ) (c : Dev nD)

/-- What the call leaves in its first result's block. -/
theorem out1_eq (t : Fin cfg0.N) : (outsAt0 m c t).1 = out9 (kArgs m c) := by
  funext y
  idx_vars y
  exact out1_at m c t y0 y1
/-- What the call leaves in its second result's block. -/
theorem out2_eq (t : Fin cfg0.N) : (outsAt0 m c t).2 = out10 (kArgs m c) := by
  funext y
  idx_vars y
  exact out2_at m c t y0 y1

/-- The kernel's first result. -/
theorem arr9 : (dats m 0 c).arrAt 9 cfg0.N = out9 (kArgs m c) := by
  refine (dats m 0 c).arrAt_eq_of_covers 9 _ (by decide +kernel) fun t hf y => ?_
  blk_simp
  rw [after0_9, out1_eq]
  refine congrArg (out9 (kArgs m c)) (funext fun a => Fin.ext ?_)
  blk_simp [i9]
  fin_cases a <;> simp <;> rfl

/-- The kernel's second result. -/
theorem arr10 : (dats m 0 c).arrAt 10 cfg0.N = out10 (kArgs m c) := by
  refine (dats m 0 c).arrAt_eq_of_covers 10 _ (by decide +kernel) fun t hf y => ?_
  blk_simp
  rw [after0_10, out2_eq]
  refine congrArg (out10 (kArgs m c)) (funext fun a => Fin.ext ?_)
  blk_simp [i10]
  fin_cases a <;> simp <;> rfl

/-- The kernel's two results are the reference's, over the extended reals. -/
theorem algebraic : Cert.algebraic_Kernel7Ideal_Reference7Ideal := fun m g m' g' _ hag => by
  refine ⟨fun c => (dats m 0 c).arrAt 9 cfg0.N, fun c => (dats m 0 c).arrAt 10 cfg0.N, Cert.Kernel7Ideal.Value.run_blocks m g,
    (θ_run _ _ _).mono (fun _ h c => ⟨(h c).1.trans ?_, (h c).2.1.trans ?_, (h c).2.2⟩) (Cert.Reference7Ideal.Value.run m' g')⟩
  · refine Eq.trans ?_ (arr9 m c).symm
    rw [← args_eq (hag c)]
    funext j
    idx_vars j
    pointwise
    simp only [v255_at m' c (cv (rArgs m' c)) (cv_at m' c)]
    rfl
  · refine Eq.trans ?_ (arr10 m c).symm
    rw [← args_eq (hag c)]
    funext j
    idx_vars j
    pointwise
    refine (zc_at m' c _ _ _).trans ?_
    exact congrArg (fun k => zc (rArgs m' c) ⟨j0.val % 128, by omega⟩ k j1) (Fin.ext (Nat.add_comm _ _))
end Cert.Proof.Conv
-- ==== Proof.lean ====
/- The proof of the certificate's claims: the frames are the generated runs', and each `algebraic` claim is the theorem
   of its own module. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal
public import proofs.«01_k».proof.Proof.Gen.Pre_finite_logits
public import proofs.«01_k».proof.Proof.S5Claim
public import proofs.«01_k».proof.Proof.PostClaim
public import proofs.«01_k».proof.Proof.PreClaim
public import proofs.«01_k».proof.Proof.GmlpClaim
public import proofs.«01_k».proof.Proof.CombClaim
public import proofs.«01_k».proof.Proof.MoeClaim
public import proofs.«01_k».proof.Proof.ConvClaim
public import Idealize.ShloMosaic.Adequacy
public import Idealize.ShloMosaic.Init

@[expose] public section

noncomputable section

namespace Cert.Proof

open Idealize.ShloMosaic Idealize.SL.Sem

/-- The S5 mixer as printed runs to its end, leaves its arguments alone and every counter at zero. -/
theorem frame_kernel : Cert.quiescent_Kernel := fun m g _ => Cert.Kernel.Gen.frame m g

/-- So does the ideal reading of the S5 mixer. -/
theorem frame_kernelIdeal : Cert.quiescent_KernelIdeal := fun m g _ => Cert.KernelIdeal.Gen.frame m g

/-- The reference of the S5 mixer is host operations only: its run is the generated one, and it declares no semaphore. -/
theorem frame_referenceIdeal : Cert.quiescent_ReferenceIdeal := fun m g _ =>
  (θ_run Cert.ReferenceIdeal.defs _ _).mono
    (fun r h => ⟨fun c => (h c).2.2, Idealize.ShloMosaic.sem_eq_zero_of_no_sems (by decide) r.2⟩)
    (Cert.ReferenceIdeal.Value.run m g)

/-- The dense post block as printed runs to its end, leaves its arguments alone and every counter at zero. -/
theorem frame_kernel2 : Cert.quiescent_Kernel2 := fun m g _ => Cert.Kernel2.Gen.frame m g

/-- So does the ideal reading of the dense post block. -/
theorem frame_kernel2Ideal : Cert.quiescent_Kernel2Ideal := fun m g _ => Cert.Kernel2Ideal.Gen.frame m g

/-- The reference of the dense post block is host operations only: its run is the generated one, and it declares no semaphore. -/
theorem frame_reference2Ideal : Cert.quiescent_Reference2Ideal := fun m g _ =>
  (θ_run Cert.Reference2Ideal.defs _ _).mono
    (fun r h => ⟨fun c => (h c).2, Idealize.ShloMosaic.sem_eq_zero_of_no_sems (by decide) r.2⟩)
    (Cert.Reference2Ideal.Value.run m g)

/-- The input projection as printed runs to its end, leaves its arguments alone and every counter at zero. -/
theorem frame_kernel3 : Cert.quiescent_Kernel3 := fun m g _ => Cert.Kernel3.Gen.frame m g

/-- So does the ideal reading of the input projection. -/
theorem frame_kernel3Ideal : Cert.quiescent_Kernel3Ideal := fun m g _ => Cert.Kernel3Ideal.Gen.frame m g

/-- The reference of the input projection is host operations only: its run is the generated one, and it declares no semaphore. -/
theorem frame_reference3Ideal : Cert.quiescent_Reference3Ideal := fun m g _ =>
  (θ_run Cert.Reference3Ideal.defs _ _).mono
    (fun r h => ⟨fun c => (h c).2.2.2.2, Idealize.ShloMosaic.sem_eq_zero_of_no_sems (by decide) r.2⟩)
    (Cert.Reference3Ideal.Value.run m g)

/-- The short spatial-gating mixer as printed runs to its end, leaves its arguments alone and every counter at zero. -/
theorem frame_kernel4 : Cert.quiescent_Kernel4 := fun m g _ => Cert.Kernel4.Gen.frame m g

/-- So does the ideal reading of the short spatial-gating mixer. -/
theorem frame_kernel4Ideal : Cert.quiescent_Kernel4Ideal := fun m g _ => Cert.Kernel4Ideal.Gen.frame m g

/-- The reference of the short spatial-gating mixer is host operations only: its run is the generated one, and it declares no semaphore. -/
theorem frame_reference4Ideal : Cert.quiescent_Reference4Ideal := fun m g _ =>
  (θ_run Cert.Reference4Ideal.defs _ _).mono
    (fun r h => ⟨fun c => (h c).2.2, Idealize.ShloMosaic.sem_eq_zero_of_no_sems (by decide) r.2⟩)
    (Cert.Reference4Ideal.Value.run m g)

/-- The expert combination as printed runs to its end, leaves its arguments alone and every counter at zero. -/
theorem frame_kernel5 : Cert.quiescent_Kernel5 := fun m g _ => Cert.Kernel5.Gen.frame m g

/-- So does the ideal reading of the expert combination. -/
theorem frame_kernel5Ideal : Cert.quiescent_Kernel5Ideal := fun m g _ => Cert.Kernel5Ideal.Gen.frame m g

/-- The reference of the expert combination is host operations only: its run is the generated one, and it declares no semaphore. -/
theorem frame_reference5Ideal : Cert.quiescent_Reference5Ideal := fun m g _ =>
  (θ_run Cert.Reference5Ideal.defs _ _).mono
    (fun r h => ⟨fun c => (h c).2, Idealize.ShloMosaic.sem_eq_zero_of_no_sems (by decide) r.2⟩)
    (Cert.Reference5Ideal.Value.run m g)

/-- The expert layer as printed runs to its end, leaves its arguments alone and every counter at zero. -/
theorem frame_kernel6 : Cert.quiescent_Kernel6 := fun m g _ => Cert.Kernel6.Gen.frame m g

/-- So does the ideal reading of the expert layer. -/
theorem frame_kernel6Ideal : Cert.quiescent_Kernel6Ideal := fun m g _ => Cert.Kernel6Ideal.Gen.frame m g

/-- The reference of the expert layer is host operations only: its run is the generated one, and it declares no semaphore. -/
theorem frame_reference6Ideal : Cert.quiescent_Reference6Ideal := fun m g _ =>
  (θ_run Cert.Reference6Ideal.defs _ _).mono
    (fun r h => ⟨fun c => (h c).2, Idealize.ShloMosaic.sem_eq_zero_of_no_sems (by decide) r.2⟩)
    (Cert.Reference6Ideal.Value.run m g)

/-- The convolution mixer as printed runs to its end, leaves its arguments alone and every counter at zero. -/
theorem frame_kernel7 : Cert.quiescent_Kernel7 := fun m g _ => Cert.Kernel7.Gen.frame m g

/-- So does the ideal reading of the convolution mixer. -/
theorem frame_kernel7Ideal : Cert.quiescent_Kernel7Ideal := fun m g _ => Cert.Kernel7Ideal.Gen.frame m g

/-- The reference of the convolution mixer is host operations only: its run is the generated one, and it declares no semaphore. -/
theorem frame_reference7Ideal : Cert.quiescent_Reference7Ideal := fun m g _ =>
  (θ_run Cert.Reference7Ideal.defs _ _).mono
    (fun r h => ⟨fun c => (h c).2.2, Idealize.ShloMosaic.sem_eq_zero_of_no_sems (by decide) r.2⟩)
    (Cert.Reference7Ideal.Value.run m g)

/-- The expert layer's ideal reading, under the precondition of its value claim. -/
theorem frame_kernel6Ideal_pre : Cert.quiescent_Kernel6Ideal_pre_finite_logits := fun m g _ => frame_kernel6Ideal m g trivial

/-- The expert layer's reference, under the precondition of its value claim. -/
theorem frame_reference6Ideal_pre : Cert.quiescent_Reference6Ideal_pre_finite_logits := fun m g _ => frame_reference6Ideal m g trivial

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite_logits.Gen.facts,
  frame_kernel, frame_kernelIdeal, frame_referenceIdeal,
  frame_kernel2, frame_kernel2Ideal, frame_reference2Ideal,
  frame_kernel3, frame_kernel3Ideal, frame_reference3Ideal,
  frame_kernel4, frame_kernel4Ideal, frame_reference4Ideal,
  frame_kernel5, frame_kernel5Ideal, frame_reference5Ideal,
  frame_kernel6, frame_kernel6Ideal, frame_kernel6Ideal_pre, frame_reference6Ideal, frame_reference6Ideal_pre,
  frame_kernel7, frame_kernel7Ideal, frame_reference7Ideal,
  trivial, S5Claim.algebraic,
  trivial, Post.algebraic,
  trivial, Pre.algebraic,
  trivial, Gmlp.algebraic,
  trivial, Comb.algebraic,
  trivial, Moe.algebraic,
  trivial, Conv.algebraic⟩

end Cert.Proof

end
